-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojReferenceIdeal (m : (ℓ : Loc Cert.OutprojReferenceIdeal.nD Cert.OutprojReferenceIdeal.τ Cert.OutprojReferenceIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesReferenceIdeal (m : (ℓ : Loc Cert.GatesReferenceIdeal.nD Cert.GatesReferenceIdeal.τ Cert.GatesReferenceIdeal.sig) → Buf (Elt Ideal) ℓ) : Prop :=
  True

def Pre_Compress (m : (ℓ : Loc Cert.Compress.nD Cert.Compress.τ Cert.Compress.sig) → Buf (Elt Bits) ℓ) : Prop :=
  True

def Pre_CompressIdeal (m : (ℓ : Loc Cert.CompressIdeal.nD Cert.CompressIdeal.τ Cert.CompressIdeal.sig) → Buf (Elt Ideal) ℓ) : Prop :=
  True

def Pre_CompressIdeal_finite_weights [hPre_finite_weights : Cert.Pre_finite_weights.Facts] (m : (ℓ : Loc Cert.CompressIdeal.nD Cert.CompressIdeal.τ Cert.CompressIdeal.sig) → Buf (Elt Ideal) ℓ) : Prop :=
  ∀ c : Dev Cert.CompressIdeal.nD,
    (Cert.Pre_finite_weights.fn (F := Ideal) (m ((c.tc : Thread Cert.CompressIdeal.nD Cert.CompressIdeal.τ).loc Cert.CompressIdeal.main_arg0)) (m ((c.tc : Thread Cert.CompressIdeal.nD Cert.CompressIdeal.τ).loc Cert.CompressIdeal.main_arg1)) (m ((c.tc : Thread Cert.CompressIdeal.nD Cert.CompressIdeal.τ).loc Cert.CompressIdeal.main_arg2)) (m ((c.tc : Thread Cert.CompressIdeal.nD Cert.CompressIdeal.τ).loc Cert.CompressIdeal.main_arg3)) (m ((c.tc : Thread Cert.CompressIdeal.nD Cert.CompressIdeal.τ).loc Cert.CompressIdeal.main_arg4)) (m ((c.tc : Thread Cert.CompressIdeal.nD Cert.CompressIdeal.τ).loc Cert.CompressIdeal.main_arg5)) (m ((c.tc : Thread Cert.CompressIdeal.nD Cert.CompressIdeal.τ).loc Cert.CompressIdeal.main_arg6)) (m ((c.tc : Thread Cert.CompressIdeal.nD Cert.CompressIdeal.τ).loc Cert.CompressIdeal.main_arg7))) = (fun _ => 1#1)

def Pre_CompressReferenceIdeal (m : (ℓ : Loc Cert.CompressReferenceIdeal.nD Cert.CompressReferenceIdeal.τ Cert.CompressReferenceIdeal.sig) → Buf (Elt Ideal) ℓ) : Prop :=
  True

def Pre_CompressReferenceIdeal_finite_weights [hPre_finite_weights : Cert.Pre_finite_weights.Facts] (m : (ℓ : Loc Cert.CompressReferenceIdeal.nD Cert.CompressReferenceIdeal.τ Cert.CompressReferenceIdeal.sig) → Buf (Elt Ideal) ℓ) : Prop :=
  ∀ c : Dev Cert.CompressReferenceIdeal.nD,
    (Cert.Pre_finite_weights.fn (F := Ideal) (m ((c.tc : Thread Cert.CompressReferenceIdeal.nD Cert.CompressReferenceIdeal.τ).loc Cert.CompressReferenceIdeal.main_arg0)) (m ((c.tc : Thread Cert.CompressReferenceIdeal.nD Cert.CompressReferenceIdeal.τ).loc Cert.CompressReferenceIdeal.main_arg1)) (m ((c.tc : Thread Cert.CompressReferenceIdeal.nD Cert.CompressReferenceIdeal.τ).loc Cert.CompressReferenceIdeal.main_arg2)) (m ((c.tc : Thread Cert.CompressReferenceIdeal.nD Cert.CompressReferenceIdeal.τ).loc Cert.CompressReferenceIdeal.main_arg3)) (m ((c.tc : Thread Cert.CompressReferenceIdeal.nD Cert.CompressReferenceIdeal.τ).loc Cert.CompressReferenceIdeal.main_arg4)) (m ((c.tc : Thread Cert.CompressReferenceIdeal.nD Cert.CompressReferenceIdeal.τ).loc Cert.CompressReferenceIdeal.main_arg5)) (m ((c.tc : Thread Cert.CompressReferenceIdeal.nD Cert.CompressReferenceIdeal.τ).loc Cert.CompressReferenceIdeal.main_arg6)) (m ((c.tc : Thread Cert.CompressReferenceIdeal.nD Cert.CompressReferenceIdeal.τ).loc Cert.CompressReferenceIdeal.main_arg7))) = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojReferenceIdeal (m : (ℓ : Loc Cert.InprojReferenceIdeal.nD Cert.InprojReferenceIdeal.τ Cert.InprojReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3)
      ∧ r.2.mem ((c.tc : Thread Cert.Outproj.nD Cert.Outproj.τ).loc Cert.Outproj.main_arg4) = m ((c.tc : Thread Cert.Outproj.nD Cert.Outproj.τ).loc Cert.Outproj.main_arg4)
      ∧ r.2.mem ((c.tc : Thread Cert.Outproj.nD Cert.Outproj.τ).loc Cert.Outproj.main_arg5) = m ((c.tc : Thread Cert.Outproj.nD Cert.Outproj.τ).loc Cert.Outproj.main_arg5))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
      ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5))
      ∧ r.2.sem = fun _ => 0)

def quiescent_OutprojReferenceIdeal [hOutprojReferenceIdeal : Cert.OutprojReferenceIdeal.Facts] : Prop :=
  ∀ (m : (ℓ : Loc Cert.OutprojReferenceIdeal.nD Cert.OutprojReferenceIdeal.τ Cert.OutprojReferenceIdeal.sig) → Buf (Elt Ideal) ℓ) (g : Dev Cert.OutprojReferenceIdeal.nD → PrngReg), Pre_OutprojReferenceIdeal m →
    θ_run (Cert.OutprojReferenceIdeal.defs (F := Ideal)) (onTc (τ := Cert.OutprojReferenceIdeal.τ) (Cert.OutprojReferenceIdeal.main (F := Ideal))) ⟨m, fun _ => 0, g⟩ (fun r => (∀ c : Dev Cert.OutprojReferenceIdeal.nD,
      r.2.mem ((c.tc : Thread Cert.OutprojReferenceIdeal.nD Cert.OutprojReferenceIdeal.τ).loc Cert.OutprojReferenceIdeal.main_arg0) = m ((c.tc : Thread Cert.OutprojReferenceIdeal.nD Cert.OutprojReferenceIdeal.τ).loc Cert.OutprojReferenceIdeal.main_arg0)
      ∧ r.2.mem ((c.tc : Thread Cert.OutprojReferenceIdeal.nD Cert.OutprojReferenceIdeal.τ).loc Cert.OutprojReferenceIdeal.main_arg1) = m ((c.tc : Thread Cert.OutprojReferenceIdeal.nD Cert.OutprojReferenceIdeal.τ).loc Cert.OutprojReferenceIdeal.main_arg1)
      ∧ r.2.mem ((c.tc : Thread Cert.OutprojReferenceIdeal.nD Cert.OutprojReferenceIdeal.τ).loc Cert.OutprojReferenceIdeal.main_arg2) = m ((c.tc : Thread Cert.OutprojReferenceIdeal.nD Cert.OutprojReferenceIdeal.τ).loc Cert.OutprojReferenceIdeal.main_arg2)
      ∧ r.2.mem ((c.tc : Thread Cert.OutprojReferenceIdeal.nD Cert.OutprojReferenceIdeal.τ).loc Cert.OutprojReferenceIdeal.main_arg3) = m ((c.tc : Thread Cert.OutprojReferenceIdeal.nD Cert.OutprojReferenceIdeal.τ).loc Cert.OutprojReferenceIdeal.main_arg3)
      ∧ r.2.mem ((c.tc : Thread Cert.OutprojReferenceIdeal.nD Cert.OutprojReferenceIdeal.τ).loc Cert.OutprojReferenceIdeal.main_arg4) = m ((c.tc : Thread Cert.OutprojReferenceIdeal.nD Cert.OutprojReferenceIdeal.τ).loc Cert.OutprojReferenceIdeal.main_arg4)
      ∧ r.2.mem ((c.tc : Thread Cert.OutprojReferenceIdeal.nD Cert.OutprojReferenceIdeal.τ).loc Cert.OutprojReferenceIdeal.main_arg5) = m ((c.tc : Thread Cert.OutprojReferenceIdeal.nD Cert.OutprojReferenceIdeal.τ).loc Cert.OutprojReferenceIdeal.main_arg5))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2)
      ∧ r.2.mem ((c.tc : Thread Cert.Gates.nD Cert.Gates.τ).loc Cert.Gates.main_arg3) = m ((c.tc : Thread Cert.Gates.nD Cert.Gates.τ).loc Cert.Gates.main_arg3)
      ∧ r.2.mem ((c.tc : Thread Cert.Gates.nD Cert.Gates.τ).loc Cert.Gates.main_arg4) = m ((c.tc : Thread Cert.Gates.nD Cert.Gates.τ).loc Cert.Gates.main_arg4))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
      ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3)
      ∧ r.2.mem ((c.tc : Thread Cert.GatesIdeal.nD Cert.GatesIdeal.τ).loc Cert.GatesIdeal.main_arg4) = m ((c.tc : Thread Cert.GatesIdeal.nD Cert.GatesIdeal.τ).loc Cert.GatesIdeal.main_arg4))
      ∧ r.2.sem = fun _ => 0)

def quiescent_GatesReferenceIdeal [hGatesReferenceIdeal : Cert.GatesReferenceIdeal.Facts] : Prop :=
  ∀ (m : (ℓ : Loc Cert.GatesReferenceIdeal.nD Cert.GatesReferenceIdeal.τ Cert.GatesReferenceIdeal.sig) → Buf (Elt Ideal) ℓ) (g : Dev Cert.GatesReferenceIdeal.nD → PrngReg), Pre_GatesReferenceIdeal m →
    θ_run (Cert.GatesReferenceIdeal.defs (F := Ideal)) (onTc (τ := Cert.GatesReferenceIdeal.τ) (Cert.GatesReferenceIdeal.main (F := Ideal))) ⟨m, fun _ => 0, g⟩ (fun r => (∀ c : Dev Cert.GatesReferenceIdeal.nD,
      r.2.mem ((c.tc : Thread Cert.GatesReferenceIdeal.nD Cert.GatesReferenceIdeal.τ).loc Cert.GatesReferenceIdeal.main_arg0) = m ((c.tc : Thread Cert.GatesReferenceIdeal.nD Cert.GatesReferenceIdeal.τ).loc Cert.GatesReferenceIdeal.main_arg0)
      ∧ r.2.mem ((c.tc : Thread Cert.GatesReferenceIdeal.nD Cert.GatesReferenceIdeal.τ).loc Cert.GatesReferenceIdeal.main_arg1) = m ((c.tc : Thread Cert.GatesReferenceIdeal.nD Cert.GatesReferenceIdeal.τ).loc Cert.GatesReferenceIdeal.main_arg1)
      ∧ r.2.mem ((c.tc : Thread Cert.GatesReferenceIdeal.nD Cert.GatesReferenceIdeal.τ).loc Cert.GatesReferenceIdeal.main_arg2) = m ((c.tc : Thread Cert.GatesReferenceIdeal.nD Cert.GatesReferenceIdeal.τ).loc Cert.GatesReferenceIdeal.main_arg2)
      ∧ r.2.mem ((c.tc : Thread Cert.GatesReferenceIdeal.nD Cert.GatesReferenceIdeal.τ).loc Cert.GatesReferenceIdeal.main_arg3) = m ((c.tc : Thread Cert.GatesReferenceIdeal.nD Cert.GatesReferenceIdeal.τ).loc Cert.GatesReferenceIdeal.main_arg3)
      ∧ r.2.mem ((c.tc : Thread Cert.GatesReferenceIdeal.nD Cert.GatesReferenceIdeal.τ).loc Cert.GatesReferenceIdeal.main_arg4) = m ((c.tc : Thread Cert.GatesReferenceIdeal.nD Cert.GatesReferenceIdeal.τ).loc Cert.GatesReferenceIdeal.main_arg4))
      ∧ r.2.sem = fun _ => 0)

def quiescent_Compress [hCompress : Cert.Compress.Facts] : Prop :=
  ∀ (m : (ℓ : Loc Cert.Compress.nD Cert.Compress.τ Cert.Compress.sig) → Buf (Elt Bits) ℓ) (g : Dev Cert.Compress.nD → PrngReg), Pre_Compress m →
    θ_run (Cert.Compress.defs (F := Bits)) (onTc (τ := Cert.Compress.τ) (Cert.Compress.main (F := Bits))) ⟨m, fun _ => 0, g⟩ (fun r => (∀ c : Dev Cert.Compress.nD,
      r.2.mem ((c.tc : Thread Cert.Compress.nD Cert.Compress.τ).loc Cert.Compress.main_arg0) = m ((c.tc : Thread Cert.Compress.nD Cert.Compress.τ).loc Cert.Compress.main_arg0)
      ∧ r.2.mem ((c.tc : Thread Cert.Compress.nD Cert.Compress.τ).loc Cert.Compress.main_arg1) = m ((c.tc : Thread Cert.Compress.nD Cert.Compress.τ).loc Cert.Compress.main_arg1)
      ∧ r.2.mem ((c.tc : Thread Cert.Compress.nD Cert.Compress.τ).loc Cert.Compress.main_arg2) = m ((c.tc : Thread Cert.Compress.nD Cert.Compress.τ).loc Cert.Compress.main_arg2)
      ∧ r.2.mem ((c.tc : Thread Cert.Compress.nD Cert.Compress.τ).loc Cert.Compress.main_arg3) = m ((c.tc : Thread Cert.Compress.nD Cert.Compress.τ).loc Cert.Compress.main_arg3)
      ∧ r.2.mem ((c.tc : Thread Cert.Compress.nD Cert.Compress.τ).loc Cert.Compress.main_arg4) = m ((c.tc : Thread Cert.Compress.nD Cert.Compress.τ).loc Cert.Compress.main_arg4)
      ∧ r.2.mem ((c.tc : Thread Cert.Compress.nD Cert.Compress.τ).loc Cert.Compress.main_arg5) = m ((c.tc : Thread Cert.Compress.nD Cert.Compress.τ).loc Cert.Compress.main_arg5)
      ∧ r.2.mem ((c.tc : Thread Cert.Compress.nD Cert.Compress.τ).loc Cert.Compress.main_arg6) = m ((c.tc : Thread Cert.Compress.nD Cert.Compress.τ).loc Cert.Compress.main_arg6)
      ∧ r.2.mem ((c.tc : Thread Cert.Compress.nD Cert.Compress.τ).loc Cert.Compress.main_arg7) = m ((c.tc : Thread Cert.Compress.nD Cert.Compress.τ).loc Cert.Compress.main_arg7))
      ∧ r.2.sem = fun _ => 0)

def quiescent_CompressIdeal [hCompressIdeal : Cert.CompressIdeal.Facts] : Prop :=
  ∀ (m : (ℓ : Loc Cert.CompressIdeal.nD Cert.CompressIdeal.τ Cert.CompressIdeal.sig) → Buf (Elt Ideal) ℓ) (g : Dev Cert.CompressIdeal.nD → PrngReg), Pre_CompressIdeal m →
    θ_run (Cert.CompressIdeal.defs (F := Ideal)) (onTc (τ := Cert.CompressIdeal.τ) (Cert.CompressIdeal.main (F := Ideal))) ⟨m, fun _ => 0, g⟩ (fun r => (∀ c : Dev Cert.CompressIdeal.nD,
      r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
      ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
      ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
      ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3)
      ∧ r.2.mem ((c.tc : Thread Cert.CompressIdeal.nD Cert.CompressIdeal.τ).loc Cert.CompressIdeal.main_arg4) = m ((c.tc : Thread Cert.CompressIdeal.nD Cert.CompressIdeal.τ).loc Cert.CompressIdeal.main_arg4)
      ∧ r.2.mem ((c.tc : Thread Cert.CompressIdeal.nD Cert.CompressIdeal.τ).loc Cert.CompressIdeal.main_arg5) = m ((c.tc : Thread Cert.CompressIdeal.nD Cert.CompressIdeal.τ).loc Cert.CompressIdeal.main_arg5)
      ∧ r.2.mem ((c.tc : Thread Cert.CompressIdeal.nD Cert.CompressIdeal.τ).loc Cert.CompressIdeal.main_arg6) = m ((c.tc : Thread Cert.CompressIdeal.nD Cert.CompressIdeal.τ).loc Cert.CompressIdeal.main_arg6)
      ∧ r.2.mem ((c.tc : Thread Cert.CompressIdeal.nD Cert.CompressIdeal.τ).loc Cert.CompressIdeal.main_arg7) = m ((c.tc : Thread Cert.CompressIdeal.nD Cert.CompressIdeal.τ).loc Cert.CompressIdeal.main_arg7))
      ∧ r.2.sem = fun _ => 0)

def quiescent_CompressIdeal_pre_finite_weights [hCompressIdeal : Cert.CompressIdeal.Facts] [hPre_finite_weights : Cert.Pre_finite_weights.Facts] : Prop :=
  ∀ (m : (ℓ : Loc Cert.CompressIdeal.nD Cert.CompressIdeal.τ Cert.CompressIdeal.sig) → Buf (Elt Ideal) ℓ) (g : Dev Cert.CompressIdeal.nD → PrngReg), Pre_CompressIdeal_finite_weights m →
    θ_run (Cert.CompressIdeal.defs (F := Ideal)) (onTc (τ := Cert.CompressIdeal.τ) (Cert.CompressIdeal.main (F := Ideal))) ⟨m, fun _ => 0, g⟩ (fun r => (∀ c : Dev Cert.CompressIdeal.nD,
      r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
      ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
      ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
      ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3)
      ∧ r.2.mem ((c.tc : Thread Cert.CompressIdeal.nD Cert.CompressIdeal.τ).loc Cert.CompressIdeal.main_arg4) = m ((c.tc : Thread Cert.CompressIdeal.nD Cert.CompressIdeal.τ).loc Cert.CompressIdeal.main_arg4)
      ∧ r.2.mem ((c.tc : Thread Cert.CompressIdeal.nD Cert.CompressIdeal.τ).loc Cert.CompressIdeal.main_arg5) = m ((c.tc : Thread Cert.CompressIdeal.nD Cert.CompressIdeal.τ).loc Cert.CompressIdeal.main_arg5)
      ∧ r.2.mem ((c.tc : Thread Cert.CompressIdeal.nD Cert.CompressIdeal.τ).loc Cert.CompressIdeal.main_arg6) = m ((c.tc : Thread Cert.CompressIdeal.nD Cert.CompressIdeal.τ).loc Cert.CompressIdeal.main_arg6)
      ∧ r.2.mem ((c.tc : Thread Cert.CompressIdeal.nD Cert.CompressIdeal.τ).loc Cert.CompressIdeal.main_arg7) = m ((c.tc : Thread Cert.CompressIdeal.nD Cert.CompressIdeal.τ).loc Cert.CompressIdeal.main_arg7))
      ∧ r.2.sem = fun _ => 0)

def quiescent_CompressReferenceIdeal [hCompressReferenceIdeal : Cert.CompressReferenceIdeal.Facts] : Prop :=
  ∀ (m : (ℓ : Loc Cert.CompressReferenceIdeal.nD Cert.CompressReferenceIdeal.τ Cert.CompressReferenceIdeal.sig) → Buf (Elt Ideal) ℓ) (g : Dev Cert.CompressReferenceIdeal.nD → PrngReg), Pre_CompressReferenceIdeal m →
    θ_run (Cert.CompressReferenceIdeal.defs (F := Ideal)) (onTc (τ := Cert.CompressReferenceIdeal.τ) (Cert.CompressReferenceIdeal.main (F := Ideal))) ⟨m, fun _ => 0, g⟩ (fun r => (∀ c : Dev Cert.CompressReferenceIdeal.nD,
      r.2.mem ((c.tc : Thread Cert.CompressReferenceIdeal.nD Cert.CompressReferenceIdeal.τ).loc Cert.CompressReferenceIdeal.main_arg0) = m ((c.tc : Thread Cert.CompressReferenceIdeal.nD Cert.CompressReferenceIdeal.τ).loc Cert.CompressReferenceIdeal.main_arg0)
      ∧ r.2.mem ((c.tc : Thread Cert.CompressReferenceIdeal.nD Cert.CompressReferenceIdeal.τ).loc Cert.CompressReferenceIdeal.main_arg1) = m ((c.tc : Thread Cert.CompressReferenceIdeal.nD Cert.CompressReferenceIdeal.τ).loc Cert.CompressReferenceIdeal.main_arg1)
      ∧ r.2.mem ((c.tc : Thread Cert.CompressReferenceIdeal.nD Cert.CompressReferenceIdeal.τ).loc Cert.CompressReferenceIdeal.main_arg2) = m ((c.tc : Thread Cert.CompressReferenceIdeal.nD Cert.CompressReferenceIdeal.τ).loc Cert.CompressReferenceIdeal.main_arg2)
      ∧ r.2.mem ((c.tc : Thread Cert.CompressReferenceIdeal.nD Cert.CompressReferenceIdeal.τ).loc Cert.CompressReferenceIdeal.main_arg3) = m ((c.tc : Thread Cert.CompressReferenceIdeal.nD Cert.CompressReferenceIdeal.τ).loc Cert.CompressReferenceIdeal.main_arg3)
      ∧ r.2.mem ((c.tc : Thread Cert.CompressReferenceIdeal.nD Cert.CompressReferenceIdeal.τ).loc Cert.CompressReferenceIdeal.main_arg4) = m ((c.tc : Thread Cert.CompressReferenceIdeal.nD Cert.CompressReferenceIdeal.τ).loc Cert.CompressReferenceIdeal.main_arg4)
      ∧ r.2.mem ((c.tc : Thread Cert.CompressReferenceIdeal.nD Cert.CompressReferenceIdeal.τ).loc Cert.CompressReferenceIdeal.main_arg5) = m ((c.tc : Thread Cert.CompressReferenceIdeal.nD Cert.CompressReferenceIdeal.τ).loc Cert.CompressReferenceIdeal.main_arg5)
      ∧ r.2.mem ((c.tc : Thread Cert.CompressReferenceIdeal.nD Cert.CompressReferenceIdeal.τ).loc Cert.CompressReferenceIdeal.main_arg6) = m ((c.tc : Thread Cert.CompressReferenceIdeal.nD Cert.CompressReferenceIdeal.τ).loc Cert.CompressReferenceIdeal.main_arg6)
      ∧ r.2.mem ((c.tc : Thread Cert.CompressReferenceIdeal.nD Cert.CompressReferenceIdeal.τ).loc Cert.CompressReferenceIdeal.main_arg7) = m ((c.tc : Thread Cert.CompressReferenceIdeal.nD Cert.CompressReferenceIdeal.τ).loc Cert.CompressReferenceIdeal.main_arg7))
      ∧ r.2.sem = fun _ => 0)

def quiescent_CompressReferenceIdeal_pre_finite_weights [hCompressReferenceIdeal : Cert.CompressReferenceIdeal.Facts] [hPre_finite_weights : Cert.Pre_finite_weights.Facts] : Prop :=
  ∀ (m : (ℓ : Loc Cert.CompressReferenceIdeal.nD Cert.CompressReferenceIdeal.τ Cert.CompressReferenceIdeal.sig) → Buf (Elt Ideal) ℓ) (g : Dev Cert.CompressReferenceIdeal.nD → PrngReg), Pre_CompressReferenceIdeal_finite_weights m →
    θ_run (Cert.CompressReferenceIdeal.defs (F := Ideal)) (onTc (τ := Cert.CompressReferenceIdeal.τ) (Cert.CompressReferenceIdeal.main (F := Ideal))) ⟨m, fun _ => 0, g⟩ (fun r => (∀ c : Dev Cert.CompressReferenceIdeal.nD,
      r.2.mem ((c.tc : Thread Cert.CompressReferenceIdeal.nD Cert.CompressReferenceIdeal.τ).loc Cert.CompressReferenceIdeal.main_arg0) = m ((c.tc : Thread Cert.CompressReferenceIdeal.nD Cert.CompressReferenceIdeal.τ).loc Cert.CompressReferenceIdeal.main_arg0)
      ∧ r.2.mem ((c.tc : Thread Cert.CompressReferenceIdeal.nD Cert.CompressReferenceIdeal.τ).loc Cert.CompressReferenceIdeal.main_arg1) = m ((c.tc : Thread Cert.CompressReferenceIdeal.nD Cert.CompressReferenceIdeal.τ).loc Cert.CompressReferenceIdeal.main_arg1)
      ∧ r.2.mem ((c.tc : Thread Cert.CompressReferenceIdeal.nD Cert.CompressReferenceIdeal.τ).loc Cert.CompressReferenceIdeal.main_arg2) = m ((c.tc : Thread Cert.CompressReferenceIdeal.nD Cert.CompressReferenceIdeal.τ).loc Cert.CompressReferenceIdeal.main_arg2)
      ∧ r.2.mem ((c.tc : Thread Cert.CompressReferenceIdeal.nD Cert.CompressReferenceIdeal.τ).loc Cert.CompressReferenceIdeal.main_arg3) = m ((c.tc : Thread Cert.CompressReferenceIdeal.nD Cert.CompressReferenceIdeal.τ).loc Cert.CompressReferenceIdeal.main_arg3)
      ∧ r.2.mem ((c.tc : Thread Cert.CompressReferenceIdeal.nD Cert.CompressReferenceIdeal.τ).loc Cert.CompressReferenceIdeal.main_arg4) = m ((c.tc : Thread Cert.CompressReferenceIdeal.nD Cert.CompressReferenceIdeal.τ).loc Cert.CompressReferenceIdeal.main_arg4)
      ∧ r.2.mem ((c.tc : Thread Cert.CompressReferenceIdeal.nD Cert.CompressReferenceIdeal.τ).loc Cert.CompressReferenceIdeal.main_arg5) = m ((c.tc : Thread Cert.CompressReferenceIdeal.nD Cert.CompressReferenceIdeal.τ).loc Cert.CompressReferenceIdeal.main_arg5)
      ∧ r.2.mem ((c.tc : Thread Cert.CompressReferenceIdeal.nD Cert.CompressReferenceIdeal.τ).loc Cert.CompressReferenceIdeal.main_arg6) = m ((c.tc : Thread Cert.CompressReferenceIdeal.nD Cert.CompressReferenceIdeal.τ).loc Cert.CompressReferenceIdeal.main_arg6)
      ∧ r.2.mem ((c.tc : Thread Cert.CompressReferenceIdeal.nD Cert.CompressReferenceIdeal.τ).loc Cert.CompressReferenceIdeal.main_arg7) = m ((c.tc : Thread Cert.CompressReferenceIdeal.nD Cert.CompressReferenceIdeal.τ).loc Cert.CompressReferenceIdeal.main_arg7))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5)
      ∧ r.2.mem ((c.tc : Thread Cert.Inproj.nD Cert.Inproj.τ).loc Cert.Inproj.main_arg6) = m ((c.tc : Thread Cert.Inproj.nD Cert.Inproj.τ).loc Cert.Inproj.main_arg6))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2)
      ∧ r.2.mem ((c.tc : Thread Cert.InprojReferenceIdeal.nD Cert.InprojReferenceIdeal.τ).loc Cert.InprojReferenceIdeal.main_arg3) = m ((c.tc : Thread Cert.InprojReferenceIdeal.nD Cert.InprojReferenceIdeal.τ).loc Cert.InprojReferenceIdeal.main_arg3)
      ∧ r.2.mem ((c.tc : Thread Cert.InprojReferenceIdeal.nD Cert.InprojReferenceIdeal.τ).loc Cert.InprojReferenceIdeal.main_arg4) = m ((c.tc : Thread Cert.InprojReferenceIdeal.nD Cert.InprojReferenceIdeal.τ).loc Cert.InprojReferenceIdeal.main_arg4)
      ∧ r.2.mem ((c.tc : Thread Cert.InprojReferenceIdeal.nD Cert.InprojReferenceIdeal.τ).loc Cert.InprojReferenceIdeal.main_arg5) = m ((c.tc : Thread Cert.InprojReferenceIdeal.nD Cert.InprojReferenceIdeal.τ).loc Cert.InprojReferenceIdeal.main_arg5)
      ∧ r.2.mem ((c.tc : Thread Cert.InprojReferenceIdeal.nD Cert.InprojReferenceIdeal.τ).loc Cert.InprojReferenceIdeal.main_arg6) = m ((c.tc : Thread Cert.InprojReferenceIdeal.nD Cert.InprojReferenceIdeal.τ).loc Cert.InprojReferenceIdeal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v8)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v8) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v24) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_Outproj_OutprojIdeal : Prop :=
  True

def algebraic_OutprojIdeal_OutprojReferenceIdeal [hOutprojIdeal : Cert.OutprojIdeal.Facts] [hOutprojReferenceIdeal : Cert.OutprojReferenceIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojReferenceIdeal.nD Cert.OutprojReferenceIdeal.τ Cert.OutprojReferenceIdeal.sig) → Buf (Elt Ideal) ℓ) (g' : Dev Cert.OutprojReferenceIdeal.nD → PrngReg), Pre_OutprojIdeal m →
    (∀ c : Dev Cert.OutprojIdeal.nD,
      m' ((c.tc : Thread Cert.OutprojReferenceIdeal.nD Cert.OutprojReferenceIdeal.τ).loc Cert.OutprojReferenceIdeal.main_arg0) = m ((c.tc : Thread Cert.OutprojIdeal.nD Cert.OutprojIdeal.τ).loc Cert.OutprojIdeal.main_arg0)
      ∧ m' ((c.tc : Thread Cert.OutprojReferenceIdeal.nD Cert.OutprojReferenceIdeal.τ).loc Cert.OutprojReferenceIdeal.main_arg1) = m ((c.tc : Thread Cert.OutprojIdeal.nD Cert.OutprojIdeal.τ).loc Cert.OutprojIdeal.main_arg1)
      ∧ m' ((c.tc : Thread Cert.OutprojReferenceIdeal.nD Cert.OutprojReferenceIdeal.τ).loc Cert.OutprojReferenceIdeal.main_arg2) = m ((c.tc : Thread Cert.OutprojIdeal.nD Cert.OutprojIdeal.τ).loc Cert.OutprojIdeal.main_arg2)
      ∧ m' ((c.tc : Thread Cert.OutprojReferenceIdeal.nD Cert.OutprojReferenceIdeal.τ).loc Cert.OutprojReferenceIdeal.main_arg3) = m ((c.tc : Thread Cert.OutprojIdeal.nD Cert.OutprojIdeal.τ).loc Cert.OutprojIdeal.main_arg3)
      ∧ m' ((c.tc : Thread Cert.OutprojReferenceIdeal.nD Cert.OutprojReferenceIdeal.τ).loc Cert.OutprojReferenceIdeal.main_arg4) = m ((c.tc : Thread Cert.OutprojIdeal.nD Cert.OutprojIdeal.τ).loc Cert.OutprojIdeal.main_arg4)
      ∧ m' ((c.tc : Thread Cert.OutprojReferenceIdeal.nD Cert.OutprojReferenceIdeal.τ).loc Cert.OutprojReferenceIdeal.main_arg5) = m ((c.tc : Thread Cert.OutprojIdeal.nD Cert.OutprojIdeal.τ).loc Cert.OutprojIdeal.main_arg5)) →
    ∃ (v0 : (c : Dev Cert.OutprojIdeal.nD) → Buf (Elt Ideal) ((c.tc : Thread Cert.OutprojIdeal.nD Cert.OutprojIdeal.τ).loc Cert.OutprojIdeal.main_v6)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v6) = v0 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
          ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
          ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5))
      ∧ θ_run (Cert.OutprojReferenceIdeal.defs (F := Ideal)) (onTc (τ := Cert.OutprojReferenceIdeal.τ) (Cert.OutprojReferenceIdeal.main (F := Ideal))) ⟨m', fun _ => 0, g'⟩ (fun r => ∀ c : Dev Cert.OutprojReferenceIdeal.nD,
          r.2.mem ((c.tc : Thread Cert.OutprojReferenceIdeal.nD Cert.OutprojReferenceIdeal.τ).loc Cert.OutprojReferenceIdeal.main_v31) = v0 c
          ∧ r.2.mem ((c.tc : Thread Cert.OutprojReferenceIdeal.nD Cert.OutprojReferenceIdeal.τ).loc Cert.OutprojReferenceIdeal.main_arg0) = m' ((c.tc : Thread Cert.OutprojReferenceIdeal.nD Cert.OutprojReferenceIdeal.τ).loc Cert.OutprojReferenceIdeal.main_arg0)
          ∧ r.2.mem ((c.tc : Thread Cert.OutprojReferenceIdeal.nD Cert.OutprojReferenceIdeal.τ).loc Cert.OutprojReferenceIdeal.main_arg1) = m' ((c.tc : Thread Cert.OutprojReferenceIdeal.nD Cert.OutprojReferenceIdeal.τ).loc Cert.OutprojReferenceIdeal.main_arg1)
          ∧ r.2.mem ((c.tc : Thread Cert.OutprojReferenceIdeal.nD Cert.OutprojReferenceIdeal.τ).loc Cert.OutprojReferenceIdeal.main_arg2) = m' ((c.tc : Thread Cert.OutprojReferenceIdeal.nD Cert.OutprojReferenceIdeal.τ).loc Cert.OutprojReferenceIdeal.main_arg2)
          ∧ r.2.mem ((c.tc : Thread Cert.OutprojReferenceIdeal.nD Cert.OutprojReferenceIdeal.τ).loc Cert.OutprojReferenceIdeal.main_arg3) = m' ((c.tc : Thread Cert.OutprojReferenceIdeal.nD Cert.OutprojReferenceIdeal.τ).loc Cert.OutprojReferenceIdeal.main_arg3)
          ∧ r.2.mem ((c.tc : Thread Cert.OutprojReferenceIdeal.nD Cert.OutprojReferenceIdeal.τ).loc Cert.OutprojReferenceIdeal.main_arg4) = m' ((c.tc : Thread Cert.OutprojReferenceIdeal.nD Cert.OutprojReferenceIdeal.τ).loc Cert.OutprojReferenceIdeal.main_arg4)
          ∧ r.2.mem ((c.tc : Thread Cert.OutprojReferenceIdeal.nD Cert.OutprojReferenceIdeal.τ).loc Cert.OutprojReferenceIdeal.main_arg5) = m' ((c.tc : Thread Cert.OutprojReferenceIdeal.nD Cert.OutprojReferenceIdeal.τ).loc Cert.OutprojReferenceIdeal.main_arg5))

def preserves_Gates_GatesIdeal : Prop :=
  True

def algebraic_GatesIdeal_GatesReferenceIdeal [hGatesIdeal : Cert.GatesIdeal.Facts] [hGatesReferenceIdeal : Cert.GatesReferenceIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesReferenceIdeal.nD Cert.GatesReferenceIdeal.τ Cert.GatesReferenceIdeal.sig) → Buf (Elt Ideal) ℓ) (g' : Dev Cert.GatesReferenceIdeal.nD → PrngReg), Pre_GatesIdeal m →
    (∀ c : Dev Cert.GatesIdeal.nD,
      m' ((c.tc : Thread Cert.GatesReferenceIdeal.nD Cert.GatesReferenceIdeal.τ).loc Cert.GatesReferenceIdeal.main_arg0) = m ((c.tc : Thread Cert.GatesIdeal.nD Cert.GatesIdeal.τ).loc Cert.GatesIdeal.main_arg0)
      ∧ m' ((c.tc : Thread Cert.GatesReferenceIdeal.nD Cert.GatesReferenceIdeal.τ).loc Cert.GatesReferenceIdeal.main_arg1) = m ((c.tc : Thread Cert.GatesIdeal.nD Cert.GatesIdeal.τ).loc Cert.GatesIdeal.main_arg1)
      ∧ m' ((c.tc : Thread Cert.GatesReferenceIdeal.nD Cert.GatesReferenceIdeal.τ).loc Cert.GatesReferenceIdeal.main_arg2) = m ((c.tc : Thread Cert.GatesIdeal.nD Cert.GatesIdeal.τ).loc Cert.GatesIdeal.main_arg2)
      ∧ m' ((c.tc : Thread Cert.GatesReferenceIdeal.nD Cert.GatesReferenceIdeal.τ).loc Cert.GatesReferenceIdeal.main_arg3) = m ((c.tc : Thread Cert.GatesIdeal.nD Cert.GatesIdeal.τ).loc Cert.GatesIdeal.main_arg3)
      ∧ m' ((c.tc : Thread Cert.GatesReferenceIdeal.nD Cert.GatesReferenceIdeal.τ).loc Cert.GatesReferenceIdeal.main_arg4) = m ((c.tc : Thread Cert.GatesIdeal.nD Cert.GatesIdeal.τ).loc Cert.GatesIdeal.main_arg4)) →
    ∃ (v0 : (c : Dev Cert.GatesIdeal.nD) → Buf (Elt Ideal) ((c.tc : Thread Cert.GatesIdeal.nD Cert.GatesIdeal.τ).loc Cert.GatesIdeal.main_v14)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v14) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
          ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3)
          ∧ r.2.mem ((c.tc : Thread Cert.GatesIdeal.nD Cert.GatesIdeal.τ).loc Cert.GatesIdeal.main_arg4) = m ((c.tc : Thread Cert.GatesIdeal.nD Cert.GatesIdeal.τ).loc Cert.GatesIdeal.main_arg4))
      ∧ θ_run (Cert.GatesReferenceIdeal.defs (F := Ideal)) (onTc (τ := Cert.GatesReferenceIdeal.τ) (Cert.GatesReferenceIdeal.main (F := Ideal))) ⟨m', fun _ => 0, g'⟩ (fun r => ∀ c : Dev Cert.GatesReferenceIdeal.nD,
          r.2.mem ((c.tc : Thread Cert.GatesReferenceIdeal.nD Cert.GatesReferenceIdeal.τ).loc Cert.GatesReferenceIdeal.main_v36) = v0 c
          ∧ r.2.mem ((c.tc : Thread Cert.GatesReferenceIdeal.nD Cert.GatesReferenceIdeal.τ).loc Cert.GatesReferenceIdeal.main_arg0) = m' ((c.tc : Thread Cert.GatesReferenceIdeal.nD Cert.GatesReferenceIdeal.τ).loc Cert.GatesReferenceIdeal.main_arg0)
          ∧ r.2.mem ((c.tc : Thread Cert.GatesReferenceIdeal.nD Cert.GatesReferenceIdeal.τ).loc Cert.GatesReferenceIdeal.main_arg1) = m' ((c.tc : Thread Cert.GatesReferenceIdeal.nD Cert.GatesReferenceIdeal.τ).loc Cert.GatesReferenceIdeal.main_arg1)
          ∧ r.2.mem ((c.tc : Thread Cert.GatesReferenceIdeal.nD Cert.GatesReferenceIdeal.τ).loc Cert.GatesReferenceIdeal.main_arg2) = m' ((c.tc : Thread Cert.GatesReferenceIdeal.nD Cert.GatesReferenceIdeal.τ).loc Cert.GatesReferenceIdeal.main_arg2)
          ∧ r.2.mem ((c.tc : Thread Cert.GatesReferenceIdeal.nD Cert.GatesReferenceIdeal.τ).loc Cert.GatesReferenceIdeal.main_arg3) = m' ((c.tc : Thread Cert.GatesReferenceIdeal.nD Cert.GatesReferenceIdeal.τ).loc Cert.GatesReferenceIdeal.main_arg3)
          ∧ r.2.mem ((c.tc : Thread Cert.GatesReferenceIdeal.nD Cert.GatesReferenceIdeal.τ).loc Cert.GatesReferenceIdeal.main_arg4) = m' ((c.tc : Thread Cert.GatesReferenceIdeal.nD Cert.GatesReferenceIdeal.τ).loc Cert.GatesReferenceIdeal.main_arg4))

def preserves_Compress_CompressIdeal : Prop :=
  True

def algebraic_CompressIdeal_CompressReferenceIdeal_pre_finite_weights [hCompressIdeal : Cert.CompressIdeal.Facts] [hCompressReferenceIdeal : Cert.CompressReferenceIdeal.Facts] [hPre_finite_weights : Cert.Pre_finite_weights.Facts] : Prop :=
  ∀ (m : (ℓ : Loc Cert.CompressIdeal.nD Cert.CompressIdeal.τ Cert.CompressIdeal.sig) → Buf (Elt Ideal) ℓ) (g : Dev Cert.CompressIdeal.nD → PrngReg)
    (m' : (ℓ : Loc Cert.CompressReferenceIdeal.nD Cert.CompressReferenceIdeal.τ Cert.CompressReferenceIdeal.sig) → Buf (Elt Ideal) ℓ) (g' : Dev Cert.CompressReferenceIdeal.nD → PrngReg), Pre_CompressIdeal_finite_weights m →
    (∀ c : Dev Cert.CompressIdeal.nD,
      m' ((c.tc : Thread Cert.CompressReferenceIdeal.nD Cert.CompressReferenceIdeal.τ).loc Cert.CompressReferenceIdeal.main_arg0) = m ((c.tc : Thread Cert.CompressIdeal.nD Cert.CompressIdeal.τ).loc Cert.CompressIdeal.main_arg0)
      ∧ m' ((c.tc : Thread Cert.CompressReferenceIdeal.nD Cert.CompressReferenceIdeal.τ).loc Cert.CompressReferenceIdeal.main_arg1) = m ((c.tc : Thread Cert.CompressIdeal.nD Cert.CompressIdeal.τ).loc Cert.CompressIdeal.main_arg1)
      ∧ m' ((c.tc : Thread Cert.CompressReferenceIdeal.nD Cert.CompressReferenceIdeal.τ).loc Cert.CompressReferenceIdeal.main_arg2) = m ((c.tc : Thread Cert.CompressIdeal.nD Cert.CompressIdeal.τ).loc Cert.CompressIdeal.main_arg2)
      ∧ m' ((c.tc : Thread Cert.CompressReferenceIdeal.nD Cert.CompressReferenceIdeal.τ).loc Cert.CompressReferenceIdeal.main_arg3) = m ((c.tc : Thread Cert.CompressIdeal.nD Cert.CompressIdeal.τ).loc Cert.CompressIdeal.main_arg3)
      ∧ m' ((c.tc : Thread Cert.CompressReferenceIdeal.nD Cert.CompressReferenceIdeal.τ).loc Cert.CompressReferenceIdeal.main_arg4) = m ((c.tc : Thread Cert.CompressIdeal.nD Cert.CompressIdeal.τ).loc Cert.CompressIdeal.main_arg4)
      ∧ m' ((c.tc : Thread Cert.CompressReferenceIdeal.nD Cert.CompressReferenceIdeal.τ).loc Cert.CompressReferenceIdeal.main_arg5) = m ((c.tc : Thread Cert.CompressIdeal.nD Cert.CompressIdeal.τ).loc Cert.CompressIdeal.main_arg5)
      ∧ m' ((c.tc : Thread Cert.CompressReferenceIdeal.nD Cert.CompressReferenceIdeal.τ).loc Cert.CompressReferenceIdeal.main_arg6) = m ((c.tc : Thread Cert.CompressIdeal.nD Cert.CompressIdeal.τ).loc Cert.CompressIdeal.main_arg6)
      ∧ m' ((c.tc : Thread Cert.CompressReferenceIdeal.nD Cert.CompressReferenceIdeal.τ).loc Cert.CompressReferenceIdeal.main_arg7) = m ((c.tc : Thread Cert.CompressIdeal.nD Cert.CompressIdeal.τ).loc Cert.CompressIdeal.main_arg7)) →
    ∃ (v0 : (c : Dev Cert.CompressIdeal.nD) → Buf (Elt Ideal) ((c.tc : Thread Cert.CompressIdeal.nD Cert.CompressIdeal.τ).loc Cert.CompressIdeal.main_v34)),
      θ_run (Cert.CompressIdeal.defs (F := Ideal)) (onTc (τ := Cert.CompressIdeal.τ) (Cert.CompressIdeal.main (F := Ideal))) ⟨m, fun _ => 0, g⟩ (fun r => ∀ c : Dev Cert.CompressIdeal.nD,
          r.2.mem ((c.tc : Thread Cert.CompressIdeal.nD Cert.CompressIdeal.τ).loc Cert.CompressIdeal.main_v34) = v0 c
          ∧ r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
          ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
          ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
          ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3)
          ∧ r.2.mem ((c.tc : Thread Cert.CompressIdeal.nD Cert.CompressIdeal.τ).loc Cert.CompressIdeal.main_arg4) = m ((c.tc : Thread Cert.CompressIdeal.nD Cert.CompressIdeal.τ).loc Cert.CompressIdeal.main_arg4)
          ∧ r.2.mem ((c.tc : Thread Cert.CompressIdeal.nD Cert.CompressIdeal.τ).loc Cert.CompressIdeal.main_arg5) = m ((c.tc : Thread Cert.CompressIdeal.nD Cert.CompressIdeal.τ).loc Cert.CompressIdeal.main_arg5)
          ∧ r.2.mem ((c.tc : Thread Cert.CompressIdeal.nD Cert.CompressIdeal.τ).loc Cert.CompressIdeal.main_arg6) = m ((c.tc : Thread Cert.CompressIdeal.nD Cert.CompressIdeal.τ).loc Cert.CompressIdeal.main_arg6)
          ∧ r.2.mem ((c.tc : Thread Cert.CompressIdeal.nD Cert.CompressIdeal.τ).loc Cert.CompressIdeal.main_arg7) = m ((c.tc : Thread Cert.CompressIdeal.nD Cert.CompressIdeal.τ).loc Cert.CompressIdeal.main_arg7))
      ∧ θ_run (Cert.CompressReferenceIdeal.defs (F := Ideal)) (onTc (τ := Cert.CompressReferenceIdeal.τ) (Cert.CompressReferenceIdeal.main (F := Ideal))) ⟨m', fun _ => 0, g'⟩ (fun r => ∀ c : Dev Cert.CompressReferenceIdeal.nD,
          r.2.mem ((c.tc : Thread Cert.CompressReferenceIdeal.nD Cert.CompressReferenceIdeal.τ).loc Cert.CompressReferenceIdeal.main_v46) = v0 c
          ∧ r.2.mem ((c.tc : Thread Cert.CompressReferenceIdeal.nD Cert.CompressReferenceIdeal.τ).loc Cert.CompressReferenceIdeal.main_arg0) = m' ((c.tc : Thread Cert.CompressReferenceIdeal.nD Cert.CompressReferenceIdeal.τ).loc Cert.CompressReferenceIdeal.main_arg0)
          ∧ r.2.mem ((c.tc : Thread Cert.CompressReferenceIdeal.nD Cert.CompressReferenceIdeal.τ).loc Cert.CompressReferenceIdeal.main_arg1) = m' ((c.tc : Thread Cert.CompressReferenceIdeal.nD Cert.CompressReferenceIdeal.τ).loc Cert.CompressReferenceIdeal.main_arg1)
          ∧ r.2.mem ((c.tc : Thread Cert.CompressReferenceIdeal.nD Cert.CompressReferenceIdeal.τ).loc Cert.CompressReferenceIdeal.main_arg2) = m' ((c.tc : Thread Cert.CompressReferenceIdeal.nD Cert.CompressReferenceIdeal.τ).loc Cert.CompressReferenceIdeal.main_arg2)
          ∧ r.2.mem ((c.tc : Thread Cert.CompressReferenceIdeal.nD Cert.CompressReferenceIdeal.τ).loc Cert.CompressReferenceIdeal.main_arg3) = m' ((c.tc : Thread Cert.CompressReferenceIdeal.nD Cert.CompressReferenceIdeal.τ).loc Cert.CompressReferenceIdeal.main_arg3)
          ∧ r.2.mem ((c.tc : Thread Cert.CompressReferenceIdeal.nD Cert.CompressReferenceIdeal.τ).loc Cert.CompressReferenceIdeal.main_arg4) = m' ((c.tc : Thread Cert.CompressReferenceIdeal.nD Cert.CompressReferenceIdeal.τ).loc Cert.CompressReferenceIdeal.main_arg4)
          ∧ r.2.mem ((c.tc : Thread Cert.CompressReferenceIdeal.nD Cert.CompressReferenceIdeal.τ).loc Cert.CompressReferenceIdeal.main_arg5) = m' ((c.tc : Thread Cert.CompressReferenceIdeal.nD Cert.CompressReferenceIdeal.τ).loc Cert.CompressReferenceIdeal.main_arg5)
          ∧ r.2.mem ((c.tc : Thread Cert.CompressReferenceIdeal.nD Cert.CompressReferenceIdeal.τ).loc Cert.CompressReferenceIdeal.main_arg6) = m' ((c.tc : Thread Cert.CompressReferenceIdeal.nD Cert.CompressReferenceIdeal.τ).loc Cert.CompressReferenceIdeal.main_arg6)
          ∧ r.2.mem ((c.tc : Thread Cert.CompressReferenceIdeal.nD Cert.CompressReferenceIdeal.τ).loc Cert.CompressReferenceIdeal.main_arg7) = m' ((c.tc : Thread Cert.CompressReferenceIdeal.nD Cert.CompressReferenceIdeal.τ).loc Cert.CompressReferenceIdeal.main_arg7))

def preserves_Inproj_InprojIdeal : Prop :=
  True

def algebraic_InprojIdeal_InprojReferenceIdeal [hInprojIdeal : Cert.InprojIdeal.Facts] [hInprojReferenceIdeal : Cert.InprojReferenceIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojIdeal m →
    (∀ c : Dev Cert.InprojIdeal.nD,
      m' ((c.tc : Thread Cert.InprojReferenceIdeal.nD Cert.InprojReferenceIdeal.τ).loc Cert.InprojReferenceIdeal.main_arg0) = m ((c.tc : Thread Cert.InprojIdeal.nD Cert.InprojIdeal.τ).loc Cert.InprojIdeal.main_arg0)
      ∧ m' ((c.tc : Thread Cert.InprojReferenceIdeal.nD Cert.InprojReferenceIdeal.τ).loc Cert.InprojReferenceIdeal.main_arg1) = m ((c.tc : Thread Cert.InprojIdeal.nD Cert.InprojIdeal.τ).loc Cert.InprojIdeal.main_arg1)
      ∧ m' ((c.tc : Thread Cert.InprojReferenceIdeal.nD Cert.InprojReferenceIdeal.τ).loc Cert.InprojReferenceIdeal.main_arg2) = m ((c.tc : Thread Cert.InprojIdeal.nD Cert.InprojIdeal.τ).loc Cert.InprojIdeal.main_arg2)
      ∧ m' ((c.tc : Thread Cert.InprojReferenceIdeal.nD Cert.InprojReferenceIdeal.τ).loc Cert.InprojReferenceIdeal.main_arg3) = m ((c.tc : Thread Cert.InprojIdeal.nD Cert.InprojIdeal.τ).loc Cert.InprojIdeal.main_arg3)
      ∧ m' ((c.tc : Thread Cert.InprojReferenceIdeal.nD Cert.InprojReferenceIdeal.τ).loc Cert.InprojReferenceIdeal.main_arg4) = m ((c.tc : Thread Cert.InprojIdeal.nD Cert.InprojIdeal.τ).loc Cert.InprojIdeal.main_arg4)
      ∧ m' ((c.tc : Thread Cert.InprojReferenceIdeal.nD Cert.InprojReferenceIdeal.τ).loc Cert.InprojReferenceIdeal.main_arg5) = m ((c.tc : Thread Cert.InprojIdeal.nD Cert.InprojIdeal.τ).loc Cert.InprojIdeal.main_arg5)
      ∧ m' ((c.tc : Thread Cert.InprojReferenceIdeal.nD Cert.InprojReferenceIdeal.τ).loc Cert.InprojReferenceIdeal.main_arg6) = m ((c.tc : Thread Cert.InprojIdeal.nD Cert.InprojIdeal.τ).loc Cert.InprojIdeal.main_arg6)) →
    ∃ (v0 : (c : Dev Cert.InprojIdeal.nD) → Buf (Elt Ideal) ((c.tc : Thread Cert.InprojIdeal.nD Cert.InprojIdeal.τ).loc Cert.InprojIdeal.main_v47_0)) (v1 : (c : Dev Cert.InprojIdeal.nD) → Buf (Elt Ideal) ((c.tc : Thread Cert.InprojIdeal.nD Cert.InprojIdeal.τ).loc Cert.InprojIdeal.main_v47_1)) (v2 : (c : Dev Cert.InprojIdeal.nD) → Buf (Elt Ideal) ((c.tc : Thread Cert.InprojIdeal.nD Cert.InprojIdeal.τ).loc Cert.InprojIdeal.main_v47_2)) (v3 : (c : Dev Cert.InprojIdeal.nD) → Buf (Elt Ideal) ((c.tc : Thread Cert.InprojIdeal.nD Cert.InprojIdeal.τ).loc Cert.InprojIdeal.main_v47_3)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v47_0) = v0 c
          ∧ r.2.mem ((c.tc : Thread Cert.InprojIdeal.nD Cert.InprojIdeal.τ).loc Cert.InprojIdeal.main_v47_1) = v1 c
          ∧ r.2.mem ((c.tc : Thread Cert.InprojIdeal.nD Cert.InprojIdeal.τ).loc Cert.InprojIdeal.main_v47_2) = v2 c
          ∧ r.2.mem ((c.tc : Thread Cert.InprojIdeal.nD Cert.InprojIdeal.τ).loc Cert.InprojIdeal.main_v47_3) = v3 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
          ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v129) = v0 c
          ∧ r.2.mem ((c.tc : Thread Cert.InprojReferenceIdeal.nD Cert.InprojReferenceIdeal.τ).loc Cert.InprojReferenceIdeal.main_v130) = v1 c
          ∧ r.2.mem ((c.tc : Thread Cert.InprojReferenceIdeal.nD Cert.InprojReferenceIdeal.τ).loc Cert.InprojReferenceIdeal.main_v131) = v2 c
          ∧ r.2.mem ((c.tc : Thread Cert.InprojReferenceIdeal.nD Cert.InprojReferenceIdeal.τ).loc Cert.InprojReferenceIdeal.main_v133) = v3 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1)
          ∧ r.2.mem ((c.tc : Thread Cert.InprojReferenceIdeal.nD Cert.InprojReferenceIdeal.τ).loc Cert.InprojReferenceIdeal.main_arg2) = m' ((c.tc : Thread Cert.InprojReferenceIdeal.nD Cert.InprojReferenceIdeal.τ).loc Cert.InprojReferenceIdeal.main_arg2)
          ∧ r.2.mem ((c.tc : Thread Cert.InprojReferenceIdeal.nD Cert.InprojReferenceIdeal.τ).loc Cert.InprojReferenceIdeal.main_arg3) = m' ((c.tc : Thread Cert.InprojReferenceIdeal.nD Cert.InprojReferenceIdeal.τ).loc Cert.InprojReferenceIdeal.main_arg3)
          ∧ r.2.mem ((c.tc : Thread Cert.InprojReferenceIdeal.nD Cert.InprojReferenceIdeal.τ).loc Cert.InprojReferenceIdeal.main_arg4) = m' ((c.tc : Thread Cert.InprojReferenceIdeal.nD Cert.InprojReferenceIdeal.τ).loc Cert.InprojReferenceIdeal.main_arg4)
          ∧ r.2.mem ((c.tc : Thread Cert.InprojReferenceIdeal.nD Cert.InprojReferenceIdeal.τ).loc Cert.InprojReferenceIdeal.main_arg5) = m' ((c.tc : Thread Cert.InprojReferenceIdeal.nD Cert.InprojReferenceIdeal.τ).loc Cert.InprojReferenceIdeal.main_arg5)
          ∧ r.2.mem ((c.tc : Thread Cert.InprojReferenceIdeal.nD Cert.InprojReferenceIdeal.τ).loc Cert.InprojReferenceIdeal.main_arg6) = m' ((c.tc : Thread Cert.InprojReferenceIdeal.nD Cert.InprojReferenceIdeal.τ).loc Cert.InprojReferenceIdeal.main_arg6))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hOutproj : Cert.Outproj.Facts) (hOutprojIdeal : Cert.OutprojIdeal.Facts) (hOutprojReferenceIdeal : Cert.OutprojReferenceIdeal.Facts) (hGates : Cert.Gates.Facts) (hGatesIdeal : Cert.GatesIdeal.Facts) (hGatesReferenceIdeal : Cert.GatesReferenceIdeal.Facts) (hCompress : Cert.Compress.Facts) (hCompressIdeal : Cert.CompressIdeal.Facts) (hCompressReferenceIdeal : Cert.CompressReferenceIdeal.Facts) (hInproj : Cert.Inproj.Facts) (hInprojIdeal : Cert.InprojIdeal.Facts) (hInprojReferenceIdeal : Cert.InprojReferenceIdeal.Facts) (hPre_finite_weights : Cert.Pre_finite_weights.Facts),
    quiescent_Kernel (hKernel := hKernel)
    ∧ quiescent_KernelIdeal (hKernelIdeal := hKernelIdeal)
    ∧ quiescent_ReferenceIdeal (hReferenceIdeal := hReferenceIdeal)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Outproj (hOutproj := hOutproj)
    ∧ quiescent_OutprojIdeal (hOutprojIdeal := hOutprojIdeal)
    ∧ quiescent_OutprojReferenceIdeal (hOutprojReferenceIdeal := hOutprojReferenceIdeal)
    ∧ quiescent_Gates (hGates := hGates)
    ∧ quiescent_GatesIdeal (hGatesIdeal := hGatesIdeal)
    ∧ quiescent_GatesReferenceIdeal (hGatesReferenceIdeal := hGatesReferenceIdeal)
    ∧ quiescent_Compress (hCompress := hCompress)
    ∧ quiescent_CompressIdeal (hCompressIdeal := hCompressIdeal)
    ∧ quiescent_CompressIdeal_pre_finite_weights (hCompressIdeal := hCompressIdeal) (hPre_finite_weights := hPre_finite_weights)
    ∧ quiescent_CompressReferenceIdeal (hCompressReferenceIdeal := hCompressReferenceIdeal)
    ∧ quiescent_CompressReferenceIdeal_pre_finite_weights (hCompressReferenceIdeal := hCompressReferenceIdeal) (hPre_finite_weights := hPre_finite_weights)
    ∧ quiescent_Inproj (hInproj := hInproj)
    ∧ quiescent_InprojIdeal (hInprojIdeal := hInprojIdeal)
    ∧ quiescent_InprojReferenceIdeal (hInprojReferenceIdeal := hInprojReferenceIdeal)
    ∧ preserves_Kernel_KernelIdeal
    ∧ algebraic_KernelIdeal_ReferenceIdeal (hKernelIdeal := hKernelIdeal) (hReferenceIdeal := hReferenceIdeal)
    ∧ preserves_Ffn_FfnIdeal
    ∧ algebraic_FfnIdeal_FfnReferenceIdeal (hFfnIdeal := hFfnIdeal) (hFfnReferenceIdeal := hFfnReferenceIdeal)
    ∧ preserves_Outproj_OutprojIdeal
    ∧ algebraic_OutprojIdeal_OutprojReferenceIdeal (hOutprojIdeal := hOutprojIdeal) (hOutprojReferenceIdeal := hOutprojReferenceIdeal)
    ∧ preserves_Gates_GatesIdeal
    ∧ algebraic_GatesIdeal_GatesReferenceIdeal (hGatesIdeal := hGatesIdeal) (hGatesReferenceIdeal := hGatesReferenceIdeal)
    ∧ preserves_Compress_CompressIdeal
    ∧ algebraic_CompressIdeal_CompressReferenceIdeal_pre_finite_weights (hCompressIdeal := hCompressIdeal) (hCompressReferenceIdeal := hCompressReferenceIdeal) (hPre_finite_weights := hPre_finite_weights)
    ∧ preserves_Inproj_InprojIdeal
    ∧ algebraic_InprojIdeal_InprojReferenceIdeal (hInprojIdeal := hInprojIdeal) (hInprojReferenceIdeal := hInprojReferenceIdeal)
-- ==== Pre_finite_weights.lean ====
abbrev S8x2x256x2048 : Shape := ⟨4, ![8, 2, 256, 2048]⟩
abbrev S1x32x128 : Shape := ⟨3, ![1, 32, 128]⟩
abbrev S1x4096x512 : Shape := ⟨3, ![1, 4096, 512]⟩
abbrev S1x512x128 : Shape := ⟨3, ![1, 512, 128]⟩
abbrev S1x128 : Shape := ⟨2, ![1, 128]⟩
abbrev S_ : Shape := ⟨0, ![]⟩

class Facts : Prop where
  bcast_S_S1x32x128 : S_.BroadcastsInDim S1x32x128 (![] : Fin 0 → Fin S1x32x128.rank)
  reducesTo_S1x32x128_S_d0_1_2 : S1x32x128.ReducesTo [0, 1, 2] S_
  h_S_ : 0 < S_.numel
  bcast_S_S1x4096x512 : S_.BroadcastsInDim S1x4096x512 (![] : Fin 0 → Fin S1x4096x512.rank)
  reducesTo_S1x4096x512_S_d0_1_2 : S1x4096x512.ReducesTo [0, 1, 2] S_

variable [Facts]

def fn_part1 {F : FTy → Type} [FloatOps F] (main_v13 : IVec S_ 1) (main_v16 : IVec S1x4096x512 1) : IVec S_ 1 :=
  let main_c_5 : IVec S_ 1 := constantI S_ 1 1#1
  let main_v17 : IVec S_ 1 := (fun x v => Host.reduce IntOp.andi x v reducesTo_S1x4096x512_S_d0_1_2 h_S_) main_v16 main_c_5
  let main_v18 : IVec S_ 1 := andi main_v13 main_v17
  main_v18

def fn {F : FTy → Type} [FloatOps F] (main_arg0 : FVec F S8x2x256x2048 .bf16) (main_arg1 : FVec F S1x32x128 .f32) (main_arg2 : FVec F S1x4096x512 .f32) (main_arg3 : FVec F S1x512x128 .f32) (main_arg4 : FVec F S1x32x128 .f32) (main_arg5 : FVec F S1x4096x512 .f32) (main_arg6 : FVec F S1x512x128 .f32) (main_arg7 : FVec F S1x128 .f32) : IVec S_ 1 :=
  let main_v0 : FVec F S1x32x128 .f32 := Host.absf main_arg1
  let main_cst : FVec F S_ .f32 := constant S_ .f32 0x7F800000#32
  let main_v1 : FVec F S1x32x128 .f32 := broadcastInDim S1x32x128 ![] bcast_S_S1x32x128 main_cst
  let main_v2 : IVec S1x32x128 1 := cmpf .olt main_v0 main_v1
  let main_c : IVec S_ 1 := constantI S_ 1 1#1
  let main_v3 : IVec S_ 1 := (fun x v => Host.reduce IntOp.andi x v reducesTo_S1x32x128_S_d0_1_2 h_S_) main_v2 main_c
  let main_v4 : FVec F S1x4096x512 .f32 := Host.absf main_arg2
  let main_cst_0 : FVec F S_ .f32 := constant S_ .f32 0x7F800000#32
  let main_v5 : FVec F S1x4096x512 .f32 := broadcastInDim S1x4096x512 ![] bcast_S_S1x4096x512 main_cst_0
  let main_v6 : IVec S1x4096x512 1 := cmpf .olt main_v4 main_v5
  let main_c_1 : IVec S_ 1 := constantI S_ 1 1#1
  let main_v7 : IVec S_ 1 := (fun x v => Host.reduce IntOp.andi x v reducesTo_S1x4096x512_S_d0_1_2 h_S_) main_v6 main_c_1
  let main_v8 : IVec S_ 1 := andi main_v3 main_v7
  let main_v9 : FVec F S1x32x128 .f32 := Host.absf main_arg4
  let main_cst_2 : FVec F S_ .f32 := constant S_ .f32 0x7F800000#32
  let main_v10 : FVec F S1x32x128 .f32 := broadcastInDim S1x32x128 ![] bcast_S_S1x32x128 main_cst_2
  let main_v11 : IVec S1x32x128 1 := cmpf .olt main_v9 main_v10
  let main_c_3 : IVec S_ 1 := constantI S_ 1 1#1
  let main_v12 : IVec S_ 1 := (fun x v => Host.reduce IntOp.andi x v reducesTo_S1x32x128_S_d0_1_2 h_S_) main_v11 main_c_3
  let main_v13 : IVec S_ 1 := andi main_v8 main_v12
  let main_v14 : FVec F S1x4096x512 .f32 := Host.absf main_arg5
  let main_cst_4 : FVec F S_ .f32 := constant S_ .f32 0x7F800000#32
  let main_v15 : FVec F S1x4096x512 .f32 := broadcastInDim S1x4096x512 ![] bcast_S_S1x4096x512 main_cst_4
  let main_v16 : IVec S1x4096x512 1 := cmpf .olt main_v14 main_v15
  fn_part1 (F := F) main_v13 main_v16
-- ==== Kernel.lean ====
abbrev S56x8192x128 : Shape := ⟨3, ![56, 8192, 128]⟩
abbrev S2x8x4096 : Shape := ⟨3, ![2, 8, 4096]⟩
abbrev S56x2x4096x128 : Shape := ⟨4, ![56, 2, 4096, 128]⟩
abbrev S2x8x1x4096 : Shape := ⟨4, ![2, 8, 1, 4096]⟩
abbrev S8192x1024 : Shape := ⟨2, ![8192, 1024]⟩
abbrev S1x256x128 : Shape := ⟨3, ![1, 256, 128]⟩
abbrev S1x1x4096x128 : Shape := ⟨4, ![1, 1, 4096, 128]⟩
abbrev S1x1x1x4096 : Shape := ⟨4, ![1, 1, 1, 4096]⟩
abbrev S256x128 : Shape := ⟨2, ![256, 128]⟩
abbrev S144x4096 : Shape := ⟨2, ![144, 4096]⟩
abbrev S4096x256 : Shape := ⟨2, ![4096, 256]⟩
abbrev S1x1x128x128 : Shape := ⟨4, ![1, 1, 128, 128]⟩
abbrev S128x128 : Shape := ⟨2, ![128, 128]⟩
abbrev S16x4096 : Shape := ⟨2, ![16, 4096]⟩
abbrev S1x1x1x128 : Shape := ⟨4, ![1, 1, 1, 128]⟩
abbrev S1x128 : Shape := ⟨2, ![1, 128]⟩
abbrev S128x256 : Shape := ⟨2, ![128, 256]⟩
abbrev S256x256 : Shape := ⟨2, ![256, 256]⟩
abbrev S1x1x1x256 : Shape := ⟨4, ![1, 1, 1, 256]⟩
abbrev S1x256 : Shape := ⟨2, ![1, 256]⟩
abbrev S1024x256 : Shape := ⟨2, ![1024, 256]⟩
abbrev S144x256 : Shape := ⟨2, ![144, 256]⟩
abbrev S8x256 : Shape := ⟨2, ![8, 256]⟩
abbrev S128x8x256 : Shape := ⟨3, ![128, 8, 256]⟩
abbrev S256 : Shape := ⟨1, ![256]⟩
abbrev S144x1024 : Shape := ⟨2, ![144, 1024]⟩

abbrev nBuf : Space → Nat
  | .hbm => 5
  | .vmem => 13
  | .smem => 0
  | _ => 0

abbrev bufTy : (tb : Table) → Fin (tcTables nBuf tb) → BufTy
  | .hbm, ⟨0, _⟩ => ⟨S56x8192x128, .bf16⟩
  | .hbm, ⟨1, _⟩ => ⟨S2x8x4096, .f32⟩
  | .hbm, ⟨2, _⟩ => ⟨S56x2x4096x128, .bf16⟩
  | .hbm, ⟨3, _⟩ => ⟨S2x8x1x4096, .f32⟩
  | .hbm, ⟨4, _⟩ => ⟨S8192x1024, .f32⟩
  | .local _ .vmem, ⟨0, _⟩ => ⟨S1x256x128, .bf16⟩
  | .local _ .vmem, ⟨1, _⟩ => ⟨S1x256x128, .bf16⟩
  | .local _ .vmem, ⟨2, _⟩ => ⟨S1x1x4096x128, .bf16⟩
  | .local _ .vmem, ⟨3, _⟩ => ⟨S1x1x4096x128, .bf16⟩
  | .local _ .vmem, ⟨4, _⟩ => ⟨S1x1x4096x128, .bf16⟩
  | .local _ .vmem, ⟨5, _⟩ => ⟨S1x1x4096x128, .bf16⟩
  | .local _ .vmem, ⟨6, _⟩ => ⟨S1x1x1x4096, .f32⟩
  | .local _ .vmem, ⟨7, _⟩ => ⟨S1x1x1x4096, .f32⟩
  | .local _ .vmem, ⟨8, _⟩ => ⟨S256x128, .f32⟩
  | .local _ .vmem, ⟨9, _⟩ => ⟨S256x128, .f32⟩
  | .local _ .vmem, ⟨10, _⟩ => ⟨S144x4096, .bf16⟩
  | .local _ .vmem, ⟨11, _⟩ => ⟨S4096x256, .bf16⟩
  | .local _ .vmem, ⟨12, _⟩ => ⟨S4096x256, .f32⟩
  | _, _ => ⟨S56x8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 8, 16], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_18 : BitVec 32 := 0#32
  let c32_i32 : BitVec 32 := 32#32
  let v61 : BitVec 32 := Scalar.addi c0_i32_18 c32_i32
  let c1_i32_19 : BitVec 32 := 1#32
  ⟨c0_i32_18, v61, c1_i32_19⟩
def k0_mult1 (k0_t1 : Fin k0_t1_loop.trips) : BitVec 32 :=
  let c0_i32_18 : BitVec 32 := 0#32
  let c1_i32_19 : BitVec 32 := 1#32
  let arg11 : BitVec 32 := Scf.iv c0_i32_18 c1_i32_19 k0_t1
  let c128_i32 : BitVec 32 := 128#32
  let v73 : BitVec 32 := Scalar.muli arg11 c128_i32
  v73
def k0_off1 (k0_t1 : Fin k0_t1_loop.trips) : Fin 4 → Nat :=
  let c0_29 : Index := 0#32
  let c0_30 : Index := 0#32
  let c0_i32_18 : BitVec 32 := 0#32
  let c1_i32_19 : BitVec 32 := 1#32
  let arg11 : BitVec 32 := Scf.iv c0_i32_18 c1_i32_19 k0_t1
  let c128_i32 : BitVec 32 := 128#32
  let v73 : BitVec 32 := Scalar.muli arg11 c128_i32
  let v74 : BitVec 32 := v73
  let v75 : Index := Scalar.indexCast v74
  let c0_31 : Index := 0#32
  ![0, 0, v75.toNat, 0]
def k0_off2 (k0_t1 : Fin k0_t1_loop.trips) : Fin 2 → Nat :=
  let c0_32 : Index := 0#32
  let c0_i32_18 : BitVec 32 := 0#32
  let c1_i32_19 : BitVec 32 := 1#32
  let arg11 : BitVec 32 := Scf.iv c0_i32_18 c1_i32_19 k0_t1
  let c128_i32 : BitVec 32 := 128#32
  let v73 : BitVec 32 := Scalar.muli arg11 c128_i32
  let v74 : BitVec 32 := v73
  let v81 : Index := Scalar.indexCast v74
  ![0, v81.toNat]
@[reducible] def k0_t2_loop : Scf.Loop 32 :=
  let c0_i32_25 : BitVec 32 := 0#32
  let c32_i32_26 : BitVec 32 := 32#32
  let v72 : BitVec 32 := Scalar.addi c0_i32_25 c32_i32_26
  let c1_i32_27 : BitVec 32 := 1#32
  ⟨c0_i32_25, v72, c1_i32_27⟩
def k0_mult2 (k0_t2 : Fin k0_t2_loop.trips) : BitVec 32 :=
  let c0_i32_25 : BitVec 32 := 0#32
  let c1_i32_27 : BitVec 32 := 1#32
  let arg11 : BitVec 32 := Scf.iv c0_i32_25 c1_i32_27 k0_t2
  let c128_i32 : BitVec 32 := 128#32
  let v73 : BitVec 32 := Scalar.muli arg11 c128_i32
  v73
def k0_off3 (k0_t2 : Fin k0_t2_loop.trips) : Fin 4 → Nat :=
  let c0_29 : Index := 0#32
  let c0_30 : Index := 0#32
  let c0_31 : Index := 0#32
  let c0_i32_25 : BitVec 32 := 0#32
  let c1_i32_27 : BitVec 32 := 1#32
  let arg11 : BitVec 32 := Scf.iv c0_i32_25 c1_i32_27 k0_t2
  let c128_i32 : BitVec 32 := 128#32
  let v73 : BitVec 32 := Scalar.muli arg11 c128_i32
  let v74 : BitVec 32 := v73
  let v75 : Index := Scalar.indexCast v74
  ![0, 0, 0, v75.toNat]
def k0_off4 (k0_t2 : Fin k0_t2_loop.trips) : Fin 4 → Nat :=
  let c0_32 : Index := 0#32
  let c0_33 : Index := 0#32
  let c0_i32_25 : BitVec 32 := 0#32
  let c1_i32_27 : BitVec 32 := 1#32
  let arg11 : BitVec 32 := Scf.iv c0_i32_25 c1_i32_27 k0_t2
  let c128_i32 : BitVec 32 := 128#32
  let v73 : BitVec 32 := Scalar.muli arg11 c128_i32
  let v74 : BitVec 32 := v73
  let v81 : Index := Scalar.indexCast v74
  let c0_34 : Index := 0#32
  ![0, 0, v81.toNat, 0]
def k0_off5 (k0_t2 : Fin k0_t2_loop.trips) : Fin 2 → Nat :=
  let c0_i32_25 : BitVec 32 := 0#32
  let c1_i32_27 : BitVec 32 := 1#32
  let arg11 : BitVec 32 := Scf.iv c0_i32_25 c1_i32_27 k0_t2
  let c128_i32 : BitVec 32 := 128#32
  let v73 : BitVec 32 := Scalar.muli arg11 c128_i32
  let v74 : BitVec 32 := v73
  let v84 : Index := Scalar.indexCast v74
  let c0_35 : Index := 0#32
  ![v84.toNat, 0]
def k0_off6 (k0_t2 : Fin k0_t2_loop.trips) : Fin 2 → Nat :=
  let c0_i32_25 : BitVec 32 := 0#32
  let c1_i32_27 : BitVec 32 := 1#32
  let arg11 : BitVec 32 := Scf.iv c0_i32_25 c1_i32_27 k0_t2
  let c128_i32 : BitVec 32 := 128#32
  let v73 : BitVec 32 := Scalar.muli arg11 c128_i32
  let v74 : BitVec 32 := v73
  let v110 : Index := Scalar.indexCast v74
  let c128_39 : Index := 128#32
  ![v110.toNat, 128]
def k0_mult3 (i : grid0.Coords) : BitVec 32 :=
  let arg2 : BitVec 32 := BitVec.ofNat 32 (i 2).val
  let c256_i32 : BitVec 32 := 256#32
  let v3 : BitVec 32 := Scalar.muli arg2 c256_i32
  v3
def k0_off7 (i : grid0.Coords) : Fin 4 → Nat :=
  let c0_4 : Index := 0#32
  let c0_5 : Index := 0#32
  let c0_6 : Index := 0#32
  let arg2 : BitVec 32 := BitVec.ofNat 32 (i 2).val
  let c256_i32 : BitVec 32 := 256#32
  let v3 : BitVec 32 := Scalar.muli arg2 c256_i32
  let v4 : BitVec 32 := v3
  let v22 : Index := Scalar.indexCast v4
  ![0, 0, 0, v22.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg1
  let c16_i32 : BitVec 32 := 16#32
  let v1 : BitVec 32 := Scalar.muli arg0 c16_i32
  let v2 : BitVec 32 := Scalar.addi v1 arg2
  let c0_i32 : BitVec 32 := 0#32
  let c0_i32_0 : BitVec 32 := 0#32
  ![v0.toNat, v2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c40_i32 : BitVec 32 := 40#32
  let v0 : BitVec 32 := Scalar.addi c40_i32 arg1
  let c0_i32 : BitVec 32 := 0#32
  let c0_i32_0 : BitVec 32 := 0#32
  let c0_i32_1 : BitVec 32 := 0#32
  ![v0.toNat, arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c48_i32 : BitVec 32 := 48#32
  let v0 : BitVec 32 := Scalar.addi c48_i32 arg1
  let c0_i32 : BitVec 32 := 0#32
  let c0_i32_0 : BitVec 32 := 0#32
  let c0_i32_1 : BitVec 32 := 0#32
  ![v0.toNat, arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S56x8192x128 : Shape := ⟨3, ![56, 8192, 128]⟩
abbrev S2x8x4096 : Shape := ⟨3, ![2, 8, 4096]⟩
abbrev S56x2x4096x128 : Shape := ⟨4, ![56, 2, 4096, 128]⟩
abbrev S8x2x4096x128 : Shape := ⟨4, ![8, 2, 4096, 128]⟩
abbrev S2x8x4096x4096 : Shape := ⟨4, ![2, 8, 4096, 4096]⟩
abbrev S2x8x4096x1 : Shape := ⟨4, ![2, 8, 4096, 1]⟩
abbrev S2x8x1x4096 : Shape := ⟨4, ![2, 8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S2x8x128x4096 : Shape := ⟨4, ![2, 8, 128, 4096]⟩
abbrev S2x4096x8x128 : Shape := ⟨4, ![2, 4096, 8, 128]⟩
abbrev S8192x1024 : Shape := ⟨2, ![8192, 1024]⟩

abbrev nBuf : Space → Nat
  | .hbm => 50
  | .vmem => 0
  | .smem => 0
  | _ => 0

abbrev bufTy : (tb : Table) → Fin (tcTables nBuf tb) → BufTy
  | .hbm, ⟨0, _⟩ => ⟨S56x8192x128, .bf16⟩
  | .hbm, ⟨1, _⟩ => ⟨S2x8x4096, .f32⟩
  | .hbm, ⟨2, _⟩ => ⟨S56x8192x128, .f32⟩
  | .hbm, ⟨3, _⟩ => ⟨S56x2x4096x128, .f32⟩
  | .hbm, ⟨4, _⟩ => ⟨S8x2x4096x128, .f32⟩
  | .hbm, ⟨5, _⟩ => ⟨S8x2x4096x128, .f32⟩
  | .hbm, ⟨6, _⟩ => ⟨S8x2x4096x128, .f32⟩
  | .hbm, ⟨7, _⟩ => ⟨S2x8x4096x4096, .f32⟩
  | .hbm, ⟨8, _⟩ => ⟨S2x8x4096x1, .f32⟩
  | .hbm, ⟨9, _⟩ => ⟨S2x8x1x4096, .f32⟩
  | .hbm, ⟨10, _⟩ => ⟨S2x8x4096x4096, .f32⟩
  | .hbm, ⟨11, _⟩ => ⟨S2x8x4096x4096, .f32⟩
  | .hbm, ⟨12, _⟩ => ⟨S2x8x4096x4096, .f32⟩
  | .hbm, ⟨13, _⟩ => ⟨S2x8x4096x4096, .f32⟩
  | .hbm, ⟨14, _⟩ => ⟨S4096, .i32⟩
  | .hbm, ⟨15, _⟩ => ⟨S1x4096, .i32⟩
  | .hbm, ⟨16, _⟩ => ⟨S4096x1, .i32⟩
  | .hbm, ⟨17, _⟩ => ⟨S4096x4096, .i32⟩
  | .hbm, ⟨18, _⟩ => ⟨S4096x4096, .i32⟩
  | .hbm, ⟨19, _⟩ => ⟨S4096x4096, .i1⟩
  | .hbm, ⟨20, _⟩ => ⟨S_, .f32⟩
  | .hbm, ⟨21, _⟩ => ⟨S_, .f32⟩
  | .hbm, ⟨22, _⟩ => ⟨S2x8x4096x4096, .i1⟩
  | .hbm, ⟨23, _⟩ => ⟨S2x8x4096x4096, .f32⟩
  | .hbm, ⟨24, _⟩ => ⟨S2x8x4096x4096, .f32⟩
  | .hbm, ⟨25, _⟩ => ⟨S_, .f32⟩
  | .hbm, ⟨26, _⟩ => ⟨S2x8x4096, .f32⟩
  | .hbm, ⟨27, _⟩ => ⟨S2x8x4096x1, .f32⟩
  | .hbm, ⟨28, _⟩ => ⟨S2x8x4096x1, .f32⟩
  | .hbm, ⟨29, _⟩ => ⟨S_, .f32⟩
  | .hbm, ⟨30, _⟩ => ⟨S2x8x4096x1, .f32⟩
  | .hbm, ⟨31, _⟩ => ⟨S2x8x4096x1, .i1⟩
  | .hbm, ⟨32, _⟩ => ⟨S_, .f32⟩
  | .hbm, ⟨33, _⟩ => ⟨S_, .f32⟩
  | .hbm, ⟨34, _⟩ => ⟨S2x8x4096x1, .f32⟩
  | .hbm, ⟨35, _⟩ => ⟨S2x8x4096x1, .f32⟩
  | .hbm, ⟨36, _⟩ => ⟨S2x8x4096x4096, .f32⟩
  | .hbm, ⟨37, _⟩ => ⟨S2x8x4096x4096, .f32⟩
  | .hbm, ⟨38, _⟩ => ⟨S2x8x4096x4096, .f32⟩
  | .hbm, ⟨39, _⟩ => ⟨S_, .f32⟩
  | .hbm, ⟨40, _⟩ => ⟨S2x8x4096, .f32⟩
  | .hbm, ⟨41, _⟩ => ⟨S2x8x4096x1, .f32⟩
  | .hbm, ⟨42, _⟩ => ⟨S_, .f32⟩
  | .hbm, ⟨43, _⟩ => ⟨S2x8x4096x1, .f32⟩
  | .hbm, ⟨44, _⟩ => ⟨S2x8x4096x1, .f32⟩
  | .hbm, ⟨45, _⟩ => ⟨S2x8x4096x4096, .f32⟩
  | .hbm, ⟨46, _⟩ => ⟨S2x8x4096x4096, .f32⟩
  | .hbm, ⟨47, _⟩ => ⟨S2x8x128x4096, .f32⟩
  | .hbm, ⟨48, _⟩ => ⟨S2x4096x8x128, .f32⟩
  | .hbm, ⟨49, _⟩ => ⟨S8192x1024, .f32⟩
  | _, _ => ⟨S56x8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v18 : Ref sig .tc := ⟨.hbm, 24, rfl⟩
abbrev main_cst_0 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_call1_v0 : Ref sig .tc := ⟨.hbm, 33, rfl⟩
abbrev main_call1_v1 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Ffn.lean ====
abbrev S8192x2048 : Shape := ⟨2, ![8192, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S2048x5632 : Shape := ⟨2, ![2048, 5632]⟩
abbrev S5632x2048 : Shape := ⟨2, ![5632, 2048]⟩
abbrev S1024x2048 : Shape := ⟨2, ![1024, 2048]⟩
abbrev S2048x512 : Shape := ⟨2, ![2048, 512]⟩
abbrev S512x2048 : Shape := ⟨2, ![512, 2048]⟩
abbrev S1024 : Shape := ⟨1, ![1024]⟩
abbrev S1024x1 : Shape := ⟨2, ![1024, 1]⟩
abbrev S1024x512 : Shape := ⟨2, ![1024, 512]⟩

abbrev nBuf : Space → Nat
  | .hbm => 14
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S2048, .f32⟩
  | .hbm, ⟨6, _⟩ => ⟨S1x2048, .f32⟩
  | .hbm, ⟨7, _⟩ => ⟨S2048x5632, .f32⟩
  | .hbm, ⟨8, _⟩ => ⟨S2048x5632, .bf16⟩
  | .hbm, ⟨9, _⟩ => ⟨S2048x5632, .f32⟩
  | .hbm, ⟨10, _⟩ => ⟨S2048x5632, .bf16⟩
  | .hbm, ⟨11, _⟩ => ⟨S5632x2048, .f32⟩
  | .hbm, ⟨12, _⟩ => ⟨S5632x2048, .bf16⟩
  | .hbm, ⟨13, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1024x2048, .f32⟩
  | .local _ .vmem, ⟨10, _⟩ => ⟨S1024x2048, .f32⟩
  | .local _ .vmem, ⟨11, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnReferenceIdeal.lean ====
abbrev S8192x2048 : Shape := ⟨2, ![8192, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S2048x5632 : Shape := ⟨2, ![2048, 5632]⟩
abbrev S5632x2048 : Shape := ⟨2, ![5632, 2048]⟩
abbrev S8192x5632 : Shape := ⟨2, ![8192, 5632]⟩

abbrev nBuf : Space → Nat
  | .hbm => 42
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S2048x5632, .f32⟩
  | .hbm, ⟨23, _⟩ => ⟨S2048x5632, .f32⟩
  | .hbm, ⟨24, _⟩ => ⟨S5632x2048, .f32⟩
  | .hbm, ⟨25, _⟩ => ⟨S8192x5632, .f32⟩
  | .hbm, ⟨26, _⟩ => ⟨S8192x5632, .f32⟩
  | .hbm, ⟨27, _⟩ => ⟨S8192x5632, .f32⟩
  | .hbm, ⟨28, _⟩ => ⟨S_, .f32⟩
  | .hbm, ⟨29, _⟩ => ⟨S8192x5632, .f32⟩
  | .hbm, ⟨30, _⟩ => ⟨S8192x5632, .f32⟩
  | .hbm, ⟨31, _⟩ => ⟨S_, .f32⟩
  | .hbm, ⟨32, _⟩ => ⟨S8192x5632, .f32⟩
  | .hbm, ⟨33, _⟩ => ⟨S8192x5632, .f32⟩
  | .hbm, ⟨34, _⟩ => ⟨S8192x5632, .f32⟩
  | .hbm, ⟨35, _⟩ => ⟨S8192x5632, .f32⟩
  | .hbm, ⟨36, _⟩ => ⟨S8192x5632, .f32⟩
  | .hbm, ⟨37, _⟩ => ⟨S8192x2048, .f32⟩
  | .hbm, ⟨38, _⟩ => ⟨S_, .f32⟩
  | .hbm, ⟨39, _⟩ => ⟨S8192x2048, .f32⟩
  | .hbm, ⟨40, _⟩ => ⟨S8192x2048, .f32⟩
  | .hbm, ⟨41, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩

abbrev nD : Nat := 1
abbrev τ : Topo := Topo.v7x

variable {F : FTy → Type} [FloatOps F]
-- ==== Outproj.lean ====
abbrev S8192x1024 : Shape := ⟨2, ![8192, 1024]⟩
abbrev S1x1024 : Shape := ⟨2, ![1, 1024]⟩
abbrev S1x2048x2048 : Shape := ⟨3, ![1, 2048, 2048]⟩
abbrev S8192x2048 : Shape := ⟨2, ![8192, 2048]⟩
abbrev S1024 : Shape := ⟨1, ![1024]⟩
abbrev S2048x2048 : Shape := ⟨2, ![2048, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S1024x2048 : Shape := ⟨2, ![1024, 2048]⟩

abbrev nBuf : Space → Nat
  | .hbm => 13
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1x2048x2048, .f32⟩
  | .hbm, ⟨5, _⟩ => ⟨S8192x2048, .f32⟩
  | .hbm, ⟨6, _⟩ => ⟨S1024, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S2048x2048, .f32⟩
  | .hbm, ⟨11, _⟩ => ⟨S2048x2048, .bf16⟩
  | .hbm, ⟨12, _⟩ => ⟨S8192x2048, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S2048x2048, .bf16⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutprojReferenceIdeal.lean ====
abbrev S8192x1024 : Shape := ⟨2, ![8192, 1024]⟩
abbrev S1x1024 : Shape := ⟨2, ![1, 1024]⟩
abbrev S1x2048x2048 : Shape := ⟨3, ![1, 2048, 2048]⟩
abbrev S8192x2048 : Shape := ⟨2, ![8192, 2048]⟩
abbrev S1024 : Shape := ⟨1, ![1024]⟩
abbrev S_ : Shape := ⟨0, ![]⟩
abbrev S8192 : Shape := ⟨1, ![8192]⟩
abbrev S8192x1 : Shape := ⟨2, ![8192, 1]⟩
abbrev S2048x2048 : Shape := ⟨2, ![2048, 2048]⟩

abbrev nBuf : Space → Nat
  | .hbm => 44
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1x2048x2048, .f32⟩
  | .hbm, ⟨5, _⟩ => ⟨S8192x2048, .f32⟩
  | .hbm, ⟨6, _⟩ => ⟨S1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S1024, .f32⟩
  | .hbm, ⟨24, _⟩ => ⟨S8192x1024, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S8192x1024, .f32⟩
  | .hbm, ⟨36, _⟩ => ⟨S8192x1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S8192x2048, .f32⟩
  | .hbm, ⟨41, _⟩ => ⟨S2048x2048, .f32⟩
  | .hbm, ⟨42, _⟩ => ⟨S8192x2048, .f32⟩
  | .hbm, ⟨43, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== Gates.lean ====
abbrev S8192x2048 : Shape := ⟨2, ![8192, 2048]⟩
abbrev S1x2048 : Shape := ⟨2, ![1, 2048]⟩
abbrev S1x2048x7200 : Shape := ⟨3, ![1, 2048, 7200]⟩
abbrev S1x8x3 : Shape := ⟨3, ![1, 8, 3]⟩
abbrev S1x8 : Shape := ⟨2, ![1, 8]⟩
abbrev S2048x7200 : Shape := ⟨2, ![2048, 7200]⟩
abbrev S2048x24 : Shape := ⟨2, ![2048, 24]⟩
abbrev S2048x8 : Shape := ⟨2, ![2048, 8]⟩
abbrev S_ : Shape := ⟨0, ![]⟩
abbrev S2048x96 : Shape := ⟨2, ![2048, 96]⟩
abbrev S2048x128 : Shape := ⟨2, ![2048, 128]⟩
abbrev S8x3 : Shape := ⟨2, ![8, 3]⟩
abbrev S24 : Shape := ⟨1, ![24]⟩
abbrev S8 : Shape := ⟨1, ![8]⟩
abbrev S96 : Shape := ⟨1, ![96]⟩
abbrev S128 : Shape := ⟨1, ![128]⟩
abbrev S1x128 : Shape := ⟨2, ![1, 128]⟩
abbrev S2048 : Shape := ⟨1, ![2048]⟩
abbrev S8192x128 : Shape := ⟨2, ![8192, 128]⟩
abbrev S512x2048 : Shape := ⟨2, ![512, 2048]⟩
abbrev S512x128 : Shape := ⟨2, ![512, 128]⟩
abbrev S512 : Shape := ⟨1, ![512]⟩
abbrev S512x1 : Shape := ⟨2, ![512, 1]⟩

abbrev nBuf : Space → Nat
  | .hbm => 22
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048x7200, .f32⟩
  | .hbm, ⟨3, _⟩ => ⟨S1x8x3, .f32⟩
  | .hbm, ⟨4, _⟩ => ⟨S1x8, .f32⟩
  | .hbm, ⟨5, _⟩ => ⟨S2048x7200, .f32⟩
  | .hbm, ⟨6, _⟩ => ⟨S2048x24, .f32⟩
  | .hbm, ⟨7, _⟩ => ⟨S2048x8, .f32⟩
  | .hbm, ⟨8, _⟩ => ⟨S_, .f32⟩
  | .hbm, ⟨9, _⟩ => ⟨S2048x96, .f32⟩
  | .hbm, ⟨10, _⟩ => ⟨S2048x128, .f32⟩
  | .hbm, ⟨11, _⟩ => ⟨S2048x128, .bf16⟩
  | .hbm, ⟨12, _⟩ => ⟨S8x3, .f32⟩
  | .hbm, ⟨13, _⟩ => ⟨S24, .f32⟩
  | .hbm, ⟨14, _⟩ => ⟨S8, .f32⟩
  | .hbm, ⟨15, _⟩ => ⟨S_, .f32⟩
  | .hbm, ⟨16, _⟩ => ⟨S96, .f32⟩
  | .hbm, ⟨17, _⟩ => ⟨S128, .f32⟩
  | .hbm, ⟨18, _⟩ => ⟨S1x128, .f32⟩
  | .hbm, ⟨19, _⟩ => ⟨S2048, .f32⟩
  | .hbm, ⟨20, _⟩ => ⟨S1x2048, .f32⟩
  | .hbm, ⟨21, _⟩ => ⟨S8192x128, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x128, .bf16⟩
  | .local _ .vmem, ⟨4, _⟩ => ⟨S1x128, .f32⟩
  | .local _ .vmem, ⟨5, _⟩ => ⟨S512x128, .f32⟩
  | .local _ .vmem, ⟨6, _⟩ => ⟨S512x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GatesReferenceIdeal.lean ====
abbrev S8192x2048 : Shape := ⟨2, ![8192, 2048]⟩
abbrev S1x2048 : Shape := ⟨2, ![1, 2048]⟩
abbrev S1x2048x7200 : Shape := ⟨3, ![1, 2048, 7200]⟩
abbrev S1x8x3 : Shape := ⟨3, ![1, 8, 3]⟩
abbrev S1x8 : Shape := ⟨2, ![1, 8]⟩
abbrev S2048 : Shape := ⟨1, ![2048]⟩
abbrev S_ : Shape := ⟨0, ![]⟩
abbrev S8192 : Shape := ⟨1, ![8192]⟩
abbrev S8192x1 : Shape := ⟨2, ![8192, 1]⟩
abbrev S2048x7200 : Shape := ⟨2, ![2048, 7200]⟩
abbrev S8192x7200 : Shape := ⟨2, ![8192, 7200]⟩
abbrev S8192x24 : Shape := ⟨2, ![8192, 24]⟩
abbrev S8192x8x3 : Shape := ⟨3, ![8192, 8, 3]⟩
abbrev S8x3 : Shape := ⟨2, ![8, 3]⟩
abbrev S8192x8 : Shape := ⟨2, ![8192, 8]⟩
abbrev S8 : Shape := ⟨1, ![8]⟩
abbrev S8192x96 : Shape := ⟨2, ![8192, 96]⟩
abbrev S8192x128 : Shape := ⟨2, ![8192, 128]⟩

abbrev nBuf : Space → Nat
  | .hbm => 63
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048x7200, .f32⟩
  | .hbm, ⟨3, _⟩ => ⟨S1x8x3, .f32⟩
  | .hbm, ⟨4, _⟩ => ⟨S1x8, .f32⟩
  | .hbm, ⟨5, _⟩ => ⟨S2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S2048x7200, .f32⟩
  | .hbm, ⟨23, _⟩ => ⟨S8192x7200, .f32⟩
  | .hbm, ⟨24, _⟩ => ⟨S8192x24, .f32⟩
  | .hbm, ⟨25, _⟩ => ⟨S8192x8x3, .f32⟩
  | .hbm, ⟨26, _⟩ => ⟨S8x3, .f32⟩
  | .hbm, ⟨27, _⟩ => ⟨S1x8x3, .f32⟩
  | .hbm, ⟨28, _⟩ => ⟨S8192x8x3, .f32⟩
  | .hbm, ⟨29, _⟩ => ⟨S8192x8x3, .f32⟩
  | .hbm, ⟨30, _⟩ => ⟨S8192x8x3, .f32⟩
  | .hbm, ⟨31, _⟩ => ⟨S8192x8x3, .f32⟩
  | .hbm, ⟨32, _⟩ => ⟨S_, .f32⟩
  | .hbm, ⟨33, _⟩ => ⟨S8192x8x3, .f32⟩
  | .hbm, ⟨34, _⟩ => ⟨S8192x8x3, .f32⟩
  | .hbm, ⟨35, _⟩ => ⟨S_, .f32⟩
  | .hbm, ⟨36, _⟩ => ⟨S8192x8x3, .f32⟩
  | .hbm, ⟨37, _⟩ => ⟨S8192x8x3, .f32⟩
  | .hbm, ⟨38, _⟩ => ⟨S8192x8, .f32⟩
  | .hbm, ⟨39, _⟩ => ⟨S8, .f32⟩
  | .hbm, ⟨40, _⟩ => ⟨S1x8, .f32⟩
  | .hbm, ⟨41, _⟩ => ⟨S8192x8, .f32⟩
  | .hbm, ⟨42, _⟩ => ⟨S8192x8, .f32⟩
  | .hbm, ⟨43, _⟩ => ⟨S8192x8, .f32⟩
  | .hbm, ⟨44, _⟩ => ⟨S_, .f32⟩
  | .hbm, ⟨45, _⟩ => ⟨S8192x8, .f32⟩
  | .hbm, ⟨46, _⟩ => ⟨S8192x8, .f32⟩
  | .hbm, ⟨47, _⟩ => ⟨S8192x8, .f32⟩
  | .hbm, ⟨48, _⟩ => ⟨S8192x8, .f32⟩
  | .hbm, ⟨49, _⟩ => ⟨S8192x8, .i1⟩
  | .hbm, ⟨50, _⟩ => ⟨S8192x8, .f32⟩
  | .hbm, ⟨51, _⟩ => ⟨S8192x8, .f32⟩
  | .hbm, ⟨52, _⟩ => ⟨S8192x8, .f32⟩
  | .hbm, ⟨53, _⟩ => ⟨S8192x8, .f32⟩
  | .hbm, ⟨54, _⟩ => ⟨S8192x8, .f32⟩
  | .hbm, ⟨55, _⟩ => ⟨S8192x8, .f32⟩
  | .hbm, ⟨56, _⟩ => ⟨S8192x8, .f32⟩
  | .hbm, ⟨57, _⟩ => ⟨S8192x8, .f32⟩
  | .hbm, ⟨58, _⟩ => ⟨S8192x8, .f32⟩
  | .hbm, ⟨59, _⟩ => ⟨S8192x24, .f32⟩
  | .hbm, ⟨60, _⟩ => ⟨S_, .f32⟩
  | .hbm, ⟨61, _⟩ => ⟨S8192x96, .f32⟩
  | .hbm, ⟨62, _⟩ => ⟨S8192x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_call0_v0 : Ref sig .tc := ⟨.hbm, 43, rfl⟩
abbrev main_call0_call0_cst : Ref sig .tc := ⟨.hbm, 44, rfl⟩
abbrev main_call0_call0_v0 : Ref sig .tc := ⟨.hbm, 45, rfl⟩
abbrev main_call0_call0_v1 : Ref sig .tc := ⟨.hbm, 46, rfl⟩
abbrev main_call0_call0_v2 : Ref sig .tc := ⟨.hbm, 47, rfl⟩
abbrev main_call0_call0_v3 : Ref sig .tc := ⟨.hbm, 48, rfl⟩
abbrev main_call0_call0_v4 : Ref sig .tc := ⟨.hbm, 49, rfl⟩
abbrev main_call0_call0_v5 : Ref sig .tc := ⟨.hbm, 50, rfl⟩
abbrev main_call0_call0_v6 : Ref sig .tc := ⟨.hbm, 51, rfl⟩
abbrev main_call0_call0_v7 : Ref sig .tc := ⟨.hbm, 52, rfl⟩
abbrev main_call0_call0_v8 : Ref sig .tc := ⟨.hbm, 53, rfl⟩
abbrev main_call0_call0_v9 : Ref sig .tc := ⟨.hbm, 54, rfl⟩
abbrev main_call0_call0_v10 : Ref sig .tc := ⟨.hbm, 55, rfl⟩
abbrev main_call0_call0_v11 : Ref sig .tc := ⟨.hbm, 56, rfl⟩
abbrev main_call0_v1 : Ref sig .tc := ⟨.hbm, 57, rfl⟩
abbrev main_v33 : Ref sig .tc := ⟨.hbm, 58, rfl⟩
abbrev main_v34 : Ref sig .tc := ⟨.hbm, 59, rfl⟩
abbrev main_cst_4 : Ref sig .tc := ⟨.hbm, 60, rfl⟩
abbrev main_v35 : Ref sig .tc := ⟨.hbm, 61, rfl⟩
abbrev main_v36 : Ref sig .tc := ⟨.hbm, 62, rfl⟩

abbrev nD : Nat := 1
abbrev τ : Topo := Topo.v7x

variable {F : FTy → Type} [FloatOps F]
-- ==== Compress.lean ====
abbrev S8x2x256x2048 : Shape := ⟨4, ![8, 2, 256, 2048]⟩
abbrev S1x32x128 : Shape := ⟨3, ![1, 32, 128]⟩
abbrev S1x4096x512 : Shape := ⟨3, ![1, 4096, 512]⟩
abbrev S1x512x128 : Shape := ⟨3, ![1, 512, 128]⟩
abbrev S1x128 : Shape := ⟨2, ![1, 128]⟩
abbrev S1x2048x512 : Shape := ⟨3, ![1, 2048, 512]⟩
abbrev S2048x512 : Shape := ⟨2, ![2048, 512]⟩
abbrev S2048x1024 : Shape := ⟨2, ![2048, 1024]⟩
abbrev S1x2048x1024 : Shape := ⟨3, ![1, 2048, 1024]⟩
abbrev S2x2048x1024 : Shape := ⟨3, ![2, 2048, 1024]⟩
abbrev S512x128 : Shape := ⟨2, ![512, 128]⟩
abbrev S2x512x128 : Shape := ⟨3, ![2, 512, 128]⟩
abbrev S32x128 : Shape := ⟨2, ![32, 128]⟩
abbrev S2x2048 : Shape := ⟨2, ![2, 2048]⟩
abbrev S_ : Shape := ⟨0, ![]⟩
abbrev S14x2048 : Shape := ⟨2, ![14, 2048]⟩
abbrev S16x2048 : Shape := ⟨2, ![16, 2048]⟩
abbrev S1x16x2048 : Shape := ⟨3, ![1, 16, 2048]⟩
abbrev S2x16x2048 : Shape := ⟨3, ![2, 16, 2048]⟩
abbrev S128 : Shape := ⟨1, ![128]⟩
abbrev S8x2x256x128 : Shape := ⟨4, ![8, 2, 256, 128]⟩
abbrev S1x2x256x2048 : Shape := ⟨4, ![1, 2, 256, 2048]⟩
abbrev S1x2x256x128 : Shape := ⟨4, ![1, 2, 256, 128]⟩
abbrev S16x1024 : Shape := ⟨2, ![16, 1024]⟩
abbrev S1x512 : Shape := ⟨2, ![1, 512]⟩
abbrev S1x1x256x2048 : Shape := ⟨4, ![1, 1, 256, 2048]⟩
abbrev S256x2048 : Shape := ⟨2, ![256, 2048]⟩
abbrev S256x1024 : Shape := ⟨2, ![256, 1024]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S1x1x256x128 : Shape := ⟨4, ![1, 1, 256, 128]⟩

abbrev nBuf : Space → Nat
  | .hbm => 45
  | .vmem => 11
  | .smem => 0
  | _ => 0

abbrev bufTy : (tb : Table) → Fin (tcTables nBuf tb) → BufTy
  | .hbm, ⟨0, _⟩ => ⟨S8x2x256x2048, .bf16⟩
  | .hbm, ⟨1, _⟩ => ⟨S1x32x128, .f32⟩
  | .hbm, ⟨2, _⟩ => ⟨S1x4096x512, .f32⟩
  | .hbm, ⟨3, _⟩ => ⟨S1x512x128, .f32⟩
  | .hbm, ⟨4, _⟩ => ⟨S1x32x128, .f32⟩
  | .hbm, ⟨5, _⟩ => ⟨S1x4096x512, .f32⟩
  | .hbm, ⟨6, _⟩ => ⟨S1x512x128, .f32⟩
  | .hbm, ⟨7, _⟩ => ⟨S1x128, .f32⟩
  | .hbm, ⟨8, _⟩ => ⟨S1x2048x512, .f32⟩
  | .hbm, ⟨9, _⟩ => ⟨S2048x512, .f32⟩
  | .hbm, ⟨10, _⟩ => ⟨S1x2048x512, .f32⟩
  | .hbm, ⟨11, _⟩ => ⟨S2048x512, .f32⟩
  | .hbm, ⟨12, _⟩ => ⟨S2048x1024, .f32⟩
  | .hbm, ⟨13, _⟩ => ⟨S1x2048x512, .f32⟩
  | .hbm, ⟨14, _⟩ => ⟨S2048x512, .f32⟩
  | .hbm, ⟨15, _⟩ => ⟨S1x2048x512, .f32⟩
  | .hbm, ⟨16, _⟩ => ⟨S2048x512, .f32⟩
  | .hbm, ⟨17, _⟩ => ⟨S2048x1024, .f32⟩
  | .hbm, ⟨18, _⟩ => ⟨S1x2048x1024, .f32⟩
  | .hbm, ⟨19, _⟩ => ⟨S1x2048x1024, .f32⟩
  | .hbm, ⟨20, _⟩ => ⟨S2x2048x1024, .f32⟩
  | .hbm, ⟨21, _⟩ => ⟨S2x2048x1024, .bf16⟩
  | .hbm, ⟨22, _⟩ => ⟨S512x128, .f32⟩
  | .hbm, ⟨23, _⟩ => ⟨S512x128, .f32⟩
  | .hbm, ⟨24, _⟩ => ⟨S1x512x128, .f32⟩
  | .hbm, ⟨25, _⟩ => ⟨S1x512x128, .f32⟩
  | .hbm, ⟨26, _⟩ => ⟨S2x512x128, .f32⟩
  | .hbm, ⟨27, _⟩ => ⟨S2x512x128, .bf16⟩
  | .hbm, ⟨28, _⟩ => ⟨S32x128, .f32⟩
  | .hbm, ⟨29, _⟩ => ⟨S2x2048, .f32⟩
  | .hbm, ⟨30, _⟩ => ⟨S_, .f32⟩
  | .hbm, ⟨31, _⟩ => ⟨S14x2048, .f32⟩
  | .hbm, ⟨32, _⟩ => ⟨S16x2048, .f32⟩
  | .hbm, ⟨33, _⟩ => ⟨S32x128, .f32⟩
  | .hbm, ⟨34, _⟩ => ⟨S2x2048, .f32⟩
  | .hbm, ⟨35, _⟩ => ⟨S_, .f32⟩
  | .hbm, ⟨36, _⟩ => ⟨S14x2048, .f32⟩
  | .hbm, ⟨37, _⟩ => ⟨S16x2048, .f32⟩
  | .hbm, ⟨38, _⟩ => ⟨S1x16x2048, .f32⟩
  | .hbm, ⟨39, _⟩ => ⟨S1x16x2048, .f32⟩
  | .hbm, ⟨40, _⟩ => ⟨S2x16x2048, .f32⟩
  | .hbm, ⟨41, _⟩ => ⟨S2x16x2048, .bf16⟩
  | .hbm, ⟨42, _⟩ => ⟨S128, .f32⟩
  | .hbm, ⟨43, _⟩ => ⟨S1x128, .f32⟩
  | .hbm, ⟨44, _⟩ => ⟨S8x2x256x128, .bf16⟩
  | .local _ .vmem, ⟨0, _⟩ => ⟨S1x2x256x2048, .bf16⟩
  | .local _ .vmem, ⟨1, _⟩ => ⟨S1x2x256x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x512x128, .bf16⟩
  | .local _ .vmem, ⟨5, _⟩ => ⟨S1x512x128, .bf16⟩
  | .local _ .vmem, ⟨6, _⟩ => ⟨S1x16x2048, .bf16⟩
  | .local _ .vmem, ⟨7, _⟩ => ⟨S1x16x2048, .bf16⟩
  | .local _ .vmem, ⟨8, _⟩ => ⟨S1x128, .f32⟩
  | .local _ .vmem, ⟨9, _⟩ => ⟨S1x2x256x128, .bf16⟩
  | .local _ .vmem, ⟨10, _⟩ => ⟨S1x2x256x128, .bf16⟩
  | _, _ => ⟨S8x2x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_0 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, arg1.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x16x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x2x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== CompressReferenceIdeal.lean ====
abbrev S8x2x256x2048 : Shape := ⟨4, ![8, 2, 256, 2048]⟩
abbrev S1x32x128 : Shape := ⟨3, ![1, 32, 128]⟩
abbrev S1x4096x512 : Shape := ⟨3, ![1, 4096, 512]⟩
abbrev S1x512x128 : Shape := ⟨3, ![1, 512, 128]⟩
abbrev S1x128 : Shape := ⟨2, ![1, 128]⟩
abbrev S4x2x256x2048 : Shape := ⟨4, ![4, 2, 256, 2048]⟩
abbrev S32x128 : Shape := ⟨2, ![32, 128]⟩
abbrev S4096x512 : Shape := ⟨2, ![4096, 512]⟩
abbrev S512x128 : Shape := ⟨2, ![512, 128]⟩
abbrev S4x2x255x2048 : Shape := ⟨4, ![4, 2, 255, 2048]⟩
abbrev S4x2x1x2048 : Shape := ⟨4, ![4, 2, 1, 2048]⟩
abbrev S4x2x256x4096 : Shape := ⟨4, ![4, 2, 256, 4096]⟩
abbrev S4096 : Shape := ⟨1, ![4096]⟩
abbrev S1x1x1x4096 : Shape := ⟨4, ![1, 1, 1, 4096]⟩
abbrev S4x2x256x512 : Shape := ⟨4, ![4, 2, 256, 512]⟩
abbrev S_ : Shape := ⟨0, ![]⟩
abbrev S4x2x256x128 : Shape := ⟨4, ![4, 2, 256, 128]⟩
abbrev S128 : Shape := ⟨1, ![128]⟩
abbrev S4x2x256 : Shape := ⟨3, ![4, 2, 256]⟩
abbrev S4x2x256x1 : Shape := ⟨4, ![4, 2, 256, 1]⟩
abbrev S1x1x1x128 : Shape := ⟨4, ![1, 1, 1, 128]⟩
abbrev S8x2x256x128 : Shape := ⟨4, ![8, 2, 256, 128]⟩

abbrev nBuf : Space → Nat
  | .hbm => 74
  | .vmem => 0
  | .smem => 0
  | _ => 0

abbrev bufTy : (tb : Table) → Fin (tcTables nBuf tb) → BufTy
  | .hbm, ⟨0, _⟩ => ⟨S8x2x256x2048, .bf16⟩
  | .hbm, ⟨1, _⟩ => ⟨S1x32x128, .f32⟩
  | .hbm, ⟨2, _⟩ => ⟨S1x4096x512, .f32⟩
  | .hbm, ⟨3, _⟩ => ⟨S1x512x128, .f32⟩
  | .hbm, ⟨4, _⟩ => ⟨S1x32x128, .f32⟩
  | .hbm, ⟨5, _⟩ => ⟨S1x4096x512, .f32⟩
  | .hbm, ⟨6, _⟩ => ⟨S1x512x128, .f32⟩
  | .hbm, ⟨7, _⟩ => ⟨S1x128, .f32⟩
  | .hbm, ⟨8, _⟩ => ⟨S8x2x256x2048, .f32⟩
  | .hbm, ⟨9, _⟩ => ⟨S4x2x256x2048, .f32⟩
  | .hbm, ⟨10, _⟩ => ⟨S32x128, .f32⟩
  | .hbm, ⟨11, _⟩ => ⟨S4096x512, .f32⟩
  | .hbm, ⟨12, _⟩ => ⟨S512x128, .f32⟩
  | .hbm, ⟨13, _⟩ => ⟨S4x2x255x2048, .f32⟩
  | .hbm, ⟨14, _⟩ => ⟨S4x2x1x2048, .f32⟩
  | .hbm, ⟨15, _⟩ => ⟨S4x2x256x2048, .f32⟩
  | .hbm, ⟨16, _⟩ => ⟨S4x2x256x4096, .f32⟩
  | .hbm, ⟨17, _⟩ => ⟨S4096, .f32⟩
  | .hbm, ⟨18, _⟩ => ⟨S1x1x1x4096, .f32⟩
  | .hbm, ⟨19, _⟩ => ⟨S4x2x256x4096, .f32⟩
  | .hbm, ⟨20, _⟩ => ⟨S4x2x256x4096, .f32⟩
  | .hbm, ⟨21, _⟩ => ⟨S4x2x256x512, .f32⟩
  | .hbm, ⟨22, _⟩ => ⟨S4x2x256x512, .f32⟩
  | .hbm, ⟨23, _⟩ => ⟨S4x2x256x512, .f32⟩
  | .hbm, ⟨24, _⟩ => ⟨S_, .f32⟩
  | .hbm, ⟨25, _⟩ => ⟨S4x2x256x512, .f32⟩
  | .hbm, ⟨26, _⟩ => ⟨S4x2x256x512, .f32⟩
  | .hbm, ⟨27, _⟩ => ⟨S_, .f32⟩
  | .hbm, ⟨28, _⟩ => ⟨S4x2x256x512, .f32⟩
  | .hbm, ⟨29, _⟩ => ⟨S4x2x256x512, .f32⟩
  | .hbm, ⟨30, _⟩ => ⟨S4x2x256x512, .f32⟩
  | .hbm, ⟨31, _⟩ => ⟨S4x2x256x128, .f32⟩
  | .hbm, ⟨32, _⟩ => ⟨S128, .f32⟩
  | .hbm, ⟨33, _⟩ => ⟨S4x2x256x128, .f32⟩
  | .hbm, ⟨34, _⟩ => ⟨S_, .f32⟩
  | .hbm, ⟨35, _⟩ => ⟨S4x2x256, .f32⟩
  | .hbm, ⟨36, _⟩ => ⟨S4x2x256x1, .f32⟩
  | .hbm, ⟨37, _⟩ => ⟨S_, .f32⟩
  | .hbm, ⟨38, _⟩ => ⟨S4x2x256x1, .f32⟩
  | .hbm, ⟨39, _⟩ => ⟨S4x2x256x1, .f32⟩
  | .hbm, ⟨40, _⟩ => ⟨S_, .f32⟩
  | .hbm, ⟨41, _⟩ => ⟨S4x2x256x1, .f32⟩
  | .hbm, ⟨42, _⟩ => ⟨S4x2x256x1, .f32⟩
  | .hbm, ⟨43, _⟩ => ⟨S4x2x256x1, .f32⟩
  | .hbm, ⟨44, _⟩ => ⟨S4x2x256x128, .f32⟩
  | .hbm, ⟨45, _⟩ => ⟨S4x2x256x128, .f32⟩
  | .hbm, ⟨46, _⟩ => ⟨S1x1x1x128, .f32⟩
  | .hbm, ⟨47, _⟩ => ⟨S4x2x256x128, .f32⟩
  | .hbm, ⟨48, _⟩ => ⟨S4x2x256x128, .f32⟩
  | .hbm, ⟨49, _⟩ => ⟨S4x2x256x2048, .f32⟩
  | .hbm, ⟨50, _⟩ => ⟨S32x128, .f32⟩
  | .hbm, ⟨51, _⟩ => ⟨S4096x512, .f32⟩
  | .hbm, ⟨52, _⟩ => ⟨S512x128, .f32⟩
  | .hbm, ⟨53, _⟩ => ⟨S4x2x255x2048, .f32⟩
  | .hbm, ⟨54, _⟩ => ⟨S4x2x1x2048, .f32⟩
  | .hbm, ⟨55, _⟩ => ⟨S4x2x256x2048, .f32⟩
  | .hbm, ⟨56, _⟩ => ⟨S4x2x256x4096, .f32⟩
  | .hbm, ⟨57, _⟩ => ⟨S4096, .f32⟩
  | .hbm, ⟨58, _⟩ => ⟨S1x1x1x4096, .f32⟩
  | .hbm, ⟨59, _⟩ => ⟨S4x2x256x4096, .f32⟩
  | .hbm, ⟨60, _⟩ => ⟨S4x2x256x4096, .f32⟩
  | .hbm, ⟨61, _⟩ => ⟨S4x2x256x512, .f32⟩
  | .hbm, ⟨62, _⟩ => ⟨S4x2x256x512, .f32⟩
  | .hbm, ⟨63, _⟩ => ⟨S4x2x256x512, .f32⟩
  | .hbm, ⟨64, _⟩ => ⟨S_, .f32⟩
  | .hbm, ⟨65, _⟩ => ⟨S4x2x256x512, .f32⟩
  | .hbm, ⟨66, _⟩ => ⟨S4x2x256x512, .f32⟩
  | .hbm, ⟨67, _⟩ => ⟨S_, .f32⟩
  | .hbm, ⟨68, _⟩ => ⟨S4x2x256x512, .f32⟩
  | .hbm, ⟨69, _⟩ => ⟨S4x2x256x512, .f32⟩
  | .hbm, ⟨70, _⟩ => ⟨S4x2x256x512, .f32⟩
  | .hbm, ⟨71, _⟩ => ⟨S4x2x256x128, .f32⟩
  | .hbm, ⟨72, _⟩ => ⟨S8x2x256x128, .f32⟩
  | .hbm, ⟨73, _⟩ => ⟨S8x2x256x128, .bf16⟩
  | _, _ => ⟨S8x2x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst : Ref sig .tc := ⟨.hbm, 34, rfl⟩
abbrev main_v18 : Ref sig .tc := ⟨.hbm, 35, rfl⟩
abbrev main_v19 : Ref sig .tc := ⟨.hbm, 36, rfl⟩
abbrev main_cst_0 : Ref sig .tc := ⟨.hbm, 37, rfl⟩
abbrev main_v20 : Ref sig .tc := ⟨.hbm, 38, rfl⟩
abbrev main_v21 : Ref sig .tc := ⟨.hbm, 39, rfl⟩
abbrev main_cst_1 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_call1_v0 : Ref sig .tc := ⟨.hbm, 62, rfl⟩
abbrev main_call1_v1 : Ref sig .tc := ⟨.hbm, 63, rfl⟩
abbrev main_call1_cst : Ref sig .tc := ⟨.hbm, 64, rfl⟩
abbrev main_call1_v2 : Ref sig .tc := ⟨.hbm, 65, rfl⟩
abbrev main_call1_v3 : Ref sig .tc := ⟨.hbm, 66, rfl⟩
abbrev main_call1_cst_0 : Ref sig .tc := ⟨.hbm, 67, rfl⟩
abbrev main_call1_v4 : Ref sig .tc := ⟨.hbm, 68, rfl⟩
abbrev main_call1_v5 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩

abbrev nD : Nat := 1
abbrev τ : Topo := Topo.v7x

variable {F : FTy → Type} [FloatOps F]
-- ==== Inproj.lean ====
abbrev S8192x2048 : Shape := ⟨2, ![8192, 2048]⟩
abbrev S1x2048 : Shape := ⟨2, ![1, 2048]⟩
abbrev S1x2048x7200 : Shape := ⟨3, ![1, 2048, 7200]⟩
abbrev S1x128 : Shape := ⟨2, ![1, 128]⟩
abbrev S2048x7200 : Shape := ⟨2, ![2048, 7200]⟩
abbrev S2048x4096 : Shape := ⟨2, ![2048, 4096]⟩
abbrev S2048x3072 : Shape := ⟨2, ![2048, 3072]⟩
abbrev S2048x7168 : Shape := ⟨2, ![2048, 7168]⟩
abbrev S128 : Shape := ⟨1, ![128]⟩
abbrev S_ : Shape := ⟨0, ![]⟩
abbrev S8x128 : Shape := ⟨2, ![8, 128]⟩
abbrev S1024 : Shape := ⟨1, ![1024]⟩
abbrev S4x128 : Shape := ⟨2, ![4, 128]⟩
abbrev S512 : Shape := ⟨1, ![512]⟩
abbrev S7168 : Shape := ⟨1, ![7168]⟩
abbrev S1x7168 : Shape := ⟨2, ![1, 7168]⟩
abbrev S2048 : Shape := ⟨1, ![2048]⟩
abbrev S4x4 : Shape := ⟨2, ![4, 4]⟩
abbrev S4x1x4x1 : Shape := ⟨4, ![4, 1, 4, 1]⟩
abbrev S4x128x4x128 : Shape := ⟨4, ![4, 128, 4, 128]⟩
abbrev S512x512 : Shape := ⟨2, ![512, 512]⟩
abbrev S131072x128 : Shape := ⟨2, ![131072, 128]⟩
abbrev S65536x128 : Shape := ⟨2, ![65536, 128]⟩
abbrev S56x8192x128 : Shape := ⟨3, ![56, 8192, 128]⟩
abbrev S256x2048 : Shape := ⟨2, ![256, 2048]⟩
abbrev S4096x128 : Shape := ⟨2, ![4096, 128]⟩
abbrev S2048x128 : Shape := ⟨2, ![2048, 128]⟩
abbrev S56x256x128 : Shape := ⟨3, ![56, 256, 128]⟩
abbrev S256 : Shape := ⟨1, ![256]⟩
abbrev S256x1 : Shape := ⟨2, ![256, 1]⟩
abbrev S2048x512 : Shape := ⟨2, ![2048, 512]⟩
abbrev S256x512 : Shape := ⟨2, ![256, 512]⟩
abbrev S1x512 : Shape := ⟨2, ![1, 512]⟩
abbrev S256x128 : Shape := ⟨2, ![256, 128]⟩
abbrev S1x256x128 : Shape := ⟨3, ![1, 256, 128]⟩

abbrev nBuf : Space → Nat
  | .hbm => 65
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048x7200, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x128, .f32⟩
  | .hbm, ⟨7, _⟩ => ⟨S2048x7200, .f32⟩
  | .hbm, ⟨8, _⟩ => ⟨S2048x4096, .f32⟩
  | .hbm, ⟨9, _⟩ => ⟨S2048x3072, .f32⟩
  | .hbm, ⟨10, _⟩ => ⟨S2048x7168, .f32⟩
  | .hbm, ⟨11, _⟩ => ⟨S2048x7168, .bf16⟩
  | .hbm, ⟨12, _⟩ => ⟨S128, .f32⟩
  | .hbm, ⟨13, _⟩ => ⟨S_, .f32⟩
  | .hbm, ⟨14, _⟩ => ⟨S128, .f32⟩
  | .hbm, ⟨15, _⟩ => ⟨S128, .f32⟩
  | .hbm, ⟨16, _⟩ => ⟨S1x128, .f32⟩
  | .hbm, ⟨17, _⟩ => ⟨S8x128, .f32⟩
  | .hbm, ⟨18, _⟩ => ⟨S1024, .f32⟩
  | .hbm, ⟨19, _⟩ => ⟨S_, .f32⟩
  | .hbm, ⟨20, _⟩ => ⟨S1024, .f32⟩
  | .hbm, ⟨21, _⟩ => ⟨S128, .f32⟩
  | .hbm, ⟨22, _⟩ => ⟨S1x128, .f32⟩
  | .hbm, ⟨23, _⟩ => ⟨S4x128, .f32⟩
  | .hbm, ⟨24, _⟩ => ⟨S512, .f32⟩
  | .hbm, ⟨25, _⟩ => ⟨S_, .f32⟩
  | .hbm, ⟨26, _⟩ => ⟨S512, .f32⟩
  | .hbm, ⟨27, _⟩ => ⟨S128, .f32⟩
  | .hbm, ⟨28, _⟩ => ⟨S1x128, .f32⟩
  | .hbm, ⟨29, _⟩ => ⟨S4x128, .f32⟩
  | .hbm, ⟨30, _⟩ => ⟨S512, .f32⟩
  | .hbm, ⟨31, _⟩ => ⟨S_, .f32⟩
  | .hbm, ⟨32, _⟩ => ⟨S512, .f32⟩
  | .hbm, ⟨33, _⟩ => ⟨S128, .f32⟩
  | .hbm, ⟨34, _⟩ => ⟨S_, .f32⟩
  | .hbm, ⟨35, _⟩ => ⟨S128, .f32⟩
  | .hbm, ⟨36, _⟩ => ⟨S128, .f32⟩
  | .hbm, ⟨37, _⟩ => ⟨S1x128, .f32⟩
  | .hbm, ⟨38, _⟩ => ⟨S8x128, .f32⟩
  | .hbm, ⟨39, _⟩ => ⟨S1024, .f32⟩
  | .hbm, ⟨40, _⟩ => ⟨S128, .f32⟩
  | .hbm, ⟨41, _⟩ => ⟨S1x128, .f32⟩
  | .hbm, ⟨42, _⟩ => ⟨S8x128, .f32⟩
  | .hbm, ⟨43, _⟩ => ⟨S1024, .f32⟩
  | .hbm, ⟨44, _⟩ => ⟨S_, .f32⟩
  | .hbm, ⟨45, _⟩ => ⟨S1024, .f32⟩
  | .hbm, ⟨46, _⟩ => ⟨S7168, .f32⟩
  | .hbm, ⟨47, _⟩ => ⟨S1x7168, .f32⟩
  | .hbm, ⟨48, _⟩ => ⟨S2048, .f32⟩
  | .hbm, ⟨49, _⟩ => ⟨S1x2048, .f32⟩
  | .hbm, ⟨50, _⟩ => ⟨S4x4, .i32⟩
  | .hbm, ⟨51, _⟩ => ⟨S4x4, .i32⟩
  | .hbm, ⟨52, _⟩ => ⟨S_, .i32⟩
  | .hbm, ⟨53, _⟩ => ⟨S4x4, .i32⟩
  | .hbm, ⟨54, _⟩ => ⟨S4x4, .i32⟩
  | .hbm, ⟨55, _⟩ => ⟨S4x4, .i1⟩
  | .hbm, ⟨56, _⟩ => ⟨S4x4, .f32⟩
  | .hbm, ⟨57, _⟩ => ⟨S4x1x4x1, .f32⟩
  | .hbm, ⟨58, _⟩ => ⟨S4x128x4x128, .f32⟩
  | .hbm, ⟨59, _⟩ => ⟨S512x512, .f32⟩
  | .hbm, ⟨60, _⟩ => ⟨S512x512, .bf16⟩
  | .hbm, ⟨61, _⟩ => ⟨S131072x128, .f32⟩
  | .hbm, ⟨62, _⟩ => ⟨S65536x128, .f32⟩
  | .hbm, ⟨63, _⟩ => ⟨S131072x128, .f32⟩
  | .hbm, ⟨64, _⟩ => ⟨S56x8192x128, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x7168, .bf16⟩
  | .local _ .vmem, ⟨4, _⟩ => ⟨S1x7168, .f32⟩
  | .local _ .vmem, ⟨5, _⟩ => ⟨S512x512, .bf16⟩
  | .local _ .vmem, ⟨6, _⟩ => ⟨S4096x128, .f32⟩
  | .local _ .vmem, ⟨7, _⟩ => ⟨S4096x128, .f32⟩
  | .local _ .vmem, ⟨8, _⟩ => ⟨S2048x128, .f32⟩
  | .local _ .vmem, ⟨9, _⟩ => ⟨S2048x128, .f32⟩
  | .local _ .vmem, ⟨10, _⟩ => ⟨S4096x128, .f32⟩
  | .local _ .vmem, ⟨11, _⟩ => ⟨S4096x128, .f32⟩
  | .local _ .vmem, ⟨12, _⟩ => ⟨S56x256x128, .bf16⟩
  | .local _ .vmem, ⟨13, _⟩ => ⟨S56x256x128, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_c : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47_0 : Ref sig .tc := ⟨.hbm, 61, rfl⟩
abbrev main_v47_1 : Ref sig .tc := ⟨.hbm, 62, rfl⟩
abbrev main_v47_2 : Ref sig .tc := ⟨.hbm, 63, rfl⟩
abbrev main_v47_3 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x7168 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x7168 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S56x256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== InprojReferenceIdeal.lean ====
abbrev S8192x2048 : Shape := ⟨2, ![8192, 2048]⟩
abbrev S1x2048 : Shape := ⟨2, ![1, 2048]⟩
abbrev S1x2048x7200 : Shape := ⟨3, ![1, 2048, 7200]⟩
abbrev S1x128 : Shape := ⟨2, ![1, 128]⟩
abbrev S2048 : Shape := ⟨1, ![2048]⟩
abbrev S_ : Shape := ⟨0, ![]⟩
abbrev S8192 : Shape := ⟨1, ![8192]⟩
abbrev S8192x1 : Shape := ⟨2, ![8192, 1]⟩
abbrev S2048x7200 : Shape := ⟨2, ![2048, 7200]⟩
abbrev S8192x7200 : Shape := ⟨2, ![8192, 7200]⟩
abbrev S8192x1024 : Shape := ⟨2, ![8192, 1024]⟩
abbrev S8192x8x128 : Shape := ⟨3, ![8192, 8, 128]⟩
abbrev S128 : Shape := ⟨1, ![128]⟩
abbrev S8192x8 : Shape := ⟨2, ![8192, 8]⟩
abbrev S8192x8x1 : Shape := ⟨3, ![8192, 8, 1]⟩
abbrev S1x1x128 : Shape := ⟨3, ![1, 1, 128]⟩
abbrev S8192x3072 : Shape := ⟨2, ![8192, 3072]⟩
abbrev S8192x6x4x128 : Shape := ⟨4, ![8192, 6, 4, 128]⟩
abbrev S8192x1x4x128 : Shape := ⟨4, ![8192, 1, 4, 128]⟩
abbrev S8192x4x128 : Shape := ⟨3, ![8192, 4, 128]⟩
abbrev S8192x4 : Shape := ⟨2, ![8192, 4]⟩
abbrev S8192x4x1 : Shape := ⟨3, ![8192, 4, 1]⟩
abbrev S8192x4x4x128 : Shape := ⟨4, ![8192, 4, 4, 128]⟩
abbrev S8192x2x4x128 : Shape := ⟨4, ![8192, 2, 4, 128]⟩
abbrev S8192x3x8x128 : Shape := ⟨4, ![8192, 3, 8, 128]⟩
abbrev S8192x1x8x128 : Shape := ⟨4, ![8192, 1, 8, 128]⟩
abbrev S8192x2x8x128 : Shape := ⟨4, ![8192, 2, 8, 128]⟩
abbrev S8192x16x128 : Shape := ⟨3, ![8192, 16, 128]⟩
abbrev S8192x56x128 : Shape := ⟨3, ![8192, 56, 128]⟩
abbrev S131072x128 : Shape := ⟨2, ![131072, 128]⟩
abbrev S65536x128 : Shape := ⟨2, ![65536, 128]⟩
abbrev S56x8192x128 : Shape := ⟨3, ![56, 8192, 128]⟩

abbrev nBuf : Space → Nat
  | .hbm => 161
  | .vmem => 0
  | .smem => 0
  | _ => 0

abbrev hbmTy0_0 (i : Nat) : BufTy := match i % 128 with
  | 0 => ⟨S8192x2048, .f32⟩
  | 1 => ⟨S1x2048, .f32⟩
  | 2 => ⟨S1x2048x7200, .f32⟩
  | 3 => ⟨S1x128, .f32⟩
  | 4 => ⟨S1x128, .f32⟩
  | 5 => ⟨S1x128, .f32⟩
  | 6 => ⟨S1x128, .f32⟩
  | 7 => ⟨S2048, .f32⟩
  | 8 => ⟨S8192x2048, .f32⟩
  | 9 => ⟨S_, .f32⟩
  | 10 => ⟨S8192, .f32⟩
  | 11 => ⟨S8192x1, .f32⟩
  | 12 => ⟨S_, .f32⟩
  | 13 => ⟨S8192x1, .f32⟩
  | 14 => ⟨S8192x1, .f32⟩
  | 15 => ⟨S_, .f32⟩
  | 16 => ⟨S8192x1, .f32⟩
  | 17 => ⟨S8192x1, .f32⟩
  | 18 => ⟨S8192x1, .f32⟩
  | 19 => ⟨S8192x2048, .f32⟩
  | 20 => ⟨S8192x2048, .f32⟩
  | 21 => ⟨S1x2048, .f32⟩
  | 22 => ⟨S8192x2048, .f32⟩
  | 23 => ⟨S8192x2048, .f32⟩
  | 24 => ⟨S2048x7200, .f32⟩
  | 25 => ⟨S8192x7200, .f32⟩
  | 26 => ⟨S8192x1024, .f32⟩
  | 27 => ⟨S8192x8x128, .f32⟩
  | 28 => ⟨S128, .f32⟩
  | 29 => ⟨S8192x8x128, .f32⟩
  | 30 => ⟨S_, .f32⟩
  | 31 => ⟨S8192x8, .f32⟩
  | 32 => ⟨S8192x8x1, .f32⟩
  | 33 => ⟨S_, .f32⟩
  | 34 => ⟨S8192x8x1, .f32⟩
  | 35 => ⟨S8192x8x1, .f32⟩
  | 36 => ⟨S_, .f32⟩
  | 37 => ⟨S8192x8x1, .f32⟩
  | 38 => ⟨S8192x8x1, .f32⟩
  | 39 => ⟨S8192x8x1, .f32⟩
  | 40 => ⟨S8192x8x128, .f32⟩
  | 41 => ⟨S8192x8x128, .f32⟩
  | 42 => ⟨S1x1x128, .f32⟩
  | 43 => ⟨S8192x8x128, .f32⟩
  | 44 => ⟨S8192x8x128, .f32⟩
  | 45 => ⟨S8192x3072, .f32⟩
  | 46 => ⟨S8192x6x4x128, .f32⟩
  | 47 => ⟨S8192x1x4x128, .f32⟩
  | 48 => ⟨S8192x4x128, .f32⟩
  | 49 => ⟨S8192x1x4x128, .f32⟩
  | 50 => ⟨S8192x4x128, .f32⟩
  | 51 => ⟨S8192x1x4x128, .f32⟩
  | 52 => ⟨S8192x4x128, .f32⟩
  | 53 => ⟨S128, .f32⟩
  | 54 => ⟨S8192x4x128, .f32⟩
  | 55 => ⟨S_, .f32⟩
  | 56 => ⟨S8192x4, .f32⟩
  | 57 => ⟨S8192x4x1, .f32⟩
  | 58 => ⟨S_, .f32⟩
  | 59 => ⟨S8192x4x1, .f32⟩
  | 60 => ⟨S8192x4x1, .f32⟩
  | 61 => ⟨S_, .f32⟩
  | 62 => ⟨S8192x4x1, .f32⟩
  | 63 => ⟨S8192x4x1, .f32⟩
  | 64 => ⟨S8192x4x1, .f32⟩
  | 65 => ⟨S8192x4x128, .f32⟩
  | 66 => ⟨S8192x4x128, .f32⟩
  | 67 => ⟨S1x1x128, .f32⟩
  | 68 => ⟨S8192x4x128, .f32⟩
  | 69 => ⟨S8192x4x128, .f32⟩
  | 70 => ⟨S8192x1x4x128, .f32⟩
  | 71 => ⟨S8192x4x128, .f32⟩
  | 72 => ⟨S8192x1x4x128, .f32⟩
  | 73 => ⟨S8192x1x4x128, .f32⟩
  | 74 => ⟨S8192x1x4x128, .f32⟩
  | 75 => ⟨S8192x1x4x128, .f32⟩
  | 76 => ⟨S8192x4x4x128, .f32⟩
  | 77 => ⟨S8192x1x4x128, .f32⟩
  | 78 => ⟨S8192x4x128, .f32⟩
  | 79 => ⟨S128, .f32⟩
  | 80 => ⟨S8192x4x128, .f32⟩
  | 81 => ⟨S_, .f32⟩
  | 82 => ⟨S8192x4, .f32⟩
  | 83 => ⟨S8192x4x1, .f32⟩
  | 84 => ⟨S_, .f32⟩
  | 85 => ⟨S8192x4x1, .f32⟩
  | 86 => ⟨S8192x4x1, .f32⟩
  | 87 => ⟨S_, .f32⟩
  | 88 => ⟨S8192x4x1, .f32⟩
  | 89 => ⟨S8192x4x1, .f32⟩
  | 90 => ⟨S8192x4x1, .f32⟩
  | 91 => ⟨S8192x4x128, .f32⟩
  | 92 => ⟨S8192x4x128, .f32⟩
  | 93 => ⟨S1x1x128, .f32⟩
  | 94 => ⟨S8192x4x128, .f32⟩
  | 95 => ⟨S8192x4x128, .f32⟩
  | 96 => ⟨S8192x1x4x128, .f32⟩
  | 97 => ⟨S8192x4x128, .f32⟩
  | 98 => ⟨S8192x1x4x128, .f32⟩
  | 99 => ⟨S8192x1x4x128, .f32⟩
  | 100 => ⟨S8192x2x4x128, .f32⟩
  | 101 => ⟨S8192x3072, .f32⟩
  | 102 => ⟨S8192x3x8x128, .f32⟩
  | 103 => ⟨S8192x1x8x128, .f32⟩
  | 104 => ⟨S8192x8x128, .f32⟩
  | 105 => ⟨S128, .f32⟩
  | 106 => ⟨S8192x8x128, .f32⟩
  | 107 => ⟨S_, .f32⟩
  | 108 => ⟨S8192x8, .f32⟩
  | 109 => ⟨S8192x8x1, .f32⟩
  | 110 => ⟨S_, .f32⟩
  | 111 => ⟨S8192x8x1, .f32⟩
  | 112 => ⟨S8192x8x1, .f32⟩
  | 113 => ⟨S_, .f32⟩
  | 114 => ⟨S8192x8x1, .f32⟩
  | 115 => ⟨S8192x8x1, .f32⟩
  | 116 => ⟨S8192x8x1, .f32⟩
  | 117 => ⟨S8192x8x128, .f32⟩
  | 118 => ⟨S8192x8x128, .f32⟩
  | 119 => ⟨S1x1x128, .f32⟩
  | 120 => ⟨S8192x8x128, .f32⟩
  | 121 => ⟨S8192x8x128, .f32⟩
  | 122 => ⟨S8192x1x8x128, .f32⟩
  | 123 => ⟨S8192x8x128, .f32⟩
  | 124 => ⟨S128, .f32⟩
  | 125 => ⟨S8192x8x128, .f32⟩
  | 126 => ⟨S_, .f32⟩
  | 127 => ⟨S8192x8, .f32⟩
  | _ => ⟨S8192x2048, .f32⟩

abbrev hbmTy0_1 (i : Nat) : BufTy := match i % 128 with
  | 0 => ⟨S8192x8x1, .f32⟩
  | 1 => ⟨S_, .f32⟩
  | 2 => ⟨S8192x8x1, .f32⟩
  | 3 => ⟨S8192x8x1, .f32⟩
  | 4 => ⟨S_, .f32⟩
  | 5 => ⟨S8192x8x1, .f32⟩
  | 6 => ⟨S8192x8x1, .f32⟩
  | 7 => ⟨S8192x8x1, .f32⟩
  | 8 => ⟨S8192x8x128, .f32⟩
  | 9 => ⟨S8192x8x128, .f32⟩
  | 10 => ⟨S1x1x128, .f32⟩
  | 11 => ⟨S8192x8x128, .f32⟩
  | 12 => ⟨S8192x8x128, .f32⟩
  | 13 => ⟨S8192x1x8x128, .f32⟩
  | 14 => ⟨S8192x8x128, .f32⟩
  | 15 => ⟨S8192x1x8x128, .f32⟩
  | 16 => ⟨S8192x1x8x128, .f32⟩
  | 17 => ⟨S8192x2x8x128, .f32⟩
  | 18 => ⟨S_, .f32⟩
  | 19 => ⟨S8192x8x128, .f32⟩
  | 20 => ⟨S8192x8x128, .f32⟩
  | 21 => ⟨S8192x16x128, .f32⟩
  | 22 => ⟨S8192x8x128, .f32⟩
  | 23 => ⟨S_, .f32⟩
  | 24 => ⟨S8192x8x128, .f32⟩
  | 25 => ⟨S8192x8x128, .f32⟩
  | 26 => ⟨S8192x16x128, .f32⟩
  | 27 => ⟨S8192x56x128, .f32⟩
  | 28 => ⟨S131072x128, .f32⟩
  | 29 => ⟨S65536x128, .f32⟩
  | 30 => ⟨S131072x128, .f32⟩
  | 31 => ⟨S56x8192x128, .f32⟩
  | 32 => ⟨S56x8192x128, .bf16⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_5 : Ref sig .tc := ⟨.hbm, 55, rfl⟩
abbrev main_v42 : Ref sig .tc := ⟨.hbm, 56, rfl⟩
abbrev main_v43 : Ref sig .tc := ⟨.hbm, 57, rfl⟩
abbrev main_cst_6 : Ref sig .tc := ⟨.hbm, 58, rfl⟩
abbrev main_v44 : Ref sig .tc := ⟨.hbm, 59, rfl⟩
abbrev main_v45 : Ref sig .tc := ⟨.hbm, 60, rfl⟩
abbrev main_cst_7 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_8 : Ref sig .tc := ⟨.hbm, 81, rfl⟩
abbrev main_v65 : Ref sig .tc := ⟨.hbm, 82, rfl⟩
abbrev main_v66 : Ref sig .tc := ⟨.hbm, 83, rfl⟩
abbrev main_cst_9 : Ref sig .tc := ⟨.hbm, 84, rfl⟩
abbrev main_v67 : Ref sig .tc := ⟨.hbm, 85, rfl⟩
abbrev main_v68 : Ref sig .tc := ⟨.hbm, 86, rfl⟩
abbrev main_cst_10 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_cst_11 : Ref sig .tc := ⟨.hbm, 107, rfl⟩
abbrev main_v88 : Ref sig .tc := ⟨.hbm, 108, rfl⟩
abbrev main_v89 : Ref sig .tc := ⟨.hbm, 109, rfl⟩
abbrev main_cst_12 : Ref sig .tc := ⟨.hbm, 110, rfl⟩
abbrev main_v90 : Ref sig .tc := ⟨.hbm, 111, rfl⟩
abbrev main_v91 : Ref sig .tc := ⟨.hbm, 112, rfl⟩
abbrev main_cst_13 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_cst_14 : Ref sig .tc := ⟨.hbm, 126, rfl⟩
abbrev main_v104 : Ref sig .tc := ⟨.hbm, 127, rfl⟩
abbrev main_v105 : Ref sig .tc := ⟨.hbm, 128, rfl⟩
abbrev main_cst_15 : Ref sig .tc := ⟨.hbm, 129, rfl⟩
abbrev main_v106 : Ref sig .tc := ⟨.hbm, 130, rfl⟩
abbrev main_v107 : Ref sig .tc := ⟨.hbm, 131, rfl⟩
abbrev main_cst_16 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_cst_17 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_cst_18 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩

abbrev nD : Nat := 1
abbrev τ : Topo := Topo.v7x

variable {F : FTy → Type} [FloatOps F]
-- ==== Proof.FoxKernelIdeal.Body.lean ====
module

public import proofs.«01_k».proof.Proof.Gen.KernelIdeal.Frame
public import proofs.«01_k».proof.Proof.Gen.KernelIdeal.Loops
public import Idealize.ShloMosaic.Lib.ValueIdx
public import Idealize.ShloMosaic.Lib.WholeRead
public import Idealize.ShloMosaic.Lib.WritesUnit

@[expose] public section

set_option maxRecDepth 65536

noncomputable section

namespace Cert.KernelIdeal.Fox

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The number of the last key block a point attends, as the program computes it from the point's coordinate. -/
abbrev lastW (i : grid0.Coords) : BitVec 32 :=
  let v4 : BitVec 32 := Scalar.muli (BitVec.ofNat 32 (i 2).val) 256#32
  let v25 : BitVec 32 := Scalar.divsi v4 1024#32
  let v30 : BitVec 32 := Scalar.subi (Scalar.extui (Scalar.cmpi .sgt v4 0#32)) (Scalar.extui (Scalar.cmpi .slt v4 0#32))
  let v35 : BitVec 32 := Scalar.subi (Scalar.extui (Scalar.cmpi .sgt 1024#32 0#32)) (Scalar.extui (Scalar.cmpi .slt 1024#32 0#32))
  let v39 : BitVec 1 := Scalar.andi (Scalar.cmpi .ne v30 v35) (Scalar.cmpi .ne (Scalar.remsi v4 1024#32) 0#32)
  Scalar.minsi (Scalar.maxsi (Scalar.select v39 (Scalar.subi v25 1#32) v25) 0#32) 3#32

abbrev cond2 (i : grid0.Coords) : BitVec 1 := Scalar.cmpi .ne (lastW i) 0#32
abbrev cond3 (i : grid0.Coords) : BitVec 1 := Scalar.cmpi .ne (Scalar.subi (lastW i) 1#32) 0#32
abbrev cond4 (i : grid0.Coords) : BitVec 1 := Scalar.cmpi .ne (Scalar.subi (Scalar.subi (lastW i) 1#32) 1#32) 0#32

/-- What a point that opens a group does first: the transposed values, the row of ones below them, then the keys beside their cumulative sums. -/
def initP (i : grid0.Coords) (arg3 : Memref sig .tc .vmem S1x256x128 .bf16) (harg3 : arg3.IsWhole) (arg4 : Memref sig .tc .vmem S1x1x4096x128 .bf16) (harg4 : arg4.IsWhole) (arg5 : Memref sig .tc .vmem S1x1x4096x128 .bf16) (harg5 : arg5.IsWhole) (arg6 : Memref sig .tc .vmem S1x1x1x4096 .f32) (harg6 : arg6.IsWhole) (arg7 : Memref sig .tc .vmem S256x128 .f32) (harg7 : arg7.IsWhole) (arg8 : Memref sig .tc .vmem S144x4096 .bf16) (harg8 : arg8.IsWhole) (arg9 : Memref sig .tc .vmem S4096x256 .bf16) (harg9 : arg9.IsWhole) (arg10 : Memref sig .tc .vmem S4096x256 .f32) (harg10 : arg10.IsWhole) (h1 : k0_cond1 i = 1#1) : Prog (TpuEff nD τ sig (Elt F) Λ₀ .tc) PUnit := do
  Scf.Loop.for k0_t1_loop (k0_t1_ok i h1) ⟨⟩ (k0_t1_body i arg3 harg3 arg4 harg4 arg5 harg5 arg6 harg6 arg7 harg7 arg8 harg8 arg9 harg9 arg10 harg10 h1)
  let v69 : Vec F S16x4096 .bf16 ← Prog.lift (.load arg8 (Rect.unit (s := S144x4096) ![128, 0] S16x4096.size inb_S144x4096_S16x4096_128_0).toLoadRect (View.loadsAt_vmem h_S16x4096))
  Prog.lift (.store arg8 (Rect.unit (s := S144x4096) ![128, 0] S16x4096.size inb_S144x4096_S16x4096_128_0) (k0_pay35 (F := F)) Finset.univ (View.stores_vmem h_S16x4096 (harg8.storeExact_slice rfl _ packedbf16_S144x4096_S16x4096_128_0) (fun _ => rfl)) (.inl rfl))
  Scf.Loop.for k0_t2_loop (k0_t2_ok i h1) ⟨⟩ (k0_t2_body i arg3 harg3 arg4 harg4 arg5 harg5 arg6 harg6 arg7 harg7 arg8 harg8 arg9 harg9 arg10 harg10 h1)

/-- What a point does with one key block once the tables are filled. -/
def restP (i : grid0.Coords) (arg3 : Memref sig .tc .vmem S1x256x128 .bf16) (harg3 : arg3.IsWhole) (arg4 : Memref sig .tc .vmem S1x1x4096x128 .bf16) (harg4 : arg4.IsWhole) (arg5 : Memref sig .tc .vmem S1x1x4096x128 .bf16) (harg5 : arg5.IsWhole) (arg6 : Memref sig .tc .vmem S1x1x1x4096 .f32) (harg6 : arg6.IsWhole) (arg7 : Memref sig .tc .vmem S256x128 .f32) (harg7 : arg7.IsWhole) (arg8 : Memref sig .tc .vmem S144x4096 .bf16) (harg8 : arg8.IsWhole) (arg9 : Memref sig .tc .vmem S4096x256 .bf16) (harg9 : arg9.IsWhole) (arg10 : Memref sig .tc .vmem S4096x256 .f32) (harg10 : arg10.IsWhole) : Prog (TpuEff nD τ sig (Elt F) Λ₀ .tc) PUnit := do
  let v4 : BitVec 32 := Scalar.muli (BitVec.ofNat 32 (i 2).val) 256#32
  let v5 : Vec F S1x256x128 .bf16 ← Prog.lift (.load arg3 (Rect.unit (s := S1x256x128) ![0, 0, 0] S1x256x128.size inb_S1x256x128_S1x256x128_0_0_0).toLoadRect (View.loadsAt_vmem h_S1x256x128))
  let v23 : Vec F S1x1x1x256 .f32 ← Prog.lift (.load arg6 (Rect.unit (s := S1x1x1x4096) (k0_off7 i) S1x1x1x256.size (k0_off7_inb i)).toLoadRect (View.loadsAt_vmem h_S1x1x1x256))
  let v62 : Vec F S1024x256 .bf16 ← Prog.lift (.load arg9 (Rect.unit (s := S4096x256) ![0, 0] S1024x256.size inb_S4096x256_S1024x256_0_0).toLoadRect (View.loadsAt_vmem h_S1024x256))
  let v69 : Vec F S1024x256 .f32 ← Prog.lift (.load arg10 (Rect.unit (s := S4096x256) ![0, 0] S1024x256.size inb_S4096x256_S1024x256_0_0).toLoadRect (View.loadsAt_vmem h_S1024x256))
  Prog.lift (.store arg10 (Rect.unit (s := S4096x256) ![0, 0] S1024x256.size inb_S4096x256_S1024x256_0_0) (k0_pay6 v4 (k0_pay38 v5) v62) Finset.univ (View.stores_vmem_bits_univ h_S1024x256 rfl) (.inl rfl))
  let v80 : Vec F S1024x256 .f32 ← Prog.lift (.load arg10 (Rect.unit (s := S4096x256) ![0, 0] S1024x256.size inb_S4096x256_S1024x256_0_0).toLoadRect (View.loadsAt_vmem h_S1024x256))
  let v85 : Vec F S144x1024 .bf16 ← Prog.lift (.load arg8 (Rect.unit (s := S144x4096) ![0, 0] S144x1024.size inb_S144x4096_S144x1024_0_0).toLoadRect (View.loadsAt_vmem h_S144x1024))
  let v60 : Vec F S256x128 .f32 ← Prog.lift (.load arg7 (Rect.unit (s := S256x128) ![0, 0] S256x128.size inb_S256x128_S256x128_0_0).toLoadRect (View.loadsAt_vmem h_S256x128))
  Prog.lift (.store arg7 (Rect.unit (s := S256x128) ![0, 0] S256x128.size inb_S256x128_S256x128_0_0) (k0_pay8 (k0_pay7 v4 (k0_pay38 v5) (k0_pay39 v23) v62 v80 v85)) Finset.univ (View.stores_vmem_bits_univ h_S256x128 rfl) (.inl rfl))
  pure ⟨⟩

set_option maxHeartbeats 1000000 in
/-- A point that opens a group fills the tables, then goes on as one that finds them filled. -/
theorem cc0_open (i : grid0.Coords) (arg3 : Memref sig .tc .vmem S1x256x128 .bf16) (harg3 : arg3.IsWhole) (arg4 : Memref sig .tc .vmem S1x1x4096x128 .bf16) (harg4 : arg4.IsWhole) (arg5 : Memref sig .tc .vmem S1x1x4096x128 .bf16) (harg5 : arg5.IsWhole) (arg6 : Memref sig .tc .vmem S1x1x1x4096 .f32) (harg6 : arg6.IsWhole) (arg7 : Memref sig .tc .vmem S256x128 .f32) (harg7 : arg7.IsWhole) (arg8 : Memref sig .tc .vmem S144x4096 .bf16) (harg8 : arg8.IsWhole) (arg9 : Memref sig .tc .vmem S4096x256 .bf16) (harg9 : arg9.IsWhole) (arg10 : Memref sig .tc .vmem S4096x256 .f32) (harg10 : arg10.IsWhole) (h1 : k0_cond1 i = 1#1) (h2 : ¬ cond2 i = 1#1) :
    cc0_fox_prompt (F := F) i arg3 harg3 arg4 harg4 arg5 harg5 arg6 harg6 arg7 harg7 arg8 harg8 arg9 harg9 arg10 harg10 = (do initP i arg3 harg3 arg4 harg4 arg5 harg5 arg6 harg6 arg7 harg7 arg8 harg8 arg9 harg9 arg10 harg10 h1; restP i arg3 harg3 arg4 harg4 arg5 harg5 arg6 harg6 arg7 harg7 arg8 harg8 arg9 harg9 arg10 harg10) := by
  unfold initP restP
  simp only [cc0_fox_prompt_eq_skeleton]; unfold cc0_fox_prompt_skel
  simp only [k0_part5_eq_skeleton]
  unfold k0_part5_skel
  rw [dif_pos h1]
  simp only [bind_assoc, pure_bind]
  simp only [dif_neg h2]

set_option maxHeartbeats 1000000 in
/-- A later point of a group with one key block. -/
theorem cc0_later (i : grid0.Coords) (arg3 : Memref sig .tc .vmem S1x256x128 .bf16) (harg3 : arg3.IsWhole) (arg4 : Memref sig .tc .vmem S1x1x4096x128 .bf16) (harg4 : arg4.IsWhole) (arg5 : Memref sig .tc .vmem S1x1x4096x128 .bf16) (harg5 : arg5.IsWhole) (arg6 : Memref sig .tc .vmem S1x1x1x4096 .f32) (harg6 : arg6.IsWhole) (arg7 : Memref sig .tc .vmem S256x128 .f32) (harg7 : arg7.IsWhole) (arg8 : Memref sig .tc .vmem S144x4096 .bf16) (harg8 : arg8.IsWhole) (arg9 : Memref sig .tc .vmem S4096x256 .bf16) (harg9 : arg9.IsWhole) (arg10 : Memref sig .tc .vmem S4096x256 .f32) (harg10 : arg10.IsWhole) (h1 : ¬ k0_cond1 i = 1#1) (h2 : ¬ cond2 i = 1#1) :
    cc0_fox_prompt (F := F) i arg3 harg3 arg4 harg4 arg5 harg5 arg6 harg6 arg7 harg7 arg8 harg8 arg9 harg9 arg10 harg10 = restP i arg3 harg3 arg4 harg4 arg5 harg5 arg6 harg6 arg7 harg7 arg8 harg8 arg9 harg9 arg10 harg10 := by
  unfold restP
  simp only [cc0_fox_prompt_eq_skeleton]; unfold cc0_fox_prompt_skel
  simp only [k0_part5_eq_skeleton]
  unfold k0_part5_skel
  rw [dif_neg h1]
  simp only [bind_assoc, pure_bind]
  simp only [dif_neg h2]

open Idealize.ShloMosaic.ValueIdx

/-- The 128 rows of a (1, 1, 4096, 128) block that slab `k` holds. -/
def slab (x : Vec F S1x1x4096x128 .bf16) (k : Fin 32) : Vec F S1x1x128x128 .bf16 := fun z =>
  x (ix4 (0 : Fin 1) (0 : Fin 1) (⟨128 * k.val + (z 2).val, by have h1 : (z 2).val < 128 := (z 2).isLt; have := k.isLt; omega⟩ : Fin 4096) (⟨(z 3).val, (z 3).isLt⟩ : Fin 128))

/-- The 128 cumulative sums that slab `k` holds. -/
def crow (x : Vec F S1x1x1x4096 .f32) (k : Fin 32) : Vec F S1x1x1x128 .f32 := fun z =>
  x (ix4 (0 : Fin 1) (0 : Fin 1) (0 : Fin 1) (⟨128 * k.val + (z 3).val, by have h1 : (z 3).val < 128 := (z 3).isLt; have := k.isLt; omega⟩ : Fin 4096))

/-- The table of values: 128 rows of them transposed, then the sixteen rows that start with a row of ones. -/
def vtab (x2 : Vec F S1x1x4096x128 .bf16) : Vec F S144x4096 .bf16 := fun y =>
  if h : (y 0).val < 128 then
    k0_pay34 (slab x2 ⟨(y 1).val / 128, by have h1 : (y 1).val < 4096 := (y 1).isLt; omega⟩) (ix2 (⟨(y 0).val, h⟩ : Fin 128) (⟨(y 1).val % 128, Nat.mod_lt _ (by omega)⟩ : Fin 128))
  else k0_pay35 (ix2 (⟨(y 0).val - 128, by have h1 : (y 0).val < 144 := (y 0).isLt; omega⟩ : Fin 16) (⟨(y 1).val, (y 1).isLt⟩ : Fin 4096))

/-- The table of keys: each key's 128 entries, then the 128 lanes that carry its cumulative sum. -/
def ktab (x1 : Vec F S1x1x4096x128 .bf16) (x3 : Vec F S1x1x1x4096 .f32) : Vec F S4096x256 .bf16 := fun y =>
  if h : (y 1).val < 128 then
    k0_pay36 (slab x1 ⟨(y 0).val / 128, by have h1 : (y 0).val < 4096 := (y 0).isLt; omega⟩) (ix2 (⟨(y 0).val % 128, Nat.mod_lt _ (by omega)⟩ : Fin 128) (⟨(y 1).val, h⟩ : Fin 128))
  else k0_pay37 (crow x3 ⟨(y 0).val / 128, by have h1 : (y 0).val < 4096 := (y 0).isLt; omega⟩) (ix2 (⟨(y 0).val % 128, Nat.mod_lt _ (by omega)⟩ : Fin 128) (⟨(y 1).val - 128, by have h1 : (y 1).val < 256 := (y 1).isLt; omega⟩ : Fin 128))

theorem off1_eq : ∀ k : Fin k0_t1_loop.trips, k0_off1 k = ![0, 0, 128 * k.val, 0] := by decide +kernel
theorem off2_eq : ∀ k : Fin k0_t1_loop.trips, k0_off2 k = ![0, 128 * k.val] := by decide +kernel
theorem off3_eq : ∀ k : Fin k0_t2_loop.trips, k0_off3 k = ![0, 0, 0, 128 * k.val] := by decide +kernel
theorem off4_eq : ∀ k : Fin k0_t2_loop.trips, k0_off4 k = ![0, 0, 128 * k.val, 0] := by decide +kernel
theorem off5_eq : ∀ k : Fin k0_t2_loop.trips, k0_off5 k = ![128 * k.val, 0] := by decide +kernel
theorem off6_eq : ∀ k : Fin k0_t2_loop.trips, k0_off6 k = ![128 * k.val, 128] := by decide +kernel
theorem trips1 : k0_t1_loop.trips = 32 := by decide +kernel
theorem trips2 : k0_t2_loop.trips = 32 := by decide +kernel

theorem read_slab {m : Memref sig .tc .vmem S1x1x4096x128 .bf16} (h : m.IsWhole) (x : Vec F S1x1x4096x128 .bf16) (k : Fin 32) {off : Fin 4 → ℕ}
    (ho : off = ![0, 0, 128 * k.val, 0]) (inb : ∀ a, off a + S1x1x128x128.size a ≤ S1x1x4096x128.size a) :
    View.readAt (Elt F) m.view (Rect.unit (s := S1x1x4096x128) off S1x1x128x128.size inb).toLoadRect (h.unread x) = slab x k := by
  subst ho
  funext z
  rw [h.readAt_unread]
  refine congrArg x (funext fun a => Fin.ext ?_)
  have z0 : (z 0).val < 1 := (z 0).isLt
  have z1 : (z 1).val < 1 := (z 1).isLt
  match a with
  | ⟨0, _⟩ => show 0 + 1 * (z 0).val = 0; omega
  | ⟨1, _⟩ => show 0 + 1 * (z 1).val = 0; omega
  | ⟨2, _⟩ => show 128 * k.val + 1 * (z 2).val = 128 * k.val + (z 2).val; omega
  | ⟨3, _⟩ => show 0 + 1 * (z 3).val = (z 3).val; omega

theorem read_crow {m : Memref sig .tc .vmem S1x1x1x4096 .f32} (h : m.IsWhole) (x : Vec F S1x1x1x4096 .f32) (k : Fin 32) {off : Fin 4 → ℕ}
    (ho : off = ![0, 0, 0, 128 * k.val]) (inb : ∀ a, off a + S1x1x1x128.size a ≤ S1x1x1x4096.size a) :
    View.readAt (Elt F) m.view (Rect.unit (s := S1x1x1x4096) off S1x1x1x128.size inb).toLoadRect (h.unread x) = crow x k := by
  subst ho
  funext z
  rw [h.readAt_unread]
  refine congrArg x (funext fun a => Fin.ext ?_)
  have z0 : (z 0).val < 1 := (z 0).isLt
  have z1 : (z 1).val < 1 := (z 1).isLt
  have z2 : (z 2).val < 1 := (z 2).isLt
  match a with
  | ⟨0, _⟩ => show 0 + 1 * (z 0).val = 0; omega
  | ⟨1, _⟩ => show 0 + 1 * (z 1).val = 0; omega
  | ⟨2, _⟩ => show 0 + 1 * (z 2).val = 0; omega
  | ⟨3, _⟩ => show 128 * k.val + 1 * (z 3).val = 128 * k.val + (z 3).val; omega

theorem tripL1_eq (c : Dev nD) (i : grid0.Coords) (arg3 : Memref sig .tc .vmem S1x256x128 .bf16) (harg3 : arg3.IsWhole) (arg4 : Memref sig .tc .vmem S1x1x4096x128 .bf16) (harg4 : arg4.IsWhole) (arg5 : Memref sig .tc .vmem S1x1x4096x128 .bf16) (harg5 : arg5.IsWhole) (arg6 : Memref sig .tc .vmem S1x1x1x4096 .f32) (harg6 : arg6.IsWhole) (arg7 : Memref sig .tc .vmem S256x128 .f32) (harg7 : arg7.IsWhole) (arg8 : Memref sig .tc .vmem S144x4096 .bf16) (harg8 : arg8.IsWhole) (arg9 : Memref sig .tc .vmem S4096x256 .bf16) (harg9 : arg9.IsWhole) (arg10 : Memref sig .tc .vmem S4096x256 .f32) (harg10 : arg10.IsWhole) (h1 : k0_cond1 i = 1#1) (x2 : Vec F S1x1x4096x128 .bf16) (k : Fin k0_t1_loop.trips) :
    tripL_k0_t1 (F := F) Variants.none c none i arg3 harg3 arg4 harg4 arg5 harg5 arg6 harg6 arg7 harg7 arg8 harg8 arg9 harg9 arg10 harg10 h1 (harg5.unread x2) k
      = [(⟨Rect.unit (s := S144x4096) (k0_off2 k) S128x128.size (k0_off2_inb i k h1), k0_pay34 (slab x2 (k.cast trips1))⟩ : View.Piece (Elt F) S144x4096 .bf16)] := by
  unfold tripL_k0_t1 trip_k0_t1
  rw [← read_slab harg5 x2 (k.cast trips1) (off1_eq k) (k0_off1_inb i k h1)]

theorem tripL2_eq (c : Dev nD) (i : grid0.Coords) (arg3 : Memref sig .tc .vmem S1x256x128 .bf16) (harg3 : arg3.IsWhole) (arg4 : Memref sig .tc .vmem S1x1x4096x128 .bf16) (harg4 : arg4.IsWhole) (arg5 : Memref sig .tc .vmem S1x1x4096x128 .bf16) (harg5 : arg5.IsWhole) (arg6 : Memref sig .tc .vmem S1x1x1x4096 .f32) (harg6 : arg6.IsWhole) (arg7 : Memref sig .tc .vmem S256x128 .f32) (harg7 : arg7.IsWhole) (arg8 : Memref sig .tc .vmem S144x4096 .bf16) (harg8 : arg8.IsWhole) (arg9 : Memref sig .tc .vmem S4096x256 .bf16) (harg9 : arg9.IsWhole) (arg10 : Memref sig .tc .vmem S4096x256 .f32) (harg10 : arg10.IsWhole) (h1 : k0_cond1 i = 1#1) (x1 : Vec F S1x1x4096x128 .bf16) (x3 : Vec F S1x1x1x4096 .f32) (k : Fin k0_t2_loop.trips) :
    tripL_k0_t2 (F := F) Variants.none c none i arg3 harg3 arg4 harg4 arg5 harg5 arg6 harg6 arg7 harg7 arg8 harg8 arg9 harg9 arg10 harg10 h1 (harg4.unread x1) (harg6.unread x3) k
      = [(⟨Rect.unit (s := S4096x256) (k0_off6 k) S128x128.size (k0_off6_inb i k h1), k0_pay37 (crow x3 (k.cast trips2))⟩ : View.Piece (Elt F) S4096x256 .bf16),
         (⟨Rect.unit (s := S4096x256) (k0_off5 k) S128x128.size (k0_off5_inb i k h1), k0_pay36 (slab x1 (k.cast trips2))⟩ : View.Piece (Elt F) S4096x256 .bf16)] := by
  unfold tripL_k0_t2 trip_k0_t2
  rw [← read_slab harg4 x1 (k.cast trips2) (off4_eq k) (k0_off4_inb i k h1), ← read_crow harg6 x3 (k.cast trips2) (off3_eq k) (k0_off3_inb i k h1)]

theorem pb1_read (c : Dev nD) (i : grid0.Coords) (arg3 : Memref sig .tc .vmem S1x256x128 .bf16) (harg3 : arg3.IsWhole) (arg4 : Memref sig .tc .vmem S1x1x4096x128 .bf16) (harg4 : arg4.IsWhole) (arg5 : Memref sig .tc .vmem S1x1x4096x128 .bf16) (harg5 : arg5.IsWhole) (arg6 : Memref sig .tc .vmem S1x1x1x4096 .f32) (harg6 : arg6.IsWhole) (arg7 : Memref sig .tc .vmem S256x128 .f32) (harg7 : arg7.IsWhole) (arg8 : Memref sig .tc .vmem S144x4096 .bf16) (harg8 : arg8.IsWhole) (arg9 : Memref sig .tc .vmem S4096x256 .bf16) (harg9 : arg9.IsWhole) (arg10 : Memref sig .tc .vmem S4096x256 .f32) (harg10 : arg10.IsWhole) (h1 : k0_cond1 i = 1#1) (x2 : Vec F S1x1x4096x128 .bf16) (G : BufTy.Contents (Elt F) arg8.view.ty) (n : ℕ) (hn : n ≤ 32)
    (y : S144x4096.Idx) (h0 : (y 0).val < 128) (hy : (y 1).val < 128 * n) :
    arg8.view.read (Elt F) (arg8.view.writes (Elt F) G (pb_k0_t1 (F := F) Variants.none c none i arg3 harg3 arg4 harg4 arg5 harg5 arg6 harg6 arg7 harg7 arg8 harg8 arg9 harg9 arg10 harg10 h1 (harg5.unread x2) n)) y = vtab x2 y := by
  induction n with
  | zero => omega
  | succ n ih =>
    have hn' : n < k0_t1_loop.trips := by rw [trips1]; omega
    rw [show n + 1 = (⟨n, hn'⟩ : Fin k0_t1_loop.trips).val + 1 from rfl, pb_k0_t1_succ, tripL1_eq, List.singleton_append]
    by_cases hc : 128 * n ≤ (y 1).val
    · rw [View.read_writes_cons_unit_of_mem (size := S128x128.size) arg8.view G _ _ _ y (ix2 (⟨(y 0).val, h0⟩ : Fin 128) (⟨(y 1).val % 128, Nat.mod_lt _ (by omega)⟩ : Fin 128)) (off2_eq ⟨n, hn'⟩)
        (Fin.forall_fin_two.mpr ⟨by show (y 0).val = 0 + (y 0).val; omega, by show (y 1).val = 128 * n + (y 1).val % 128; omega⟩)]
      unfold vtab
      rw [dif_pos h0]
      have hk : (⟨n, hn'⟩ : Fin k0_t1_loop.trips).cast trips1 = (⟨(y 1).val / 128, by omega⟩ : Fin 32) := Fin.ext (by show n = (y 1).val / 128; omega)
      rw [hk]
    · rw [View.read_writes_cons_unit_of_not_mem arg8.view G _ _ _ y (off2_eq ⟨n, hn'⟩) (1 : Fin 2) (Or.inl (by show (y 1).val < 128 * n; omega))]
      exact ih (by omega) (by omega)

theorem pb2_read (c : Dev nD) (i : grid0.Coords) (arg3 : Memref sig .tc .vmem S1x256x128 .bf16) (harg3 : arg3.IsWhole) (arg4 : Memref sig .tc .vmem S1x1x4096x128 .bf16) (harg4 : arg4.IsWhole) (arg5 : Memref sig .tc .vmem S1x1x4096x128 .bf16) (harg5 : arg5.IsWhole) (arg6 : Memref sig .tc .vmem S1x1x1x4096 .f32) (harg6 : arg6.IsWhole) (arg7 : Memref sig .tc .vmem S256x128 .f32) (harg7 : arg7.IsWhole) (arg8 : Memref sig .tc .vmem S144x4096 .bf16) (harg8 : arg8.IsWhole) (arg9 : Memref sig .tc .vmem S4096x256 .bf16) (harg9 : arg9.IsWhole) (arg10 : Memref sig .tc .vmem S4096x256 .f32) (harg10 : arg10.IsWhole) (h1 : k0_cond1 i = 1#1) (x1 : Vec F S1x1x4096x128 .bf16) (x3 : Vec F S1x1x1x4096 .f32) (G : BufTy.Contents (Elt F) arg9.view.ty) (n : ℕ) (hn : n ≤ 32)
    (y : S4096x256.Idx) (hy : (y 0).val < 128 * n) :
    arg9.view.read (Elt F) (arg9.view.writes (Elt F) G (pb_k0_t2 (F := F) Variants.none c none i arg3 harg3 arg4 harg4 arg5 harg5 arg6 harg6 arg7 harg7 arg8 harg8 arg9 harg9 arg10 harg10 h1 (harg4.unread x1) (harg6.unread x3) n)) y = ktab x1 x3 y := by
  induction n with
  | zero => omega
  | succ n ih =>
    have hn' : n < k0_t2_loop.trips := by rw [trips2]; omega
    have hy1 : (y 1).val < 256 := (y 1).isLt
    rw [show n + 1 = (⟨n, hn'⟩ : Fin k0_t2_loop.trips).val + 1 from rfl, pb_k0_t2_succ, tripL2_eq, List.cons_append, List.singleton_append]
    by_cases hc : 128 * n ≤ (y 0).val
    · have hk : (⟨n, hn'⟩ : Fin k0_t2_loop.trips).cast trips2 = (⟨(y 0).val / 128, by omega⟩ : Fin 32) := Fin.ext (by show n = (y 0).val / 128; omega)
      by_cases hl : (y 1).val < 128
      · rw [View.read_writes_cons_unit_of_not_mem arg9.view G _ _ _ y (off6_eq ⟨n, hn'⟩) (1 : Fin 2) (Or.inl (by show (y 1).val < 128; omega))]
        rw [View.read_writes_cons_unit_of_mem (size := S128x128.size) arg9.view G _ _ _ y (ix2 (⟨(y 0).val % 128, Nat.mod_lt _ (by omega)⟩ : Fin 128) (⟨(y 1).val, hl⟩ : Fin 128)) (off5_eq ⟨n, hn'⟩)
          (Fin.forall_fin_two.mpr ⟨by show (y 0).val = 128 * n + (y 0).val % 128; omega, by show (y 1).val = 0 + (y 1).val; omega⟩)]
        unfold ktab
        rw [dif_pos hl, hk]
      · rw [View.read_writes_cons_unit_of_mem (size := S128x128.size) arg9.view G _ _ _ y (ix2 (⟨(y 0).val % 128, Nat.mod_lt _ (by omega)⟩ : Fin 128) (⟨(y 1).val - 128, by omega⟩ : Fin 128)) (off6_eq ⟨n, hn'⟩)
          (Fin.forall_fin_two.mpr ⟨by show (y 0).val = 128 * n + (y 0).val % 128; omega, by show (y 1).val = 128 + ((y 1).val - 128); omega⟩)]
        unfold ktab
        rw [dif_neg hl, hk]
    · rw [View.read_writes_cons_unit_of_not_mem arg9.view G _ _ _ y (off6_eq ⟨n, hn'⟩) (0 : Fin 2) (Or.inl (by show (y 0).val < 128 * n; omega)),
        View.read_writes_cons_unit_of_not_mem arg9.view G _ _ _ y (off5_eq ⟨n, hn'⟩) (0 : Fin 2) (Or.inl (by show (y 0).val < 128 * n; omega))]
      exact ih (by omega) (by omega)

theorem vtab_read (c : Dev nD) (i : grid0.Coords) (arg3 : Memref sig .tc .vmem S1x256x128 .bf16) (harg3 : arg3.IsWhole) (arg4 : Memref sig .tc .vmem S1x1x4096x128 .bf16) (harg4 : arg4.IsWhole) (arg5 : Memref sig .tc .vmem S1x1x4096x128 .bf16) (harg5 : arg5.IsWhole) (arg6 : Memref sig .tc .vmem S1x1x1x4096 .f32) (harg6 : arg6.IsWhole) (arg7 : Memref sig .tc .vmem S256x128 .f32) (harg7 : arg7.IsWhole) (arg8 : Memref sig .tc .vmem S144x4096 .bf16) (harg8 : arg8.IsWhole) (arg9 : Memref sig .tc .vmem S4096x256 .bf16) (harg9 : arg9.IsWhole) (arg10 : Memref sig .tc .vmem S4096x256 .f32) (harg10 : arg10.IsWhole) (h1 : k0_cond1 i = 1#1) (x2 : Vec F S1x1x4096x128 .bf16) (G : BufTy.Contents (Elt F) arg8.view.ty) (n : ℕ) (hn : n = 32)
    (inb : ∀ a, (![128, 0] : Fin 2 → ℕ) a + S16x4096.size a ≤ S144x4096.size a) :
    arg8.view.read (Elt F) (arg8.view.writes (Elt F) G ((⟨Rect.unit (s := S144x4096) ![128, 0] S16x4096.size inb, k0_pay35 (F := F)⟩ : View.Piece (Elt F) S144x4096 .bf16) :: pb_k0_t1 (F := F) Variants.none c none i arg3 harg3 arg4 harg4 arg5 harg5 arg6 harg6 arg7 harg7 arg8 harg8 arg9 harg9 arg10 harg10 h1 (harg5.unread x2) n)) = vtab x2 := by
  funext y
  have hy0 : (y 0).val < 144 := (y 0).isLt
  have hy1 : (y 1).val < 4096 := (y 1).isLt
  by_cases h0 : (y 0).val < 128
  · rw [View.read_writes_cons_unit_of_not_mem arg8.view G _ _ _ y rfl (0 : Fin 2) (Or.inl h0)]
    exact pb1_read c i arg3 harg3 arg4 harg4 arg5 harg5 arg6 harg6 arg7 harg7 arg8 harg8 arg9 harg9 arg10 harg10 h1 x2 G n (by omega) y h0 (by omega)
  · rw [View.read_writes_cons_unit_of_mem (size := S16x4096.size) (off' := ![128, 0]) arg8.view G _ _ _ y (ix2 (⟨(y 0).val - 128, by omega⟩ : Fin 16) (⟨(y 1).val, hy1⟩ : Fin 4096)) rfl
      (Fin.forall_fin_two.mpr ⟨by show (y 0).val = 128 + ((y 0).val - 128); omega, by show (y 1).val = 0 + (y 1).val; omega⟩)]
    unfold vtab
    rw [dif_neg h0]

theorem ktab_read (c : Dev nD) (i : grid0.Coords) (arg3 : Memref sig .tc .vmem S1x256x128 .bf16) (harg3 : arg3.IsWhole) (arg4 : Memref sig .tc .vmem S1x1x4096x128 .bf16) (harg4 : arg4.IsWhole) (arg5 : Memref sig .tc .vmem S1x1x4096x128 .bf16) (harg5 : arg5.IsWhole) (arg6 : Memref sig .tc .vmem S1x1x1x4096 .f32) (harg6 : arg6.IsWhole) (arg7 : Memref sig .tc .vmem S256x128 .f32) (harg7 : arg7.IsWhole) (arg8 : Memref sig .tc .vmem S144x4096 .bf16) (harg8 : arg8.IsWhole) (arg9 : Memref sig .tc .vmem S4096x256 .bf16) (harg9 : arg9.IsWhole) (arg10 : Memref sig .tc .vmem S4096x256 .f32) (harg10 : arg10.IsWhole) (h1 : k0_cond1 i = 1#1) (x1 : Vec F S1x1x4096x128 .bf16) (x3 : Vec F S1x1x1x4096 .f32) (G : BufTy.Contents (Elt F) arg9.view.ty) (n : ℕ) (hn : n = 32) :
    arg9.view.read (Elt F) (arg9.view.writes (Elt F) G (pb_k0_t2 (F := F) Variants.none c none i arg3 harg3 arg4 harg4 arg5 harg5 arg6 harg6 arg7 harg7 arg8 harg8 arg9 harg9 arg10 harg10 h1 (harg4.unread x1) (harg6.unread x3) n)) = ktab x1 x3 := by
  funext y
  have hy0 : (y 0).val < 4096 := (y 0).isLt
  exact pb2_read c i arg3 harg3 arg4 harg4 arg5 harg5 arg6 harg6 arg7 harg7 arg8 harg8 arg9 harg9 arg10 harg10 h1 x1 x3 G n (by omega) y (by omega)

set_option maxHeartbeats 1000000 in
/-- Filling the tables. -/
theorem runInit (c : Dev nD) (i : grid0.Coords) (arg3 : Memref sig .tc .vmem S1x256x128 .bf16) (harg3 : arg3.IsWhole) (arg4 : Memref sig .tc .vmem S1x1x4096x128 .bf16) (harg4 : arg4.IsWhole) (arg5 : Memref sig .tc .vmem S1x1x4096x128 .bf16) (harg5 : arg5.IsWhole) (arg6 : Memref sig .tc .vmem S1x1x1x4096 .f32) (harg6 : arg6.IsWhole) (arg7 : Memref sig .tc .vmem S256x128 .f32) (harg7 : arg7.IsWhole) (arg8 : Memref sig .tc .vmem S144x4096 .bf16) (harg8 : arg8.IsWhole) (arg9 : Memref sig .tc .vmem S4096x256 .bf16) (harg9 : arg9.IsWhole) (arg10 : Memref sig .tc .vmem S4096x256 .f32) (harg10 : arg10.IsWhole) (h1 : k0_cond1 i = 1#1)
    (x1 : Vec F S1x1x4096x128 .bf16) (x2 : Vec F S1x1x4096x128 .bf16) (x3 : Vec F S1x1x1x4096 .f32) (E : Set ℕ) (K : PUnit → sProp 𝕄) :
    iprop(owns (c : Thread nD τ) arg4 fullShare x1 ∗ owns (c : Thread nD τ) arg5 fullShare x2 ∗ owns (c : Thread nD τ) arg6 fullShare x3 ∗ (∃ d, owns (c : Thread nD τ) arg8 fullShare d) ∗ (∃ d, owns (c : Thread nD τ) arg9 fullShare d)
        ∗ (iprop(owns (c : Thread nD τ) arg4 fullShare x1 ∗ owns (c : Thread nD τ) arg5 fullShare x2 ∗ owns (c : Thread nD τ) arg6 fullShare x3 ∗ owns (c : Thread nD τ) arg8 fullShare (vtab x2) ∗ owns (c : Thread nD τ) arg9 fullShare (ktab x1 x3)) -∗ K ⟨⟩))
      ⊢ wp frame (wpE (defs₀ (F := F)) Variants.none c none) E (initP i arg3 harg3 arg4 harg4 arg5 harg5 arg6 harg6 arg7 harg7 arg8 harg8 arg9 harg9 arg10 harg10 h1) K := by
  unfold initP
  unfold owns
  iintro ⟨⟨%f1, %hf1, H1⟩, ⟨%f2, %hf2, H2⟩, ⟨%f3, %hf3, H3⟩, ⟨%d8, %f8, -, H8⟩, ⟨%d9, %f9, -, H9⟩, Hk⟩
  obtain rfl := harg4.eq_unread hf1; obtain rfl := harg5.eq_unread hf2; obtain rfl := harg6.eq_unread hf3
  sl_exec
  iapply Hk
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H8]
  · iexists _; isplitr
    swap; · iexact H8
    ipureintro; exact vtab_read c i arg3 harg3 arg4 harg4 arg5 harg5 arg6 harg6 arg7 harg7 arg8 harg8 arg9 harg9 arg10 harg10 h1 x2 f8 _ trips1 _
  iexists _; isplitr
  swap; · iexact H9
  ipureintro; exact ktab_read c i arg3 harg3 arg4 harg4 arg5 harg5 arg6 harg6 arg7 harg7 arg8 harg8 arg9 harg9 arg10 harg10 h1 x1 x3 f9 _ trips2

set_option maxHeartbeats 4000000 in
/-- What a point does with one key block, the tables at given contents. -/
def runRest (c : Dev nD) (i : grid0.Coords) (arg3 : Memref sig .tc .vmem S1x256x128 .bf16) (harg3 : arg3.IsWhole) (arg4 : Memref sig .tc .vmem S1x1x4096x128 .bf16) (harg4 : arg4.IsWhole) (arg5 : Memref sig .tc .vmem S1x1x4096x128 .bf16) (harg5 : arg5.IsWhole) (arg6 : Memref sig .tc .vmem S1x1x1x4096 .f32) (harg6 : arg6.IsWhole) (arg7 : Memref sig .tc .vmem S256x128 .f32) (harg7 : arg7.IsWhole) (arg8 : Memref sig .tc .vmem S144x4096 .bf16) (harg8 : arg8.IsWhole) (arg9 : Memref sig .tc .vmem S4096x256 .bf16) (harg9 : arg9.IsWhole) (arg10 : Memref sig .tc .vmem S4096x256 .f32) (harg10 : arg10.IsWhole)
    (x0 : Vec F S1x256x128 .bf16) (x1 : Vec F S1x1x4096x128 .bf16) (x2 : Vec F S1x1x4096x128 .bf16) (x3 : Vec F S1x1x1x4096 .f32) (y8 : Vec F S144x4096 .bf16) (y9 : Vec F S4096x256 .bf16) :
    { L7 : List (View.Piece (Elt F) S256x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare y8 ∗ owns (c : Thread nD τ) arg9 fullShare y9 ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L7) ∗ owns (c : Thread nD τ) arg8 fullShare y8 ∗ owns (c : Thread nD τ) arg9 fullShare y9 ∗ (∃ d, owns (c : Thread nD τ) arg10 fullShare d)) -∗ K ⟨⟩))
          ⊢ wp frame (wpE (defs₀ (F := F)) Variants.none c none) E (restP i arg3 harg3 arg4 harg4 arg5 harg5 arg6 harg6 arg7 harg7 arg8 harg8 arg9 harg9 arg10 harg10) K } := by
  refine ⟨?_, fun E K => ?run⟩
  case run =>
    unfold restP
    unfold owns
    iintro ⟨⟨%f0, %hf0, H0⟩, ⟨%f1, %hf1, H1⟩, ⟨%f2, %hf2, H2⟩, ⟨%f3, %hf3, H3⟩, ⟨%d7, %f7, -, H7⟩, ⟨%f8, %hf8, H8⟩, ⟨%f9, %hf9, H9⟩, ⟨%d10, %f10, -, H10⟩, Hk⟩
    obtain rfl := harg3.eq_unread hf0; obtain rfl := harg4.eq_unread hf1; obtain rfl := harg5.eq_unread hf2; obtain rfl := harg6.eq_unread hf3
    obtain rfl := harg8.eq_unread hf8; obtain rfl := harg9.eq_unread hf9
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H7]; · iexists _; iexact H7
    isplitl [H8]
    · iexists _; isplitr; · ipureintro; exact harg8.read_unread _
      iexact H8
    isplitl [H9]
    · iexists _; isplitr; · ipureintro; exact harg9.read_unread _
      iexact H9
    iexists _; iexists _; isplitr
    swap; · iexact H10
    ipureintro; rfl

set_option maxHeartbeats 4000000 in
/-- A point attending two key blocks. -/
def runC (c : Dev nD) (i : grid0.Coords) (arg3 : Memref sig .tc .vmem S1x256x128 .bf16) (harg3 : arg3.IsWhole) (arg4 : Memref sig .tc .vmem S1x1x4096x128 .bf16) (harg4 : arg4.IsWhole) (arg5 : Memref sig .tc .vmem S1x1x4096x128 .bf16) (harg5 : arg5.IsWhole) (arg6 : Memref sig .tc .vmem S1x1x1x4096 .f32) (harg6 : arg6.IsWhole) (arg7 : Memref sig .tc .vmem S256x128 .f32) (harg7 : arg7.IsWhole) (arg8 : Memref sig .tc .vmem S144x4096 .bf16) (harg8 : arg8.IsWhole) (arg9 : Memref sig .tc .vmem S4096x256 .bf16) (harg9 : arg9.IsWhole) (arg10 : Memref sig .tc .vmem S4096x256 .f32) (harg10 : arg10.IsWhole) (h1 : ¬ k0_cond1 i = 1#1) (h2 : cond2 i = 1#1) (h3 : ¬ cond3 i = 1#1)
    (x0 : Vec F S1x256x128 .bf16) (x1 : Vec F S1x1x4096x128 .bf16) (x2 : Vec F S1x1x4096x128 .bf16) (x3 : Vec F S1x1x1x4096 .f32) (y8 : Vec F S144x4096 .bf16) (y9 : Vec F S4096x256 .bf16) :
    { L7 : List (View.Piece (Elt F) S256x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare y8 ∗ owns (c : Thread nD τ) arg9 fullShare y9 ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L7) ∗ owns (c : Thread nD τ) arg8 fullShare y8 ∗ owns (c : Thread nD τ) arg9 fullShare y9 ∗ (∃ d, owns (c : Thread nD τ) arg10 fullShare d)) -∗ K ⟨⟩))
          ⊢ wp frame (wpE (defs₀ (F := F)) Variants.none c none) E (cc0_fox_prompt i arg3 harg3 arg4 harg4 arg5 harg5 arg6 harg6 arg7 harg7 arg8 harg8 arg9 harg9 arg10 harg10) K } := by
  refine ⟨?_, fun E K => ?run⟩
  case run =>
    simp only [cc0_fox_prompt_eq_skeleton]; unfold cc0_fox_prompt_skel
    simp only [k0_part1_eq_skeleton, k0_part2_eq_skeleton, k0_part3_eq_skeleton, k0_part4_eq_skeleton, k0_part5_eq_skeleton]
    unfold k0_part1_skel k0_part2_skel k0_part3_skel k0_part4_skel k0_part5_skel
    rw [dif_neg h1]
    simp only [bind_assoc, pure_bind]
    simp only [dif_pos h2, dif_neg h3]
    unfold owns
    iintro ⟨⟨%f0, %hf0, H0⟩, ⟨%f1, %hf1, H1⟩, ⟨%f2, %hf2, H2⟩, ⟨%f3, %hf3, H3⟩, ⟨%d7, %f7, -, H7⟩, ⟨%f8, %hf8, H8⟩, ⟨%f9, %hf9, H9⟩, ⟨%d10, %f10, -, H10⟩, Hk⟩
    obtain rfl := harg3.eq_unread hf0; obtain rfl := harg4.eq_unread hf1; obtain rfl := harg5.eq_unread hf2; obtain rfl := harg6.eq_unread hf3
    obtain rfl := harg8.eq_unread hf8; obtain rfl := harg9.eq_unread hf9
    sl_exec (disch := first | sl_exact h1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H7]; · iexists _; iexact H7
    isplitl [H8]
    · iexists _; isplitr; · ipureintro; exact harg8.read_unread _
      iexact H8
    isplitl [H9]
    · iexists _; isplitr; · ipureintro; exact harg9.read_unread _
      iexact H9
    iexists _; iexists _; isplitr
    swap; · iexact H10
    ipureintro; rfl

set_option maxHeartbeats 4000000 in
/-- A point attending three key blocks. -/
def runD (c : Dev nD) (i : grid0.Coords) (arg3 : Memref sig .tc .vmem S1x256x128 .bf16) (harg3 : arg3.IsWhole) (arg4 : Memref sig .tc .vmem S1x1x4096x128 .bf16) (harg4 : arg4.IsWhole) (arg5 : Memref sig .tc .vmem S1x1x4096x128 .bf16) (harg5 : arg5.IsWhole) (arg6 : Memref sig .tc .vmem S1x1x1x4096 .f32) (harg6 : arg6.IsWhole) (arg7 : Memref sig .tc .vmem S256x128 .f32) (harg7 : arg7.IsWhole) (arg8 : Memref sig .tc .vmem S144x4096 .bf16) (harg8 : arg8.IsWhole) (arg9 : Memref sig .tc .vmem S4096x256 .bf16) (harg9 : arg9.IsWhole) (arg10 : Memref sig .tc .vmem S4096x256 .f32) (harg10 : arg10.IsWhole) (h1 : ¬ k0_cond1 i = 1#1) (h2 : cond2 i = 1#1) (h3 : cond3 i = 1#1) (h4 : ¬ cond4 i = 1#1)
    (x0 : Vec F S1x256x128 .bf16) (x1 : Vec F S1x1x4096x128 .bf16) (x2 : Vec F S1x1x4096x128 .bf16) (x3 : Vec F S1x1x1x4096 .f32) (y8 : Vec F S144x4096 .bf16) (y9 : Vec F S4096x256 .bf16) :
    { L7 : List (View.Piece (Elt F) S256x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare y8 ∗ owns (c : Thread nD τ) arg9 fullShare y9 ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L7) ∗ owns (c : Thread nD τ) arg8 fullShare y8 ∗ owns (c : Thread nD τ) arg9 fullShare y9 ∗ (∃ d, owns (c : Thread nD τ) arg10 fullShare d)) -∗ K ⟨⟩))
          ⊢ wp frame (wpE (defs₀ (F := F)) Variants.none c none) E (cc0_fox_prompt i arg3 harg3 arg4 harg4 arg5 harg5 arg6 harg6 arg7 harg7 arg8 harg8 arg9 harg9 arg10 harg10) K } := by
  refine ⟨?_, fun E K => ?run⟩
  case run =>
    simp only [cc0_fox_prompt_eq_skeleton]; unfold cc0_fox_prompt_skel
    simp only [k0_part1_eq_skeleton, k0_part2_eq_skeleton, k0_part3_eq_skeleton, k0_part4_eq_skeleton, k0_part5_eq_skeleton]
    unfold k0_part1_skel k0_part2_skel k0_part3_skel k0_part4_skel k0_part5_skel
    rw [dif_neg h1]
    simp only [bind_assoc, pure_bind]
    simp only [dif_pos h2, dif_pos h3, dif_neg h4]
    unfold owns
    iintro ⟨⟨%f0, %hf0, H0⟩, ⟨%f1, %hf1, H1⟩, ⟨%f2, %hf2, H2⟩, ⟨%f3, %hf3, H3⟩, ⟨%d7, %f7, -, H7⟩, ⟨%f8, %hf8, H8⟩, ⟨%f9, %hf9, H9⟩, ⟨%d10, %f10, -, H10⟩, Hk⟩
    obtain rfl := harg3.eq_unread hf0; obtain rfl := harg4.eq_unread hf1; obtain rfl := harg5.eq_unread hf2; obtain rfl := harg6.eq_unread hf3
    obtain rfl := harg8.eq_unread hf8; obtain rfl := harg9.eq_unread hf9
    sl_exec (disch := first | sl_exact h1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H7]; · iexists _; iexact H7
    isplitl [H8]
    · iexists _; isplitr; · ipureintro; exact harg8.read_unread _
      iexact H8
    isplitl [H9]
    · iexists _; isplitr; · ipureintro; exact harg9.read_unread _
      iexact H9
    iexists _; iexists _; isplitr
    swap; · iexact H10
    ipureintro; rfl

set_option maxHeartbeats 4000000 in
/-- A point attending all four key blocks. -/
def runE (c : Dev nD) (i : grid0.Coords) (arg3 : Memref sig .tc .vmem S1x256x128 .bf16) (harg3 : arg3.IsWhole) (arg4 : Memref sig .tc .vmem S1x1x4096x128 .bf16) (harg4 : arg4.IsWhole) (arg5 : Memref sig .tc .vmem S1x1x4096x128 .bf16) (harg5 : arg5.IsWhole) (arg6 : Memref sig .tc .vmem S1x1x1x4096 .f32) (harg6 : arg6.IsWhole) (arg7 : Memref sig .tc .vmem S256x128 .f32) (harg7 : arg7.IsWhole) (arg8 : Memref sig .tc .vmem S144x4096 .bf16) (harg8 : arg8.IsWhole) (arg9 : Memref sig .tc .vmem S4096x256 .bf16) (harg9 : arg9.IsWhole) (arg10 : Memref sig .tc .vmem S4096x256 .f32) (harg10 : arg10.IsWhole) (h1 : ¬ k0_cond1 i = 1#1) (h2 : cond2 i = 1#1) (h3 : cond3 i = 1#1) (h4 : cond4 i = 1#1)
    (x0 : Vec F S1x256x128 .bf16) (x1 : Vec F S1x1x4096x128 .bf16) (x2 : Vec F S1x1x4096x128 .bf16) (x3 : Vec F S1x1x1x4096 .f32) (y8 : Vec F S144x4096 .bf16) (y9 : Vec F S4096x256 .bf16) :
    { L7 : List (View.Piece (Elt F) S256x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare y8 ∗ owns (c : Thread nD τ) arg9 fullShare y9 ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L7) ∗ owns (c : Thread nD τ) arg8 fullShare y8 ∗ owns (c : Thread nD τ) arg9 fullShare y9 ∗ (∃ d, owns (c : Thread nD τ) arg10 fullShare d)) -∗ K ⟨⟩))
          ⊢ wp frame (wpE (defs₀ (F := F)) Variants.none c none) E (cc0_fox_prompt i arg3 harg3 arg4 harg4 arg5 harg5 arg6 harg6 arg7 harg7 arg8 harg8 arg9 harg9 arg10 harg10) K } := by
  refine ⟨?_, fun E K => ?run⟩
  case run =>
    simp only [cc0_fox_prompt_eq_skeleton]; unfold cc0_fox_prompt_skel
    simp only [k0_part1_eq_skeleton, k0_part2_eq_skeleton, k0_part3_eq_skeleton, k0_part4_eq_skeleton, k0_part5_eq_skeleton]
    unfold k0_part1_skel k0_part2_skel k0_part3_skel k0_part4_skel k0_part5_skel
    rw [dif_neg h1]
    simp only [bind_assoc, pure_bind]
    simp only [dif_pos h2, dif_pos h3, dif_pos h4]
    unfold owns
    iintro ⟨⟨%f0, %hf0, H0⟩, ⟨%f1, %hf1, H1⟩, ⟨%f2, %hf2, H2⟩, ⟨%f3, %hf3, H3⟩, ⟨%d7, %f7, -, H7⟩, ⟨%f8, %hf8, H8⟩, ⟨%f9, %hf9, H9⟩, ⟨%d10, %f10, -, H10⟩, Hk⟩
    obtain rfl := harg3.eq_unread hf0; obtain rfl := harg4.eq_unread hf1; obtain rfl := harg5.eq_unread hf2; obtain rfl := harg6.eq_unread hf3
    obtain rfl := harg8.eq_unread hf8; obtain rfl := harg9.eq_unread hf9
    sl_exec (disch := first | sl_exact h1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H7]; · iexists _; iexact H7
    isplitl [H8]
    · iexists _; isplitr; · ipureintro; exact harg8.read_unread _
      iexact H8
    isplitl [H9]
    · iexists _; isplitr; · ipureintro; exact harg9.read_unread _
      iexact H9
    iexists _; iexists _; isplitr
    swap; · iexact H10
    ipureintro; rfl

end Cert.KernelIdeal.Fox

end
-- ==== Proof.FoxKernelIdeal.Frame.lean ====
module

public import proofs.«01_k».proof.Proof.FoxKernelIdeal.Body
public import Idealize.ShloMosaic.Lib.Claim

@[expose] public section

set_option maxRecDepth 65536

noncomputable section

namespace Cert.KernelIdeal.Fox

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The branch conditions, point by point -/

theorem coords2 (t : Fin cfg0.N) : (grid0.coords t 2).val = t.val % 16 := by
  have h : (grid0.coords t 2).val = t.val / 1 % 16 := Pipeline.Grid.coords_val t 2 (by decide) rfl
  rw [h, Nat.div_one]

/-- A group opens at the points ≡ 0 (mod 16). -/
theorem hcond1 (t : Fin cfg0.N) : k0_cond1 (grid0.coords t) = 1#1 ↔ t.val % 16 = 0 := by
  have hlt : t.val % 16 < 16 := Nat.mod_lt _ (by decide)
  simp only [k0_cond1, coords2]
  generalize t.val % 16 = j at hlt ⊢
  interval_cases j <;> decide

/-- More than one key block is attended from the fourth point of a group on. -/
theorem hcond2 (t : Fin cfg0.N) : cond2 (grid0.coords t) = 1#1 ↔ 4 ≤ t.val % 16 := by
  have hlt : t.val % 16 < 16 := Nat.mod_lt _ (by decide)
  simp only [cond2, lastW, coords2]
  generalize t.val % 16 = j at hlt ⊢
  interval_cases j <;> decide

theorem hcond3 (t : Fin cfg0.N) (h : 4 ≤ t.val % 16) : cond3 (grid0.coords t) = 1#1 ↔ 8 ≤ t.val % 16 := by
  have hlt : t.val % 16 < 16 := Nat.mod_lt _ (by decide)
  simp only [cond3, lastW, coords2]
  generalize t.val % 16 = j at hlt h ⊢
  interval_cases j <;> first | omega | decide

theorem hcond4 (t : Fin cfg0.N) (h : 8 ≤ t.val % 16) : cond4 (grid0.coords t) = 1#1 ↔ 12 ≤ t.val % 16 := by
  have hlt : t.val % 16 < 16 := Nat.mod_lt _ (by decide)
  simp only [cond4, lastW, coords2]
  generalize t.val % 16 = j at hlt h ⊢
  interval_cases j <;> first | omega | decide

theorem h1of2 (t : Fin cfg0.N) (h : cond2 (grid0.coords t) = 1#1) : ¬ k0_cond1 (grid0.coords t) = 1#1 := fun h1 => by
  have a := (hcond2 t).mp h; have b := (hcond1 t).mp h1; omega

/-! ## The memrefs of a point -/

/-- The output's first staging buffer, through which contents are stated. -/
abbrev VO0_4 : View sig .tc .vmem S256x128 .f32 := (Memref.whole cc0_stg4_0 : Memref sig .tc .vmem S256x128 .f32).view
abbrev ms0_0 (t : Fin cfg0.N) : Memref sig .tc .vmem S1x256x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x4096x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x4096x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x1x4096 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x128 .f32 := win0_4.stage (cfg0.slots t 4)
abbrev hs0_4 (t : Fin cfg0.N) : (ms0_4 t).IsWhole := hstage0_4 ((cfg0.slots t 4).cast nbuf0_4)
abbrev scM0_0 : Memref sig .tc .vmem S144x4096 .bf16 := Memref.whole cc0_scratch0
abbrev scM0_1 : Memref sig .tc .vmem S4096x256 .bf16 := Memref.whole cc0_scratch1
abbrev scM0_2 : Memref sig .tc .vmem S4096x256 .f32 := Memref.whole cc0_scratch2

/-- What the region holds besides the windows: the three tables at some contents and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-! ## What a point leaves -/

theorem coverRest (c : Dev nD) (t : Fin cfg0.N)  (y : S256x128.Idx) :
    ∃ pc ∈ (runRest c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _)  (iblk m c 0 t) (iblk m c 1 t) (iblk m c 2 t) (iblk m c 3 t) (vtab (iblk m c 2 t)) (ktab (iblk m c 1 t) (iblk m c 3 t))).1, y ∈ pc.1.set :=
  View.cover_of_tiledL (runRest c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _)  (iblk m c 0 t) (iblk m c 1 t) (iblk m c 2 t) (iblk m c 3 t) (vtab (iblk m c 2 t)) (ktab (iblk m c 1 t) (iblk m c 3 t))).1 S256x128.size (by sl_kernel_rfl) y

theorem coverC (c : Dev nD) (t : Fin cfg0.N) (h2 : cond2 (grid0.coords t) = 1#1) (h3 : ¬ cond3 (grid0.coords t) = 1#1) (y : S256x128.Idx) :
    ∃ pc ∈ (runC c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (h1of2 t h2) h2 h3 (iblk m c 0 t) (iblk m c 1 t) (iblk m c 2 t) (iblk m c 3 t) (vtab (iblk m c 2 t)) (ktab (iblk m c 1 t) (iblk m c 3 t))).1, y ∈ pc.1.set :=
  View.cover_of_tiledL (runC c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (h1of2 t h2) h2 h3 (iblk m c 0 t) (iblk m c 1 t) (iblk m c 2 t) (iblk m c 3 t) (vtab (iblk m c 2 t)) (ktab (iblk m c 1 t) (iblk m c 3 t))).1 S256x128.size (by sl_kernel_rfl) y

theorem coverD (c : Dev nD) (t : Fin cfg0.N) (h2 : cond2 (grid0.coords t) = 1#1) (h3 : cond3 (grid0.coords t) = 1#1) (h4 : ¬ cond4 (grid0.coords t) = 1#1) (y : S256x128.Idx) :
    ∃ pc ∈ (runD c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (h1of2 t h2) h2 h3 h4 (iblk m c 0 t) (iblk m c 1 t) (iblk m c 2 t) (iblk m c 3 t) (vtab (iblk m c 2 t)) (ktab (iblk m c 1 t) (iblk m c 3 t))).1, y ∈ pc.1.set :=
  View.cover_of_tiledL (runD c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (h1of2 t h2) h2 h3 h4 (iblk m c 0 t) (iblk m c 1 t) (iblk m c 2 t) (iblk m c 3 t) (vtab (iblk m c 2 t)) (ktab (iblk m c 1 t) (iblk m c 3 t))).1 S256x128.size (by sl_kernel_rfl) y

theorem coverE (c : Dev nD) (t : Fin cfg0.N) (h2 : cond2 (grid0.coords t) = 1#1) (h3 : cond3 (grid0.coords t) = 1#1) (h4 : cond4 (grid0.coords t) = 1#1) (y : S256x128.Idx) :
    ∃ pc ∈ (runE c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (h1of2 t h2) h2 h3 h4 (iblk m c 0 t) (iblk m c 1 t) (iblk m c 2 t) (iblk m c 3 t) (vtab (iblk m c 2 t)) (ktab (iblk m c 1 t) (iblk m c 3 t))).1, y ∈ pc.1.set :=
  View.cover_of_tiledL (runE c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (h1of2 t h2) h2 h3 h4 (iblk m c 0 t) (iblk m c 1 t) (iblk m c 2 t) (iblk m c 3 t) (vtab (iblk m c 2 t)) (ktab (iblk m c 1 t) (iblk m c 3 t))).1 S256x128.size (by sl_kernel_rfl) y

/-- What a point leaves in the output's staging buffer, by the number of key blocks it attends. -/
def outAt (c : Dev nD) (t : Fin cfg0.N) : Vec F S256x128 .f32 :=
  if h2 : cond2 (grid0.coords t) = 1#1 then
    if h3 : cond3 (grid0.coords t) = 1#1 then
      if h4 : cond4 (grid0.coords t) = 1#1 then
        VO0_4.read (Elt F) (VO0_4.writes (Elt F) VO0_4.junk (runE c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (h1of2 t h2) h2 h3 h4 (iblk m c 0 t) (iblk m c 1 t) (iblk m c 2 t) (iblk m c 3 t) (vtab (iblk m c 2 t)) (ktab (iblk m c 1 t) (iblk m c 3 t))).1)
      else
        VO0_4.read (Elt F) (VO0_4.writes (Elt F) VO0_4.junk (runD c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (h1of2 t h2) h2 h3 h4 (iblk m c 0 t) (iblk m c 1 t) (iblk m c 2 t) (iblk m c 3 t) (vtab (iblk m c 2 t)) (ktab (iblk m c 1 t) (iblk m c 3 t))).1)
    else
      VO0_4.read (Elt F) (VO0_4.writes (Elt F) VO0_4.junk (runC c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (h1of2 t h2) h2 h3 (iblk m c 0 t) (iblk m c 1 t) (iblk m c 2 t) (iblk m c 3 t) (vtab (iblk m c 2 t)) (ktab (iblk m c 1 t) (iblk m c 3 t))).1)
  else
    VO0_4.read (Elt F) (VO0_4.writes (Elt F) VO0_4.junk (runRest c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _)  (iblk m c 0 t) (iblk m c 1 t) (iblk m c 2 t) (iblk m c 3 t) (vtab (iblk m c 2 t)) (ktab (iblk m c 1 t) (iblk m c 3 t))).1)

/-- After point `t`: the two tables hold what the group's keys, values and cumulative sums make of them. -/
def PhiT (c : Dev nD) (t : Fin cfg0.N) : sProp 𝕄 :=
  iprop(owns (c : Thread nD τ) scM0_0 fullShare (vtab (iblk m c 2 t)) ∗ owns (c : Thread nD τ) scM0_1 fullShare (ktab (iblk m c 1 t) (iblk m c 3 t)) ∗ (∃ d, owns (c : Thread nD τ) scM0_2 fullShare d) ∗ (∃ r, prngReg c r))

/-- The invariant before position `n`. -/
def PhiS (c : Dev nD) : (n : ℕ) → n ≤ cfg0.N → sProp 𝕄
  | 0, _ => Pipeline.ΦA spec0 c
  | n + 1, hn => PhiT m c ⟨n, hn⟩

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) : PhiS m c (n + 1) hn = PhiT m c ⟨n, hn⟩ := rfl
theorem PhiS_pos (c : Dev nD) (n : ℕ) (h : n ≤ cfg0.N) (hz : n ≠ 0) : PhiS m c n h = PhiT m c ⟨n - 1, by omega⟩ := by
  cases n with
  | zero => exact absurd rfl hz
  | succ n => rfl

/-- Whatever the position, the tables are owned at some contents. -/
theorem PhiS_any (c : Dev nD) (n : ℕ) (h : n ≤ cfg0.N) : PhiS m c n h ⊢ (Pipeline.ΦA spec0 c : sProp 𝕄) := by
  by_cases hz : n = 0
  · rw [PhiS_zero m c n h hz]
  · rw [PhiS_pos m c n h hz, PhiA0_eq]; unfold PhiT
    iintro ⟨H8, H9, H10, Hg⟩
    isplitl [H8 H9 H10]
    · isplitl [H8]; · iexists _; iexact H8
      isplitl [H9]; · iexists _; iexact H9
      iexact H10
    iexact Hg

/-! ## The pipeline's proof data -/

/-- The arrays as the region finds them; after each point the inputs at their blocks and the output at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiS m c t.val (Nat.le_of_lt_succ t.isLt)
  q := Pipeline.shareOf spec0
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
/-- Within a group window 1's block does not change. -/
theorem same1 (c : Dev nD) (t : Fin cfg0.N) (h : ¬ t.val % 16 = 0) :
    iblk m c 1 ⟨t.val - 1, Nat.lt_of_le_of_lt (Nat.sub_le _ _) t.isLt⟩ = iblk m c 1 t := by
  have hf : (cfg0.win 1).fetch t = false := Bool.eq_false_iff.mpr fun e => h ((fetch0_1 t).mp e)
  obtain ⟨-, hix⟩ := (cfg0.win 1).index_eq_of_fetch rfl t hf
  have e : ∀ s : Fin cfg0.N, (dats m 0 c).fetched 1 s (iblk m c 1 t) = iblk m c 1 s := fun s => by
    unfold Dat.fetched Dat.blockOf; rw [A_eq m c 1]; rfl
  rw [← e t, ← e ⟨t.val - 1, Nat.lt_of_le_of_lt (Nat.sub_le _ _) t.isLt⟩]
  exact (dats m 0 c).fetched_congr 1 hix.symm rfl _
/-- Within a group window 2's block does not change. -/
theorem same2 (c : Dev nD) (t : Fin cfg0.N) (h : ¬ t.val % 16 = 0) :
    iblk m c 2 ⟨t.val - 1, Nat.lt_of_le_of_lt (Nat.sub_le _ _) t.isLt⟩ = iblk m c 2 t := by
  have hf : (cfg0.win 2).fetch t = false := Bool.eq_false_iff.mpr fun e => h ((fetch0_2 t).mp e)
  obtain ⟨-, hix⟩ := (cfg0.win 2).index_eq_of_fetch rfl t hf
  have e : ∀ s : Fin cfg0.N, (dats m 0 c).fetched 2 s (iblk m c 2 t) = iblk m c 2 s := fun s => by
    unfold Dat.fetched Dat.blockOf; rw [A_eq m c 2]; rfl
  rw [← e t, ← e ⟨t.val - 1, Nat.lt_of_le_of_lt (Nat.sub_le _ _) t.isLt⟩]
  exact (dats m 0 c).fetched_congr 2 hix.symm rfl _
/-- Within a group window 3's block does not change. -/
theorem same3 (c : Dev nD) (t : Fin cfg0.N) (h : ¬ t.val % 16 = 0) :
    iblk m c 3 ⟨t.val - 1, Nat.lt_of_le_of_lt (Nat.sub_le _ _) t.isLt⟩ = iblk m c 3 t := by
  have hf : (cfg0.win 3).fetch t = false := Bool.eq_false_iff.mpr fun e => h ((fetch0_3 t).mp e)
  obtain ⟨-, hix⟩ := (cfg0.win 3).index_eq_of_fetch rfl t hf
  have e : ∀ s : Fin cfg0.N, (dats m 0 c).fetched 3 s (iblk m c 3 t) = iblk m c 3 s := fun s => by
    unfold Dat.fetched Dat.blockOf; rw [A_eq m c 3]; rfl
  rw [← e t, ← e ⟨t.val - 1, Nat.lt_of_le_of_lt (Nat.sub_le _ _) t.isLt⟩]
  exact (dats m 0 c).fetched_congr 3 hix.symm rfl _

/-- At a later point of a group the tables hold what this point's blocks make of them. -/
theorem PhiS_same (c : Dev nD) (t : Fin cfg0.N) (h : ¬ t.val % 16 = 0) : PhiS m c t.val (Nat.le_of_lt t.isLt) = PhiT m c t := by
  rw [PhiS_pos m c _ _ (fun e => h (by rw [e]))]
  unfold PhiT
  rw [same1 m c t h, same2 m c t h, same3 m c t h]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4]
  rw [show (dats m 0 c).Φ t.succ = PhiS m c (t.val + 1) t.isLt from rfl, PhiS_succ, PhiS_castSucc m c t]
  by_cases h1 : k0_cond1 (grid0.coords t) = 1#1
  · have h2 : ¬ cond2 (grid0.coords t) = 1#1 := fun h2 => h1of2 t h2 h1
    refine (show _ ⊢ _ from sep_mono_left (PhiS_any m c t.val (Nat.le_of_lt t.isLt))).trans ?_
    rw [PhiA0_eq, cc0_open _ _ _ _ _ _ _ _ _ _ _ _ _ _ _ _ _ h1 h2, wp_bind]
    unfold outAt PhiT; rw [dif_neg h2]
    iintro ⟨⟨⟨H8, H9, H10⟩, Hg⟩, Ho, ⟨%d0, H0⟩, ⟨%d1, H1⟩, ⟨%d2, H2⟩, ⟨%d3, H3⟩, ⟨%d4, H4⟩⟩
    iapply (runInit c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) h1 (iblk m c 1 t) (iblk m c 2 t) (iblk m c 3 t) Set.univ _)
    isplitl [H1]; · iexact H1
    isplitl [H2]; · iexact H2
    isplitl [H3]; · iexact H3
    isplitl [H8]; · iexact H8
    isplitl [H9]; · iexact H9
    iintro ⟨H1, H2, H3, H8, H9⟩
    iapply ((runRest c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _)  (iblk m c 0 t) (iblk m c 1 t) (iblk m c 2 t) (iblk m c 3 t) (vtab (iblk m c 2 t)) (ktab (iblk m c 1 t) (iblk m c 3 t))).2 Set.univ _)
    isplitl [H0]; · iexact H0
    isplitl [H1]; · iexact H1
    isplitl [H2]; · iexact H2
    isplitl [H3]; · iexact H3
    isplitl [H4]; · iexists _; iexact H4
    isplitl [H8]; · iexact H8
    isplitl [H9]; · iexact H9
    isplitl [H10]; · iexact H10
    iintro ⟨H0, H1, H2, H3, ⟨%e4, H4⟩, H8, H9, H10⟩
    isplitl [H8 H9 H10 Hg]
    · isplitl [H8]; · iexact H8
      isplitl [H9]; · iexact H9
      isplitl [H10]; · iexact H10
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverRest m c t)
  · rw [PhiS_same m c t (fun h => h1 ((hcond1 t).mpr h))]
    by_cases h2 : cond2 (grid0.coords t) = 1#1
    · by_cases h3 : cond3 (grid0.coords t) = 1#1
      · by_cases h4 : cond4 (grid0.coords t) = 1#1
        · unfold outAt PhiT; rw [dif_pos h2, dif_pos h3, dif_pos h4]
          iintro ⟨⟨H8, H9, H10, Hg⟩, Ho, ⟨%d0, H0⟩, ⟨%d1, H1⟩, ⟨%d2, H2⟩, ⟨%d3, H3⟩, ⟨%d4, H4⟩⟩
          iapply ((runE c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (h1of2 t h2) h2 h3 h4 (iblk m c 0 t) (iblk m c 1 t) (iblk m c 2 t) (iblk m c 3 t) (vtab (iblk m c 2 t)) (ktab (iblk m c 1 t) (iblk m c 3 t))).2 Set.univ _)
          isplitl [H0]; · iexact H0
          isplitl [H1]; · iexact H1
          isplitl [H2]; · iexact H2
          isplitl [H3]; · iexact H3
          isplitl [H4]; · iexists _; iexact H4
          isplitl [H8]; · iexact H8
          isplitl [H9]; · iexact H9
          isplitl [H10]; · iexact H10
          iintro ⟨H0, H1, H2, H3, ⟨%e4, H4⟩, H8, H9, H10⟩
          isplitl [H8 H9 H10 Hg]
          · isplitl [H8]; · iexact H8
            isplitl [H9]; · iexact H9
            isplitl [H10]; · iexact H10
            iexact Hg
          isplitl [Ho]; · iexact Ho
          isplitl [H0]; · iexact H0
          isplitl [H1]; · iexact H1
          isplitl [H2]; · iexact H2
          isplitl [H3]; · iexact H3
          unfold owns; iexists _; isplitr
          swap; · iexact H4
          ipureintro; exact View.read_writes_of_cover _ _ _ _ _ (coverE m c t h2 h3 h4)
        · unfold outAt PhiT; rw [dif_pos h2, dif_pos h3, dif_neg h4]
          iintro ⟨⟨H8, H9, H10, Hg⟩, Ho, ⟨%d0, H0⟩, ⟨%d1, H1⟩, ⟨%d2, H2⟩, ⟨%d3, H3⟩, ⟨%d4, H4⟩⟩
          iapply ((runD c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (h1of2 t h2) h2 h3 h4 (iblk m c 0 t) (iblk m c 1 t) (iblk m c 2 t) (iblk m c 3 t) (vtab (iblk m c 2 t)) (ktab (iblk m c 1 t) (iblk m c 3 t))).2 Set.univ _)
          isplitl [H0]; · iexact H0
          isplitl [H1]; · iexact H1
          isplitl [H2]; · iexact H2
          isplitl [H3]; · iexact H3
          isplitl [H4]; · iexists _; iexact H4
          isplitl [H8]; · iexact H8
          isplitl [H9]; · iexact H9
          isplitl [H10]; · iexact H10
          iintro ⟨H0, H1, H2, H3, ⟨%e4, H4⟩, H8, H9, H10⟩
          isplitl [H8 H9 H10 Hg]
          · isplitl [H8]; · iexact H8
            isplitl [H9]; · iexact H9
            isplitl [H10]; · iexact H10
            iexact Hg
          isplitl [Ho]; · iexact Ho
          isplitl [H0]; · iexact H0
          isplitl [H1]; · iexact H1
          isplitl [H2]; · iexact H2
          isplitl [H3]; · iexact H3
          unfold owns; iexists _; isplitr
          swap; · iexact H4
          ipureintro; exact View.read_writes_of_cover _ _ _ _ _ (coverD m c t h2 h3 h4)
      · unfold outAt PhiT; rw [dif_pos h2, dif_neg h3]
        iintro ⟨⟨H8, H9, H10, Hg⟩, Ho, ⟨%d0, H0⟩, ⟨%d1, H1⟩, ⟨%d2, H2⟩, ⟨%d3, H3⟩, ⟨%d4, H4⟩⟩
        iapply ((runC c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (h1of2 t h2) h2 h3 (iblk m c 0 t) (iblk m c 1 t) (iblk m c 2 t) (iblk m c 3 t) (vtab (iblk m c 2 t)) (ktab (iblk m c 1 t) (iblk m c 3 t))).2 Set.univ _)
        isplitl [H0]; · iexact H0
        isplitl [H1]; · iexact H1
        isplitl [H2]; · iexact H2
        isplitl [H3]; · iexact H3
        isplitl [H4]; · iexists _; iexact H4
        isplitl [H8]; · iexact H8
        isplitl [H9]; · iexact H9
        isplitl [H10]; · iexact H10
        iintro ⟨H0, H1, H2, H3, ⟨%e4, H4⟩, H8, H9, H10⟩
        isplitl [H8 H9 H10 Hg]
        · isplitl [H8]; · iexact H8
          isplitl [H9]; · iexact H9
          isplitl [H10]; · iexact H10
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (coverC m c t h2 h3)
    · rw [cc0_later _ _ _ _ _ _ _ _ _ _ _ _ _ _ _ _ _ h1 h2]
      unfold outAt PhiT; rw [dif_neg h2]
      iintro ⟨⟨H8, H9, H10, Hg⟩, Ho, ⟨%d0, H0⟩, ⟨%d1, H1⟩, ⟨%d2, H2⟩, ⟨%d3, H3⟩, ⟨%d4, H4⟩⟩
      iapply ((runRest c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _)  (iblk m c 0 t) (iblk m c 1 t) (iblk m c 2 t) (iblk m c 3 t) (vtab (iblk m c 2 t)) (ktab (iblk m c 1 t) (iblk m c 3 t))).2 Set.univ _)
      isplitl [H0]; · iexact H0
      isplitl [H1]; · iexact H1
      isplitl [H2]; · iexact H2
      isplitl [H3]; · iexact H3
      isplitl [H4]; · iexists _; iexact H4
      isplitl [H8]; · iexact H8
      isplitl [H9]; · iexact H9
      isplitl [H10]; · iexact H10
      iintro ⟨H0, H1, H2, H3, ⟨%e4, H4⟩, H8, H9, H10⟩
      isplitl [H8 H9 H10 Hg]
      · isplitl [H8]; · iexact H8
        isplitl [H9]; · iexact H9
        isplitl [H10]; · iexact H10
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverRest m c t)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c cfg0.N (Nat.le_refl _) from rfl]
  exact PhiS_any m c _ _

/-! ## The run and the frame -/

set_option backward.isDefEq.respectTransparency.types false in
/-- The run: every array of the pipeline at what the proof data say, every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The frame: every execution ends, the arguments unchanged, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.KernelIdeal.Fox

end
-- ==== Proof.FoxKernelIdeal.Out.lean ====
module

public import proofs.«01_k».proof.Proof.FoxKernelIdeal.Frame
public import Idealize.ShloMosaic.Lib.Pipeline.ReadBack
public import Idealize.ShloMosaic.Lib.WholeRead
public import Idealize.ShloMosaic.Lib.VecWindow

@[expose] public section

set_option maxRecDepth 65536

noncomputable section

namespace Cert.KernelIdeal.Fox

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.ValueIdx (ix2 ix4)

/-! ## The pieces of the computation, by name -/

/-- Rows `o … o + 1023` of the table of keys. -/
def kB (y9 : Vec F S4096x256 .bf16) (o : ℕ) (ho : o + 1024 ≤ 4096) : Vec F S1024x256 .bf16 := fun y =>
  y9 (ix2 (⟨o + (y 0).val, by have h1 : (y 0).val < 1024 := (y 0).isLt; omega⟩ : Fin 4096) (⟨(y 1).val, (y 1).isLt⟩ : Fin 256))

/-- Lanes `o … o + 1023` of the table of values. -/
def vB (y8 : Vec F S144x4096 .bf16) (o : ℕ) (ho : o + 1024 ≤ 4096) : Vec F S144x1024 .bf16 := fun y =>
  y8 (ix2 (⟨(y 0).val, (y 0).isLt⟩ : Fin 144) (⟨o + (y 1).val, by have h1 : (y 1).val < 1024 := (y 1).isLt; omega⟩ : Fin 4096))

/-- The 256 cumulative sums of the block's queries. -/
def cqB (i : grid0.Coords) (x3 : Vec F S1x1x1x4096 .f32) : Vec F S1x1x1x256 .f32 := fun y =>
  x3 (ix4 (0 : Fin 1) (0 : Fin 1) (0 : Fin 1) (⟨256 * (i 2).val + (y 3).val, by have h1 : (y 3).val < 256 := (y 3).isLt; have h2 : (i 2).val < 16 := (i 2).isLt; omega⟩ : Fin 4096))

/-- The word the mask compares with: the block's first query, less the first key. -/
def wB (i : grid0.Coords) (o : BitVec 32) : BitVec 32 := Scalar.subi (Scalar.muli (BitVec.ofNat 32 (i 2).val) 256#32) o

/-- A block of scores. -/
def sc (q : FVec F S256x256 .bf16) (k : Vec F S1024x256 .bf16) : FVec F S1024x256 .f32 :=
  matmul dot_S1024x256_S256x256_S1024x256_1_0_0_1_n_n none k q (constant S1024x256 .f32 0x00000000#32)

/-- A block of scores under the mask. -/
def msc (w : BitVec 32) (q : FVec F S256x256 .bf16) (k : Vec F S1024x256 .bf16) : FVec F S1024x256 .f32 :=
  select (cmpi .sle k0_pay1 (broadcast S1024x256 w)) (sc q k) (broadcast S1024x256 (Named.named κ "mask" 0xF149F2CA#32 : F .f32))

/-- The running maximum before the first block. -/
def m0 : FVec F S8x256 .f32 := broadcast S8x256 (Named.named κ "mask" 0xF149F2CA#32 : F .f32)

/-- The running maximum after one more block. -/
def mx (M : FVec F S8x256 .f32) (s : FVec F S1024x256 .f32) : FVec F S8x256 .f32 :=
  maximumf M (multiReduction .maximumf [0] S8x256 (shapeCast S128x8x256 s shapeCasts_S1024x256_S128x8x256) 0xFF800000#32 reduces_S128x8x256_S8x256 (.inl rfl) rfl)

/-- The shift of each query. -/
def sh (cq : FVec F S1x256 .f32) (M : FVec F S8x256 .f32) : FVec F S1x256 .f32 :=
  subf (addf (shapeCast S1x256 (multiReduction .maximumf [0] S256 M 0xFF800000#32 reduces_S8x256_S256 (.inl rfl) rfl) shapeCasts_S256_S1x256) cq) cq

/-- The sums before the first block. -/
def z0 : FVec F S144x256 .f32 := broadcast S144x256 (Scalar.ofBits .f32 0x00000000#32 : F .f32)

/-- The sums after one more block. -/
def pv (h : FVec F S1x256 .f32) (z : FVec F S144x256 .f32) (s : FVec F S1024x256 .f32) (v : Vec F S144x1024 .bf16) : FVec F S144x256 .f32 :=
  addf z (matmul dot_S144x1024_S1024x256_S144x256_1_0_0_1_n_n none v
    (truncf .bf16 (exp (subf s (broadcastTo S1024x256 h broadcasts_S1x256_S1024x256))) bitsLt_bf16_f32) (constant S144x256 .f32 0x00000000#32))

/-! ## What each load reads -/

theorem qread {m : Memref sig .tc .vmem S1x256x128 .bf16} (h : m.IsWhole) (x : Vec F S1x256x128 .bf16) (inb) :
    View.readAt (Elt F) m.view (Rect.unit ![0, 0, 0] ![1, 256, 128] inb).toLoadRect (h.unread x) = x := by
  funext y
  rw [h.readAt_unread]
  refine congrArg x (funext fun a => Fin.ext ?_)
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

theorem kread {m : Memref sig .tc .vmem S4096x256 .bf16} (h : m.IsWhole) (x : Vec F S4096x256 .bf16) (o : ℕ) (ho : o + 1024 ≤ 4096) (inb) :
    View.readAt (Elt F) m.view (Rect.unit ![o, 0] ![1024, 256] inb).toLoadRect (h.unread x) = kB x o ho := by
  funext y
  rw [h.readAt_unread]
  refine congrArg x (funext fun a => Fin.ext ?_)
  match a with
  | ⟨0, _⟩ => show o + 1 * (y 0).val = o + (y 0).val; omega
  | ⟨1, _⟩ => show 0 + 1 * (y 1).val = (y 1).val; omega

theorem vread {m : Memref sig .tc .vmem S144x4096 .bf16} (h : m.IsWhole) (x : Vec F S144x4096 .bf16) (o : ℕ) (ho : o + 1024 ≤ 4096) (inb) :
    View.readAt (Elt F) m.view (Rect.unit ![0, o] ![144, 1024] inb).toLoadRect (h.unread x) = vB x o ho := by
  funext y
  rw [h.readAt_unread]
  refine congrArg x (funext fun a => Fin.ext ?_)
  match a with
  | ⟨0, _⟩ => show 0 + 1 * (y 0).val = (y 0).val; omega
  | ⟨1, _⟩ => show o + 1 * (y 1).val = o + (y 1).val; omega

theorem off7_3 (i : grid0.Coords) : k0_off7 i 3 = 256 * (i 2).val := by
  have h2 : (i 2).val < 16 := (i 2).isLt
  show (Scalar.muli (BitVec.ofNat 32 (i 2).val) 256#32).toNat = _
  generalize (i 2).val = j at h2 ⊢
  interval_cases j <;> rfl

theorem cqread {m : Memref sig .tc .vmem S1x1x1x4096 .f32} (h : m.IsWhole) (x : Vec F S1x1x1x4096 .f32) (i : grid0.Coords) (inb) :
    View.readAt (Elt F) m.view (Rect.unit (k0_off7 i) ![1, 1, 1, 256] inb).toLoadRect (h.unread x) = cqB i x := by
  funext y
  rw [h.readAt_unread]
  refine congrArg x (funext fun a => Fin.ext ?_)
  match a with
  | ⟨0, _⟩ => exact Nat.lt_one_iff.1 (Fin.isLt _)
  | ⟨1, _⟩ => exact Nat.lt_one_iff.1 (Fin.isLt _)
  | ⟨2, _⟩ => exact Nat.lt_one_iff.1 (Fin.isLt _)
  | ⟨3, _⟩ => show k0_off7 i 3 + 1 * (y 3).val = 256 * (i 2).val + (y 3).val; rw [off7_3]; omega

/-- A load of rows below the last store's rows skips that store. -/
theorem rskip (v : View sig .tc .vmem S4096x256 .f32) (o o' : ℕ) (inb inb') (w) (L : List (View.Piece (Elt F) S4096x256 .f32)) (h : o' + 1024 ≤ o) :
    v.readCov (⟨Rect.unit ![o, 0] ![1024, 256] inb, w⟩ :: L) (Rect.unit ![o', 0] ![1024, 256] inb').toLoadRect
      = v.readCov L (Rect.unit ![o', 0] ![1024, 256] inb').toLoadRect := by
  refine View.readCov_cons_of_disjoint v _ L _ (Finset.disjoint_left.2 fun x hx hx' => ?_)
  obtain ⟨j, h2, h3⟩ := (LoadRect.mem_set _).1 hx' 0
  have h2' : j < 1024 := h2
  have h3' : (x 0).val = o' + 1 * j := h3
  have h1 : o ≤ (x 0).val := ((Rect.mem_set_unit (s := S4096x256) (inb := inb)).1 hx (0 : Fin 2)).1
  omega

section Cases

variable (c : Dev nD) (i : grid0.Coords) (arg3 : Memref sig .tc .vmem S1x256x128 .bf16) (harg3 : arg3.IsWhole) (arg4 : Memref sig .tc .vmem S1x1x4096x128 .bf16) (harg4 : arg4.IsWhole) (arg5 : Memref sig .tc .vmem S1x1x4096x128 .bf16) (harg5 : arg5.IsWhole) (arg6 : Memref sig .tc .vmem S1x1x1x4096 .f32) (harg6 : arg6.IsWhole) (arg7 : Memref sig .tc .vmem S256x128 .f32) (harg7 : arg7.IsWhole) (arg8 : Memref sig .tc .vmem S144x4096 .bf16) (harg8 : arg8.IsWhole) (arg9 : Memref sig .tc .vmem S4096x256 .bf16) (harg9 : arg9.IsWhole) (arg10 : Memref sig .tc .vmem S4096x256 .f32) (harg10 : arg10.IsWhole) (x0 : Vec F S1x256x128 .bf16) (x1 : Vec F S1x1x4096x128 .bf16) (x2 : Vec F S1x1x4096x128 .bf16) (x3 : Vec F S1x1x1x4096 .f32) (y8 : Vec F S144x4096 .bf16) (y9 : Vec F S4096x256 .bf16)

theorem outRest_eq (v : View sig .tc .vmem S256x128 .f32) (f)  :
    v.read (Elt F) (v.writes (Elt F) f (runRest c i arg3 harg3 arg4 harg4 arg5 harg5 arg6 harg6 arg7 harg7 arg8 harg8 arg9 harg9 arg10 harg10  x0 x1 x2 x3 y8 y9).1) =
      k0_pay8 (pv (sh (k0_pay39 (cqB i x3)) (mx m0 (msc (wB i 0#32) (k0_pay38 x0) (kB y9 0 (by decide))))) z0 (msc (wB i 0#32) (k0_pay38 x0) (kB y9 0 (by decide))) (vB y8 0 (by decide))) := by
  unfold runRest
  dsimp only
  refine (View.read_writes_full v f _ _ _).trans ?_
  simp only [runRest.sl.v4, runRest.sl.v80, runRest.sl.H10_1, qread, cqread, kread _ _ 0 (by decide), kread _ _ 1024 (by decide), kread _ _ 2048 (by decide), kread _ _ 3072 (by decide), vread _ _ 0 (by decide), vread _ _ 1024 (by decide), vread _ _ 2048 (by decide), vread _ _ 3072 (by decide), View.readCov_cons_toLoadRect, rskip _ _ _ _ _ _ _ (by decide : (0:ℕ) + 1024 ≤ 1024), rskip _ _ _ _ _ _ _ (by decide : (0:ℕ) + 1024 ≤ 2048), rskip _ _ _ _ _ _ _ (by decide : (0:ℕ) + 1024 ≤ 3072), rskip _ _ _ _ _ _ _ (by decide : (1024:ℕ) + 1024 ≤ 2048), rskip _ _ _ _ _ _ _ (by decide : (1024:ℕ) + 1024 ≤ 3072), rskip _ _ _ _ _ _ _ (by decide : (2048:ℕ) + 1024 ≤ 3072), k0_pay7, k0_pay5, k0_pay6, shapeCast_self]
  rfl

theorem outC_eq (v : View sig .tc .vmem S256x128 .f32) (f) (h1 : ¬ k0_cond1 i = 1#1) (h2 : cond2 i = 1#1) (h3 : ¬ cond3 i = 1#1) :
    v.read (Elt F) (v.writes (Elt F) f (runC c i arg3 harg3 arg4 harg4 arg5 harg5 arg6 harg6 arg7 harg7 arg8 harg8 arg9 harg9 arg10 harg10 h1 h2 h3 x0 x1 x2 x3 y8 y9).1) =
      k0_pay8 (pv (sh (k0_pay39 (cqB i x3)) (mx (mx m0 (sc (k0_pay38 x0) (kB y9 0 (by decide)))) (msc (wB i 1024#32) (k0_pay38 x0) (kB y9 1024 (by decide))))) (pv (sh (k0_pay39 (cqB i x3)) (mx (mx m0 (sc (k0_pay38 x0) (kB y9 0 (by decide)))) (msc (wB i 1024#32) (k0_pay38 x0) (kB y9 1024 (by decide))))) z0 (sc (k0_pay38 x0) (kB y9 0 (by decide))) (vB y8 0 (by decide))) (msc (wB i 1024#32) (k0_pay38 x0) (kB y9 1024 (by decide))) (vB y8 1024 (by decide))) := by
  unfold runC
  dsimp only
  refine (View.read_writes_full v f _ _ _).trans ?_
  simp only [runC.sl.x, runC.sl.v99, runC.sl.H10_2, qread, cqread, kread _ _ 0 (by decide), kread _ _ 1024 (by decide), kread _ _ 2048 (by decide), kread _ _ 3072 (by decide), vread _ _ 0 (by decide), vread _ _ 1024 (by decide), vread _ _ 2048 (by decide), vread _ _ 3072 (by decide), View.readCov_cons_toLoadRect, rskip _ _ _ _ _ _ _ (by decide : (0:ℕ) + 1024 ≤ 1024), rskip _ _ _ _ _ _ _ (by decide : (0:ℕ) + 1024 ≤ 2048), rskip _ _ _ _ _ _ _ (by decide : (0:ℕ) + 1024 ≤ 3072), rskip _ _ _ _ _ _ _ (by decide : (1024:ℕ) + 1024 ≤ 2048), rskip _ _ _ _ _ _ _ (by decide : (1024:ℕ) + 1024 ≤ 3072), rskip _ _ _ _ _ _ _ (by decide : (2048:ℕ) + 1024 ≤ 3072), k0_pay4, k0_pay33, k0_pay32, k0_pay31, k0_pay30, k0_pay29, k0_pay28, shapeCast_self]
  rfl

theorem outD_eq (v : View sig .tc .vmem S256x128 .f32) (f) (h1 : ¬ k0_cond1 i = 1#1) (h2 : cond2 i = 1#1) (h3 : cond3 i = 1#1) (h4 : ¬ cond4 i = 1#1) :
    v.read (Elt F) (v.writes (Elt F) f (runD c i arg3 harg3 arg4 harg4 arg5 harg5 arg6 harg6 arg7 harg7 arg8 harg8 arg9 harg9 arg10 harg10 h1 h2 h3 h4 x0 x1 x2 x3 y8 y9).1) =
      k0_pay8 (pv (sh (k0_pay39 (cqB i x3)) (mx (mx (mx m0 (sc (k0_pay38 x0) (kB y9 0 (by decide)))) (sc (k0_pay38 x0) (kB y9 1024 (by decide)))) (msc (wB i 2048#32) (k0_pay38 x0) (kB y9 2048 (by decide))))) (pv (sh (k0_pay39 (cqB i x3)) (mx (mx (mx m0 (sc (k0_pay38 x0) (kB y9 0 (by decide)))) (sc (k0_pay38 x0) (kB y9 1024 (by decide)))) (msc (wB i 2048#32) (k0_pay38 x0) (kB y9 2048 (by decide))))) (pv (sh (k0_pay39 (cqB i x3)) (mx (mx (mx m0 (sc (k0_pay38 x0) (kB y9 0 (by decide)))) (sc (k0_pay38 x0) (kB y9 1024 (by decide)))) (msc (wB i 2048#32) (k0_pay38 x0) (kB y9 2048 (by decide))))) z0 (sc (k0_pay38 x0) (kB y9 0 (by decide))) (vB y8 0 (by decide))) (sc (k0_pay38 x0) (kB y9 1024 (by decide))) (vB y8 1024 (by decide))) (msc (wB i 2048#32) (k0_pay38 x0) (kB y9 2048 (by decide))) (vB y8 2048 (by decide))) := by
  unfold runD
  dsimp only
  refine (View.read_writes_full v f _ _ _).trans ?_
  simp only [runD.sl.v102, runD.sl.v110, runD.sl.v118, runD.sl.H10_3, qread, cqread, kread _ _ 0 (by decide), kread _ _ 1024 (by decide), kread _ _ 2048 (by decide), kread _ _ 3072 (by decide), vread _ _ 0 (by decide), vread _ _ 1024 (by decide), vread _ _ 2048 (by decide), vread _ _ 3072 (by decide), View.readCov_cons_toLoadRect, rskip _ _ _ _ _ _ _ (by decide : (0:ℕ) + 1024 ≤ 1024), rskip _ _ _ _ _ _ _ (by decide : (0:ℕ) + 1024 ≤ 2048), rskip _ _ _ _ _ _ _ (by decide : (0:ℕ) + 1024 ≤ 3072), rskip _ _ _ _ _ _ _ (by decide : (1024:ℕ) + 1024 ≤ 2048), rskip _ _ _ _ _ _ _ (by decide : (1024:ℕ) + 1024 ≤ 3072), rskip _ _ _ _ _ _ _ (by decide : (2048:ℕ) + 1024 ≤ 3072), k0_pay3, k0_pay27, k0_pay26, k0_pay25, k0_pay24, k0_pay23, k0_pay22, k0_pay21, shapeCast_self]
  rfl

theorem outE_eq (v : View sig .tc .vmem S256x128 .f32) (f) (h1 : ¬ k0_cond1 i = 1#1) (h2 : cond2 i = 1#1) (h3 : cond3 i = 1#1) (h4 : cond4 i = 1#1) :
    v.read (Elt F) (v.writes (Elt F) f (runE c i arg3 harg3 arg4 harg4 arg5 harg5 arg6 harg6 arg7 harg7 arg8 harg8 arg9 harg9 arg10 harg10 h1 h2 h3 h4 x0 x1 x2 x3 y8 y9).1) =
      k0_pay8 (pv (sh (k0_pay39 (cqB i x3)) (mx (mx (mx (mx m0 (sc (k0_pay38 x0) (kB y9 0 (by decide)))) (sc (k0_pay38 x0) (kB y9 1024 (by decide)))) (sc (k0_pay38 x0) (kB y9 2048 (by decide)))) (msc (wB i 3072#32) (k0_pay38 x0) (kB y9 3072 (by decide))))) (pv (sh (k0_pay39 (cqB i x3)) (mx (mx (mx (mx m0 (sc (k0_pay38 x0) (kB y9 0 (by decide)))) (sc (k0_pay38 x0) (kB y9 1024 (by decide)))) (sc (k0_pay38 x0) (kB y9 2048 (by decide)))) (msc (wB i 3072#32) (k0_pay38 x0) (kB y9 3072 (by decide))))) (pv (sh (k0_pay39 (cqB i x3)) (mx (mx (mx (mx m0 (sc (k0_pay38 x0) (kB y9 0 (by decide)))) (sc (k0_pay38 x0) (kB y9 1024 (by decide)))) (sc (k0_pay38 x0) (kB y9 2048 (by decide)))) (msc (wB i 3072#32) (k0_pay38 x0) (kB y9 3072 (by decide))))) (pv (sh (k0_pay39 (cqB i x3)) (mx (mx (mx (mx m0 (sc (k0_pay38 x0) (kB y9 0 (by decide)))) (sc (k0_pay38 x0) (kB y9 1024 (by decide)))) (sc (k0_pay38 x0) (kB y9 2048 (by decide)))) (msc (wB i 3072#32) (k0_pay38 x0) (kB y9 3072 (by decide))))) z0 (sc (k0_pay38 x0) (kB y9 0 (by decide))) (vB y8 0 (by decide))) (sc (k0_pay38 x0) (kB y9 1024 (by decide))) (vB y8 1024 (by decide))) (sc (k0_pay38 x0) (kB y9 2048 (by decide))) (vB y8 2048 (by decide))) (msc (wB i 3072#32) (k0_pay38 x0) (kB y9 3072 (by decide))) (vB y8 3072 (by decide))) := by
  unfold runE
  dsimp only
  refine (View.read_writes_full v f _ _ _).trans ?_
  simp only [runE.sl.x, runE.sl.x_1, runE.sl.x_2, runE.sl.x_3, runE.sl.H10_4, qread, cqread, kread _ _ 0 (by decide), kread _ _ 1024 (by decide), kread _ _ 2048 (by decide), kread _ _ 3072 (by decide), vread _ _ 0 (by decide), vread _ _ 1024 (by decide), vread _ _ 2048 (by decide), vread _ _ 3072 (by decide), View.readCov_cons_toLoadRect, rskip _ _ _ _ _ _ _ (by decide : (0:ℕ) + 1024 ≤ 1024), rskip _ _ _ _ _ _ _ (by decide : (0:ℕ) + 1024 ≤ 2048), rskip _ _ _ _ _ _ _ (by decide : (0:ℕ) + 1024 ≤ 3072), rskip _ _ _ _ _ _ _ (by decide : (1024:ℕ) + 1024 ≤ 2048), rskip _ _ _ _ _ _ _ (by decide : (1024:ℕ) + 1024 ≤ 3072), rskip _ _ _ _ _ _ _ (by decide : (2048:ℕ) + 1024 ≤ 3072), k0_pay2, k0_pay9, k0_pay10, k0_pay11, k0_pay12, k0_pay13, k0_pay14, k0_pay15, k0_pay16, k0_pay17, k0_pay18, k0_pay19, k0_pay20, shapeCast_self]
  rfl

end Cases

end Cert.KernelIdeal.Fox

end
-- ==== Proof.FoxMath.lean ====
module

public import Idealize.ShloMosaic.PureOps.Ideal
public import Mathlib.Data.EReal.Inv

/-!
The decayed softmax of one query, in the extended reals.

`S k` is the kernel's score of key `k` (the product less the key's cumulated gate, `⊥` where the key is masked), `S' k`
the reference's (the product plus the difference of the two cumulated gates). The kernel never adds the query's gate to
a score: it forms `(max S + cq) - cq` as the shift. The two agree at every value of the extended reals.
-/

@[expose] public section

noncomputable section

namespace Cert.FoxMath

open Idealize.ShloMosaic

variable {ι : Type} [Fintype ι]

/-- The greatest score. -/
def top (S : ι → EReal) : EReal := Finset.univ.sup S

/-- The kernel's value: numerator times the reciprocal of the denominator. -/
def kerOut (S V : ι → EReal) (cq : EReal) : EReal :=
  (∑ k, V k * Ideal.exp (S k - ((top S + cq) - cq))) *
    Ideal.div 1 (∑ k, Ideal.exp (S k - ((top S + cq) - cq)))

/-- The reference's shift: the greatest score where it is finite. -/
def refShift (S : ι → EReal) : EReal := if max (top S) (-(top S)) < ⊤ then top S else 0

/-- The reference's value: the sum of the values by the normalised weights. -/
def refOut (S V : ι → EReal) (ε : EReal) : EReal :=
  ∑ k, V k * Ideal.div (Ideal.exp (S k - refShift S)) (max (∑ l, Ideal.exp (S l - refShift S)) ε)

theorem exp_nonneg (x : EReal) : 0 ≤ Ideal.exp x := by
  induction x with
  | bot => exact le_refl _
  | top => exact (le_top : (0 : EReal) ≤ ⊤)
  | coe r => exact EReal.coe_nonneg.2 (Real.exp_pos r).le

theorem le_top_score (S : ι → EReal) (k : ι) : S k ≤ top S := Finset.le_sup (Finset.mem_univ k)

theorem exists_top [Nonempty ι] (S : ι → EReal) : ∃ k, S k = top S := by
  obtain ⟨k, _, h⟩ := Finset.exists_mem_eq_sup Finset.univ Finset.univ_nonempty S
  exact ⟨k, h.symm⟩

theorem sum_eq_top {f : ι → EReal} (h0 : ∀ k, 0 ≤ f k) {k : ι} (h : f k = ⊤) : ∑ l, f l = ⊤ := by
  have := Finset.single_le_sum (f := f) (fun l _ => h0 l) (Finset.mem_univ k)
  rw [h] at this
  exact top_le_iff.1 this

theorem div_zero_pos {ε : EReal} (h : 0 < ε) : Ideal.div 0 ε = 0 := by
  unfold Ideal.div
  rw [if_neg h.ne', zero_mul]

theorem div_top (x : EReal) : Ideal.div x ⊤ = 0 := by
  unfold Ideal.div
  rw [if_neg (by decide), EReal.inv_top, mul_zero]

theorem kerOut_zero {S V : ι → EReal} {cq : EReal}
    (h : ∀ k, Ideal.exp (S k - ((top S + cq) - cq)) = 0 ∨ Ideal.exp (S k - ((top S + cq) - cq)) = ⊤) :
    kerOut S V cq = 0 := by
  unfold kerOut
  by_cases ht : ∃ k, Ideal.exp (S k - ((top S + cq) - cq)) = ⊤
  · obtain ⟨k, hk⟩ := ht
    rw [sum_eq_top (f := fun k => Ideal.exp (S k - ((top S + cq) - cq))) (fun _ => exp_nonneg _) hk, div_top, mul_zero]
  · have h0 : ∀ k, Ideal.exp (S k - ((top S + cq) - cq)) = 0 := fun k => (h k).resolve_right fun e => ht ⟨k, e⟩
    rw [Finset.sum_eq_zero (fun k _ => by rw [h0 k, mul_zero]), zero_mul]

theorem refOut_zero [Nonempty ι] {S V : ι → EReal} {ε : EReal} (hε : 0 < ε) (h : top S = ⊤ ∨ top S = ⊥) :
    refOut S V ε = 0 := by
  have hs : refShift S = 0 := by
    unfold refShift
    rcases h with h | h <;> rw [h] <;> simp
  unfold refOut
  rw [hs]
  refine Finset.sum_eq_zero fun k _ => ?_
  rcases h with h | h
  · obtain ⟨l, hl⟩ := exists_top S
    have hl' : Ideal.exp (S l - 0) = ⊤ := by rw [hl, h]; rfl
    rw [sum_eq_top (f := fun l => Ideal.exp (S l - 0)) (fun _ => exp_nonneg _) hl', max_eq_left le_top, div_top, mul_zero]
  · have hb : ∀ l, Ideal.exp (S l - 0) = 0 := fun l => by
      have : S l = ⊥ := le_bot_iff.1 (h ▸ le_top_score S l)
      rw [this]; rfl
    rw [Finset.sum_eq_zero (fun l _ => hb l), hb k, max_eq_right hε.le, div_zero_pos hε, mul_zero]

theorem sum_mul_of_nonneg {x : EReal} (h0 : 0 ≤ x) (ht : x ≠ ⊤) (s : Finset ι) (f : ι → EReal) :
    (∑ k ∈ s, f k) * x = ∑ k ∈ s, f k * x := by
  classical
  induction s using Finset.induction_on with
  | empty => simp
  | insert a s ha ih =>
    rw [Finset.sum_insert ha, Finset.sum_insert ha, EReal.right_distrib_of_nonneg_of_ne_top h0 ht, ih]

theorem add_coe_sub_coe (a : EReal) (r : ℝ) : a + r - r = a := by
  induction a with
  | bot => rfl
  | top => rfl
  | coe x => rw [← EReal.coe_add, ← EReal.coe_sub, add_sub_cancel_right]

theorem add_coe_sub_add (a : EReal) (x r : ℝ) : a + r - ((x : EReal) + r) = a - x := by
  induction a with
  | bot => rfl
  | top => rfl
  | coe y =>
    rw [← EReal.coe_add, ← EReal.coe_add, ← EReal.coe_sub, ← EReal.coe_sub]
    congr 1; ring

theorem top_add_coe [Nonempty ι] (S : ι → EReal) (r : ℝ) : top (fun k => S k + r) = top S + r := by
  refine le_antisymm (Finset.sup_le fun k _ => add_le_add (le_top_score S k) le_rfl) ?_
  obtain ⟨k, hk⟩ := exists_top S
  rw [← hk]
  exact le_top_score (fun k => S k + (r : EReal)) k

/-- The query's gate is a real number and so is the greatest score. -/
theorem out_eq_real [Nonempty ι] {S V : ι → EReal} {ε : EReal} (hε1 : ε ≤ 1) (r x : ℝ) (hx : top S = x) :
    kerOut S V r = refOut (fun k => S k + r) V ε := by
  have ht' : top (fun k => S k + (r : EReal)) = (x : EReal) + r := by rw [top_add_coe, hx]
  have hs : refShift (fun k => S k + (r : EReal)) = (x : EReal) + r := by
    unfold refShift
    rw [ht', ← EReal.coe_add, if_pos]
    rw [← EReal.coe_neg]
    exact max_lt (EReal.coe_lt_top _) (EReal.coe_lt_top _)
  unfold kerOut refOut
  rw [hs, hx, add_coe_sub_coe]
  simp only [add_coe_sub_add]
  have hne : ∀ k, Ideal.exp (S k - x) ≠ ⊤ := fun k => by
    have hk : S k ≤ x := hx ▸ le_top_score S k
    generalize S k = s at hk ⊢
    induction s with
    | bot => exact EReal.zero_ne_top
    | top => exact absurd (top_le_iff.1 hk) (EReal.coe_ne_top x)
    | coe y => exact EReal.coe_ne_top (Real.exp (y - x))
  obtain ⟨k0, hk0⟩ := exists_top S
  have h1 : Ideal.exp (S k0 - x) = 1 := by
    rw [hk0, hx, ← EReal.coe_sub, sub_self]
    show ((Real.exp 0 : ℝ) : EReal) = 1
    rw [Real.exp_zero]; rfl
  have hT1 : 1 ≤ ∑ k, Ideal.exp (S k - x) := by
    have := Finset.single_le_sum (f := fun k => Ideal.exp (S k - x)) (fun l _ => exp_nonneg _) (Finset.mem_univ k0)
    rwa [h1] at this
  have hT : ∑ k, Ideal.exp (S k - x) ≠ 0 := fun h => by rw [h] at hT1; exact absurd hT1 (by norm_num)
  generalize hTe : ∑ k, Ideal.exp (S k - x) = T at hT1 hT
  rw [max_eq_left (hε1.trans hT1)]
  unfold Ideal.div
  simp only [if_neg hT, one_mul]
  have h0 : 0 ≤ T⁻¹ := EReal.inv_nonneg_of_nonneg (zero_le_one.trans hT1)
  have htop : T⁻¹ ≠ ⊤ := by
    have hpos : T ≠ ⊥ := fun h => by rw [h] at hT1; exact absurd (le_bot_iff.1 hT1) (EReal.coe_ne_bot 1)
    induction T with
    | bot => exact absurd rfl hpos
    | top => simp
    | coe t => rw [← EReal.coe_inv]; exact EReal.coe_ne_top _
  rw [sum_mul_of_nonneg h0 htop]
  exact Finset.sum_congr rfl fun k _ => mul_assoc _ _ _

/-- The kernel's value is the reference's, whatever the products, gates and values are. -/
theorem out_eq [Nonempty ι] {S S' V A c : ι → EReal} {cq ε : EReal} (hε : 0 < ε) (hε1 : ε ≤ 1)
    (h : ∀ k, (S k = ⊥ ∧ S' k = ⊥) ∨ (S k = A k + -(c k) ∧ S' k = A k + (cq - c k))) :
    kerOut S V cq = refOut S' V ε := by
  induction cq with
  | coe r =>
    have hS : S' = fun k => S k + (r : EReal) := funext fun k => by
      rcases h k with ⟨h1, h2⟩ | ⟨h1, h2⟩
      · rw [h1, h2]; rfl
      · rw [h1, h2, sub_eq_add_neg, add_comm (r : EReal), add_assoc]
    subst hS
    rcases eq_or_ne (top S) ⊤ with ht | ht
    · rw [refOut_zero hε (.inl (by rw [top_add_coe, ht]; rfl)), kerOut_zero fun k => .inl (by
        rw [add_coe_sub_coe, ht]; generalize S k = s
        induction s with
        | bot => rfl
        | top => rfl
        | coe y => rfl)]
    rcases eq_or_ne (top S) ⊥ with hb | hb
    · rw [refOut_zero hε (.inr (by rw [top_add_coe, hb]; rfl)), kerOut_zero fun k => .inl (by
        rw [add_coe_sub_coe, hb, show S k = ⊥ from le_bot_iff.1 (hb ▸ le_top_score S k)]; rfl)]
    · exact out_eq_real hε1 r (top S).toReal (EReal.coe_toReal ht hb).symm
  | top =>
    have hsh : top S + ⊤ - ⊤ = ⊥ := by rw [sub_eq_add_neg]; exact EReal.add_bot _
    rw [kerOut_zero, refOut_zero hε]
    · by_cases hex : ∃ k, S' k = ⊤
      · obtain ⟨k, hk⟩ := hex
        exact .inl (top_le_iff.1 (hk ▸ le_top_score S' k))
      · refine .inr (le_bot_iff.1 (Finset.sup_le fun k _ => ?_))
        have hk : S' k ≠ ⊤ := fun e => hex ⟨k, e⟩
        rcases h k with ⟨_, h2⟩ | ⟨_, h2⟩
        · exact h2.le
        · rw [h2] at hk ⊢
          generalize A k = a at hk ⊢
          generalize c k = b at hk ⊢
          induction b with
          | top => rw [sub_eq_add_neg]; exact (EReal.add_bot _).le
          | bot => induction a with
            | bot => exact le_refl _
            | top => exact absurd rfl hk
            | coe x => exact absurd rfl hk
          | coe y => induction a with
            | bot => exact le_refl _
            | top => exact absurd rfl hk
            | coe x => exact absurd rfl hk
    · intro k
      rw [hsh]
      generalize S k = s
      induction s with
      | bot => exact .inl rfl
      | top => exact .inr rfl
      | coe y => exact .inr rfl
  | bot =>
    have hsh : top S + ⊥ - ⊥ = ⊥ := by rw [EReal.add_bot]; rfl
    rw [kerOut_zero, refOut_zero hε]
    · refine .inr (le_bot_iff.1 (Finset.sup_le fun k _ => ?_))
      rcases h k with ⟨_, h2⟩ | ⟨_, h2⟩
      · exact h2.le
      · rw [h2, sub_eq_add_neg, EReal.bot_add, EReal.add_bot]
    · intro k
      rw [hsh]
      generalize S k = s
      induction s with
      | bot => exact .inl rfl
      | top => exact .inr rfl
      | coe y => exact .inr rfl

end Cert.FoxMath

end
-- ==== Proof.FoxKernelIdeal.Pay.lean ====
module

public import proofs.«01_k».proof.Proof.FoxKernelIdeal.Out
public import proofs.«01_k».proof.Proof.FoxMath
public import Idealize.ShloMosaic.Lib.Pointwise
public import Idealize.ShloMosaic.Lib.MatmulPlain

@[expose] public section

set_option maxRecDepth 65536

noncomputable section

namespace Cert.KernelIdeal.Fox

open Cert.KernelIdeal Cert.KernelIdeal.Gen Idealize.ShloMosaic Idealize.ShloMosaic.TcCoe Idealize.ShloMosaic.Tactic

theorem sup_eq_fold {ι : Type} [Fintype ι] (f : ι → EReal) : Finset.fold max (Ideal.ofBits FTy.f32 4286578688#32) f Finset.univ = Finset.univ.sup f := by
  have : Ideal.ofBits FTy.f32 4286578688#32 = (⊥ : EReal) := by simp [Ideal.ofBits, Ideal.ieee]
  rw [this]
  rfl

theorem sc_apply (q : FVec Ideal S256x256 .bf16) (k : Vec Ideal S1024x256 .bf16) (r : Fin 1024) (J : Fin 256) :
    sc q k (ix2 r J) = ∑ l : Fin 256, k (ix2 r l) * q (ix2 l J) := by
  pointwise [sc]

theorem pv_apply (h : FVec Ideal S1x256 .f32) (z : FVec Ideal S144x256 .f32) (s : FVec Ideal S1024x256 .f32) (v : Vec Ideal S144x1024 .bf16) (r : Fin 144) (J : Fin 256) :
    pv h z s v (ix2 r J) = z (ix2 r J) + ∑ k : Fin 1024, v (ix2 r k) * Ideal.exp (s (ix2 k J) - h (ix2 0 J)) := by
  pointwise [pv]

theorem pay8_apply (z : FVec Ideal S144x256 .f32) (J : Fin 256) (d : Fin 128) :
    k0_pay8 z (ix2 J d) = z (ix2 (⟨d.val, by omega⟩ : Fin 144) J) * Ideal.div 1 (z (ix2 (⟨128, by omega⟩ : Fin 144) J)) := by
  pointwise [k0_pay8]
  have e : ∀ h : ¬ J.val < 128, (⟨128 + (J.val - 128), by omega⟩ : Fin 256) = J := fun h => Fin.ext (by show 128 + (J.val - 128) = J.val; omega)
  split
  · rfl
  · next h => rw [e h]

theorem m0_apply (i) : m0 (F := Ideal) i = ⊥ := rfl
theorem z0_apply (i) : z0 (F := Ideal) i = 0 := by pointwise [z0]

theorem mx_apply (M : FVec Ideal S8x256 .f32) (s : FVec Ideal S1024x256 .f32) (a : Fin 8) (J : Fin 256) :
    mx M s (ix2 a J) = max (M (ix2 a J)) (Finset.univ.sup fun g : Fin 128 => s (ix2 (⟨g.val * 8 + a.val, by omega⟩ : Fin 1024) J)) := by
  pointwise [mx]
  rw [sup_eq_fold]

theorem sh_apply (cq : FVec Ideal S1x256 .f32) (M : FVec Ideal S8x256 .f32) (J : Fin 256) :
    sh cq M (ix2 0 J) = (Finset.univ.sup fun a : Fin 8 => M (ix2 a J)) + cq (ix2 0 J) - cq (ix2 0 J) := by
  pointwise [sh]
  rw [sup_eq_fold]

theorem pay34_apply (x : Vec Ideal S1x1x128x128 .bf16) (a b : Fin 128) : k0_pay34 x (ix2 a b) = x (ix4 0 0 b a) := by
  pointwise [k0_pay34]
theorem pay35_apply (a : Fin 4096) : k0_pay35 (F := Ideal) (ix2 0 a) = 1 := by
  pointwise [k0_pay35]
theorem pay36_apply (x : Vec Ideal S1x1x128x128 .bf16) (a b : Fin 128) : k0_pay36 x (ix2 a b) = x (ix4 0 0 a b) := by
  pointwise [k0_pay36]
theorem pay37_apply (x : Vec Ideal S1x1x1x128 .f32) (a b : Fin 128) : k0_pay37 x (ix2 a b) =
    if b.val = 0 then x (ix4 0 0 0 a) else if b.val = 1 then x (ix4 0 0 0 a) - x (ix4 0 0 0 a) else if b.val = 2 then (x (ix4 0 0 0 a) - x (ix4 0 0 0 a)) - (x (ix4 0 0 0 a) - x (ix4 0 0 0 a)) else 0 := by
  pointwise [k0_pay37]
  have e : ∀ n : ℕ, n < 128 → ∀ u w : EReal, Scalar.select (IntOp.cmpi CmpIPredicate.eq (BitVec.ofNat 32 b.val) (BitVec.ofNat 32 n)) u w = if b.val = n then u else w := by
    intro n hn u w
    have hb := b.isLt
    unfold Scalar.select IntOp.cmpi
    by_cases h : b.val = n
    · rw [if_pos h, h]; simp
    · have : BitVec.ofNat 32 b.val ≠ BitVec.ofNat 32 n := fun e => h (by
        have := congrArg BitVec.toNat e
        rw [BitVec.toNat_ofNat, BitVec.toNat_ofNat, Nat.mod_eq_of_lt (by omega), Nat.mod_eq_of_lt (by omega)] at this
        exact this)
      rw [if_neg h]; simp [beq_eq_false_iff_ne.mpr this]
  rw [e 0 (by decide), e 1 (by decide), e 2 (by decide)]
theorem pay38_apply (x : Vec Ideal S1x256x128 .bf16) (l : Fin 256) (J : Fin 256) : k0_pay38 x (ix2 l J) =
    if h : l.val < 128 then x (ix3 0 J ⟨l.val, h⟩) else if l.val < 131 then -1 else 0 := by
  pointwise [k0_pay38]
  have e : ∀ h : ¬ J.val < 128, (⟨128 + (J.val - 128), by omega⟩ : Fin 256) = J := fun h => Fin.ext (by show 128 + (J.val - 128) = J.val; omega)
  split
  · split
    · rfl
    · next h => rw [e h]
  · next h =>
    have hl := l.isLt
    have h1 : Ideal.ofBits FTy.f32 3212836864#32 = -1 := by
      rw [show (-1 : EReal) = ((-1 : ℝ) : EReal) from rfl]
      simp [Ideal.ofBits, Ideal.ieee, -EReal.coe_mul, -EReal.coe_neg]; norm_num
    rw [h1]
    generalize hj : l.val - 128 = j
    have : (l.val < 131) = (j < 3) := propext ⟨fun _ => by omega, fun _ => by omega⟩
    simp only [this]
    have hj' : j < 128 := by omega
    clear hj this
    unfold Scalar.select IntOp.cmpi
    have : (BitVec.ofNat 32 j).slt 3#32 = decide (j < 3) := by
      have : ∀ j : Fin 128, (BitVec.ofNat 32 j.val).slt 3#32 = decide (j.val < 3) := by decide +kernel
      exact this ⟨j, hj'⟩
    simp only [this]
    by_cases h3 : j < 3 <;> simp [h3]
theorem pay39_apply (x : Vec Ideal S1x1x1x256 .f32) (J : Fin 256) : k0_pay39 x (ix2 0 J) = x (ix4 0 0 0 J) := by
  pointwise [k0_pay39]

theorem sle_iff (i b r J : ℕ) (hi : i < 16) (hb : b < 4) (hr : r < 1024) (hJ : J < 256) :
    (BitVec.ofNat 32 r - BitVec.ofNat 32 J).sle (BitVec.ofNat 32 i * 256#32 - BitVec.ofNat 32 (1024 * b)) = decide (1024 * b + r ≤ 256 * i + J) := by
  have e1 : BitVec.ofNat 32 r - BitVec.ofNat 32 J = BitVec.ofInt 32 ((r : ℤ) - J) := by
    apply BitVec.eq_of_toInt_eq
    rw [BitVec.toInt_sub, BitVec.toInt_ofInt, BitVec.toInt_ofNat', BitVec.toInt_ofNat', Int.bmod_sub_bmod, Int.sub_bmod_bmod]
  have e2 : BitVec.ofNat 32 i * 256#32 - BitVec.ofNat 32 (1024 * b) = BitVec.ofInt 32 ((256 * i : ℤ) - 1024 * b) := by
    apply BitVec.eq_of_toInt_eq
    rw [show BitVec.ofNat 32 i * 256#32 = BitVec.ofNat 32 (i * 256) from (BitVec.ofNat_mul ..).symm,
      BitVec.toInt_sub, BitVec.toInt_ofInt, BitVec.toInt_ofNat', BitVec.toInt_ofNat', Int.bmod_sub_bmod, Int.sub_bmod_bmod]
    congr 1; push_cast; ring
  rw [e1, e2, BitVec.sle_eq_decide, BitVec.toInt_ofInt, BitVec.toInt_ofInt,
    Int.bmod_eq_of_le (by omega) (by omega), Int.bmod_eq_of_le (by omega) (by omega)]
  exact decide_eq_decide.mpr (by omega)

theorem msc_apply (i : grid0.Coords) (b : Fin 4) (q : FVec Ideal S256x256 .bf16) (k : Vec Ideal S1024x256 .bf16) (r : Fin 1024) (J : Fin 256) :
    msc (wB i (BitVec.ofNat 32 (1024 * b.val))) q k (ix2 r J) = if 1024 * b.val + r.val ≤ 256 * (i 2).val + J.val then sc q k (ix2 r J) else ⊥ := by
  have hi : (i 2).val < 16 := (i 2).isLt
  have hr := r.isLt
  have hJ := J.isLt
  have hb := b.isLt
  unfold msc wB
  pointwise [k0_pay1]
  have := sle_iff (i 2).val b.val r.val J.val hi hb hr hJ
  unfold Scalar.select IntOp.cmpi IntOp.subi Scalar.subi Scalar.muli
  simp only [IntOp.subi, IntOp.muli, this]
  by_cases h : 1024 * b.val + r.val ≤ 256 * (i 2).val + J.val <;> simp [h]
  rfl

end Cert.KernelIdeal.Fox

end
-- ==== Proof.FoxKernelIdeal.Sum.lean ====
module

public import proofs.«01_k».proof.Proof.FoxKernelIdeal.Pay
public import proofs.«01_k».proof.Proof.FoxMath
public import Idealize.ShloMosaic.Lib.Pointwise
public import Idealize.ShloMosaic.Lib.Pointwise.IndexBridge

@[expose] public section

set_option maxRecDepth 65536

noncomputable section

namespace Cert.KernelIdeal.Fox

open Cert.KernelIdeal Cert.KernelIdeal.Gen Idealize.ShloMosaic Idealize.ShloMosaic.TcCoe Idealize.ShloMosaic.Tactic

open Cert.FoxMath

variable (i : grid0.Coords) (q : FVec Ideal S256x256 .bf16) (y9 : Vec Ideal S4096x256 .bf16) (y8 : Vec Ideal S144x4096 .bf16)

/-- The score of one query of the block by one key: the product where the key is not later than the query. -/
def scr (J : Fin 256) (k : Fin 4096) : EReal :=
  if k.val ≤ 256 * (i 2).val + J.val then ∑ l : Fin 256, y9 (ix2 k l) * q (ix2 l J) else ⊥

/-- The scores of one block of keys. -/
def blk (o : ℕ) (ho : o + 1024 ≤ 4096) : FVec Ideal S1024x256 .f32 := fun y =>
  scr i q y9 ⟨(y 1).val, (y 1).isLt⟩ (⟨o + (y 0).val, by have h1 : (y 0).val < 1024 := (y 0).isLt; omega⟩ : Fin 4096)

theorem kB_apply (o : ℕ) (ho : o + 1024 ≤ 4096) (r : Fin 1024) (l : Fin 256) :
    kB y9 o ho (ix2 r l) = y9 (ix2 (⟨o + r.val, by omega⟩ : Fin 4096) l) := by
  rw [ix2_eq_valueIdx, ix2_eq_valueIdx]; rfl

theorem vB_apply (o : ℕ) (ho : o + 1024 ≤ 4096) (r : Fin 144) (k : Fin 1024) :
    vB y8 o ho (ix2 r k) = y8 (ix2 r (⟨o + k.val, by omega⟩ : Fin 4096)) := by
  rw [ix2_eq_valueIdx, ix2_eq_valueIdx]; rfl

theorem blk_apply (o : ℕ) (ho : o + 1024 ≤ 4096) (r : Fin 1024) (J : Fin 256) :
    blk i q y9 o ho (ix2 r J) = scr i q y9 J (⟨o + r.val, by omega⟩ : Fin 4096) := rfl

/-- A block of keys none of which is later than a query. -/
theorem sc_eq_blk (o : ℕ) (ho : o + 1024 ≤ 4096) (h : o + 1023 ≤ 256 * (i 2).val) : sc q (kB y9 o ho) = blk i q y9 o ho := by
  funext y
  obtain ⟨r, J, rfl⟩ : ∃ (r : Fin 1024) (J : Fin 256), y = ix2 r J := ⟨y 0, y 1, eq_ix2 y⟩
  have hr := r.isLt
  rw [sc_apply, blk_apply, scr, if_pos (by show o + r.val ≤ _; omega)]
  exact Finset.sum_congr rfl fun l _ => by rw [kB_apply]

/-- A block of keys under the mask. -/
theorem msc_eq_blk (b : Fin 4) (ho : 1024 * b.val + 1024 ≤ 4096) :
    msc (wB i (BitVec.ofNat 32 (1024 * b.val))) q (kB y9 (1024 * b.val) ho) = blk i q y9 (1024 * b.val) ho := by
  funext y
  obtain ⟨r, J, rfl⟩ : ∃ (r : Fin 1024) (J : Fin 256), y = ix2 r J := ⟨y 0, y 1, eq_ix2 y⟩
  rw [msc_apply, blk_apply, scr, sc_apply]
  refine if_congr Iff.rfl (Finset.sum_congr rfl fun l _ => by rw [kB_apply]) rfl

theorem msc_eq_blk0 : msc (wB i 0#32) q (kB y9 0 (by decide)) = blk i q y9 0 (by decide) :=
  msc_eq_blk i q y9 0 (by decide)
theorem msc_eq_blk1 : msc (wB i 1024#32) q (kB y9 1024 (by decide)) = blk i q y9 1024 (by decide) :=
  msc_eq_blk i q y9 1 (by decide)
theorem msc_eq_blk2 : msc (wB i 2048#32) q (kB y9 2048 (by decide)) = blk i q y9 2048 (by decide) :=
  msc_eq_blk i q y9 2 (by decide)
theorem msc_eq_blk3 : msc (wB i 3072#32) q (kB y9 3072 (by decide)) = blk i q y9 3072 (by decide) :=
  msc_eq_blk i q y9 3 (by decide)

/-- A block of keys all later than the queries. -/
theorem blk_bot (o : ℕ) (ho : o + 1024 ≤ 4096) (h : 256 * (i 2).val + 255 < o) : blk i q y9 o ho = fun _ => ⊥ := by
  funext y
  have h1 : (y 1).val < 256 := (y 1).isLt
  exact if_neg (by show ¬ o + (y 0).val ≤ 256 * (i 2).val + (y 1).val; omega)

theorem mx_bot (M : FVec Ideal S8x256 .f32) : mx M (fun _ => (⊥ : EReal)) = M := by
  funext y
  obtain ⟨a, J, rfl⟩ : ∃ (a : Fin 8) (J : Fin 256), y = ix2 a J := ⟨y 0, y 1, eq_ix2 y⟩
  rw [mx_apply]
  exact max_eq_left ((Finset.sup_le fun _ _ => le_refl _).trans bot_le)

theorem pv_bot (h : FVec Ideal S1x256 .f32) (z : FVec Ideal S144x256 .f32) (v : Vec Ideal S144x1024 .bf16) :
    pv h z (fun _ => (⊥ : EReal)) v = z := by
  funext y
  obtain ⟨a, J, rfl⟩ : ∃ (a : Fin 144) (J : Fin 256), y = ix2 a J := ⟨y 0, y 1, eq_ix2 y⟩
  rw [pv_apply, Finset.sum_eq_zero, add_zero]
  intro k _
  rw [show (⊥ : EReal) - h (ix2 0 J) = ⊥ from by rw [sub_eq_add_neg]; exact EReal.bot_add _]
  exact mul_zero _

/-- The running maximum after the four blocks. -/
def mx4 : FVec Ideal S8x256 .f32 :=
  mx (mx (mx (mx m0 (blk i q y9 0 (by decide))) (blk i q y9 1024 (by decide))) (blk i q y9 2048 (by decide))) (blk i q y9 3072 (by decide))

/-- The sums after the four blocks. -/
def pv4 (h : FVec Ideal S1x256 .f32) : FVec Ideal S144x256 .f32 :=
  pv h (pv h (pv h (pv h z0 (blk i q y9 0 (by decide)) (vB y8 0 (by decide))) (blk i q y9 1024 (by decide)) (vB y8 1024 (by decide)))
    (blk i q y9 2048 (by decide)) (vB y8 2048 (by decide))) (blk i q y9 3072 (by decide)) (vB y8 3072 (by decide))

theorem mx4_top (J : Fin 256) : (Finset.univ.sup fun a : Fin 8 => mx4 i q y9 (ix2 a J)) = top (scr i q y9 J) := by
  unfold top mx4
  simp only [mx_apply, m0_apply, blk_apply]
  refine eq_of_forall_ge_iff fun c => ?_
  simp only [Finset.sup_le_iff, Finset.mem_univ, forall_true_left, max_le_iff, bot_le, true_and]
  constructor
  · intro h k
    have hk := k.isLt
    have h' := h ⟨k.val % 8, Nat.mod_lt _ (by decide)⟩
    have e : ∀ (o : ℕ) (ho : o + 1024 ≤ 4096), o % 8 = 0 → o ≤ k.val → (hk' : k.val < o + 1024) →
        (∀ g : Fin 128, scr i q y9 J ⟨o + (g.val * 8 + k.val % 8), by have := g.isLt; omega⟩ ≤ c) → scr i q y9 J k ≤ c := by
      intro o ho h8 h1 h2 hh
      have := hh ⟨(k.val - o) / 8, by omega⟩
      have hfe : (⟨o + ((k.val - o) / 8 * 8 + k.val % 8), by omega⟩ : Fin 4096) = k := Fin.ext (by show o + ((k.val - o) / 8 * 8 + k.val % 8) = k.val; omega)
      rw [← hfe]
      exact this
    by_cases c1 : k.val < 1024
    · exact e 0 (by decide) (by decide) (by omega) (by omega) h'.1.1.1
    by_cases c2 : k.val < 2048
    · exact e 1024 (by decide) (by decide) (by omega) (by omega) h'.1.1.2
    by_cases c3 : k.val < 3072
    · exact e 2048 (by decide) (by decide) (by omega) (by omega) h'.1.2
    · exact e 3072 (by decide) (by decide) (by omega) (by omega) h'.2
  · intro h a
    exact ⟨⟨⟨fun g => h _, fun g => h _⟩, fun g => h _⟩, fun g => h _⟩

theorem tile_eq (o : ℕ) (j : Fin 4) (k : Fin 1024) (ho : o + 1024 ≤ 4096) (h : o = j.val * 1024) :
    (⟨o + k.val, by omega⟩ : Fin 4096) = ⟨j.val * 1024 + k.val, by omega⟩ := Fin.ext (by show o + k.val = j.val * 1024 + k.val; rw [h])

theorem pv4_apply (h : FVec Ideal S1x256 .f32) (r : Fin 144) (J : Fin 256) :
    pv4 i q y9 y8 h (ix2 r J) = ∑ k : Fin 4096, y8 (ix2 r k) * Ideal.exp (scr i q y9 J k - h (ix2 0 J)) := by
  unfold pv4
  simp only [pv_apply, z0_apply, blk_apply, vB_apply, zero_add]
  rw [Fin.sum_univ_tiles (N := 4096) 4 1024 (by decide), Fin.sum_univ_four]
  refine congrArg₂ (· + ·) (congrArg₂ (· + ·) (congrArg₂ (· + ·) ?_ ?_) ?_) ?_ <;> refine Finset.sum_congr rfl fun k _ => ?_
  · rw [show (⟨((0 : Fin 4).val * 1024 + k.val), by have := k.isLt; show 0 * 1024 + k.val < 4096; omega⟩ : Fin 4096) = ⟨k.val, by omega⟩ from Fin.ext (by show 0 * 1024 + k.val = k.val; omega)]
  · rw [tile_eq 1024 1 k (by decide) (by decide)]
  · rw [tile_eq 2048 2 k (by decide) (by decide)]
  · rw [tile_eq 3072 3 k (by decide) (by decide)]

/-- The block's result at one query and lane, where the table of values has a row of ones below the lanes. -/
theorem pay8_pv4 (cq : FVec Ideal S1x256 .f32) (h1 : ∀ k, y8 (ix2 (⟨128, by omega⟩ : Fin 144) k) = 1) (J : Fin 256) (d : Fin 128) :
    k0_pay8 (pv4 i q y9 y8 (sh cq (mx4 i q y9))) (ix2 J d) =
      kerOut (scr i q y9 J) (fun k => y8 (ix2 (⟨d.val, by omega⟩ : Fin 144) k)) (cq (ix2 0 J)) := by
  rw [pay8_apply, pv4_apply, pv4_apply, sh_apply, mx4_top]
  simp only [h1, one_mul]
  rfl

theorem slab_apply (x : Vec Ideal S1x1x4096x128 .bf16) (g : Fin 32) (a b : Fin 128) :
    slab x g (ix4 0 0 a b) = x (ix4 0 0 (⟨128 * g.val + a.val, by omega⟩ : Fin 4096) b) := by
  rw [ix4_eq_valueIdx, ix4_eq_valueIdx]; rfl

theorem crow_apply (x : Vec Ideal S1x1x1x4096 .f32) (g : Fin 32) (a : Fin 128) :
    crow x g (ix4 0 0 0 a) = x (ix4 0 0 0 (⟨128 * g.val + a.val, by omega⟩ : Fin 4096)) := by
  rw [ix4_eq_valueIdx, ix4_eq_valueIdx]; rfl

theorem key_eq (k : Fin 4096) (h : 128 * (k.val / 128) + k.val % 128 < 4096) : (⟨128 * (k.val / 128) + k.val % 128, h⟩ : Fin 4096) = k :=
  Fin.ext (Nat.div_add_mod _ _)

theorem vtab_apply (x2 : Vec Ideal S1x1x4096x128 .bf16) (d : Fin 128) (k : Fin 4096) :
    vtab x2 (ix2 (⟨d.val, by omega⟩ : Fin 144) k) = x2 (ix4 0 0 k d) := by
  have hd : d.val < 128 := d.isLt
  refine (dif_pos hd).trans ?_
  rw [← ix2_eq_valueIdx, pay34_apply, slab_apply]
  exact congrArg (fun z : Fin 4096 => x2 (ix4 0 0 z d)) (key_eq k (by have := k.isLt; omega))

theorem vtab_one (x2 : Vec Ideal S1x1x4096x128 .bf16) (k : Fin 4096) : vtab x2 (ix2 (⟨128, by omega⟩ : Fin 144) k) = 1 := by
  refine (dif_neg (by show ¬ (128 : ℕ) < 128; omega)).trans ?_
  rw [← ix2_eq_valueIdx]
  exact pay35_apply k

theorem ktab_lo (x1 : Vec Ideal S1x1x4096x128 .bf16) (x3 : Vec Ideal S1x1x1x4096 .f32) (k : Fin 4096) (l : Fin 128) :
    ktab x1 x3 (ix2 k (⟨l.val, by omega⟩ : Fin 256)) = x1 (ix4 0 0 k l) := by
  have hd : l.val < 128 := l.isLt
  refine (dif_pos hd).trans ?_
  rw [← ix2_eq_valueIdx, pay36_apply, slab_apply]
  exact congrArg (fun z : Fin 4096 => x1 (ix4 0 0 z l)) (key_eq k (by have := k.isLt; omega))

theorem ktab_hi (x1 : Vec Ideal S1x1x4096x128 .bf16) (x3 : Vec Ideal S1x1x1x4096 .f32) (k : Fin 4096) (l : Fin 128) :
    ktab x1 x3 (ix2 k (⟨128 + l.val, by omega⟩ : Fin 256)) =
      if l.val = 0 then x3 (ix4 0 0 0 k) else if l.val = 1 then x3 (ix4 0 0 0 k) - x3 (ix4 0 0 0 k)
      else if l.val = 2 then (x3 (ix4 0 0 0 k) - x3 (ix4 0 0 0 k)) - (x3 (ix4 0 0 0 k) - x3 (ix4 0 0 0 k)) else 0 := by
  refine (dif_neg (by show ¬ 128 + l.val < 128; omega)).trans ?_
  rw [← ix2_eq_valueIdx, pay37_apply, crow_apply]
  refine Eq.trans ?_ (congrArg (fun z : Fin 4096 => if l.val = 0 then x3 (ix4 0 0 0 z) else if l.val = 1 then x3 (ix4 0 0 0 z) - x3 (ix4 0 0 0 z)
      else if l.val = 2 then (x3 (ix4 0 0 0 z) - x3 (ix4 0 0 0 z)) - (x3 (ix4 0 0 0 z) - x3 (ix4 0 0 0 z)) else 0) (key_eq k (by have := k.isLt; omega)))
  refine if_congr (by show 128 + l.val - 128 = 0 ↔ _; omega) rfl (if_congr (by show 128 + l.val - 128 = 1 ↔ _; omega) rfl
    (if_congr (by show 128 + l.val - 128 = 2 ↔ _; omega) rfl rfl))

theorem aug_sum (c : EReal) : c * (-1) + (c - c) * (-1) + ((c - c) - (c - c)) * (-1) = -c := by
  simp only [mul_neg, mul_one]
  induction c with
  | bot => simp [sub_eq_add_neg]
  | top => simp [sub_eq_add_neg]
  | coe r =>
    have h : (r : EReal) - r = 0 := by rw [← EReal.coe_sub, sub_self]; rfl
    rw [h]
    simp

/-- The table of keys by the block's queries: the product less the key's gate. -/
theorem score (x0 : Vec Ideal S1x256x128 .bf16) (x1 : Vec Ideal S1x1x4096x128 .bf16) (x3 : Vec Ideal S1x1x1x4096 .f32) (k : Fin 4096) (J : Fin 256) :
    ∑ l : Fin 256, ktab x1 x3 (ix2 k l) * k0_pay38 x0 (ix2 l J) =
      (∑ l : Fin 128, x1 (ix4 0 0 k l) * x0 (ix3 0 J l)) + -(x3 (ix4 0 0 0 k)) := by
  have hk := k.isLt
  rw [Fin.sum_univ_two_halves 128 128 (by decide)]
  refine congrArg₂ (· + ·) (Finset.sum_congr rfl fun l _ => ?_) ?_
  · rw [ktab_lo, pay38_apply, dif_pos l.isLt]
  · have e : ∀ l : Fin 128, k0_pay38 x0 (ix2 (⟨128 + l.val, by omega⟩ : Fin 256) J) = if l.val < 3 then -1 else 0 := fun l => by
      rw [pay38_apply, dif_neg (by show ¬ 128 + l.val < 128; omega)]
      exact if_congr (by show 128 + l.val < 131 ↔ _; omega) rfl rfl
    simp only [ktab_hi, e]
    rw [Fin.sum_univ_two_halves 3 125 (by decide), Fin.sum_univ_three, Finset.sum_eq_zero (s := (Finset.univ : Finset (Fin 125))), add_zero]
    · exact aug_sum _
    · intro l _
      exact (congrArg (_ * ·) (if_neg (by show ¬ 3 + l.val < 3; omega))).trans (mul_zero _)

section Point

variable (m : (ℓ : Loc nD τ sig) → Buf (Elt Ideal) ℓ) (c : Dev nD) (t : Fin cfg0.N)

/-- The block of queries of a grid point. -/
def X0 : Vec Ideal S1x256x128 .bf16 := iblk m c 0 t
/-- The keys of a grid point. -/
def X1 : Vec Ideal S1x1x4096x128 .bf16 := iblk m c 1 t
/-- The values of a grid point. -/
def X2 : Vec Ideal S1x1x4096x128 .bf16 := iblk m c 2 t
/-- The cumulated gates of a grid point. -/
def X3 : Vec Ideal S1x1x1x4096 .f32 := iblk m c 3 t

theorem cqB_apply (i : grid0.Coords) (x3 : Vec Ideal S1x1x1x4096 .f32) (J : Fin 256) (n : ℕ) (h : (i 2).val = n) (h16 : n < 16) :
    cqB i x3 (ix4 0 0 0 J) = x3 (ix4 0 0 0 (⟨256 * n + J.val, by omega⟩ : Fin 4096)) := by
  subst h
  rw [ix4_eq_valueIdx, ix4_eq_valueIdx]; rfl

/-- What a grid point writes, at one query and lane. -/
theorem outAt_apply (J : Fin 256) (d : Fin 128) :
    outAt m c t (ix2 J d) = kerOut (fun k : Fin 4096 => if k.val ≤ 256 * (t.val % 16) + J.val then
        (∑ l : Fin 128, X1 m c t (ix4 0 0 k l) * X0 m c t (ix3 0 J l)) + -(X3 m c t (ix4 0 0 0 k)) else ⊥)
      (fun k => X2 m c t (ix4 0 0 k d))
      (X3 m c t (ix4 0 0 0 (⟨256 * (t.val % 16) + J.val, by omega⟩ : Fin 4096))) := by
  have main : outAt m c t = k0_pay8 (pv4 (grid0.coords t) (k0_pay38 (X0 m c t)) (ktab (X1 m c t) (X3 m c t)) (vtab (X2 m c t))
      (sh (k0_pay39 (cqB (grid0.coords t) (X3 m c t))) (mx4 (grid0.coords t) (k0_pay38 (X0 m c t)) (ktab (X1 m c t) (X3 m c t))))) := by
    have hc := coords2 t
    have hlt : t.val % 16 < 16 := Nat.mod_lt _ (by decide)
    unfold outAt
    split
    · next h2 =>
      have q2 := (hcond2 t).1 h2
      split
      · next h3 =>
        have q3 := (hcond3 t q2).1 h3
        split
        · next h4 =>
          have q4 := (hcond4 t q3).1 h4
          rw [outE_eq]
          rw [sc_eq_blk (grid0.coords t) _ _ 0 (by decide) (by omega), sc_eq_blk (grid0.coords t) _ _ 1024 (by decide) (by omega), sc_eq_blk (grid0.coords t) _ _ 2048 (by decide) (by omega)]
          rw [msc_eq_blk3]
          rfl
        · next h4 =>
          have q4 := mt (hcond4 t q3).2 h4
          rw [outD_eq]
          rw [sc_eq_blk (grid0.coords t) _ _ 0 (by decide) (by omega), sc_eq_blk (grid0.coords t) _ _ 1024 (by decide) (by omega)]
          rw [msc_eq_blk2]
          unfold pv4 mx4
          rw [blk_bot (grid0.coords t) _ _ 3072 (by decide) (by omega), mx_bot, pv_bot]
          rfl
      · next h3 =>
        have q3 := mt (hcond3 t q2).2 h3
        rw [outC_eq]
        rw [sc_eq_blk (grid0.coords t) _ _ 0 (by decide) (by omega)]
        rw [msc_eq_blk1]
        unfold pv4 mx4
        rw [blk_bot (grid0.coords t) _ _ 3072 (by decide) (by omega), blk_bot (grid0.coords t) _ _ 2048 (by decide) (by omega), mx_bot, pv_bot, mx_bot, pv_bot]
        rfl
    · next h2 =>
      have q2 := mt (hcond2 t).2 h2
      rw [outRest_eq]
      rw [msc_eq_blk0]
      unfold pv4 mx4
      rw [blk_bot (grid0.coords t) _ _ 3072 (by decide) (by omega), blk_bot (grid0.coords t) _ _ 2048 (by decide) (by omega), blk_bot (grid0.coords t) _ _ 1024 (by decide) (by omega)]
      simp only [mx_bot, pv_bot]
      rfl
  rw [main, pay8_pv4 _ _ _ _ _ (vtab_one _)]
  unfold scr
  simp only [vtab_apply, coords2, pay39_apply]
  simp only [show ∀ k, (∑ l : Fin 256, ktab (X1 m c t) (X3 m c t) (ix2 k l) * k0_pay38 (X0 m c t) (ix2 l J)) = _ from fun k => score _ _ _ k J]
  rw [cqB_apply _ _ J _ (coords2 t) (Nat.mod_lt _ (by decide))]

end Point

end Cert.KernelIdeal.Fox

end
-- ==== Proof.FoxKernelIdeal.Final.lean ====
module

public import proofs.«01_k».proof.Proof.FoxKernelIdeal.Sum
public import Idealize.ShloMosaic.Lib.Pipeline.Value
public import Idealize.ShloMosaic.Lib.StableHlo.RunRead

@[expose] public section

noncomputable section

namespace Cert.KernelIdeal.Fox

open Cert.KernelIdeal Cert.KernelIdeal.Gen Idealize.ShloMosaic Idealize.ShloMosaic.TcCoe Idealize.ShloMosaic.Tactic Idealize.SL.Sem
open Idealize.ShloMosaic.Pipeline (Dat)
open Cert.FoxMath

variable (m : (ℓ : Loc nD τ sig) → Buf (Elt Ideal) ℓ) (c : Dev nD)

/-- The projections, as launched. -/
def A0 : Vec Ideal S56x8192x128 .bf16 := m ((c : Thread nD τ).loc main_arg0)
/-- The cumulated gates, as launched. -/
def A1 : Vec Ideal S2x8x4096 .f32 := m ((c : Thread nD τ).loc main_arg1)

theorem V_v0 : V m c main_v0 = shapeCast S56x2x4096x128 (A0 m c) shapeCasts_S56x8192x128_S56x2x4096x128 := by
  unfold V hostOps0 A0
  after_results_simp <;> rfl

theorem V_v1 : V m c main_v1 = broadcastInDim S2x8x1x4096 ![0, 1, 3] bcast_S2x8x4096_S2x8x1x4096_0_1_3 (A1 m c) := by
  unfold V hostOps0 A1
  after_results_simp <;> rfl

theorem idx0 (t : Fin cfg0.N) : win0_0.index t = ![32 + t.val / 16 % 8, t.val / 128 * 16 + t.val % 16, 0] :=
  (by decide +kernel : ∀ t : Fin grid0.N, win0_0.index t = ![32 + t.val / 16 % 8, t.val / 128 * 16 + t.val % 16, 0]) t
theorem idx1 (t : Fin cfg0.N) : win0_1.index t = ![40 + t.val / 16 % 8, t.val / 128, 0, 0] :=
  (by decide +kernel : ∀ t : Fin grid0.N, win0_1.index t = ![40 + t.val / 16 % 8, t.val / 128, 0, 0]) t
theorem idx2 (t : Fin cfg0.N) : win0_2.index t = ![48 + t.val / 16 % 8, t.val / 128, 0, 0] :=
  (by decide +kernel : ∀ t : Fin grid0.N, win0_2.index t = ![48 + t.val / 16 % 8, t.val / 128, 0, 0]) t
theorem idx3 (t : Fin cfg0.N) : win0_3.index t = ![t.val / 128, t.val / 16 % 8, 0, 0] :=
  (by decide +kernel : ∀ t : Fin grid0.N, win0_3.index t = ![t.val / 128, t.val / 16 % 8, 0, 0]) t
theorem idx4 (t : Fin cfg0.N) : win0_4.index t = ![t.val / 128 * 16 + t.val % 16, t.val / 16 % 8] :=
  (by decide +kernel : ∀ t : Fin grid0.N, win0_4.index t = ![t.val / 128 * 16 + t.val % 16, t.val / 16 % 8]) t

theorem t_lt (t : Fin cfg0.N) : t.val < 256 := lt_of_lt_of_eq t.isLt N_0

/-- One element of the projections: plane, prompt, position, lane. -/
def P (a : Fin 56) (b : Fin 2) (s : Fin 4096) (l : Fin 128) : EReal := A0 m c (ix3 a (⟨4096 * b.val + s.val, by omega⟩ : Fin 8192) l)

theorem v0_apply (a : Fin 56) (b : Fin 2) (s : Fin 4096) (l : Fin 128) :
    shapeCast S56x2x4096x128 (A0 m c) shapeCasts_S56x8192x128_S56x2x4096x128 (ix4 a b s l) = P m c a b s l := by
  pointwise
  exact congrArg (fun z : Fin 8192 => A0 m c (ix3 a z l)) (Fin.ext (by show b.val * 4096 + s.val = 4096 * b.val + s.val; omega))

theorem v1_apply (b : Fin 2) (h : Fin 8) (s : Fin 4096) :
    broadcastInDim S2x8x1x4096 ![0, 1, 3] bcast_S2x8x4096_S2x8x1x4096_0_1_3 (A1 m c) (ix4 b h 0 s) = A1 m c (ix3 b h s) := by
  pointwise

variable (t : Fin cfg0.N)

theorem X0_apply (r : Fin 256) (l : Fin 128) : X0 m c t (ix3 0 r l) =
    P m c ⟨32 + t.val / 16 % 8, by omega⟩ ⟨t.val / 128, by have := t_lt t; omega⟩ ⟨256 * (t.val % 16) + r.val, by omega⟩ l := by
  show V m c main_arg0 _ = A0 m c _
  rw [V_main_arg0]
  refine congrArg (A0 m c) (funext fun a => Fin.ext ?_)
  have := t_lt t
  match a with
  | ⟨0, _⟩ => show win0_0.index t 0 * 1 + 1 * 0 = 32 + t.val / 16 % 8; rw [idx0]; show (32 + t.val / 16 % 8) * 1 + 1 * 0 = _; omega
  | ⟨1, _⟩ => show win0_0.index t 1 * 256 + 1 * r.val = 4096 * (t.val / 128) + (256 * (t.val % 16) + r.val); rw [idx0]; show (t.val / 128 * 16 + t.val % 16) * 256 + 1 * r.val = _; omega
  | ⟨2, _⟩ => show win0_0.index t 2 * 128 + 1 * l.val = l.val; rw [idx0]; show 0 * 128 + 1 * l.val = _; omega

theorem X1_apply (k : Fin 4096) (l : Fin 128) : X1 m c t (ix4 0 0 k l) =
    P m c ⟨40 + t.val / 16 % 8, by omega⟩ ⟨t.val / 128, by have := t_lt t; omega⟩ k l := by
  rw [← v0_apply, ← V_v0]
  refine congrArg (V m c main_v0) (funext fun a => Fin.ext ?_)
  match a with
  | ⟨0, _⟩ => show win0_1.index t 0 * 1 + 1 * 0 = 40 + t.val / 16 % 8; rw [idx1]; show (40 + t.val / 16 % 8) * 1 + 1 * 0 = _; omega
  | ⟨1, _⟩ => show win0_1.index t 1 * 1 + 1 * 0 = _; rw [idx1]; show t.val / 128 * 1 + 1 * 0 = t.val / 128; omega
  | ⟨2, _⟩ => show win0_1.index t 2 * 4096 + 1 * k.val = k.val; rw [idx1]; show 0 * 4096 + 1 * k.val = _; omega
  | ⟨3, _⟩ => show win0_1.index t 3 * 128 + 1 * l.val = l.val; rw [idx1]; show 0 * 128 + 1 * l.val = _; omega

theorem X2_apply (k : Fin 4096) (l : Fin 128) : X2 m c t (ix4 0 0 k l) =
    P m c ⟨48 + t.val / 16 % 8, by omega⟩ ⟨t.val / 128, by have := t_lt t; omega⟩ k l := by
  rw [← v0_apply, ← V_v0]
  refine congrArg (V m c main_v0) (funext fun a => Fin.ext ?_)
  match a with
  | ⟨0, _⟩ => show win0_2.index t 0 * 1 + 1 * 0 = 48 + t.val / 16 % 8; rw [idx2]; show (48 + t.val / 16 % 8) * 1 + 1 * 0 = _; omega
  | ⟨1, _⟩ => show win0_2.index t 1 * 1 + 1 * 0 = _; rw [idx2]; show t.val / 128 * 1 + 1 * 0 = t.val / 128; omega
  | ⟨2, _⟩ => show win0_2.index t 2 * 4096 + 1 * k.val = k.val; rw [idx2]; show 0 * 4096 + 1 * k.val = _; omega
  | ⟨3, _⟩ => show win0_2.index t 3 * 128 + 1 * l.val = l.val; rw [idx2]; show 0 * 128 + 1 * l.val = _; omega

theorem X3_apply (k : Fin 4096) : X3 m c t (ix4 0 0 0 k) =
    A1 m c (ix3 ⟨t.val / 128, by have := t_lt t; omega⟩ ⟨t.val / 16 % 8, by omega⟩ k) := by
  rw [← v1_apply, ← V_v1]
  refine congrArg (V m c main_v1) (funext fun a => Fin.ext ?_)
  match a with
  | ⟨0, _⟩ => show win0_3.index t 0 * 1 + 1 * 0 = _; rw [idx3]; show t.val / 128 * 1 + 1 * 0 = t.val / 128; omega
  | ⟨1, _⟩ => show win0_3.index t 1 * 1 + 1 * 0 = _; rw [idx3]; show t.val / 16 % 8 * 1 + 1 * 0 = t.val / 16 % 8; omega
  | ⟨2, _⟩ => show win0_3.index t 2 * 1 + 1 * 0 = _; rw [idx3]; rfl
  | ⟨3, _⟩ => show win0_3.index t 3 * 4096 + 1 * k.val = k.val; rw [idx3]; show 0 * 4096 + 1 * k.val = _; omega

/-- One element of the attention of the prompts: prompt, head, position, lane. -/
def att (b : Fin 2) (h : Fin 8) (q : Fin 4096) (d : Fin 128) : EReal :=
  kerOut (fun k : Fin 4096 => if k.val ≤ q.val then
      (∑ l : Fin 128, P m c ⟨40 + h.val, by omega⟩ b k l * P m c ⟨32 + h.val, by omega⟩ b q l) + -(A1 m c (ix3 b h k)) else ⊥)
    (fun k => P m c ⟨48 + h.val, by omega⟩ b k d) (A1 m c (ix3 b h q))

theorem outAt_att (J : Fin 256) (d : Fin 128) : outAt m c t (ix2 J d) =
    att m c ⟨t.val / 128, by have := t_lt t; omega⟩ ⟨t.val / 16 % 8, by omega⟩ ⟨256 * (t.val % 16) + J.val, by omega⟩ d := by
  rw [outAt_apply]
  unfold att
  simp only [X0_apply, X1_apply, X2_apply, X3_apply]

/-- What the result array ends holding. -/
def G : Buf (Elt Ideal) ((c : Thread nD τ).loc main_v2) := fun (i : S8192x1024.Idx) =>
  att m c ⟨(i 0).val / 4096, by have h : (i 0).val < 8192 := (i 0).isLt; omega⟩ ⟨(i 1).val / 128, by have h : (i 1).val < 1024 := (i 1).isLt; omega⟩
    ⟨(i 0).val % 4096, Nat.mod_lt _ (by decide)⟩ ⟨(i 1).val % 128, Nat.mod_lt _ (by decide)⟩

theorem att_congr {b b' : Fin 2} {h h' : Fin 8} {q q' : Fin 4096} {d d' : Fin 128} (e1 : b.val = b'.val) (e2 : h.val = h'.val) (e3 : q.val = q'.val) (e4 : d.val = d'.val) :
    att m c b h q d = att m c b' h' q' d' := by
  rw [Fin.ext e1, Fin.ext e2, Fin.ext e3, Fin.ext e4]

theorem flushed_eq : (dats m 0 c).flushed 4 t = ((cfg0.win 4).blk t).view.read (Elt Ideal) (G m c) := by
  have ht := t_lt t
  funext y
  obtain ⟨J, d, rfl⟩ : ∃ (J : Fin 256) (d : Fin 128), y = ix2 J d := ⟨y 0, y 1, eq_ix2 y⟩
  have hb0 : (((cfg0.win 4).blk t).view.emb (ix2 J d) 0).val = win0_4.index t (0 : Fin 2) * 256 + 1 * J.val := rfl
  have hb1 : (((cfg0.win 4).blk t).view.emb (ix2 J d) 1).val = win0_4.index t (1 : Fin 2) * 128 + 1 * d.val := rfl
  have q0 : win0_4.index t (0 : Fin 2) = t.val / 128 * 16 + t.val % 16 := congrFun (idx4 t) 0
  have q1 : win0_4.index t (1 : Fin 2) = t.val / 16 % 8 := congrFun (idx4 t) 1
  refine Eq.trans (b := outAt m c t (ix2 J d)) rfl ?_
  rw [outAt_att]
  refine att_congr m c ?_ ?_ ?_ ?_
  · show _ = (((cfg0.win 4).blk t).view.emb (ix2 J d) 0).val / 4096; rw [hb0, q0]; show t.val / 128 = _; omega
  · show _ = (((cfg0.win 4).blk t).view.emb (ix2 J d) 1).val / 128; rw [hb1, q1]; show t.val / 16 % 8 = _; omega
  · show _ = (((cfg0.win 4).blk t).view.emb (ix2 J d) 0).val % 4096; rw [hb0, q0]; show 256 * (t.val % 16) + J.val = _; omega
  · show _ = (((cfg0.win 4).blk t).view.emb (ix2 J d) 1).val % 128; rw [hb1, q1]; omega

theorem mem_blk (i : S8192x1024.Idx) :
    i ∈ ((cfg0.win 4).blk t).view.set ↔ ∀ a : Fin 2, win0_4.index t a * S256x128.size a ≤ (i a).val ∧ (i a).val < win0_4.index t a * S256x128.size a + S256x128.size a := by
  show i ∈ ((View.whole main_v2).slice (win0_4.rect t)).set ↔ _
  rw [View.set_slice_whole, Rect.mem_set_unit]
  exact Iff.rfl

theorem final : (dats m 0 c).arrAt 4 cfg0.N = G m c :=
  (dats m 0 c).arrAt_eq_of_cover 4 _ (fun t _ => flushed_eq m c t) (fun (i : S8192x1024.Idx) => by
    have h0 : (i 0).val < 8192 := (i 0).isLt
    have h1 : (i 1).val < 1024 := (i 1).isLt
    let t : Fin cfg0.N := ⟨((i 0).val / 4096 * 8 + (i 1).val / 128) * 16 + (i 0).val / 256 % 16, lt_of_lt_of_eq (by omega) N_0.symm⟩
    have htv : t.val = ((i 0).val / 4096 * 8 + (i 1).val / 128) * 16 + (i 0).val / 256 % 16 := rfl
    have q0 : win0_4.index t (0 : Fin 2) = t.val / 128 * 16 + t.val % 16 := congrFun (idx4 t) 0
    have q1 : win0_4.index t (1 : Fin 2) = t.val / 16 % 8 := congrFun (idx4 t) 1
    refine ⟨t, flush0_4 t, ?_⟩
    rw [mem_blk]
    intro a
    match a with
    | ⟨0, _⟩ => show win0_4.index t (0 : Fin 2) * 256 ≤ (i 0).val ∧ (i 0).val < win0_4.index t (0 : Fin 2) * 256 + 256; rw [q0, htv]; omega
    | ⟨1, _⟩ => show win0_4.index t (1 : Fin 2) * 128 ≤ (i 1).val ∧ (i 1).val < win0_4.index t (1 : Fin 2) * 128 + 128; rw [q1, htv]; omega)

/-- Every execution ends with the attention in the result array and the arguments unchanged. -/
theorem run (ρ : Dev nD → PrngReg) : θ_run defs (onTc (τ := τ) (main (F := Ideal))) ⟨m, fun _ => 0, ρ⟩ fun r => ∀ c : Dev nD,
      r.2.mem ((c : Thread nD τ).loc main_v2) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 4).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c)⟩)
    (run_main m ρ)

end Cert.KernelIdeal.Fox

end
-- ==== Proof.FoxReference.lean ====
module

public import proofs.«01_k».proof.Proof.FoxMath
public import proofs.«01_k».proof.Proof.Gen.ReferenceIdeal.Read
public import Idealize.ShloMosaic.Lib.Pointwise
public import Idealize.ShloMosaic.Lib.Pointwise.IndexBridge
public import Idealize.ShloMosaic.Lib.KernelVsHost

@[expose] public section

noncomputable section

namespace Cert.ReferenceIdeal.FoxRead

open Cert.ReferenceIdeal Cert.ReferenceIdeal.Gen Cert.ReferenceIdeal.Read Idealize.ShloMosaic Idealize.ShloMosaic.TcCoe Cert.FoxMath

variable (x0 : (⟨S56x8192x128, .bf16⟩ : BufTy).Contents (Elt Ideal)) (x1 : (⟨S2x8x4096, .f32⟩ : BufTy).Contents (Elt Ideal))

/-- One element of the projections: plane, prompt, position, lane. -/
def P (a : Fin 56) (b : Fin 2) (s : Fin 4096) (l : Fin 128) : EReal := x0 (ix3 a (⟨4096 * b.val + s.val, by omega⟩ : Fin 8192) l)

theorem cell_v1 (a : Fin 56) (b : Fin 2) (s : Fin 4096) (l : Fin 128) : val_main_v1 (F := Idealize.ShloMosaic.Ideal) x0 (ix4 a b s l) = P x0 a b s l := by
  pointwise [val_main_v1, val_main_v0]
  exact congrArg (fun z : Fin 8192 => x0 (ix3 a z l)) (Fin.ext (by show b.val * 4096 + s.val = 4096 * b.val + s.val; omega))

theorem select_sle (k q : ℕ) (hk : k < 4096) (hq : q < 4096) (u w : EReal) :
    Scalar.select (IntOp.cmpi CmpIPredicate.sle (BitVec.ofNat 32 k) (BitVec.ofNat 32 q)) u w = if k ≤ q then u else w := by
  unfold Scalar.select IntOp.cmpi
  have : (BitVec.ofNat 32 k).sle (BitVec.ofNat 32 q) = decide (k ≤ q) := by
    rw [BitVec.sle_eq_decide, BitVec.toInt_ofNat', BitVec.toInt_ofNat', Int.bmod_eq_of_le (by omega) (by omega), Int.bmod_eq_of_le (by omega) (by omega)]
    exact decide_eq_decide.mpr (by omega)
  simp only [this]
  by_cases h : k ≤ q <;> simp [h]

theorem negInf : Ideal.ofBits FTy.f32 4286578688#32 = (⊥ : EReal) := by simp [Ideal.ofBits, Ideal.ieee]
theorem posInf : Ideal.ofBits FTy.f32 2139095040#32 = (⊤ : EReal) := by simp [Ideal.ofBits, Ideal.ieee]

/-- The score of one query by one key. -/
def scr (b : Fin 2) (h : Fin 8) (q k : Fin 4096) : EReal := if k.val ≤ q.val then
    (∑ l : Fin 128, P x0 ⟨32 + h.val, by omega⟩ b q l * P x0 ⟨40 + h.val, by omega⟩ b k l) + (x1 (ix3 b h q) - x1 (ix3 b h k)) else ⊥

theorem cell_v18 (b : Fin 2) (h : Fin 8) (q k : Fin 4096) : val_main_v18 (F := Idealize.ShloMosaic.Ideal) x0 x1 (ix4 b h q k) = scr x0 x1 b h q k := by
  pointwise [val_main_v18, val_main_call0_v1, val_main_v17, val_main_v15, val_main_v16, val_main_v13, val_main_v14, val_main_v12, val_main_v11, val_main_v10, val_main_v9, val_main_v8, val_main_v7, val_main_v6, val_main_v5, val_main_v2, val_main_v3, val_main_call0_v2, val_main_call0_v0, val_main_cst]
  rw [select_sle _ _ k.isLt q.isLt]
  unfold scr
  refine if_congr Iff.rfl ?_ negInf
  simp only [cell_v1]

theorem cell_v19 (b : Fin 2) (h : Fin 8) (q : Fin 4096) : val_main_v19 (F := Idealize.ShloMosaic.Ideal) x0 x1 (ix3 b h q) = top (scr x0 x1 b h q) := by
  pointwise [val_main_v19]
  rw [show val_main_cst_0 (F := Idealize.ShloMosaic.Ideal) (Shape.Idx.first h_S_) = (⊥ : EReal) from negInf]
  simp only [cell_v18]
  rfl

theorem shift_of (u : EReal) : Scalar.select (FloatOps.cmpf (F := Idealize.ShloMosaic.Ideal) CmpFPredicate.olt (FloatOps.hostAbsf (F := Idealize.ShloMosaic.Ideal) (φ := FTy.f32) u)
    (FloatOps.ofBits (F := Idealize.ShloMosaic.Ideal) FTy.f32 0x7F800000#32)) u (FloatOps.ofBits (F := Idealize.ShloMosaic.Ideal) FTy.f32 0x00000000#32) = if max u (-u) < ⊤ then u else 0 := by
  show Scalar.select (Ideal.cmp CmpFPredicate.olt (max u (-u)) (Ideal.ofBits FTy.f32 2139095040#32)) u (Ideal.ofBits FTy.f32 0#32) = _
  rw [posInf, show Ideal.ofBits FTy.f32 0#32 = (0 : EReal) by simp [Ideal.ofBits, Ideal.ieee]]
  by_cases h : max u (-u) < ⊤
  · rw [if_pos h]
    simp [Ideal.cmp, h, Scalar.select]
  · rw [if_neg h]
    simp [Ideal.cmp, h, Scalar.select]

theorem cell_v24 (b : Fin 2) (h : Fin 8) (q : Fin 4096) : val_main_v24 (F := Idealize.ShloMosaic.Ideal) x0 x1 (ix4 b h q 0) = refShift (scr x0 x1 b h q) := by
  have e := cell_v19 x0 x1 b h q
  have ei : idx_main_v20 (ix4 b h q 0) = ix3 b h q := by
    funext a; match a with
    | ⟨0, _⟩ => rfl
    | ⟨1, _⟩ => rfl
    | ⟨2, _⟩ => rfl
  rw [val_main_v24_apply, val_main_v23_apply, val_main_v21_apply, val_main_v20_apply, ei, e, val_main_v22_apply, val_main_cst_1_apply, val_main_call1_v1_apply, val_main_call1_v0_apply, val_main_cst_2_apply]
  unfold refShift
  generalize top (scr x0 x1 b h q) = u
  exact shift_of u

theorem cell_v27 (b : Fin 2) (h : Fin 8) (q k : Fin 4096) : val_main_v27 (F := Idealize.ShloMosaic.Ideal) x0 x1 (ix4 b h q k) =
    Ideal.exp (scr x0 x1 b h q k - refShift (scr x0 x1 b h q)) := by
  have e1 := cell_v18 x0 x1 b h q k
  have e2 := cell_v24 x0 x1 b h q
  unfold val_main_v27 val_main_v26 val_main_v25
  generalize val_main_v18 (F := Idealize.ShloMosaic.Ideal) x0 x1 = y at e1 ⊢
  generalize val_main_v24 (F := Idealize.ShloMosaic.Ideal) x0 x1 = z at e2 ⊢
  pointwise
  rw [e1, e2]

theorem cell_v31 (b : Fin 2) (h : Fin 8) (q : Fin 4096) : val_main_v31 (F := Idealize.ShloMosaic.Ideal) x0 x1 (ix4 b h q 0) =
    max (∑ k, Ideal.exp (scr x0 x1 b h q k - refShift (scr x0 x1 b h q))) (Ideal.ofBits .f32 0x0DA24260#32) := by
  pointwise [val_main_v31, val_main_v29, val_main_v28, val_main_cst_3, val_main_v30, val_main_cst_4]
  simp only [cell_v27]

/-- The reference's result at one prompt, head, position and lane. -/
theorem cell_v36 (b : Fin 2) (h : Fin 8) (q : Fin 4096) (d : Fin 128) :
    val_main_v36 (F := Idealize.ShloMosaic.Ideal) x0 x1 (ix2 (⟨4096 * b.val + q.val, by omega⟩ : Fin 8192) (⟨128 * h.val + d.val, by omega⟩ : Fin 1024)) =
      refOut (scr x0 x1 b h q) (fun k => P x0 ⟨48 + h.val, by omega⟩ b k d) (Ideal.ofBits .f32 0x0DA24260#32) := by
  pointwise [val_main_v36, val_main_v35, val_main_v34, val_main_v33, val_main_v32, val_main_v4]
  simp only [cell_v1, cell_v27, cell_v31]
  rfl

end Cert.ReferenceIdeal.FoxRead

end
-- ==== Proof.FoxValue.lean ====
module

public import proofs.«01_k».proof.Defs
public import proofs.«01_k».proof.Proof.FoxKernelIdeal.Final
public import proofs.«01_k».proof.Proof.FoxReference
public import proofs.«01_k».proof.Proof.Gen.ReferenceIdeal.Run
public import Idealize.ShloMosaic.Lib.Quiescent

@[expose] public section

noncomputable section

namespace Cert.FoxValue

open Idealize.ShloMosaic Idealize.ShloMosaic.TcCoe Idealize.SL.Sem Cert.FoxMath

/-- The least denominator, 1e-30, as a real number. -/
theorem eps_pos : 0 < Idealize.ShloMosaic.Ideal.ofBits .f32 0x0DA24260#32 ∧ Idealize.ShloMosaic.Ideal.ofBits .f32 0x0DA24260#32 ≤ 1 := by
  have h : Idealize.ShloMosaic.Ideal.ofBits .f32 0x0DA24260#32 = ((10633824 * (2 : ℝ) ^ (-123 : ℤ) : ℝ) : EReal) := by
    simp [Idealize.ShloMosaic.Ideal.ofBits, Idealize.ShloMosaic.Ideal.ieee, -EReal.coe_mul]
  rw [h]
  constructor
  · exact_mod_cast (by norm_num : (0 : ℝ) < 10633824 * (2 : ℝ) ^ (-123 : ℤ))
  · exact_mod_cast (by norm_num : 10633824 * (2 : ℝ) ^ (-123 : ℤ) ≤ 1)

variable (m : (ℓ : Loc Cert.KernelIdeal.nD Cert.KernelIdeal.τ Cert.KernelIdeal.sig) → Buf (Elt Idealize.ShloMosaic.Ideal) ℓ) (c : Dev Cert.KernelIdeal.nD)

theorem att_eq (b : Fin 2) (h : Fin 8) (q : Fin 4096) (d : Fin 128) :
    Cert.ReferenceIdeal.Read.val_main_v36 (F := Idealize.ShloMosaic.Ideal) (Cert.KernelIdeal.Fox.A0 m c) (Cert.KernelIdeal.Fox.A1 m c)
      (ix2 (⟨4096 * b.val + q.val, by omega⟩ : Fin 8192) (⟨128 * h.val + d.val, by omega⟩ : Fin 1024)) = Cert.KernelIdeal.Fox.att m c b h q d := by
  rw [Cert.ReferenceIdeal.FoxRead.cell_v36]
  unfold Cert.KernelIdeal.Fox.att
  symm
  refine out_eq (A := fun k => ∑ l : Fin 128, Cert.KernelIdeal.Fox.P m c ⟨40 + h.val, by omega⟩ b k l * Cert.KernelIdeal.Fox.P m c ⟨32 + h.val, by omega⟩ b q l)
    (c := fun k => Cert.KernelIdeal.Fox.A1 m c (ix3 b h k)) eps_pos.1 eps_pos.2 fun k => ?_
  by_cases hk : k.val ≤ q.val
  · refine Or.inr ⟨if_pos hk, ?_⟩
    unfold Cert.ReferenceIdeal.FoxRead.scr
    rw [if_pos hk]
    exact congrArg (· + _) (Finset.sum_congr rfl fun l _ => mul_comm _ _)
  · refine Or.inl ⟨if_neg hk, ?_⟩
    unfold Cert.ReferenceIdeal.FoxRead.scr
    rw [if_neg hk]

theorem val_eq : Cert.ReferenceIdeal.Read.val_main_v36 (F := Idealize.ShloMosaic.Ideal) (Cert.KernelIdeal.Fox.A0 m c) (Cert.KernelIdeal.Fox.A1 m c) = Cert.KernelIdeal.Fox.G m c := by
  funext i
  obtain ⟨r, e, rfl⟩ : ∃ (r : Fin 8192) (e : Fin 1024), i = ix2 r e := ⟨i 0, i 1, eq_ix2 i⟩
  have h := att_eq m c ⟨r.val / 4096, by omega⟩ ⟨e.val / 128, by omega⟩ ⟨r.val % 4096, Nat.mod_lt _ (by decide)⟩ ⟨e.val % 128, Nat.mod_lt _ (by decide)⟩
  have hr : (⟨4096 * (r.val / 4096) + r.val % 4096, by omega⟩ : Fin 8192) = r := Fin.ext (Nat.div_add_mod _ _)
  have he : (⟨128 * (e.val / 128) + e.val % 128, by omega⟩ : Fin 1024) = e := Fin.ext (Nat.div_add_mod _ _)
  rw [hr, he] at h
  exact h

/-- The attention's kernel and its reference end with the same array. -/
theorem algebraic [Cert.KernelIdeal.Facts] [Cert.ReferenceIdeal.Facts] : Cert.algebraic_KernelIdeal_ReferenceIdeal := by
  intro m g m' g' _ hargs
  refine ⟨fun c => Cert.KernelIdeal.Fox.G m c, Cert.KernelIdeal.Fox.run m g, ?_⟩
  refine (θ_run _ _ _).mono (fun r h c => ⟨(h c).1.trans ?_, (h c).2⟩) (Cert.ReferenceIdeal.Value.run m' g')
  rw [Cert.ReferenceIdeal.Read.val_main_v36_eq, (hargs c).1, (hargs c).2]
  exact val_eq m c

/-- The reference of the attention runs to its end and leaves its arguments and the counters as they were. -/
theorem frame_reference [Cert.ReferenceIdeal.Facts] : Cert.quiescent_ReferenceIdeal := fun m g _ =>
  (θ_run _ _ _).mono (fun r h => ⟨fun c => (h c).2, sem_eq_zero_of_no_sems (by decide) _⟩) (Cert.ReferenceIdeal.Value.run m g)

end Cert.FoxValue

end
-- ==== Proof.FfnStep.lean ====
module

public import proofs.«01_k».proof.Proof.Gen.FfnIdeal.Value
public import Idealize.ShloMosaic.Lib.Pointwise
public import Idealize.ShloMosaic.Lib.Pointwise.IndexBridge
public import Idealize.ShloMosaic.Lib.Pipeline.Value

@[expose] public section

noncomputable section

namespace Cert.FfnIdeal.Val

open Cert.FfnIdeal Cert.FfnIdeal.Gen Idealize.ShloMosaic Idealize.ShloMosaic.TcCoe Idealize.ShloMosaic.Tactic Idealize.SL.Sem

theorem hz : (![0, 0] : Fin 2 → Nat) = fun _ => 0 := funext fun a => by fin_cases a <;> rfl

section Cases

variable {F : FTy → Type} [FloatOps F]
variable (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1024x2048 .f32) (harg7 : arg7.IsWhole) (arg8 : Memref sig .tc .vmem S1024x2048 .bf16) (harg8 : arg8.IsWhole)
  (x0 : Vec F S1024x2048 .f32) (x1 : Vec F S1x2048 .f32) (x2 : Vec F S2048x512 .bf16) (x3 : Vec F S2048x512 .bf16) (x4 : Vec F S512x2048 .bf16) (xo5 : Vec F S1024x2048 .f32) (xs0 : Vec F S1024x2048 .bf16)

/-- A later point adds its block's product to what the point before left. -/
theorem out_B (hc0 : ¬cond0_0 i) :
    out0_B_5 c i arg2 harg2 arg3 harg3 arg4 harg4 arg5 harg5 arg6 harg6 arg7 harg7 arg8 harg8 hc0 x0 x1 x2 x3 x4 xo5 xs0 = k0_pay2 xs0 x2 x3 xo5 x4 := by
  unfold out0_B_5
  rw [View.read_writes_eq_canon _ _ _ (cover0_B_5 c i arg2 harg2 arg3 harg3 arg4 harg4 arg5 harg5 arg6 harg6 arg7 harg7 arg8 harg8 hc0 x0 x1 x2 x3 x4 xo5 xs0)]
  unfold kernelRun0_B
  dsimp only
  rw [View.canon_unit_zero hz]
  simp only [View.readAt_eq_ld, harg4.read_unread, harg5.read_unread, harg6.read_unread, harg7.read_unread, harg8.read_unread, View.ld_unit_zero (S := S1024x2048) hz, View.ld_unit_zero (S := S2048x512) hz, View.ld_unit_zero (S := S512x2048) hz]

/-- The first point of a row block normalises the rows into the scratch. -/
theorem sout_A (hc0 : cond0_0 i) :
    sout0_A_0 c i arg2 harg2 arg3 harg3 arg4 harg4 arg5 harg5 arg6 harg6 arg7 harg7 arg8 harg8 hc0 x0 x1 x2 x3 x4 = k0_pay1 x0 x1 := by
  unfold sout0_A_0
  rw [View.read_writes_eq_canon _ _ _ (scover0_A_0 c i arg2 harg2 arg3 harg3 arg4 harg4 arg5 harg5 arg6 harg6 arg7 harg7 arg8 harg8 hc0 x0 x1 x2 x3 x4)]
  unfold kernelRun0_A
  dsimp only
  sl_unfold_words
  rw [View.canon_unit_zero (S := S1024x2048) hz]
  simp only [View.readAt_eq_ld, harg2.read_unread, harg3.read_unread, View.ld_unit_zero (S := S1024x2048) hz, View.ld_unit_zero (S := S1x2048) hz]

/-- And starts the sum from the rows themselves. -/
theorem out_A (hc0 : cond0_0 i) :
    out0_A_5 c i arg2 harg2 arg3 harg3 arg4 harg4 arg5 harg5 arg6 harg6 arg7 harg7 arg8 harg8 hc0 x0 x1 x2 x3 x4 = k0_pay2 (k0_pay1 x0 x1) x2 x3 x0 x4 := by
  unfold out0_A_5
  rw [View.read_writes_eq_canon _ _ _ (cover0_A_5 c i arg2 harg2 arg3 harg3 arg4 harg4 arg5 harg5 arg6 harg6 arg7 harg7 arg8 harg8 hc0 x0 x1 x2 x3 x4)]
  unfold kernelRun0_A
  dsimp only
  sl_unfold_words
  rw [View.canon_cons_unit_zero (S := S1024x2048) hz]
  simp only [View.readCov_unit_zero (S := S1024x2048) _ hz, View.readAt_eq_ld, harg2.read_unread, harg3.read_unread, harg4.read_unread, harg5.read_unread, harg6.read_unread, View.ld_unit_zero (S := S1024x2048) hz, View.ld_unit_zero (S := S1x2048) hz, View.ld_unit_zero (S := S2048x512) hz, View.ld_unit_zero (S := S512x2048) hz]

end Cases

end Cert.FfnIdeal.Val

end
-- ==== Proof.FfnKernel.lean ====
module

public import proofs.«01_k».proof.Proof.FfnStep
public import Idealize.ShloMosaic.Lib.IdealHost
public import Idealize.ShloMosaic.Lib.Pointwise.Sums
public import Idealize.ShloMosaic.Lib.StableHlo.RunRead

@[expose] public section

noncomputable section

/-! The gated feed-forward block, element by element, over any arrays. -/
namespace Cert.FfnMath

open Idealize.ShloMosaic

/-- A row normalised by its root mean square and scaled by the gain. -/
def nrm (x g : Fin 2048 → EReal) (l : Fin 2048) : EReal :=
  x l * Ideal.rsqrt (Ideal.div (∑ k, x k * x k) (Ideal.ofBits FTy.f32 1157627904#32) + Ideal.ofBits FTy.f32 897988541#32) * g l

/-- One hidden value: the gate's product through the logistic unit, times the other product. -/
def hid (y wg wu : Fin 2048 → EReal) : EReal :=
  (∑ k, y k * wg k) * Ideal.div 1 (1 + Ideal.exp (-∑ k, y k * wg k)) * ∑ k, y k * wu k

/-- One half. -/
abbrev half : EReal := Ideal.ofBits FTy.f32 1056964608#32

theorem exp_nonneg (x : EReal) : 0 ≤ Ideal.exp x := by
  induction x with
  | bot => exact le_refl _
  | top => exact (le_top : (0 : EReal) ≤ ⊤)
  | coe r => exact EReal.coe_nonneg.2 (Real.exp_pos r).le

theorem gate_eq (a u : EReal) : Ideal.div a (1 + Ideal.exp (0 - a)) * u = a * Ideal.div 1 (1 + Ideal.exp (-a)) * u := by
  have h : (1 : EReal) + Ideal.exp (-a) ≠ 0 := by
    have h1 : (1 : EReal) ≤ 1 + Ideal.exp (-a) := le_add_of_nonneg_right (exp_nonneg _)
    exact (lt_of_lt_of_le (by norm_num : (0 : EReal) < 1) h1).ne'
  rw [zero_sub, Ideal.mul_one_div h]

theorem half_eq : half = ((1 / 2 : ℝ) : EReal) := by
  unfold half
  rw [show ((1 / 2 : ℝ) : EReal) = ((8388608 * (2 : ℝ) ^ (-24 : ℤ) : ℝ) : EReal) from congrArg _ (by norm_num)]
  simp [Ideal.ofBits, Ideal.ieee, -EReal.coe_mul]

theorem half_mul_sum {ι : Type*} (s : Finset ι) (f : ι → EReal) : half * ∑ k ∈ s, f k = ∑ k ∈ s, half * f k := by
  classical
  have h0 : (0 : EReal) ≤ half := by rw [half_eq]; exact_mod_cast (by norm_num : (0 : ℝ) ≤ 1 / 2)
  have h1 : half ≠ ⊤ := by rw [half_eq]; exact EReal.coe_ne_top _
  induction s using Finset.induction_on with
  | empty => simp
  | insert a s ha ih => rw [Finset.sum_insert ha, Finset.sum_insert ha, EReal.left_distrib_of_nonneg_of_ne_top h0 h1, ih]

/-- What one block of 512 hidden columns adds. -/
def tile (y : Fin 2048 → EReal) (wg wu : Fin 2048 → Fin 5632 → EReal) (wd : Fin 5632 → EReal) (s : Fin 11) : EReal :=
  ∑ f : Fin 512, hid y (fun k => wg k ⟨s.val * 512 + f.val, by omega⟩) (fun k => wu k ⟨s.val * 512 + f.val, by omega⟩) * half * wd ⟨s.val * 512 + f.val, by omega⟩

/-- The eleven blocks together are one half of the whole product. -/
theorem sum_tile (y : Fin 2048 → EReal) (wg wu : Fin 2048 → Fin 5632 → EReal) (wd : Fin 5632 → EReal) :
    ∑ s, tile y wg wu wd s = half * ∑ f, hid y (fun k => wg k f) (fun k => wu k f) * wd f := by
  rw [half_mul_sum, Fin.sum_univ_tiles (N := 5632) 11 512 (by decide)]
  refine Finset.sum_congr rfl fun s _ => Finset.sum_congr rfl fun f _ => ?_
  rw [mul_comm (hid _ _ _) half, mul_assoc]

end Cert.FfnMath

namespace Cert.FfnIdeal.Val

open Cert.FfnIdeal Cert.FfnIdeal.Gen Cert.FfnIdeal.Value Idealize.ShloMosaic Idealize.ShloMosaic.TcCoe Idealize.ShloMosaic.Tactic Idealize.SL.Sem Cert.FfnMath

variable (m : (ℓ : Loc nD τ sig) → Buf (Elt Ideal) ℓ) (c : Dev nD)

/-- The residual rows, the gain and the three weights, as launched. -/
def A0 : Vec Ideal S8192x2048 .f32 := m ((c : Thread nD τ).loc main_arg0)
def A1 : Vec Ideal S1x2048 .f32 := m ((c : Thread nD τ).loc main_arg1)
def A2 : Vec Ideal S1x2048x5632 .f32 := m ((c : Thread nD τ).loc main_arg2)
def A3 : Vec Ideal S1x2048x5632 .f32 := m ((c : Thread nD τ).loc main_arg3)
def A4 : Vec Ideal S1x5632x2048 .f32 := m ((c : Thread nD τ).loc main_arg4)

theorem V_v1 : V m c main_v1 = broadcastInDim S1x2048 ![1] bcast_S2048_S1x2048_1 (shapeCast S2048 (A1 m c) shapeCasts_S1x2048_S2048) := by
  unfold V hostOps0 A1
  after_results_simp <;> rfl
theorem V_v3 : V m c main_v3 = truncf (F := Ideal) .bf16 (shapeCast S2048x5632 (A2 m c) shapeCasts_S1x2048x5632_S2048x5632) bitsLt_bf16_f32 := by
  unfold V hostOps0 A2
  after_results_simp <;> rfl
theorem V_v5 : V m c main_v5 = truncf (F := Ideal) .bf16 (shapeCast S2048x5632 (A3 m c) shapeCasts_S1x2048x5632_S2048x5632) bitsLt_bf16_f32 := by
  unfold V hostOps0 A3
  after_results_simp <;> rfl
theorem V_v7 : V m c main_v7 = truncf (F := Ideal) .bf16 (shapeCast S5632x2048 (A4 m c) shapeCasts_S1x5632x2048_S5632x2048) bitsLt_bf16_f32 := by
  unfold V hostOps0 A4
  after_results_simp <;> rfl

theorem v1_apply (l : Fin 2048) : V m c main_v1 (ix2 (0 : Fin 1) l) = A1 m c (ix2 (0 : Fin 1) l) := by
  rw [V_v1]
  pointwise
theorem v3_apply (k : Fin 2048) (f : Fin 5632) : V m c main_v3 (ix2 k f) = A2 m c (ix3 (0 : Fin 1) k f) := by
  rw [V_v3]
  pointwise
theorem v5_apply (k : Fin 2048) (f : Fin 5632) : V m c main_v5 (ix2 k f) = A3 m c (ix3 (0 : Fin 1) k f) := by
  rw [V_v5]
  pointwise
theorem v7_apply (f : Fin 5632) (d : Fin 2048) : V m c main_v7 (ix2 f d) = A4 m c (ix3 (0 : Fin 1) f d) := by
  rw [V_v7]
  pointwise

theorem idx0 (t : Fin cfg0.N) : win0_0.index t = ![t.val / 11, 0] := (by decide +kernel : ∀ t : Fin grid0.N, win0_0.index t = ![t.val / 11, 0]) t
theorem idx1 (t : Fin cfg0.N) : win0_1.index t = ![0, 0] := (by decide +kernel : ∀ t : Fin grid0.N, win0_1.index t = ![0, 0]) t
theorem idx2 (t : Fin cfg0.N) : win0_2.index t = ![0, t.val % 11] := (by decide +kernel : ∀ t : Fin grid0.N, win0_2.index t = ![0, t.val % 11]) t
theorem idx3 (t : Fin cfg0.N) : win0_3.index t = ![0, t.val % 11] := (by decide +kernel : ∀ t : Fin grid0.N, win0_3.index t = ![0, t.val % 11]) t
theorem idx4 (t : Fin cfg0.N) : win0_4.index t = ![t.val % 11, 0] := (by decide +kernel : ∀ t : Fin grid0.N, win0_4.index t = ![t.val % 11, 0]) t

theorem t_lt (t : Fin cfg0.N) : t.val < 88 := lt_of_lt_of_eq t.isLt N_0

variable (t : Fin cfg0.N)

theorem X0_apply (J : Fin 1024) (l : Fin 2048) : iblk m c 0 t (ix2 J l) = A0 m c (ix2 (⟨1024 * (t.val / 11) + J.val, by have := t_lt t; omega⟩ : Fin 8192) l) := by
  show V m c main_arg0 _ = A0 m c _
  rw [V_main_arg0]
  refine congrArg (A0 m c) (funext fun a => Fin.ext ?_)
  match a with
  | ⟨0, _⟩ => show win0_0.index t 0 * 1024 + 1 * J.val = 1024 * (t.val / 11) + J.val; rw [idx0]; show t.val / 11 * 1024 + 1 * J.val = _; omega
  | ⟨1, _⟩ => show win0_0.index t 1 * 2048 + 1 * l.val = l.val; rw [idx0]; show 0 * 2048 + 1 * l.val = _; omega

theorem X1_apply (l : Fin 2048) : iblk m c 1 t (ix2 (0 : Fin 1) l) = A1 m c (ix2 (0 : Fin 1) l) := by
  rw [← v1_apply]
  refine congrArg (V m c main_v1) (funext fun a => Fin.ext ?_)
  match a with
  | ⟨0, _⟩ => show win0_1.index t 0 * 1 + 1 * 0 = _; rw [idx1]; rfl
  | ⟨1, _⟩ => show win0_1.index t 1 * 2048 + 1 * l.val = l.val; rw [idx1]; show 0 * 2048 + 1 * l.val = _; omega

theorem X2_apply (k : Fin 2048) (f : Fin 512) : iblk m c 2 t (ix2 k f) = A2 m c (ix3 (0 : Fin 1) k (⟨t.val % 11 * 512 + f.val, by omega⟩ : Fin 5632)) := by
  rw [← v3_apply]
  refine congrArg (V m c main_v3) (funext fun a => Fin.ext ?_)
  match a with
  | ⟨0, _⟩ => show win0_2.index t 0 * 2048 + 1 * k.val = k.val; rw [idx2]; show 0 * 2048 + 1 * k.val = _; omega
  | ⟨1, _⟩ => show win0_2.index t 1 * 512 + 1 * f.val = _; rw [idx2]; show t.val % 11 * 512 + 1 * f.val = t.val % 11 * 512 + f.val; omega

theorem X3_apply (k : Fin 2048) (f : Fin 512) : iblk m c 3 t (ix2 k f) = A3 m c (ix3 (0 : Fin 1) k (⟨t.val % 11 * 512 + f.val, by omega⟩ : Fin 5632)) := by
  rw [← v5_apply]
  refine congrArg (V m c main_v5) (funext fun a => Fin.ext ?_)
  match a with
  | ⟨0, _⟩ => show win0_3.index t 0 * 2048 + 1 * k.val = k.val; rw [idx3]; show 0 * 2048 + 1 * k.val = _; omega
  | ⟨1, _⟩ => show win0_3.index t 1 * 512 + 1 * f.val = _; rw [idx3]; show t.val % 11 * 512 + 1 * f.val = t.val % 11 * 512 + f.val; omega

theorem X4_apply (f : Fin 512) (d : Fin 2048) : iblk m c 4 t (ix2 f d) = A4 m c (ix3 (0 : Fin 1) (⟨t.val % 11 * 512 + f.val, by omega⟩ : Fin 5632) d) := by
  rw [← v7_apply]
  refine congrArg (V m c main_v7) (funext fun a => Fin.ext ?_)
  match a with
  | ⟨0, _⟩ => show win0_4.index t 0 * 512 + 1 * f.val = _; rw [idx4]; show t.val % 11 * 512 + 1 * f.val = t.val % 11 * 512 + f.val; omega
  | ⟨1, _⟩ => show win0_4.index t 1 * 2048 + 1 * d.val = d.val; rw [idx4]; show 0 * 2048 + 1 * d.val = _; omega

/-! ## The payloads at one element -/

theorem pay1_apply (x : Vec Ideal S1024x2048 .f32) (g : Vec Ideal S1x2048 .f32) (J : Fin 1024) (l : Fin 2048) :
    k0_pay1 x g (ix2 J l) = nrm (fun k => x (ix2 J k)) (fun k => g (ix2 (0 : Fin 1) k)) l := by
  unfold nrm
  pointwise [k0_pay1]

theorem pay2_apply (xn : Vec Ideal S1024x2048 .bf16) (wg wu : Vec Ideal S2048x512 .bf16) (o : Vec Ideal S1024x2048 .f32) (wd : Vec Ideal S512x2048 .bf16) (J : Fin 1024) (d : Fin 2048) :
    k0_pay2 xn wg wu o wd (ix2 J d) = o (ix2 J d) +
      ∑ f : Fin 512, hid (fun k => xn (ix2 J k)) (fun k => wg (ix2 k f)) (fun k => wu (ix2 k f)) * half * wd (ix2 f d) := by
  have e : k0_pay2 xn wg wu o wd (ix2 J d) = o (ix2 J d) + ∑ f : Fin 512,
      (Ideal.div (∑ k, xn (ix2 J k) * wg (ix2 k f)) (1 + Ideal.exp (0 - ∑ k, xn (ix2 J k) * wg (ix2 k f))) * ∑ k, xn (ix2 J k) * wu (ix2 k f)) * half * wd (ix2 f d) := by
    pointwise [k0_pay2]
  rw [e]
  simp only [gate_eq]
  rfl

/-! ## The rows after each point -/

/-- Row `r` of the residual, normalised. -/
def row (r : Fin 8192) : Fin 2048 → EReal := nrm (fun k => A0 m c (ix2 r k)) (fun k => A1 m c (ix2 (0 : Fin 1) k))

/-- What block `s` of the hidden columns adds to one element; nothing past the last. -/
def add (r : Fin 8192) (d : Fin 2048) (s : ℕ) : EReal := if h : s < 11 then
    tile (row m c r) (fun k f => A2 m c (ix3 (0 : Fin 1) k f)) (fun k f => A3 m c (ix3 (0 : Fin 1) k f)) (fun f => A4 m c (ix3 (0 : Fin 1) f d)) ⟨s, h⟩
  else 0

/-- The row of the array that row `J` of block `i` is. -/
abbrev rowOf (i : Fin 8) (J : Fin 1024) : Fin 8192 := ⟨1024 * i.val + J.val, by omega⟩

/-- A point's store, where its scratch holds the block's normalised rows. -/
theorem point_apply (i : Fin 8) (j : Fin 11) (ht : t.val = 11 * i.val + j.val) (xn : Vec Ideal S1024x2048 .bf16) (o : Vec Ideal S1024x2048 .f32)
    (hx : ∀ (J : Fin 1024) (l : Fin 2048), xn (ix2 J l) = row m c (rowOf i J) l) (J : Fin 1024) (d : Fin 2048) :
    k0_pay2 xn (iblk m c 2 t) (iblk m c 3 t) o (iblk m c 4 t) (ix2 J d) = o (ix2 J d) + add m c (rowOf i J) d j.val := by
  have hj : t.val % 11 = j.val := by rw [ht]; omega
  rw [pay2_apply]
  unfold add tile
  rw [dif_pos j.isLt]
  simp only [X2_apply, X3_apply, X4_apply, hx, hj]

theorem point_first (i : Fin 8) (ht : t.val = 11 * i.val) (J : Fin 1024) (l : Fin 2048) :
    k0_pay1 (iblk m c 0 t) (iblk m c 1 t) (ix2 J l) = row m c (rowOf i J) l := by
  have hi : t.val / 11 = i.val := by rw [ht]; omega
  rw [pay1_apply]
  unfold row
  simp only [X0_apply, X1_apply, hi]

/-- After point `j` of row block `i`: the scratch holds the normalised rows, the output the rows and the first `j + 1` blocks' sums. -/
theorem after_point (i : Fin 8) : ∀ (j : ℕ) (hj : j < 11) (hn : 11 * i.val + j < cfg0.N),
    (∀ (J : Fin 1024) (l : Fin 2048), (outsAt0 m c (11 * i.val + j) hn).2 (ix2 J l) = row m c (rowOf i J) l)
    ∧ ∀ (J : Fin 1024) (d : Fin 2048), (outsAt0 m c (11 * i.val + j) hn).1 (ix2 J d) = A0 m c (ix2 (rowOf i J) d) + ∑ s ∈ Finset.range (j + 1), add m c (rowOf i J) d s
  | 0, hj, hn => by
    have e := outsAt0_A m c ⟨11 * i.val + 0, hn⟩ (show (11 * i.val + 0) % 11 = 0 by omega)
    rw [out_A, sout_A] at e
    have h1 : ∀ (J : Fin 1024) (l : Fin 2048), k0_pay1 (iblk m c 0 ⟨11 * i.val + 0, hn⟩) (iblk m c 1 ⟨11 * i.val + 0, hn⟩) (ix2 J l) = row m c (rowOf i J) l :=
      point_first m c ⟨11 * i.val + 0, hn⟩ i rfl
    refine ⟨fun J l => ?_, fun J d => ?_⟩
    · exact (congrFun (congrArg Prod.snd e) _).trans (h1 J l)
    · refine (congrFun (congrArg Prod.fst e) _).trans ?_
      refine (point_apply m c ⟨11 * i.val + 0, hn⟩ i 0 rfl _ _ h1 J d).trans ?_
      rw [X0_apply, Finset.sum_range_one]
      have hr : (⟨1024 * ((11 * i.val + 0) / 11) + J.val, by omega⟩ : Fin 8192) = rowOf i J := Fin.ext (by show 1024 * ((11 * i.val + 0) / 11) + J.val = 1024 * i.val + J.val; omega)
      exact congrArg (fun z => A0 m c (ix2 z d) + add m c (rowOf i J) d 0) hr
  | j + 1, hj, hn => by
    obtain ⟨h1, h2⟩ := after_point i j (by omega) (Nat.lt_of_succ_lt hn)
    have e := outsAt0_B m c ⟨11 * i.val + (j + 1), hn⟩ (show ¬(11 * i.val + (j + 1)) % 11 = 0 by omega)
    rw [out_B] at e
    refine ⟨fun J l => ?_, fun J d => ?_⟩
    · exact (congrFun (congrArg Prod.snd e) _).trans (h1 J l)
    · refine (congrFun (congrArg Prod.fst e) _).trans ?_
      refine (point_apply m c ⟨11 * i.val + (j + 1), hn⟩ i ⟨j + 1, hj⟩ rfl _ _ h1 J d).trans ?_
      refine (congrArg (· + add m c (rowOf i J) d (j + 1)) (h2 J d)).trans ?_
      rw [Finset.sum_range_succ _ (j + 1), ← add_assoc]

/-- One element of the result. -/
def res (r : Fin 8192) (d : Fin 2048) : EReal := A0 m c (ix2 r d) +
  half * ∑ f, hid (row m c r) (fun k => A2 m c (ix3 (0 : Fin 1) k f)) (fun k => A3 m c (ix3 (0 : Fin 1) k f)) * A4 m c (ix3 (0 : Fin 1) f d)

theorem sum_add (r : Fin 8192) (d : Fin 2048) : ∑ s ∈ Finset.range 11, add m c r d s =
    half * ∑ f, hid (row m c r) (fun k => A2 m c (ix3 (0 : Fin 1) k f)) (fun k => A3 m c (ix3 (0 : Fin 1) k f)) * A4 m c (ix3 (0 : Fin 1) f d) := by
  rw [← sum_tile (row m c r) (fun k f => A2 m c (ix3 (0 : Fin 1) k f)) (fun k f => A3 m c (ix3 (0 : Fin 1) k f)) (fun f => A4 m c (ix3 (0 : Fin 1) f d)), Finset.sum_range]
  refine Finset.sum_congr rfl fun s _ => ?_
  unfold add
  rw [dif_pos s.isLt]

theorem G5_apply (r : Fin 8192) (d : Fin 2048) : G5 m c (ix2 r d) = res m c r d := by
  have hN : cfg0.N = 88 := N_0
  have hp : pt5Of (ix2 r d) = 11 * (r.val / 1024) + 10 := by
    show 11 * (1 * (r.val / 1024 - 0) + 1 * (d.val / 2048 - 0)) + 10 = _
    omega
  have hlt : 11 * (r.val / 1024) + 10 < cfg0.N := by omega
  have hl : loc5Of (ix2 r d) = ix2 (⟨r.val % 1024, Nat.mod_lt _ (by decide)⟩ : Fin 1024) d := by
    funext a
    match a with
    | ⟨0, _⟩ => rfl
    | ⟨1, _⟩ => exact Fin.ext (Nat.mod_eq_of_lt d.isLt)
  unfold G5
  rw [dif_pos (by rw [hp]; exact hlt), fold0_congr m c _ _ (11 * (r.val / 1024) + 10) (by omega) hp, ← outsAt0_sweep m c _ hlt, hl]
  have h := (after_point m c ⟨r.val / 1024, by omega⟩ 10 (by decide) hlt).2 ⟨r.val % 1024, Nat.mod_lt _ (by decide)⟩ d
  refine h.trans ?_
  rw [show rowOf ⟨r.val / 1024, by omega⟩ ⟨r.val % 1024, Nat.mod_lt _ (by decide)⟩ = r from Fin.ext (Nat.div_add_mod _ _), sum_add]
  rfl

end Cert.FfnIdeal.Val

end
-- ==== Proof.FfnValue.lean ====
module

public import proofs.«01_k».proof.Defs
public import proofs.«01_k».proof.Proof.FfnKernel
public import proofs.«01_k».proof.Proof.Gen.FfnReferenceIdeal.Read
public import proofs.«01_k».proof.Proof.Gen.FfnReferenceIdeal.Run

@[expose] public section

noncomputable section

/-! The reference's feed-forward block, element by element, and the kernel's equality with it. -/
namespace Cert.FfnValue

open Idealize.ShloMosaic Idealize.ShloMosaic.TcCoe Idealize.ShloMosaic.Tactic Idealize.SL.Sem Cert.FfnMath Cert.FfnReferenceIdeal Cert.FfnReferenceIdeal.Read

section Reference

variable (x0 : Vec Ideal Cert.FfnReferenceIdeal.S8192x2048 .f32) (x1 : Vec Ideal Cert.FfnReferenceIdeal.S1x2048 .f32)
  (x2 x3 : Vec Ideal Cert.FfnReferenceIdeal.S1x2048x5632 .f32) (x4 : Vec Ideal Cert.FfnReferenceIdeal.S1x5632x2048 .f32)

theorem v13_eq (r : Fin 8192) (l : Fin 2048) : val_main_v13 (F := Ideal) x0 x1 (ix2 r l) = nrm (fun k => x0 (ix2 r k)) (fun k => x1 (ix2 (0 : Fin 1) k)) l := by
  unfold nrm
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]

theorem v17_eq (r : Fin 8192) (f : Fin 5632) : val_main_v17 (F := Ideal) x0 x1 x2 (ix2 r f) = ∑ k, val_main_v13 (F := Ideal) x0 x1 (ix2 r k) * x2 (ix3 (0 : Fin 1) k f) := by
  pointwise [val_main_v17, val_main_v14]

theorem v20_eq (r : Fin 8192) (f : Fin 5632) : val_main_v20 (F := Ideal) x0 x1 x2 x3 (ix2 r f) =
    hid (nrm (fun k => x0 (ix2 r k)) (fun k => x1 (ix2 (0 : Fin 1) k))) (fun k => x2 (ix3 (0 : Fin 1) k f)) (fun k => x3 (ix3 (0 : Fin 1) k f)) := by
  have e : val_main_v20 (F := Ideal) x0 x1 x2 x3 (ix2 r f) = val_main_v17 (F := Ideal) x0 x1 x2 (ix2 r f) * Ideal.div 1 (1 + Ideal.exp (-val_main_v17 (F := Ideal) x0 x1 x2 (ix2 r f))) *
      ∑ k, val_main_v13 (F := Ideal) x0 x1 (ix2 r k) * x3 (ix3 (0 : Fin 1) k f) := by
    pointwise [val_main_v20, val_main_v19, val_main_v18, val_main_call0_v0, val_main_call0_v1, val_main_call0_v2, val_main_call0_v3, val_main_call0_v4, val_main_call0_v5, val_main_call0_cst, val_main_call0_cst_0, val_main_v15]
  rw [e, v17_eq]
  simp only [v13_eq]
  rfl

theorem v24_eq (r : Fin 8192) (d : Fin 2048) : val_main_v24 (F := Ideal) x0 x1 x2 x3 x4 (ix2 r d) = x0 (ix2 r d) +
    half * ∑ f, hid (nrm (fun k => x0 (ix2 r k)) (fun k => x1 (ix2 (0 : Fin 1) k))) (fun k => x2 (ix3 (0 : Fin 1) k f)) (fun k => x3 (ix3 (0 : Fin 1) k f)) * x4 (ix3 (0 : Fin 1) f d) := by
  have e : val_main_v24 (F := Ideal) x0 x1 x2 x3 x4 (ix2 r d) = x0 (ix2 r d) + half * ∑ f, val_main_v20 (F := Ideal) x0 x1 x2 x3 (ix2 r f) * x4 (ix3 (0 : Fin 1) f d) := by
    pointwise [val_main_v24, val_main_v23, val_main_v22, val_main_v21, val_main_cst_2, val_main_v16]
  rw [e]
  simp only [v20_eq]

end Reference

theorem val_eq (m : (ℓ : Loc Cert.FfnIdeal.nD Cert.FfnIdeal.τ Cert.FfnIdeal.sig) → Buf (Elt Ideal) ℓ) (c : Dev Cert.FfnIdeal.nD) :
    val_main_v24 (F := Ideal) (Cert.FfnIdeal.Val.A0 m c) (Cert.FfnIdeal.Val.A1 m c) (Cert.FfnIdeal.Val.A2 m c) (Cert.FfnIdeal.Val.A3 m c) (Cert.FfnIdeal.Val.A4 m c) = Cert.FfnIdeal.Value.G5 m c := by
  funext i
  rw [eq_ix2 i]
  exact (v24_eq _ _ _ _ _ (i 0) (i 1)).trans (Cert.FfnIdeal.Val.G5_apply m c (i 0) (i 1)).symm

theorem algebraic [Cert.FfnIdeal.Facts] [Cert.FfnReferenceIdeal.Facts] : Cert.algebraic_FfnIdeal_FfnReferenceIdeal := by
  intro m g m' g' _ hargs
  refine ⟨fun c => Cert.FfnIdeal.Value.G5 m c, Cert.FfnIdeal.Value.run m g, ?_⟩
  refine (θ_run _ _ _).mono (fun r h c => ⟨(h c).1.trans ?_, (h c).2⟩) (Cert.FfnReferenceIdeal.Value.run m' g')
  rw [Cert.FfnReferenceIdeal.Read.val_main_v24_eq, (hargs c).1, (hargs c).2.1, (hargs c).2.2.1, (hargs c).2.2.2.1, (hargs c).2.2.2.2]
  exact val_eq m c

end Cert.FfnValue

end
-- ==== Proof.OutprojKernel.lean ====
module

public import proofs.«01_k».proof.Proof.Gen.OutprojIdeal.Value
public import Idealize.ShloMosaic.Lib.Pointwise
public import Idealize.ShloMosaic.Lib.Pointwise.IndexBridge
public import Idealize.ShloMosaic.Lib.Pointwise.Sums
public import Idealize.ShloMosaic.Lib.Pipeline.Value
public import Idealize.ShloMosaic.Lib.StableHlo.RunRead

@[expose] public section

noncomputable section

/-! The output projection of the kernel: each element of the result array. -/
namespace Cert.OutprojIdeal.Val

open Cert.OutprojIdeal Cert.OutprojIdeal.Gen Cert.OutprojIdeal.Value Idealize.ShloMosaic Idealize.ShloMosaic.TcCoe Idealize.ShloMosaic.Tactic Idealize.SL.Sem

/-- A row normalised by its root mean square and scaled by the gain. -/
def nrm (x g : Fin 1024 → EReal) (l : Fin 1024) : EReal :=
  x l * Ideal.rsqrt (Ideal.div (∑ k, x k * x k) (Ideal.ofBits FTy.f32 1149239296#32) + Ideal.ofBits FTy.f32 897988541#32) * g l

theorem pay_apply (x0 x1 : Vec Ideal S256x1024 .f32) (g0 g1 : Vec Ideal S1x1024 .f32) (w w' : Vec Ideal S1024x2048 .bf16) (x : Vec Ideal S256x2048 .f32) (J : Fin 256) (d : Fin 2048) :
    k0_pay1 (k0_pay2 x0 g0 x1 g1 w w') x (ix2 J d) = x (ix2 J d) +
      (∑ l, nrm (fun k => x0 (ix2 J k)) (fun k => g0 (ix2 (0 : Fin 1) k)) l * w (ix2 l d) + ∑ l, nrm (fun k => x1 (ix2 J k)) (fun k => g1 (ix2 (0 : Fin 1) k)) l * w' (ix2 l d)) := by
  unfold nrm
  pointwise [k0_pay1, k0_pay2]

theorem hz : (![0, 0] : Fin 2 → Nat) = fun _ => 0 := funext fun a => by fin_cases a <;> rfl

/-- Half `b` of the projection's rows. -/
abbrev lo (l : Fin 1024) : Fin 2048 := ⟨l.val, by omega⟩
abbrev hi (l : Fin 1024) : Fin 2048 := ⟨1024 + l.val, by omega⟩

theorem out_apply (x0 x1 : Vec Ideal S256x1024 .f32) (g0 g1 : Vec Ideal S1x1024 .f32) (w : Vec Ideal S2048x2048 .bf16) (x : Vec Ideal S256x2048 .f32) (J : Fin 256) (d : Fin 2048) :
    out0_6 x0 x1 g0 g1 w x (ix2 J d) = x (ix2 J d) +
      (∑ l, nrm (fun k => x0 (ix2 J k)) (fun k => g0 (ix2 (0 : Fin 1) k)) l * w (ix2 (lo l) d) + ∑ l, nrm (fun k => x1 (ix2 J k)) (fun k => g1 (ix2 (0 : Fin 1) k)) l * w (ix2 (hi l) d)) := by
  unfold out0_6
  rw [View.canon_unit_zero hz]
  simp only [View.ld_unit_zero (S := S256x1024) hz, View.ld_unit_zero (S := S1x1024) hz, View.ld_unit_zero (S := S256x2048) hz]
  rw [pay_apply]
  have e1 : ∀ l : Fin 1024, View.ld w r0_2 (ix2 l d) = w (ix2 (lo l) d) := fun l => congrArg w (funext fun a => Fin.ext (by
    match a with
    | ⟨0, _⟩ => show 0 + 1 * l.val = l.val; omega
    | ⟨1, _⟩ => show 0 + 1 * d.val = d.val; omega))
  have e2 : ∀ l : Fin 1024, View.ld w r0_3 (ix2 l d) = w (ix2 (hi l) d) := fun l => congrArg w (funext fun a => Fin.ext (by
    match a with
    | ⟨0, _⟩ => show 1024 + 1 * l.val = 1024 + l.val; omega
    | ⟨1, _⟩ => show 0 + 1 * d.val = d.val; omega))
  simp only [e1, e2]

variable (m : (ℓ : Loc nD τ sig) → Buf (Elt Ideal) ℓ) (c : Dev nD)

/-- The two mixers' rows, their gains, the weight and the residual, as launched. -/
def A0 : Vec Ideal S8192x1024 .f32 := m ((c : Thread nD τ).loc main_arg0)
def A1 : Vec Ideal S8192x1024 .f32 := m ((c : Thread nD τ).loc main_arg1)
def A2 : Vec Ideal S1x1024 .f32 := m ((c : Thread nD τ).loc main_arg2)
def A3 : Vec Ideal S1x1024 .f32 := m ((c : Thread nD τ).loc main_arg3)
def A4 : Vec Ideal S1x2048x2048 .f32 := m ((c : Thread nD τ).loc main_arg4)
def A5 : Vec Ideal S8192x2048 .f32 := m ((c : Thread nD τ).loc main_arg5)

theorem V_v1 : V m c main_v1 = broadcastInDim S1x1024 ![1] bcast_S1024_S1x1024_1 (shapeCast S1024 (A2 m c) shapeCasts_S1x1024_S1024) := by
  unfold V hostOps0 A2
  after_results_simp <;> rfl
theorem V_v3 : V m c main_v3 = broadcastInDim S1x1024 ![1] bcast_S1024_S1x1024_1 (shapeCast S1024 (A3 m c) shapeCasts_S1x1024_S1024) := by
  unfold V hostOps0 A3
  after_results_simp <;> rfl
theorem V_v5 : V m c main_v5 = truncf (F := Ideal) .bf16 (shapeCast S2048x2048 (A4 m c) shapeCasts_S1x2048x2048_S2048x2048) bitsLt_bf16_f32 := by
  unfold V hostOps0 A4
  after_results_simp <;> rfl

theorem v1_apply (l : Fin 1024) : V m c main_v1 (ix2 (0 : Fin 1) l) = A2 m c (ix2 (0 : Fin 1) l) := by
  rw [V_v1]
  pointwise
theorem v3_apply (l : Fin 1024) : V m c main_v3 (ix2 (0 : Fin 1) l) = A3 m c (ix2 (0 : Fin 1) l) := by
  rw [V_v3]
  pointwise
theorem v5_apply (k d : Fin 2048) : V m c main_v5 (ix2 k d) = A4 m c (ix3 (0 : Fin 1) k d) := by
  rw [V_v5]
  pointwise

theorem idx0 (t : Fin cfg0.N) : win0_0.index t = ![t.val, 0] := (by decide +kernel : ∀ t : Fin grid0.N, win0_0.index t = ![t.val, 0]) t
theorem idx1 (t : Fin cfg0.N) : win0_1.index t = ![t.val, 0] := (by decide +kernel : ∀ t : Fin grid0.N, win0_1.index t = ![t.val, 0]) t
theorem idx2 (t : Fin cfg0.N) : win0_2.index t = ![0, 0] := (by decide +kernel : ∀ t : Fin grid0.N, win0_2.index t = ![0, 0]) t
theorem idx3 (t : Fin cfg0.N) : win0_3.index t = ![0, 0] := (by decide +kernel : ∀ t : Fin grid0.N, win0_3.index t = ![0, 0]) t
theorem idx4 (t : Fin cfg0.N) : win0_4.index t = ![0, 0] := (by decide +kernel : ∀ t : Fin grid0.N, win0_4.index t = ![0, 0]) t
theorem idx5 (t : Fin cfg0.N) : win0_5.index t = ![t.val, 0] := (by decide +kernel : ∀ t : Fin grid0.N, win0_5.index t = ![t.val, 0]) t
theorem idx6 (t : Fin cfg0.N) : win0_6.index t = ![t.val, 0] := (by decide +kernel : ∀ t : Fin grid0.N, win0_6.index t = ![t.val, 0]) t

theorem t_lt (t : Fin cfg0.N) : t.val < 32 := lt_of_lt_of_eq t.isLt N_0

variable (t : Fin cfg0.N)

/-- The row of the array that row `J` of block `t` is. -/
abbrev rowOf (J : Fin 256) : Fin 8192 := ⟨256 * t.val + J.val, by have := t_lt t; omega⟩

theorem X0_apply (J : Fin 256) (l : Fin 1024) : iblk m c 0 t (ix2 J l) = A0 m c (ix2 (rowOf t J) l) := by
  show V m c main_arg0 _ = A0 m c _
  rw [V_main_arg0]
  refine congrArg (A0 m c) (funext fun a => Fin.ext ?_)
  match a with
  | ⟨0, _⟩ => show win0_0.index t 0 * 256 + 1 * J.val = 256 * t.val + J.val; rw [idx0]; show t.val * 256 + 1 * J.val = _; omega
  | ⟨1, _⟩ => show win0_0.index t 1 * 1024 + 1 * l.val = l.val; rw [idx0]; show 0 * 1024 + 1 * l.val = _; omega

theorem X1_apply (J : Fin 256) (l : Fin 1024) : iblk m c 1 t (ix2 J l) = A1 m c (ix2 (rowOf t J) l) := by
  show V m c main_arg1 _ = A1 m c _
  rw [V_main_arg1]
  refine congrArg (A1 m c) (funext fun a => Fin.ext ?_)
  match a with
  | ⟨0, _⟩ => show win0_1.index t 0 * 256 + 1 * J.val = 256 * t.val + J.val; rw [idx1]; show t.val * 256 + 1 * J.val = _; omega
  | ⟨1, _⟩ => show win0_1.index t 1 * 1024 + 1 * l.val = l.val; rw [idx1]; show 0 * 1024 + 1 * l.val = _; omega

theorem X2_apply (l : Fin 1024) : iblk m c 2 t (ix2 (0 : Fin 1) l) = A2 m c (ix2 (0 : Fin 1) l) := by
  rw [← v1_apply]
  refine congrArg (V m c main_v1) (funext fun a => Fin.ext ?_)
  match a with
  | ⟨0, _⟩ => show win0_2.index t 0 * 1 + 1 * 0 = _; rw [idx2]; rfl
  | ⟨1, _⟩ => show win0_2.index t 1 * 1024 + 1 * l.val = l.val; rw [idx2]; show 0 * 1024 + 1 * l.val = _; omega

theorem X3_apply (l : Fin 1024) : iblk m c 3 t (ix2 (0 : Fin 1) l) = A3 m c (ix2 (0 : Fin 1) l) := by
  rw [← v3_apply]
  refine congrArg (V m c main_v3) (funext fun a => Fin.ext ?_)
  match a with
  | ⟨0, _⟩ => show win0_3.index t 0 * 1 + 1 * 0 = _; rw [idx3]; rfl
  | ⟨1, _⟩ => show win0_3.index t 1 * 1024 + 1 * l.val = l.val; rw [idx3]; show 0 * 1024 + 1 * l.val = _; omega

theorem X4_apply (k d : Fin 2048) : iblk m c 4 t (ix2 k d) = A4 m c (ix3 (0 : Fin 1) k d) := by
  rw [← v5_apply]
  refine congrArg (V m c main_v5) (funext fun a => Fin.ext ?_)
  match a with
  | ⟨0, _⟩ => show win0_4.index t 0 * 2048 + 1 * k.val = k.val; rw [idx4]; show 0 * 2048 + 1 * k.val = _; omega
  | ⟨1, _⟩ => show win0_4.index t 1 * 2048 + 1 * d.val = d.val; rw [idx4]; show 0 * 2048 + 1 * d.val = _; omega

theorem X5_apply (J : Fin 256) (d : Fin 2048) : iblk m c 5 t (ix2 J d) = A5 m c (ix2 (rowOf t J) d) := by
  show V m c main_arg5 _ = A5 m c _
  rw [V_main_arg5]
  refine congrArg (A5 m c) (funext fun a => Fin.ext ?_)
  match a with
  | ⟨0, _⟩ => show win0_5.index t 0 * 256 + 1 * J.val = 256 * t.val + J.val; rw [idx5]; show t.val * 256 + 1 * J.val = _; omega
  | ⟨1, _⟩ => show win0_5.index t 1 * 2048 + 1 * d.val = d.val; rw [idx5]; show 0 * 2048 + 1 * d.val = _; omega

/-- One element of the result: the residual and the two halves of the product. -/
def res (r : Fin 8192) (d : Fin 2048) : EReal := A5 m c (ix2 r d) +
  (∑ l, nrm (fun k => A0 m c (ix2 r k)) (fun k => A2 m c (ix2 (0 : Fin 1) k)) l * A4 m c (ix3 (0 : Fin 1) (lo l) d)
    + ∑ l, nrm (fun k => A1 m c (ix2 r k)) (fun k => A3 m c (ix2 (0 : Fin 1) k)) l * A4 m c (ix3 (0 : Fin 1) (hi l) d))

/-- What the result array ends holding. -/
def G : Buf (Elt Ideal) ((c : Thread nD τ).loc main_v6) := fun (i : S8192x2048.Idx) => res m c (i 0) (i 1)

theorem flushed_eq : (dats m 0 c).flushed 6 t = ((cfg0.win 6).blk t).view.read (Elt Ideal) (G m c) := by
  have ht := t_lt t
  rw [flushed6]
  funext y
  obtain ⟨J, d, rfl⟩ : ∃ (J : Fin 256) (d : Fin 2048), y = ix2 J d := ⟨y 0, y 1, eq_ix2 y⟩
  have hb0 : ((cfg0.win 6).blk t).view.emb (ix2 J d) 0 = rowOf t J := Fin.ext (by
    show win0_6.index t (0 : Fin 2) * 256 + 1 * J.val = 256 * t.val + J.val
    rw [idx6]; show t.val * 256 + 1 * J.val = _; omega)
  have hb1 : ((cfg0.win 6).blk t).view.emb (ix2 J d) 1 = d := Fin.ext (by
    show win0_6.index t (1 : Fin 2) * 2048 + 1 * d.val = d.val
    rw [idx6]; show 0 * 2048 + 1 * d.val = _; omega)
  refine Eq.trans (b := out0_6 (iblk m c 0 t) (iblk m c 1 t) (iblk m c 2 t) (iblk m c 3 t) (iblk m c 4 t) (iblk m c 5 t) (ix2 J d)) rfl ?_
  rw [out_apply]
  simp only [X0_apply, X1_apply, X2_apply, X3_apply, X4_apply, X5_apply]
  show res m c (rowOf t J) d = res m c (((cfg0.win 6).blk t).view.emb (ix2 J d) 0) (((cfg0.win 6).blk t).view.emb (ix2 J d) 1)
  rw [hb0, hb1]

theorem mem_blk (i : S8192x2048.Idx) :
    i ∈ ((cfg0.win 6).blk t).view.set ↔ ∀ a : Fin 2, win0_6.index t a * S256x2048.size a ≤ (i a).val ∧ (i a).val < win0_6.index t a * S256x2048.size a + S256x2048.size a := by
  show i ∈ ((View.whole main_v6).slice (win0_6.rect t)).set ↔ _
  rw [View.set_slice_whole, Rect.mem_set_unit]
  exact Iff.rfl

theorem final : (dats m 0 c).arrAt 6 cfg0.N = G m c :=
  (dats m 0 c).arrAt_eq_of_cover 6 _ (fun t _ => flushed_eq m c t) (fun (i : S8192x2048.Idx) => by
    have h0 : (i 0).val < 8192 := (i 0).isLt
    have h1 : (i 1).val < 2048 := (i 1).isLt
    let t : Fin cfg0.N := ⟨(i 0).val / 256, lt_of_lt_of_eq (by omega) N_0.symm⟩
    have htv : t.val = (i 0).val / 256 := rfl
    refine ⟨t, flush0_6 t, ?_⟩
    rw [mem_blk, idx6]
    intro a
    match a with
    | ⟨0, _⟩ => show t.val * 256 ≤ (i 0).val ∧ (i 0).val < t.val * 256 + 256; rw [htv]; omega
    | ⟨1, _⟩ => show 0 * 2048 ≤ (i 1).val ∧ (i 1).val < 0 * 2048 + 2048; omega)

/-- Every execution ends with the projected rows in the result array and the arguments unchanged. -/
theorem run (ρ : Dev nD → PrngReg) : θ_run defs (onTc (τ := τ) (main (F := Ideal))) ⟨m, fun _ => 0, ρ⟩ fun r => ∀ c : Dev nD,
      r.2.mem ((c : Thread nD τ).loc main_v6) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.OutprojIdeal.Val

end
-- ==== Proof.OutprojValue.lean ====
module

public import proofs.«01_k».proof.Defs
public import proofs.«01_k».proof.Proof.OutprojKernel
public import proofs.«01_k».proof.Proof.Gen.OutprojReferenceIdeal.Read
public import proofs.«01_k».proof.Proof.Gen.OutprojReferenceIdeal.Run

@[expose] public section

noncomputable section

/-! The reference's output projection, element by element, and the kernel's equality with it. -/
namespace Cert.OutprojValue

open Idealize.ShloMosaic Idealize.ShloMosaic.TcCoe Idealize.ShloMosaic.Tactic Idealize.SL.Sem Cert.OutprojReferenceIdeal Cert.OutprojReferenceIdeal.Read
open Cert.OutprojIdeal.Val (nrm lo hi)

section Reference

variable (x0 x1 : Vec Ideal Cert.OutprojReferenceIdeal.S8192x1024 .f32) (x2 x3 : Vec Ideal Cert.OutprojReferenceIdeal.S1x1024 .f32)
  (x4 : Vec Ideal Cert.OutprojReferenceIdeal.S1x2048x2048 .f32) (x5 : Vec Ideal Cert.OutprojReferenceIdeal.S8192x2048 .f32)

theorem v13_eq (r : Fin 8192) (l : Fin 1024) : val_main_v13 (F := Ideal) x0 x2 (ix2 r l) = nrm (fun k => x0 (ix2 r k)) (fun k => x2 (ix2 (0 : Fin 1) k)) l := by
  unfold nrm
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]

theorem v27_eq (r : Fin 8192) (l : Fin 1024) : val_main_v27 (F := Ideal) x1 x3 (ix2 r l) = nrm (fun k => x1 (ix2 r k)) (fun k => x3 (ix2 (0 : Fin 1) k)) l := by
  unfold nrm
  pointwise [val_main_v27, val_main_v26, val_main_v25, val_main_v24, val_main_v23, val_main_v22, val_main_v21, val_main_v20, val_main_v19, val_main_v18, val_main_v17, val_main_v16, val_main_v15, val_main_v14, val_main_cst_2, val_main_cst_3, val_main_cst_4]

theorem v28_lo (r : Fin 8192) (l : Fin 1024) : val_main_v28 (F := Ideal) x0 x1 x2 x3 (ix2 r (lo l)) = nrm (fun k => x0 (ix2 r k)) (fun k => x2 (ix2 (0 : Fin 1) k)) l := by
  rw [← v13_eq]
  have h : (lo l).val < 1024 := l.isLt
  pointwise [val_main_v28]

theorem v28_hi (r : Fin 8192) (l : Fin 1024) : val_main_v28 (F := Ideal) x0 x1 x2 x3 (ix2 r (hi l)) = nrm (fun k => x1 (ix2 r k)) (fun k => x3 (ix2 (0 : Fin 1) k)) l := by
  rw [← v27_eq]
  have h : ¬(hi l).val < 1024 := by show ¬(1024 + l.val < 1024); omega
  pointwise [val_main_v28]

theorem v31_eq (r : Fin 8192) (d : Fin 2048) : val_main_v31 (F := Ideal) x0 x1 x2 x3 x4 x5 (ix2 r d) = x5 (ix2 r d) +
    (∑ l, nrm (fun k => x0 (ix2 r k)) (fun k => x2 (ix2 (0 : Fin 1) k)) l * x4 (ix3 (0 : Fin 1) (lo l) d)
      + ∑ l, nrm (fun k => x1 (ix2 r k)) (fun k => x3 (ix2 (0 : Fin 1) k)) l * x4 (ix3 (0 : Fin 1) (hi l) d)) := by
  have e : val_main_v31 (F := Ideal) x0 x1 x2 x3 x4 x5 (ix2 r d) = x5 (ix2 r d) + ∑ k, val_main_v28 (F := Ideal) x0 x1 x2 x3 (ix2 r k) * x4 (ix3 (0 : Fin 1) k d) := by
    pointwise [val_main_v31, val_main_v30, val_main_v29]
  rw [e, Fin.sum_univ_add (a := 1024) (b := 1024)]
  refine congrArg (_ + ·) (congrArg₂ (· + ·) (Finset.sum_congr rfl fun l _ => ?_) (Finset.sum_congr rfl fun l _ => ?_))
  · exact congrArg (· * _) (v28_lo x0 x1 x2 x3 r l)
  · exact congrArg (· * _) (v28_hi x0 x1 x2 x3 r l)

end Reference

theorem val_eq (m : (ℓ : Loc Cert.OutprojIdeal.nD Cert.OutprojIdeal.τ Cert.OutprojIdeal.sig) → Buf (Elt Ideal) ℓ) (c : Dev Cert.OutprojIdeal.nD) :
    val_main_v31 (F := Ideal) (Cert.OutprojIdeal.Val.A0 m c) (Cert.OutprojIdeal.Val.A1 m c) (Cert.OutprojIdeal.Val.A2 m c) (Cert.OutprojIdeal.Val.A3 m c) (Cert.OutprojIdeal.Val.A4 m c) (Cert.OutprojIdeal.Val.A5 m c) = Cert.OutprojIdeal.Val.G m c := by
  funext i
  rw [eq_ix2 i]
  exact v31_eq _ _ _ _ _ _ (i 0) (i 1)

theorem algebraic [Cert.OutprojIdeal.Facts] [Cert.OutprojReferenceIdeal.Facts] : Cert.algebraic_OutprojIdeal_OutprojReferenceIdeal := by
  intro m g m' g' _ hargs
  refine ⟨fun c => Cert.OutprojIdeal.Val.G m c, Cert.OutprojIdeal.Val.run m g, ?_⟩
  refine (θ_run _ _ _).mono (fun r h c => ⟨(h c).1.trans ?_, (h c).2⟩) (Cert.OutprojReferenceIdeal.Value.run m' g')
  rw [Cert.OutprojReferenceIdeal.Read.val_main_v31_eq, (hargs c).1, (hargs c).2.1, (hargs c).2.2.1, (hargs c).2.2.2.1, (hargs c).2.2.2.2.1, (hargs c).2.2.2.2.2]
  exact val_eq m c

end Cert.OutprojValue

end
-- ==== Proof.GatesKernel.lean ====
module

public import proofs.«01_k».proof.Proof.Gen.GatesIdeal.Value
public import Idealize.ShloMosaic.Lib.Pointwise
public import Idealize.ShloMosaic.Lib.Pointwise.IndexBridge
public import Idealize.ShloMosaic.Lib.Pointwise.Sums
public import Idealize.ShloMosaic.Lib.Pipeline.Value
public import Idealize.ShloMosaic.Lib.StableHlo.RunRead

@[expose] public section

noncomputable section

/-! The gates of the kernel: each element of the result array. -/
namespace Cert.GatesIdeal.Val

open Cert.GatesIdeal Cert.GatesIdeal.Gen Cert.GatesIdeal.Value Idealize.ShloMosaic Idealize.ShloMosaic.TcCoe Idealize.ShloMosaic.Tactic Idealize.SL.Sem

/-- A row normalised by its root mean square and scaled by the gain. -/
def nrm (x g : Fin 2048 → EReal) (l : Fin 2048) : EReal :=
  x l * Ideal.rsqrt (Ideal.div (∑ k, x k * x k) (Ideal.ofBits FTy.f32 1157627904#32) + Ideal.ofBits FTy.f32 897988541#32) * g l

/-- The logistic function and its logarithm, as the kernel computes them. -/
def sg (z : EReal) : EReal := Ideal.div 1 (1 + Ideal.exp (0 - z))
def lsg (z : EReal) : EReal := min z 0 - Ideal.log (1 + Ideal.exp (0 - FloatOps.absf (F := Ideal) (φ := .f32) z))

theorem hz : (![0, 0] : Fin 2 → Nat) = fun _ => 0 := funext fun a => by fin_cases a <;> rfl

variable (x0 : Vec Ideal S512x2048 .f32) (x1 : Vec Ideal S1x2048 .f32) (x2 : Vec Ideal S2048x128 .bf16) (x3 : Vec Ideal S1x128 .f32)

theorem pay2_apply (J : Fin 512) (d : Fin 128) : k0_pay2 x0 x1 x2 x3 (ix2 J d) =
    ∑ l, nrm (fun k => x0 (ix2 J k)) (fun k => x1 (ix2 (0 : Fin 1) k)) l * x2 (ix2 l d) + x3 (ix2 (0 : Fin 1) d) := by
  unfold nrm
  pointwise [k0_pay2]

theorem pay3_apply (J : Fin 512) (d : Fin 128) : k0_pay3 x0 x1 x2 x3 (ix2 J d) = sg (k0_pay2 x0 x1 x2 x3 (ix2 J d)) := by
  unfold sg
  pointwise [k0_pay3]

theorem pay4_apply (J : Fin 512) (d : Fin 128) : k0_pay4 x0 x1 x2 x3 (ix2 J d) = lsg (k0_pay2 x0 x1 x2 x3 (ix2 J d)) := by
  unfold lsg
  pointwise [k0_pay4]

theorem out_apply (J : Fin 512) (d : Fin 128) : out0_4 x0 x1 x2 x3 (ix2 J d) =
    Scalar.select (IntOp.cmpi .slt (BitVec.ofNat 32 d.val) 24#32) (sg (∑ l, nrm (fun k => x0 (ix2 J k)) (fun k => x1 (ix2 (0 : Fin 1) k)) l * x2 (ix2 l d) + x3 (ix2 (0 : Fin 1) d)))
      (Scalar.select (IntOp.cmpi .slt (BitVec.ofNat 32 d.val) 32#32) (lsg (∑ l, nrm (fun k => x0 (ix2 J k)) (fun k => x1 (ix2 (0 : Fin 1) k)) l * x2 (ix2 l d) + x3 (ix2 (0 : Fin 1) d))) 0) := by
  unfold out0_4
  rw [View.canon_unit_zero hz]
  simp only [View.ld_unit_zero (S := S512x2048) hz, View.ld_unit_zero (S := S1x2048) hz, View.ld_unit_zero (S := S2048x128) hz, View.ld_unit_zero (S := S1x128) hz]
  rw [← pay2_apply, ← pay3_apply, ← pay4_apply]
  pointwise [k0_pay1]

theorem slt24 : ∀ d : Fin 128, IntOp.cmpi .slt (BitVec.ofNat 32 d.val) 24#32 = if d.val < 24 then 1#1 else 0#1 := by decide +kernel
theorem slt32 : ∀ d : Fin 128, IntOp.cmpi .slt (BitVec.ofNat 32 d.val) 32#32 = if d.val < 32 then 1#1 else 0#1 := by decide +kernel

variable (m : (ℓ : Loc nD τ sig) → Buf (Elt Ideal) ℓ) (c : Dev nD)

/-- The rows, the gain, the input weight and the two biases, as launched. -/
def A0 : Vec Ideal S8192x2048 .f32 := m ((c : Thread nD τ).loc main_arg0)
def A1 : Vec Ideal S1x2048 .f32 := m ((c : Thread nD τ).loc main_arg1)
def A2 : Vec Ideal S1x2048x7200 .f32 := m ((c : Thread nD τ).loc main_arg2)
def A3 : Vec Ideal S1x8x3 .f32 := m ((c : Thread nD τ).loc main_arg3)
def A4 : Vec Ideal S1x8 .f32 := m ((c : Thread nD τ).loc main_arg4)

theorem V_v13 : V m c main_v13 = broadcastInDim S1x2048 ![1] bcast_S2048_S1x2048_1 (shapeCast S2048 (A1 m c) shapeCasts_S1x2048_S2048) := by
  unfold V hostOps0 A1
  after_results_simp <;> rfl

theorem v13_apply (l : Fin 2048) : V m c main_v13 (ix2 (0 : Fin 1) l) = A1 m c (ix2 (0 : Fin 1) l) := by
  rw [V_v13]
  pointwise

theorem V_v5 : V m c main_v5 = truncf (F := Ideal) .bf16 (concatenate (α := Elt Ideal .f32) S2048x128 1 [⟨S2048x24, extractStridedSlice S2048x24 ![0, 4096] (shapeCast S2048x7200 (A2 m c) shapeCasts_S1x2048x7200_S2048x7200) slices_S2048x7200_S2048x24_0_4096⟩,
    ⟨S2048x8, extractStridedSlice S2048x8 ![0, 7192] (shapeCast S2048x7200 (A2 m c) shapeCasts_S1x2048x7200_S2048x7200) slices_S2048x7200_S2048x8_0_7192⟩,
    ⟨S2048x96, broadcastInDim S2048x96 ![] bcast_S_S2048x96 (constant (F := Ideal) S_ .f32 0#32)⟩] concatenates_S2048x24_S2048x8_S2048x96_S2048x128_d1) bitsLt_bf16_f32 := by
  unfold V hostOps0 A2
  after_results_simp <;> rfl
theorem V_v11 : V m c main_v11 = broadcastInDim S1x128 ![1] bcast_S128_S1x128_1 (concatenate (α := Elt Ideal .f32) S128 0 [⟨S24, shapeCast S24 (shapeCast S8x3 (A3 m c) shapeCasts_S1x8x3_S8x3) shapeCasts_S8x3_S24⟩,
    ⟨S8, shapeCast S8 (A4 m c) shapeCasts_S1x8_S8⟩, ⟨S96, broadcastInDim S96 ![] bcast_S_S96 (constant (F := Ideal) S_ .f32 0#32)⟩] concatenates_S24_S8_S96_S128_d0) := by
  unfold V hostOps0 A3 A4
  after_results_simp <;> rfl

theorem v5_a (k : Fin 2048) (d : Fin 128) (h : d.val < 24) : V m c main_v5 (ix2 k d) = A2 m c (ix3 (0 : Fin 1) k ⟨4096 + d.val, by omega⟩) := by
  rw [V_v5]
  pointwise
  rw [dif_pos h]
theorem v5_b (k : Fin 2048) (d : Fin 128) (h : ¬d.val < 24) (h' : d.val < 32) : V m c main_v5 (ix2 k d) = A2 m c (ix3 (0 : Fin 1) k ⟨7192 + (d.val - 24), by omega⟩) := by
  rw [V_v5]
  have h2 : d.val - 24 < 8 := by omega
  pointwise
  rw [dif_neg h, dif_pos h2]
theorem v11_a (d : Fin 128) (h : d.val < 24) : V m c main_v11 (ix2 (0 : Fin 1) d) = A3 m c (ix3 (0 : Fin 1) ⟨d.val / 3, by omega⟩ ⟨d.val % 3, by omega⟩) := by
  rw [V_v11]
  pointwise
  rw [dif_pos h]
theorem v11_b (d : Fin 128) (h : ¬d.val < 24) (h' : d.val < 32) : V m c main_v11 (ix2 (0 : Fin 1) d) = A4 m c (ix2 (0 : Fin 1) ⟨d.val - 24, by omega⟩) := by
  rw [V_v11]
  have h2 : d.val - 24 < 8 := by omega
  pointwise
  rw [dif_neg h, dif_pos h2]

theorem idx0 (t : Fin cfg0.N) : win0_0.index t = ![t.val, 0] := (by decide +kernel : ∀ t : Fin grid0.N, win0_0.index t = ![t.val, 0]) t
theorem idx1 (t : Fin cfg0.N) : win0_1.index t = ![0, 0] := (by decide +kernel : ∀ t : Fin grid0.N, win0_1.index t = ![0, 0]) t
theorem idx2 (t : Fin cfg0.N) : win0_2.index t = ![0, 0] := (by decide +kernel : ∀ t : Fin grid0.N, win0_2.index t = ![0, 0]) t
theorem idx3 (t : Fin cfg0.N) : win0_3.index t = ![0, 0] := (by decide +kernel : ∀ t : Fin grid0.N, win0_3.index t = ![0, 0]) t
theorem idx4 (t : Fin cfg0.N) : win0_4.index t = ![t.val, 0] := (by decide +kernel : ∀ t : Fin grid0.N, win0_4.index t = ![t.val, 0]) t

theorem t_lt (t : Fin cfg0.N) : t.val < 16 := lt_of_lt_of_eq t.isLt N_0

variable (t : Fin cfg0.N)

/-- The row of the array that row `J` of block `t` is. -/
abbrev rowOf (J : Fin 512) : Fin 8192 := ⟨512 * t.val + J.val, by have := t_lt t; omega⟩

theorem X0_apply (J : Fin 512) (l : Fin 2048) : iblk m c 0 t (ix2 J l) = A0 m c (ix2 (rowOf t J) l) := by
  show V m c main_arg0 _ = A0 m c _
  rw [V_main_arg0]
  refine congrArg (A0 m c) (funext fun a => Fin.ext ?_)
  match a with
  | ⟨0, _⟩ => show win0_0.index t 0 * 512 + 1 * J.val = 512 * t.val + J.val; rw [idx0]; show t.val * 512 + 1 * J.val = _; omega
  | ⟨1, _⟩ => show win0_0.index t 1 * 2048 + 1 * l.val = l.val; rw [idx0]; show 0 * 2048 + 1 * l.val = _; omega

theorem X1_apply (l : Fin 2048) : iblk m c 1 t (ix2 (0 : Fin 1) l) = A1 m c (ix2 (0 : Fin 1) l) := by
  rw [← v13_apply]
  refine congrArg (V m c main_v13) (funext fun a => Fin.ext ?_)
  match a with
  | ⟨0, _⟩ => show win0_1.index t 0 * 1 + 1 * 0 = _; rw [idx1]; rfl
  | ⟨1, _⟩ => show win0_1.index t 1 * 2048 + 1 * l.val = l.val; rw [idx1]; show 0 * 2048 + 1 * l.val = _; omega

theorem X2_apply (k : Fin 2048) (d : Fin 128) : iblk m c 2 t (ix2 k d) = V m c main_v5 (ix2 k d) := by
  refine congrArg (V m c main_v5) (funext fun a => Fin.ext ?_)
  match a with
  | ⟨0, _⟩ => show win0_2.index t 0 * 2048 + 1 * k.val = k.val; rw [idx2]; show 0 * 2048 + 1 * k.val = _; omega
  | ⟨1, _⟩ => show win0_2.index t 1 * 128 + 1 * d.val = d.val; rw [idx2]; show 0 * 128 + 1 * d.val = _; omega

theorem X3_apply (d : Fin 128) : iblk m c 3 t (ix2 (0 : Fin 1) d) = V m c main_v11 (ix2 (0 : Fin 1) d) := by
  refine congrArg (V m c main_v11) (funext fun a => Fin.ext ?_)
  match a with
  | ⟨0, _⟩ => show win0_3.index t 0 * 1 + 1 * 0 = _; rw [idx3]; rfl
  | ⟨1, _⟩ => show win0_3.index t 1 * 128 + 1 * d.val = d.val; rw [idx3]; show 0 * 128 + 1 * d.val = _; omega

/-- The column of the input weight with bias that column `d` of the result reads. -/
def pre (r : Fin 8192) (w : Fin 2048 → EReal) (b : EReal) : EReal :=
  ∑ l, nrm (fun k => A0 m c (ix2 r k)) (fun k => A1 m c (ix2 (0 : Fin 1) k)) l * w l + b

/-- One element of the result: a branch gate, a log forget gate, or zero. -/
def res (r : Fin 8192) (d : Fin 128) : EReal :=
  if h : d.val < 24 then sg (pre m c r (fun l => A2 m c (ix3 (0 : Fin 1) l ⟨4096 + d.val, by omega⟩)) (A3 m c (ix3 (0 : Fin 1) ⟨d.val / 3, by omega⟩ ⟨d.val % 3, by omega⟩)))
  else if h' : d.val < 32 then lsg (pre m c r (fun l => A2 m c (ix3 (0 : Fin 1) l ⟨7192 + (d.val - 24), by omega⟩)) (A4 m c (ix2 (0 : Fin 1) ⟨d.val - 24, by omega⟩)))
  else 0

/-- What the result array ends holding. -/
def G : Buf (Elt Ideal) ((c : Thread nD τ).loc main_v14) := fun (i : S8192x128.Idx) => res m c (i 0) (i 1)

theorem blk_apply (J : Fin 512) (d : Fin 128) : out0_4 (iblk m c 0 t) (iblk m c 1 t) (iblk m c 2 t) (iblk m c 3 t) (ix2 J d) = res m c (rowOf t J) d := by
  rw [out_apply, slt24, slt32]
  simp only [X0_apply, X1_apply, X2_apply, X3_apply]
  unfold res pre
  by_cases h : d.val < 24
  · rw [dif_pos h, if_pos h]
    simp only [v5_a m c _ d h, v11_a m c d h]
    rfl
  · rw [dif_neg h, if_neg h]
    by_cases h' : d.val < 32
    · rw [dif_pos h', if_pos h']
      simp only [v5_b m c _ d h h', v11_b m c d h h']
      rfl
    · rw [dif_neg h', if_neg h']
      rfl

theorem flushed_eq : (dats m 0 c).flushed 4 t = ((cfg0.win 4).blk t).view.read (Elt Ideal) (G m c) := by
  have ht := t_lt t
  rw [flushed4]
  funext y
  obtain ⟨J, d, rfl⟩ : ∃ (J : Fin 512) (d : Fin 128), y = ix2 J d := ⟨y 0, y 1, eq_ix2 y⟩
  have hb0 : ((cfg0.win 4).blk t).view.emb (ix2 J d) 0 = rowOf t J := Fin.ext (by
    show win0_4.index t (0 : Fin 2) * 512 + 1 * J.val = 512 * t.val + J.val
    rw [idx4]; show t.val * 512 + 1 * J.val = _; omega)
  have hb1 : ((cfg0.win 4).blk t).view.emb (ix2 J d) 1 = d := Fin.ext (by
    show win0_4.index t (1 : Fin 2) * 128 + 1 * d.val = d.val
    rw [idx4]; show 0 * 128 + 1 * d.val = _; omega)
  refine Eq.trans (b := out0_4 (iblk m c 0 t) (iblk m c 1 t) (iblk m c 2 t) (iblk m c 3 t) (ix2 J d)) rfl ?_
  rw [blk_apply]
  show res m c (rowOf t J) d = res m c (((cfg0.win 4).blk t).view.emb (ix2 J d) 0) (((cfg0.win 4).blk t).view.emb (ix2 J d) 1)
  rw [hb0, hb1]

theorem mem_blk (i : S8192x128.Idx) :
    i ∈ ((cfg0.win 4).blk t).view.set ↔ ∀ a : Fin 2, win0_4.index t a * S512x128.size a ≤ (i a).val ∧ (i a).val < win0_4.index t a * S512x128.size a + S512x128.size a := by
  show i ∈ ((View.whole main_v14).slice (win0_4.rect t)).set ↔ _
  rw [View.set_slice_whole, Rect.mem_set_unit]
  exact Iff.rfl

theorem final : (dats m 0 c).arrAt 4 cfg0.N = G m c :=
  (dats m 0 c).arrAt_eq_of_cover 4 _ (fun t _ => flushed_eq m c t) (fun (i : S8192x128.Idx) => by
    have h0 : (i 0).val < 8192 := (i 0).isLt
    have h1 : (i 1).val < 128 := (i 1).isLt
    let t : Fin cfg0.N := ⟨(i 0).val / 512, lt_of_lt_of_eq (by omega) N_0.symm⟩
    have htv : t.val = (i 0).val / 512 := rfl
    refine ⟨t, flush0_4 t, ?_⟩
    rw [mem_blk, idx4]
    intro a
    match a with
    | ⟨0, _⟩ => show t.val * 512 ≤ (i 0).val ∧ (i 0).val < t.val * 512 + 512; rw [htv]; omega
    | ⟨1, _⟩ => show 0 * 128 ≤ (i 1).val ∧ (i 1).val < 0 * 128 + 128; omega)

/-- Every execution ends with the gates in the result array and the arguments unchanged. -/
theorem run (ρ : Dev nD → PrngReg) : θ_run defs (onTc (τ := τ) (main (F := Ideal))) ⟨m, fun _ => 0, ρ⟩ fun r => ∀ c : Dev nD,
      r.2.mem ((c : Thread nD τ).loc main_v14) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.GatesIdeal.Val

end
-- ==== Proof.GatesValue.lean ====
module

public import proofs.«01_k».proof.Defs
public import proofs.«01_k».proof.Proof.GatesKernel
public import Idealize.ShloMosaic.Lib.Pointwise
public import Idealize.ShloMosaic.Lib.Pointwise.IndexBridge
public import Idealize.ShloMosaic.Lib.Pointwise.Sums
public import proofs.«01_k».proof.Proof.Gen.GatesReferenceIdeal.Read
public import proofs.«01_k».proof.Proof.Gen.GatesReferenceIdeal.Run

@[expose] public section

noncomputable section

/-! The reference's gates, element by element, and the kernel's equality with it. -/
namespace Cert.GatesValue

open Idealize.ShloMosaic Idealize.ShloMosaic.TcCoe Idealize.ShloMosaic.Tactic Idealize.SL.Sem Cert.GatesReferenceIdeal Cert.GatesReferenceIdeal.Read
open Cert.GatesIdeal.Val (nrm sg lsg res pre)

/-- Over the extended reals the kernel's logarithm of the logistic function is the negated softplus of the negated argument. -/
theorem lsg_eq (z : EReal) : lsg z = -(max (-z) 0 + Ideal.log1p (Ideal.exp (-FloatOps.absf (F := Ideal) (φ := .f32) (-z)))) := by
  unfold lsg Ideal.log1p
  have e : ∀ y : EReal, FloatOps.absf (F := Ideal) (φ := .f32) y = max y (-y) := fun _ => rfl
  have l1 : Ideal.log 1 = 0 := by
    rw [← EReal.coe_one]
    exact (if_neg (by norm_num)).trans (by simp)
  have cmax : ∀ a b : ℝ, ((max a b : ℝ) : EReal) = max (a : EReal) b := fun a b => EReal.coe_strictMono.monotone.map_max
  have cmin : ∀ a b : ℝ, ((min a b : ℝ) : EReal) = min (a : EReal) b := fun a b => EReal.coe_strictMono.monotone.map_min
  rw [e, e, neg_neg, max_comm (-z) z, zero_sub]
  induction z using EReal.rec with
  | bot =>
    have hb : max (⊥ : EReal) (-⊥) = ⊤ := by simp
    rw [hb, EReal.neg_top, show Ideal.exp ⊥ = 0 from rfl, add_zero, l1]; simp
  | top =>
    have hb : max (⊤ : EReal) (-⊤) = ⊤ := by simp
    rw [hb, EReal.neg_top, show Ideal.exp ⊥ = 0 from rfl, add_zero, l1]; simp
  | coe x =>
    have hl : ∃ y : ℝ, Ideal.log (1 + Ideal.exp (-max (x : EReal) (-(x : EReal)))) = (y : EReal) := by
      rw [← EReal.coe_neg, ← cmax, ← EReal.coe_neg]
      refine ⟨_, show Ideal.log (((1 : ℝ) : EReal) + (Real.exp (-max x (-x)) : EReal)) = (Real.log (1 + Real.exp (-max x (-x))) : EReal) from ?_⟩
      rw [← EReal.coe_add]
      exact if_neg (not_le.mpr (by positivity))
    obtain ⟨y, hy⟩ := hl
    rw [hy, ← EReal.coe_neg, ← EReal.coe_zero, ← cmax, ← cmin, ← EReal.coe_add, ← EReal.coe_neg, ← EReal.coe_sub]
    refine congrArg _ ?_
    rcases le_total x 0 with h | h
    · rw [min_eq_left h, max_eq_left (by linarith)]; ring
    · rw [min_eq_right h, max_eq_right (by linarith)]; ring

section Reference

variable (x0 : Vec Ideal Cert.GatesReferenceIdeal.S8192x2048 .f32) (x1 : Vec Ideal Cert.GatesReferenceIdeal.S1x2048 .f32)
  (x2 : Vec Ideal Cert.GatesReferenceIdeal.S1x2048x7200 .f32) (x3 : Vec Ideal Cert.GatesReferenceIdeal.S1x8x3 .f32) (x4 : Vec Ideal Cert.GatesReferenceIdeal.S1x8 .f32)

theorem v36_a (r : Fin 8192) (d : Fin 128) (h : d.val < 24) : val_main_v36 (F := Ideal) x0 x1 x2 x3 x4 (ix2 r d) = val_main_v34 x0 x1 x2 x3 (ix2 r ⟨d.val, h⟩) := by
  pointwise [val_main_v36]
  rw [dif_pos h]
theorem v36_b (r : Fin 8192) (d : Fin 128) (h : ¬d.val < 24) (h' : d.val < 32) : val_main_v36 (F := Ideal) x0 x1 x2 x3 x4 (ix2 r d) = val_main_v33 x0 x1 x2 x4 (ix2 r ⟨d.val - 24, by omega⟩) := by
  have h2 : d.val - 24 < 8 := by omega
  pointwise [val_main_v36]
  rw [dif_neg h, dif_pos h2]
theorem v36_c (r : Fin 8192) (d : Fin 128) (h : ¬d.val < 24) (h' : ¬d.val < 32) : val_main_v36 (F := Ideal) x0 x1 x2 x3 x4 (ix2 r d) = 0 := by
  have h2 : ¬d.val - 24 < 8 := by omega
  pointwise [val_main_v36, val_main_v35, val_main_cst_4]
  rw [dif_neg h, dif_neg h2]

theorem v34_eq (r : Fin 8192) (d : Fin 24) : val_main_v34 (F := Ideal) x0 x1 x2 x3 (ix2 r d) =
    Ideal.div 1 (1 + Ideal.exp (-(∑ l, val_main_v13 (F := Ideal) x0 x1 (ix2 r l) * x2 (ix3 (0 : Fin 1) l ⟨4096 + d.val, by omega⟩) + x3 (ix3 (0 : Fin 1) ⟨d.val / 3, by omega⟩ ⟨d.val % 3, by omega⟩)))) := by
  pointwise [val_main_v34, val_main_v27, val_main_v26, val_main_v25, val_main_v24, val_main_v23, val_main_v22, val_main_v21, val_main_v20, val_main_v19, val_main_v18, val_main_v17, val_main_v16, val_main_v15, val_main_v14, val_main_cst_2, val_main_cst_3]

theorem v32_eq (r : Fin 8192) (d : Fin 8) : val_main_v32 (F := Ideal) x0 x1 x2 x4 (ix2 r d) =
    ∑ l, val_main_v13 (F := Ideal) x0 x1 (ix2 r l) * x2 (ix3 (0 : Fin 1) l ⟨7192 + d.val, by omega⟩) + x4 (ix2 (0 : Fin 1) d) := by
  pointwise [val_main_v32, val_main_v31, val_main_v30, val_main_v29, val_main_v28, val_main_v15, val_main_v14]

theorem v33_eq (r : Fin 8192) (d : Fin 8) : val_main_v33 (F := Ideal) x0 x1 x2 x4 (ix2 r d) = lsg (val_main_v32 (F := Ideal) x0 x1 x2 x4 (ix2 r d)) := by
  rw [lsg_eq]
  pointwise [val_main_v33, val_main_call0_v1, val_main_call0_v0, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_call0_cst]
  rw [if_neg (fun h => h rfl)]

theorem v13_eq (r : Fin 8192) (l : Fin 2048) : val_main_v13 (F := Ideal) x0 x1 (ix2 r l) = nrm (fun k => x0 (ix2 r k)) (fun k => x1 (ix2 (0 : Fin 1) k)) l := by
  unfold nrm
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]

end Reference

theorem val_eq (m : (ℓ : Loc Cert.GatesIdeal.nD Cert.GatesIdeal.τ Cert.GatesIdeal.sig) → Buf (Elt Ideal) ℓ) (c : Dev Cert.GatesIdeal.nD) :
    val_main_v36 (F := Ideal) (Cert.GatesIdeal.Val.A0 m c) (Cert.GatesIdeal.Val.A1 m c) (Cert.GatesIdeal.Val.A2 m c) (Cert.GatesIdeal.Val.A3 m c) (Cert.GatesIdeal.Val.A4 m c) = Cert.GatesIdeal.Val.G m c := by
  funext i
  obtain ⟨r, d, rfl⟩ : ∃ (r : Fin 8192) (d : Fin 128), i = ix2 r d := ⟨i 0, i 1, eq_ix2 i⟩
  refine Eq.trans ?_ (show res m c r d = _ from rfl)
  unfold res pre
  by_cases h : d.val < 24
  · rw [dif_pos h, v36_a _ _ _ _ _ r d h, v34_eq]
    simp only [v13_eq, sg, zero_sub]
  · rw [dif_neg h]
    by_cases h' : d.val < 32
    · rw [dif_pos h', v36_b _ _ _ _ _ r d h h', v33_eq, v32_eq]
      simp only [v13_eq]
    · rw [dif_neg h', v36_c _ _ _ _ _ r d h h']

theorem algebraic [Cert.GatesIdeal.Facts] [Cert.GatesReferenceIdeal.Facts] : Cert.algebraic_GatesIdeal_GatesReferenceIdeal := by
  intro m g m' g' _ hargs
  refine ⟨fun c => Cert.GatesIdeal.Val.G m c, Cert.GatesIdeal.Val.run m g, ?_⟩
  refine (θ_run _ _ _).mono (fun r h c => ⟨(h c).1.trans ?_, (h c).2⟩) (Cert.GatesReferenceIdeal.Value.run m' g')
  rw [Cert.GatesReferenceIdeal.Read.val_main_v36_eq, (hargs c).1, (hargs c).2.1, (hargs c).2.2.1, (hargs c).2.2.2.1, (hargs c).2.2.2.2]
  exact val_eq m c

end Cert.GatesValue

end
-- ==== Proof.CompressKernel.lean ====
module

public import proofs.«01_k».proof.Proof.Gen.CompressIdeal.Value
public import Idealize.ShloMosaic.Lib.Pointwise
public import Idealize.ShloMosaic.Lib.Pointwise.IndexBridge
public import Idealize.ShloMosaic.Lib.Pointwise.Sums
public import Idealize.ShloMosaic.Lib.Pipeline.Value
public import Idealize.ShloMosaic.Lib.StableHlo.RunRead

@[expose] public section

noncomputable section

/-! The compression of the kernel: each element of the result array. -/
namespace Cert.CompressIdeal.Val

open Cert.CompressIdeal Cert.CompressIdeal.Gen Cert.CompressIdeal.Value Idealize.ShloMosaic Idealize.ShloMosaic.TcCoe Idealize.ShloMosaic.Tactic Idealize.SL.Sem

/-- The chunk after chunk `n`, the first one after the last. -/
abbrev nxt (n : Fin 256) : Fin 256 := ⟨(n.val + 1) % 256, Nat.mod_lt _ (by norm_num)⟩

/-- One hidden unit of one block: the two chunks against the two halves of the weight, and the position embedding against the whole of it. -/
def hid (x : Fin 256 → Fin 2048 → EReal) (wa wb : Fin 2048 → EReal) (pa pb : Fin 2048 → EReal) (n : Fin 256) : EReal :=
  (∑ k, x n k * wa k + ∑ k, x (nxt n) k * wb k) + (∑ k, pa k * wa k + ∑ k, pb k * wb k)

/-- The activation, as the kernel computes it. -/
def act (z : EReal) : EReal := Ideal.div z (1 + Ideal.exp (0 - z))

/-- A row normalised by its root mean square and scaled by the gain. -/
def nrm (x g : Fin 128 → EReal) (d : Fin 128) : EReal :=
  x d * Ideal.rsqrt (Ideal.div (∑ k, x k * x k) (Ideal.ofBits FTy.f32 1124073472#32) + Ideal.ofBits FTy.f32 897988541#32) * g d

theorem hz2 : (![0, 0] : Fin 2 → Nat) = fun _ => 0 := funext fun a => by fin_cases a <;> rfl
theorem hz3 : (![0, 0, 0] : Fin 3 → Nat) = fun _ => 0 := funext fun a => by fin_cases a <;> rfl

section Payloads

variable (xb : Vec Ideal S1x1x256x2048 .bf16) (x1 : Vec Ideal S1x2048x1024 .bf16) (x2 : Vec Ideal S1x512x128 .bf16) (x3 : Vec Ideal S1x16x2048 .bf16) (x4 : Vec Ideal S1x128 .f32)

/-- Hidden unit `h` of block `n`, of the loaded values. -/
def hidOf (n : Fin 256) (h : Fin 512) : EReal :=
  hid (fun n k => xb (ix4 (0 : Fin 1) (0 : Fin 1) n k)) (fun k => x1 (ix3 (0 : Fin 1) k ⟨h.val, by omega⟩)) (fun k => x1 (ix3 (0 : Fin 1) k ⟨512 + h.val, by omega⟩))
    (fun k => x3 (ix3 (0 : Fin 1) (0 : Fin 16) k)) (fun k => x3 (ix3 (0 : Fin 1) (1 : Fin 16) k)) n

theorem nxt_eq (n : Fin 256) (p : (n.val + 256 - 255) % 256 < 256) : (⟨(n.val + 256 - 255) % 256, p⟩ : Fin 256) = nxt n :=
  Fin.ext (by show (n.val + 256 - 255) % 256 = (n.val + 1) % 256; congr 1)

theorem pay4_apply (n : Fin 256) (h : Fin 512) : k0_pay4 x1 x3 xb (ix2 n h) = hidOf xb x1 x3 n h := by
  unfold hidOf hid
  pointwise [k0_pay4, k0_pay2, k0_pay3]
  rw [nxt_eq]

theorem pay7_apply (n : Fin 256) (h : Fin 512) : k0_pay7 (k0_pay2 x1) (k0_pay3 x1 x3) xb (ix2 n h) = hidOf xb x1 x3 n h := by
  unfold hidOf hid
  pointwise [k0_pay7, k0_pay2, k0_pay3]
  rw [nxt_eq]

/-- The hidden units of one block, activated, against one column of the second weight. -/
def prj (H : Fin 512 → EReal) (w : Fin 512 → Fin 128 → EReal) (d : Fin 128) : EReal := ∑ h, act (H h) * w h d

/-- One element stored: of a key the normalised projection, of a value the projection. -/
def elt (b : BitVec 1) (H : Fin 512 → EReal) (w : Fin 512 → Fin 128 → EReal) (g : Fin 128 → EReal) (d : Fin 128) : EReal :=
  Scalar.select b (nrm (prj H w) g d) (prj H w d)

theorem pay6_apply (v : BitVec 32) (n : Fin 256) (d : Fin 128) : k0_pay6 v (k0_pay4 x1 x3 xb) (k0_pay5 x1 x3 xb) x2 x4 (ix4 (0 : Fin 1) (0 : Fin 1) n d) =
    elt (Scalar.cmpi .eq v 0#32) (hidOf xb x1 x3 n) (fun h d => x2 (ix3 (0 : Fin 1) h d)) (fun d => x4 (ix2 (0 : Fin 1) d)) d := by
  unfold elt nrm prj act
  simp only [← pay4_apply]
  pointwise [k0_pay6, k0_pay5]

theorem pay1_apply (v : BitVec 32) (n : Fin 256) (d : Fin 128) : k0_pay1 v (k0_pay7 (k0_pay2 x1) (k0_pay3 x1 x3) xb) (k0_pay8 (F := Ideal)) x2 x4 (ix4 (0 : Fin 1) (0 : Fin 1) n d) =
    elt (Scalar.cmpi .eq v 0#32) (hidOf xb x1 x3 n) (fun h d => x2 (ix3 (0 : Fin 1) h d)) (fun d => x4 (ix2 (0 : Fin 1) d)) d := by
  unfold elt nrm prj act
  simp only [← pay7_apply]
  pointwise [k0_pay1, k0_pay8]

end Payloads

theorem kind_eq : ∀ i : grid0.Coords, Scalar.cmpi .eq (Scalar.select (Scalar.andi (Scalar.cmpi .ne (Scalar.subi (Scalar.extui (Scalar.cmpi .sgt (BitVec.ofNat 32 (i 0).val) 0#32)) (Scalar.extui (Scalar.cmpi .slt (BitVec.ofNat 32 (i 0).val) 0#32))) (Scalar.subi (Scalar.extui (Scalar.cmpi .sgt 4#32 0#32)) (Scalar.extui (Scalar.cmpi .slt 4#32 0#32)))) (Scalar.cmpi .ne (Scalar.remsi (BitVec.ofNat 32 (i 0).val) 4#32) 0#32)) (Scalar.subi (Scalar.divsi (BitVec.ofNat 32 (i 0).val) 4#32) 1#32) (Scalar.divsi (BitVec.ofNat 32 (i 0).val) 4#32)) 0#32 = if (i 0).val < 4 then 1#1 else 0#1 := by decide +kernel

section Stores

variable (x0 : Vec Ideal S1x2x256x2048 .bf16) (x1 : Vec Ideal S1x2048x1024 .bf16) (x2 : Vec Ideal S1x512x128 .bf16) (x3 : Vec Ideal S1x16x2048 .bf16) (x4 : Vec Ideal S1x128 .f32)

/-- Sequence `b` of the block of chunks. -/
abbrev seq (b : Fin 2) : Vec Ideal S1x1x256x2048 .bf16 := fun z => x0 (ix4 (0 : Fin 1) b (z 2) (z 3))

theorem ld2 : View.ld x0 r0_2 = seq x0 0 := by
  funext z
  refine congrArg x0 (funext fun a => Fin.ext ?_)
  match a with
  | ⟨0, _⟩ => show 0 + 1 * (z 0).val = 0; have : (z 0).val < 1 := (z 0).isLt; omega
  | ⟨1, _⟩ => show 0 + 1 * (z 1).val = 0; have : (z 1).val < 1 := (z 1).isLt; omega
  | ⟨2, _⟩ => show 0 + 1 * (z 2).val = (z 2).val; omega
  | ⟨3, _⟩ => show 0 + 1 * (z 3).val = (z 3).val; omega

theorem ld6 : View.ld x0 r0_6 = seq x0 1 := by
  funext z
  refine congrArg x0 (funext fun a => Fin.ext ?_)
  match a with
  | ⟨0, _⟩ => show 0 + 1 * (z 0).val = 0; have : (z 0).val < 1 := (z 0).isLt; omega
  | ⟨1, _⟩ => show 1 + 1 * (z 1).val = 1; have : (z 1).val < 1 := (z 1).isLt; omega
  | ⟨2, _⟩ => show 0 + 1 * (z 2).val = (z 2).val; omega
  | ⟨3, _⟩ => show 0 + 1 * (z 3).val = (z 3).val; omega

/-- What one grid point leaves at block `n`, column `d` of sequence `b`. -/
def bod (k : BitVec 1) (b : Fin 2) (n : Fin 256) (d : Fin 128) : EReal :=
  elt k (hidOf (seq x0 b) x1 x3 n) (fun h d => x2 (ix3 (0 : Fin 1) h d)) (fun d => x4 (ix2 (0 : Fin 1) d)) d

theorem idx_of (z : S1x1x256x128.Idx) : ∃ (n : Fin 256) (d : Fin 128), z = ix4 (0 : Fin 1) (0 : Fin 1) n d :=
  ⟨z 2, z 3, (eq_ix4 z).trans (congrArg₂ (fun (a b : Fin 1) => (ix4 a b (z 2) (z 3) : S1x1x256x128.Idx)) (Subsingleton.elim (α := Fin 1) _ _) (Subsingleton.elim (α := Fin 1) _ _))⟩

theorem out_apply (i : grid0.Coords) (b : Fin 2) (n : Fin 256) (d : Fin 128) : out0_5 i x0 x1 x2 x3 x4 (ix4 (0 : Fin 1) b n d) =
    bod x0 x1 x2 x3 x4 (if (i 0).val < 4 then 1#1 else 0#1) b n d := by
  unfold out0_5
  simp only [View.ld_unit_zero (S := S1x2048x1024) hz3, View.ld_unit_zero (S := S1x16x2048) hz3, View.ld_unit_zero (S := S1x512x128) hz3, View.ld_unit_zero (S := S1x128) hz2, ld2, ld6]
  refine (View.canon_apply_of_pieces (fun y : S1x2x256x128.Idx => bod x0 x1 x2 x3 x4 (if (i 0).val < 4 then 1#1 else 0#1) (y 1) (y 2) (y 3)) _ ?_ (ix4 (0 : Fin 1) b n d) ?_).trans rfl
  · intro p hp z
    rcases List.mem_cons.1 hp with rfl | hp
    · obtain ⟨n, d, rfl⟩ : ∃ (n : Fin 256) (d : Fin 128), z = ix4 (0 : Fin 1) (0 : Fin 1) n d := idx_of z
      refine (pay1_apply _ _ _ _ _ _ _ _).trans ?_
      rw [kind_eq]
      unfold bod
      congr 1
      · refine congrArg _ (Fin.ext ?_); show n.val = 0 + 1 * n.val; omega
      · refine Fin.ext ?_; show d.val = 0 + 1 * d.val; omega
    · rcases List.mem_cons.1 hp with rfl | hp
      · obtain ⟨n, d, rfl⟩ : ∃ (n : Fin 256) (d : Fin 128), z = ix4 (0 : Fin 1) (0 : Fin 1) n d := idx_of z
        refine (pay6_apply _ _ _ _ _ _ _ _).trans ?_
        rw [kind_eq]
        unfold bod
        congr 1
        · refine congrArg _ (Fin.ext ?_); show n.val = 0 + 1 * n.val; omega
        · refine Fin.ext ?_; show d.val = 0 + 1 * d.val; omega
      · exact absurd hp (by simp)
  · have hn := n.isLt
    have hd := d.isLt
    match b with
    | ⟨0, _⟩ =>
      refine ⟨_, List.mem_cons_of_mem _ (List.mem_cons_self ..), ?_⟩
      rw [Rect.mem_set_unit]
      intro a
      match a with
      | ⟨0, _⟩ => show 0 ≤ 0 ∧ 0 < 0 + 1; omega
      | ⟨1, _⟩ => show 0 ≤ 0 ∧ 0 < 0 + 1; omega
      | ⟨2, _⟩ => show 0 ≤ n.val ∧ n.val < 0 + 256; omega
      | ⟨3, _⟩ => show 0 ≤ d.val ∧ d.val < 0 + 128; omega
    | ⟨1, _⟩ =>
      refine ⟨_, List.mem_cons_self .., ?_⟩
      rw [Rect.mem_set_unit]
      intro a
      match a with
      | ⟨0, _⟩ => show 0 ≤ 0 ∧ 0 < 0 + 1; omega
      | ⟨1, _⟩ => show 1 ≤ 1 ∧ 1 < 1 + 1; omega
      | ⟨2, _⟩ => show 0 ≤ n.val ∧ n.val < 0 + 256; omega
      | ⟨3, _⟩ => show 0 ≤ d.val ∧ d.val < 0 + 128; omega

end Stores

variable (m : (ℓ : Loc nD τ sig) → Buf (Elt Ideal) ℓ) (c : Dev nD)

/-- The chunks, the position embeddings, the two weights of the keys and of the values, and the gain, as launched. -/
def A0 : Vec Ideal S8x2x256x2048 .bf16 := m ((c : Thread nD τ).loc main_arg0)
def A1 : Vec Ideal S1x32x128 .f32 := m ((c : Thread nD τ).loc main_arg1)
def A2 : Vec Ideal S1x4096x512 .f32 := m ((c : Thread nD τ).loc main_arg2)
def A3 : Vec Ideal S1x512x128 .f32 := m ((c : Thread nD τ).loc main_arg3)
def A4 : Vec Ideal S1x32x128 .f32 := m ((c : Thread nD τ).loc main_arg4)
def A5 : Vec Ideal S1x4096x512 .f32 := m ((c : Thread nD τ).loc main_arg5)
def A6 : Vec Ideal S1x512x128 .f32 := m ((c : Thread nD τ).loc main_arg6)
def A7 : Vec Ideal S1x128 .f32 := m ((c : Thread nD τ).loc main_arg7)

/-- The first weight with its two halves side by side. -/
def catW (w : Vec Ideal S1x4096x512 .f32) : Vec Ideal S2048x1024 .f32 :=
  concatenate (α := Elt Ideal .f32) S2048x1024 1 [⟨S2048x512, shapeCast S2048x512 (extractStridedSlice S1x2048x512 ![0, 0, 0] w slices_S1x4096x512_S1x2048x512_0_0_0) shapeCasts_S1x2048x512_S2048x512⟩,
    ⟨S2048x512, shapeCast S2048x512 (extractStridedSlice S1x2048x512 ![0, 2048, 0] w slices_S1x4096x512_S1x2048x512_0_2048_0) shapeCasts_S1x2048x512_S2048x512⟩] concatenates_S2048x512_S2048x512_S2048x1024_d1

/-- The position embedding in two rows, with rows of zeros under them. -/
def catP (p : Vec Ideal S1x32x128 .f32) : Vec Ideal S16x2048 .f32 :=
  concatenate (α := Elt Ideal .f32) S16x2048 0 [⟨S2x2048, shapeCast S2x2048 (shapeCast S32x128 p shapeCasts_S1x32x128_S32x128) shapeCasts_S32x128_S2x2048⟩,
    ⟨S14x2048, broadcastInDim S14x2048 ![] bcast_S_S14x2048 (constant (F := Ideal) S_ .f32 0#32)⟩] concatenates_S2x2048_S14x2048_S16x2048_d0

theorem V_v13 : V m c main_v13 = truncf (F := Ideal) .bf16 (concatenate (α := Elt Ideal .f32) S2x2048x1024 0 [⟨S1x2048x1024, broadcastInDim S1x2048x1024 ![1, 2] bcast_S2048x1024_S1x2048x1024_1_2 (catW (A2 m c))⟩,
    ⟨S1x2048x1024, broadcastInDim S1x2048x1024 ![1, 2] bcast_S2048x1024_S1x2048x1024_1_2 (catW (A5 m c))⟩] concatenates_S1x2048x1024_S1x2048x1024_S2x2048x1024_d0) bitsLt_bf16_f32 := by
  unfold V hostOps0 A2 A5 catW
  after_results_simp <;> rfl

theorem V_v19 : V m c main_v19 = truncf (F := Ideal) .bf16 (concatenate (α := Elt Ideal .f32) S2x512x128 0 [⟨S1x512x128, broadcastInDim S1x512x128 ![1, 2] bcast_S512x128_S1x512x128_1_2 (shapeCast S512x128 (A3 m c) shapeCasts_S1x512x128_S512x128)⟩,
    ⟨S1x512x128, broadcastInDim S1x512x128 ![1, 2] bcast_S512x128_S1x512x128_1_2 (shapeCast S512x128 (A6 m c) shapeCasts_S1x512x128_S512x128)⟩] concatenates_S1x512x128_S1x512x128_S2x512x128_d0) bitsLt_bf16_f32 := by
  unfold V hostOps0 A3 A6
  after_results_simp <;> rfl

theorem V_v31 : V m c main_v31 = truncf (F := Ideal) .bf16 (concatenate (α := Elt Ideal .f32) S2x16x2048 0 [⟨S1x16x2048, broadcastInDim S1x16x2048 ![1, 2] bcast_S16x2048_S1x16x2048_1_2 (catP (A1 m c))⟩,
    ⟨S1x16x2048, broadcastInDim S1x16x2048 ![1, 2] bcast_S16x2048_S1x16x2048_1_2 (catP (A4 m c))⟩] concatenates_S1x16x2048_S1x16x2048_S2x16x2048_d0) bitsLt_bf16_f32 := by
  unfold V hostOps0 A1 A4 catP
  after_results_simp <;> rfl

theorem V_v33 : V m c main_v33 = broadcastInDim S1x128 ![1] bcast_S128_S1x128_1 (shapeCast S128 (A7 m c) shapeCasts_S1x128_S128) := by
  unfold V hostOps0 A7
  after_results_simp <;> rfl

theorem v33_apply (d : Fin 128) : V m c main_v33 (ix2 (0 : Fin 1) d) = A7 m c (ix2 (0 : Fin 1) d) := by
  rw [V_v33]
  pointwise

theorem catW_a (w : Vec Ideal S1x4096x512 .f32) (k : Fin 2048) (h : Fin 512) : catW w (ix2 k ⟨h.val, by omega⟩) = w (ix3 (0 : Fin 1) ⟨k.val, by omega⟩ h) := by
  have hh := h.isLt
  pointwise [catW]
theorem catW_b (w : Vec Ideal S1x4096x512 .f32) (k : Fin 2048) (h : Fin 512) : catW w (ix2 k ⟨512 + h.val, by omega⟩) = w (ix3 (0 : Fin 1) ⟨2048 + k.val, by omega⟩ h) := by
  have hh := h.isLt
  pointwise [catW]
theorem catP_a (p : Vec Ideal S1x32x128 .f32) (k : Fin 2048) : catP p (ix2 (0 : Fin 16) k) = p (ix3 (0 : Fin 1) ⟨k.val / 128, by omega⟩ ⟨k.val % 128, by omega⟩) := by
  pointwise [catP]
theorem catP_b (p : Vec Ideal S1x32x128 .f32) (k : Fin 2048) : catP p (ix2 (1 : Fin 16) k) = p (ix3 (0 : Fin 1) ⟨16 + k.val / 128, by omega⟩ ⟨k.val % 128, by omega⟩) := by
  pointwise [catP]
theorem v13_a (k : Fin 2048) (h : Fin 1024) : V m c main_v13 (ix3 (0 : Fin 2) k h) = catW (A2 m c) (ix2 k h) := by
  rw [V_v13]
  pointwise
theorem v13_b (k : Fin 2048) (h : Fin 1024) : V m c main_v13 (ix3 (1 : Fin 2) k h) = catW (A5 m c) (ix2 k h) := by
  rw [V_v13]
  pointwise
theorem v31_a (k : Fin 16) (h : Fin 2048) : V m c main_v31 (ix3 (0 : Fin 2) k h) = catP (A1 m c) (ix2 k h) := by
  rw [V_v31]
  pointwise
theorem v31_b (k : Fin 16) (h : Fin 2048) : V m c main_v31 (ix3 (1 : Fin 2) k h) = catP (A4 m c) (ix2 k h) := by
  rw [V_v31]
  pointwise
theorem v19_a (k : Fin 512) (h : Fin 128) : V m c main_v19 (ix3 (0 : Fin 2) k h) = A3 m c (ix3 (0 : Fin 1) k h) := by
  rw [V_v19]
  pointwise
theorem v19_b (k : Fin 512) (h : Fin 128) : V m c main_v19 (ix3 (1 : Fin 2) k h) = A6 m c (ix3 (0 : Fin 1) k h) := by
  rw [V_v19]
  pointwise

theorem t_lt (t : Fin cfg0.N) : t.val < 8 := lt_of_lt_of_eq t.isLt N_0

/-- The half of the stacked weights that group `t` reads: keys, then values. -/
abbrev hf (t : Fin cfg0.N) : Fin 2 := ⟨t.val / 4, by have := t_lt t; omega⟩

theorem idx0 (t : Fin cfg0.N) : win0_0.index t = ![t.val, 0, 0, 0] := (by decide +kernel : ∀ t : Fin grid0.N, win0_0.index t = ![t.val, 0, 0, 0]) t
theorem idx1 (t : Fin cfg0.N) : win0_1.index t = ![t.val / 4, 0, 0] := (by decide +kernel : ∀ t : Fin grid0.N, win0_1.index t = ![t.val / 4, 0, 0]) t
theorem idx2 (t : Fin cfg0.N) : win0_2.index t = ![t.val / 4, 0, 0] := (by decide +kernel : ∀ t : Fin grid0.N, win0_2.index t = ![t.val / 4, 0, 0]) t
theorem idx3 (t : Fin cfg0.N) : win0_3.index t = ![t.val / 4, 0, 0] := (by decide +kernel : ∀ t : Fin grid0.N, win0_3.index t = ![t.val / 4, 0, 0]) t
theorem idx4 (t : Fin cfg0.N) : win0_4.index t = ![0, 0] := (by decide +kernel : ∀ t : Fin grid0.N, win0_4.index t = ![0, 0]) t
theorem idx5 (t : Fin cfg0.N) : win0_5.index t = ![t.val, 0, 0, 0] := (by decide +kernel : ∀ t : Fin grid0.N, win0_5.index t = ![t.val, 0, 0, 0]) t
theorem crd (t : Fin cfg0.N) : (grid0.coords t 0).val = t.val := (by decide +kernel : ∀ t : Fin grid0.N, (grid0.coords t 0).val = t.val) t

variable (t : Fin cfg0.N)

/-- Group `t` of the chunk array. -/
abbrev grp : Fin 8 := ⟨t.val, t_lt t⟩

theorem X0_apply (b : Fin 2) (n : Fin 256) (k : Fin 2048) : iblk m c 0 t (ix4 (0 : Fin 1) b n k) = A0 m c (ix4 (grp t) b n k) := by
  show V m c main_arg0 _ = A0 m c _
  rw [V_main_arg0]
  refine congrArg (A0 m c) (funext fun a => Fin.ext ?_)
  match a with
  | ⟨0, _⟩ => show win0_0.index t 0 * 1 + 1 * 0 = t.val; rw [idx0]; show t.val * 1 + 1 * 0 = _; omega
  | ⟨1, _⟩ => show win0_0.index t 1 * 2 + 1 * b.val = b.val; rw [idx0]; show 0 * 2 + 1 * b.val = _; omega
  | ⟨2, _⟩ => show win0_0.index t 2 * 256 + 1 * n.val = n.val; rw [idx0]; show 0 * 256 + 1 * n.val = _; omega
  | ⟨3, _⟩ => show win0_0.index t 3 * 2048 + 1 * k.val = k.val; rw [idx0]; show 0 * 2048 + 1 * k.val = _; omega

theorem X1_apply (k : Fin 2048) (h : Fin 1024) : iblk m c 1 t (ix3 (0 : Fin 1) k h) = V m c main_v13 (ix3 (hf t) k h) := by
  refine congrArg (V m c main_v13) (funext fun a => Fin.ext ?_)
  match a with
  | ⟨0, _⟩ => show win0_1.index t 0 * 1 + 1 * 0 = t.val / 4; rw [idx1]; show t.val / 4 * 1 + 1 * 0 = _; omega
  | ⟨1, _⟩ => show win0_1.index t 1 * 2048 + 1 * k.val = k.val; rw [idx1]; show 0 * 2048 + 1 * k.val = _; omega
  | ⟨2, _⟩ => show win0_1.index t 2 * 1024 + 1 * h.val = h.val; rw [idx1]; show 0 * 1024 + 1 * h.val = _; omega

theorem X2_apply (h : Fin 512) (d : Fin 128) : iblk m c 2 t (ix3 (0 : Fin 1) h d) = V m c main_v19 (ix3 (hf t) h d) := by
  refine congrArg (V m c main_v19) (funext fun a => Fin.ext ?_)
  match a with
  | ⟨0, _⟩ => show win0_2.index t 0 * 1 + 1 * 0 = t.val / 4; rw [idx2]; show t.val / 4 * 1 + 1 * 0 = _; omega
  | ⟨1, _⟩ => show win0_2.index t 1 * 512 + 1 * h.val = h.val; rw [idx2]; show 0 * 512 + 1 * h.val = _; omega
  | ⟨2, _⟩ => show win0_2.index t 2 * 128 + 1 * d.val = d.val; rw [idx2]; show 0 * 128 + 1 * d.val = _; omega

theorem X3_apply (r : Fin 16) (k : Fin 2048) : iblk m c 3 t (ix3 (0 : Fin 1) r k) = V m c main_v31 (ix3 (hf t) r k) := by
  refine congrArg (V m c main_v31) (funext fun a => Fin.ext ?_)
  match a with
  | ⟨0, _⟩ => show win0_3.index t 0 * 1 + 1 * 0 = t.val / 4; rw [idx3]; show t.val / 4 * 1 + 1 * 0 = _; omega
  | ⟨1, _⟩ => show win0_3.index t 1 * 16 + 1 * r.val = r.val; rw [idx3]; show 0 * 16 + 1 * r.val = _; omega
  | ⟨2, _⟩ => show win0_3.index t 2 * 2048 + 1 * k.val = k.val; rw [idx3]; show 0 * 2048 + 1 * k.val = _; omega

theorem X4_apply (d : Fin 128) : iblk m c 4 t (ix2 (0 : Fin 1) d) = A7 m c (ix2 (0 : Fin 1) d) := by
  rw [← v33_apply]
  refine congrArg (V m c main_v33) (funext fun a => Fin.ext ?_)
  match a with
  | ⟨0, _⟩ => show win0_4.index t 0 * 1 + 1 * 0 = _; rw [idx4]; rfl
  | ⟨1, _⟩ => show win0_4.index t 1 * 128 + 1 * d.val = d.val; rw [idx4]; show 0 * 128 + 1 * d.val = _; omega

/-- The projected block `n` of sequence `b` of group `r`, under a position embedding and two weights. -/
def prjOf (x : Vec Ideal S8x2x256x2048 .bf16) (p : Vec Ideal S1x32x128 .f32) (w : Vec Ideal S1x4096x512 .f32) (u : Vec Ideal S1x512x128 .f32) (r : Fin 8) (b : Fin 2) (n : Fin 256) : Fin 128 → EReal :=
  prj (fun h => hid (fun n k => x (ix4 r b n k)) (fun k => w (ix3 (0 : Fin 1) ⟨k.val, by omega⟩ h)) (fun k => w (ix3 (0 : Fin 1) ⟨2048 + k.val, by omega⟩ h))
    (fun k => p (ix3 (0 : Fin 1) ⟨k.val / 128, by omega⟩ ⟨k.val % 128, by omega⟩)) (fun k => p (ix3 (0 : Fin 1) ⟨16 + k.val / 128, by omega⟩ ⟨k.val % 128, by omega⟩)) n)
    (fun h d => u (ix3 (0 : Fin 1) h d))

/-- One element of the result: of the groups of keys normalised, of the groups of values not. -/
def res (r : Fin 8) (b : Fin 2) (n : Fin 256) (d : Fin 128) : EReal :=
  if r.val < 4 then nrm (prjOf (A0 m c) (A1 m c) (A2 m c) (A3 m c) r b n) (fun d => A7 m c (ix2 (0 : Fin 1) d)) d
  else prjOf (A0 m c) (A4 m c) (A5 m c) (A6 m c) r b n d

/-- What the result array ends holding. -/
def G : Buf (Elt Ideal) ((c : Thread nD τ).loc main_v34) := fun (i : S8x2x256x128.Idx) => res m c (i 0) (i 1) (i 2) (i 3)

theorem seq_eq (b : Fin 2) : (fun (n : Fin 256) (k : Fin 2048) => seq (iblk m c 0 t) b (ix4 (0 : Fin 1) (0 : Fin 1) n k)) = fun n k => A0 m c (ix4 (grp t) b n k) :=
  funext fun n => funext fun k => (show seq (iblk m c 0 t) b (ix4 (0 : Fin 1) (0 : Fin 1) n k) = iblk m c 0 t (ix4 (0 : Fin 1) b n k) from rfl).trans (X0_apply m c t b n k)

theorem one_half : Scalar.select (1#1 : BitVec 1) = fun (a b : EReal) => a := funext fun a => funext fun b => if_pos rfl
theorem zero_half : Scalar.select (0#1 : BitVec 1) = fun (a b : EReal) => b := funext fun a => funext fun b => if_neg (by decide)

theorem hid_congr (x : Fin 256 → Fin 2048 → EReal) (n : Fin 256) {wa wb pa pb wa' wb' pa' pb' : Fin 2048 → EReal} (h1 : ∀ k, wa k = wa' k) (h2 : ∀ k, wb k = wb' k) (h3 : ∀ k, pa k = pa' k)
    (h4 : ∀ k, pb k = pb' k) : hid x wa wb pa pb n = hid x wa' wb' pa' pb' n := by
  rw [funext h1, funext h2, funext h3, funext h4]

theorem blk_apply (b : Fin 2) (n : Fin 256) (d : Fin 128) : out0_5 (grid0.coords t) (iblk m c 0 t) (iblk m c 1 t) (iblk m c 2 t) (iblk m c 3 t) (iblk m c 4 t) (ix4 (0 : Fin 1) b n d) = res m c (grp t) b n d := by
  have ht := t_lt t
  rw [out_apply, crd]
  unfold bod elt hidOf
  rw [seq_eq]
  simp only [X1_apply, X2_apply, X3_apply, X4_apply]
  unfold res prjOf
  by_cases h : t.val < 4
  · rw [if_pos h, if_pos h, show hf t = 0 from Fin.ext (by show t.val / 4 = 0; omega), one_half]
    refine congrArg (fun P => nrm P (fun d => A7 m c (ix2 (0 : Fin 1) d)) d) (congrArg₂ prj (funext fun h => hid_congr _ n (fun k => ?_) (fun k => ?_) (fun k => ?_) (fun k => ?_)) (funext fun h => funext fun d => ?_))
    · exact (v13_a m c k _).trans (catW_a (A2 m c) k h)
    · exact (v13_a m c k _).trans (catW_b (A2 m c) k h)
    · exact (v31_a m c _ k).trans (catP_a (A1 m c) k)
    · exact (v31_a m c _ k).trans (catP_b (A1 m c) k)
    · exact v19_a m c h d
  · rw [if_neg h, if_neg h, show hf t = 1 from Fin.ext (by show t.val / 4 = 1; omega), zero_half]
    refine congrFun (congrArg₂ prj (funext fun h => hid_congr _ n (fun k => ?_) (fun k => ?_) (fun k => ?_) (fun k => ?_)) (funext fun h => funext fun d => ?_)) d
    · exact (v13_b m c k _).trans (catW_a (A5 m c) k h)
    · exact (v13_b m c k _).trans (catW_b (A5 m c) k h)
    · exact (v31_b m c _ k).trans (catP_a (A4 m c) k)
    · exact (v31_b m c _ k).trans (catP_b (A4 m c) k)
    · exact v19_b m c h d

theorem flushed_eq : (dats m 0 c).flushed 5 t = ((cfg0.win 5).blk t).view.read (Elt Ideal) (G m c) := by
  have ht := t_lt t
  rw [flushed5]
  funext y
  obtain ⟨b, n, d, rfl⟩ : ∃ (b : Fin 2) (n : Fin 256) (d : Fin 128), y = (ix4 (0 : Fin 1) b n d : S1x2x256x128.Idx) :=
    ⟨y 1, y 2, y 3, (eq_ix4 (y : S1x2x256x128.Idx)).trans (congrArg (fun (a : Fin 1) => (ix4 a (y 1) (y 2) (y 3) : S1x2x256x128.Idx)) (Subsingleton.elim (α := Fin 1) _ _))⟩
  have hb0 : ((cfg0.win 5).blk t).view.emb (ix4 (0 : Fin 1) b n d : S1x2x256x128.Idx) 0 = grp t := Fin.ext (by
    show win0_5.index t (0 : Fin 4) * 1 + 1 * 0 = t.val
    rw [idx5]; show t.val * 1 + 1 * 0 = _; omega)
  have hb1 : ((cfg0.win 5).blk t).view.emb (ix4 (0 : Fin 1) b n d : S1x2x256x128.Idx) 1 = b := Fin.ext (by
    show win0_5.index t (1 : Fin 4) * 2 + 1 * b.val = b.val
    rw [idx5]; show 0 * 2 + 1 * b.val = _; omega)
  have hb2 : ((cfg0.win 5).blk t).view.emb (ix4 (0 : Fin 1) b n d : S1x2x256x128.Idx) 2 = n := Fin.ext (by
    show win0_5.index t (2 : Fin 4) * 256 + 1 * n.val = n.val
    rw [idx5]; show 0 * 256 + 1 * n.val = _; omega)
  have hb3 : ((cfg0.win 5).blk t).view.emb (ix4 (0 : Fin 1) b n d : S1x2x256x128.Idx) 3 = d := Fin.ext (by
    show win0_5.index t (3 : Fin 4) * 128 + 1 * d.val = d.val
    rw [idx5]; show 0 * 128 + 1 * d.val = _; omega)
  refine Eq.trans (b := out0_5 (grid0.coords t) (iblk m c 0 t) (iblk m c 1 t) (iblk m c 2 t) (iblk m c 3 t) (iblk m c 4 t) (ix4 (0 : Fin 1) b n d)) rfl ?_
  rw [blk_apply]
  show res m c (grp t) b n d = res m c (((cfg0.win 5).blk t).view.emb (ix4 (0 : Fin 1) b n d : S1x2x256x128.Idx) 0) (((cfg0.win 5).blk t).view.emb (ix4 (0 : Fin 1) b n d : S1x2x256x128.Idx) 1) (((cfg0.win 5).blk t).view.emb (ix4 (0 : Fin 1) b n d : S1x2x256x128.Idx) 2) (((cfg0.win 5).blk t).view.emb (ix4 (0 : Fin 1) b n d : S1x2x256x128.Idx) 3)
  rw [hb0, hb1, hb2, hb3]

theorem mem_blk (i : S8x2x256x128.Idx) :
    i ∈ ((cfg0.win 5).blk t).view.set ↔ ∀ a : Fin 4, win0_5.index t a * S1x2x256x128.size a ≤ (i a).val ∧ (i a).val < win0_5.index t a * S1x2x256x128.size a + S1x2x256x128.size a := by
  show i ∈ ((View.whole main_v34).slice (win0_5.rect t)).set ↔ _
  rw [View.set_slice_whole, Rect.mem_set_unit]
  exact Iff.rfl

theorem final : (dats m 0 c).arrAt 5 cfg0.N = G m c :=
  (dats m 0 c).arrAt_eq_of_cover 5 _ (fun t _ => flushed_eq m c t) (fun (i : S8x2x256x128.Idx) => by
    have h0 : (i 0).val < 8 := (i 0).isLt
    have h1 : (i 1).val < 2 := (i 1).isLt
    have h2 : (i 2).val < 256 := (i 2).isLt
    have h3 : (i 3).val < 128 := (i 3).isLt
    let t : Fin cfg0.N := ⟨(i 0).val, lt_of_lt_of_eq h0 N_0.symm⟩
    have htv : t.val = (i 0).val := rfl
    refine ⟨t, flush0_5 t, ?_⟩
    rw [mem_blk, idx5]
    intro a
    match a with
    | ⟨0, _⟩ => show t.val * 1 ≤ (i 0).val ∧ (i 0).val < t.val * 1 + 1; rw [htv]; omega
    | ⟨1, _⟩ => show 0 * 2 ≤ (i 1).val ∧ (i 1).val < 0 * 2 + 2; omega
    | ⟨2, _⟩ => show 0 * 256 ≤ (i 2).val ∧ (i 2).val < 0 * 256 + 256; omega
    | ⟨3, _⟩ => show 0 * 128 ≤ (i 3).val ∧ (i 3).val < 0 * 128 + 128; omega)

/-- Every execution ends with the compressed blocks in the result array and the arguments unchanged. -/
theorem run (ρ : Dev nD → PrngReg) : θ_run defs (onTc (τ := τ) (main (F := Ideal))) ⟨m, fun _ => 0, ρ⟩ fun r => ∀ c : Dev nD,
      r.2.mem ((c : Thread nD τ).loc main_v34) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (run_blocks m ρ)

end Cert.CompressIdeal.Val

end
-- ==== Proof.CompressValue.lean ====
module

public import proofs.«01_k».proof.Defs
public import proofs.«01_k».proof.Proof.CompressKernel
public import Idealize.ShloMosaic.Lib.Pointwise
public import Idealize.ShloMosaic.Lib.Pointwise.IndexBridge
public import Idealize.ShloMosaic.Lib.Pointwise.Sums
public import Idealize.ShloMosaic.Lib.ReduceAll
public import proofs.«01_k».proof.Proof.Gen.CompressReferenceIdeal.Read
public import proofs.«01_k».proof.Proof.Gen.CompressReferenceIdeal.Run

@[expose] public section

noncomputable section

/-! The reference's compression, element by element, and the kernel's equality with it. -/
namespace Cert.CompressValue

open Idealize.ShloMosaic Idealize.ShloMosaic.TcCoe Idealize.ShloMosaic.Tactic Idealize.SL.Sem Cert.CompressReferenceIdeal Cert.CompressReferenceIdeal.Read
open Cert.CompressIdeal.Val (nxt hid act prj nrm prjOf res)

/-- Multiplication by a real number distributes over the sum of anything with a real number. -/
theorem add_mul_real (x : EReal) (p w : ℝ) : (x + p) * w = x * w + (p : EReal) * w := by
  rw [← EReal.coe_mul]
  induction x using EReal.rec with
  | coe x => rw [← EReal.coe_add, ← EReal.coe_mul, ← EReal.coe_mul, ← EReal.coe_add, add_mul]
  | bot =>
    rw [EReal.bot_add]
    rcases lt_trichotomy w 0 with h | h | h
    · rw [EReal.bot_mul_coe_of_neg h, EReal.top_add_coe]
    · subst h; simp
    · rw [EReal.bot_mul_coe_of_pos h, EReal.bot_add]
  | top =>
    rw [EReal.top_add_coe]
    rcases lt_trichotomy w 0 with h | h | h
    · rw [EReal.top_mul_coe_of_neg h, EReal.bot_add]
    · subst h; simp
    · rw [EReal.top_mul_coe_of_pos h, EReal.top_add_coe]

/-- A value whose absolute value is less than infinity is a real number. -/
theorem real_of_lt (y : EReal) (h : max y (-y) < ⊤) : ∃ r : ℝ, y = r := by
  induction y using EReal.rec with
  | coe r => exact ⟨r, rfl⟩
  | bot => exact absurd h (by simp)
  | top => exact absurd h (by simp)

/-- Of finite weights and position embeddings, the embedded block against the weight is the block and the embedding against it separately. -/
theorem hid_eq (x : Fin 256 → Fin 2048 → EReal) (wa wb pa pb : Fin 2048 → EReal) (n : Fin 256) (h1 : ∀ k, ∃ r : ℝ, wa k = r) (h2 : ∀ k, ∃ r : ℝ, wb k = r)
    (h3 : ∀ k, ∃ r : ℝ, pa k = r) (h4 : ∀ k, ∃ r : ℝ, pb k = r) : ∑ k, (x n k + pa k) * wa k + ∑ k, (x (nxt n) k + pb k) * wb k = hid x wa wb pa pb n := by
  have ea : ∀ k, (x n k + pa k) * wa k = x n k * wa k + pa k * wa k := fun k => by
    obtain ⟨w, hw⟩ := h1 k; obtain ⟨p, hp⟩ := h3 k; rw [hw, hp]; exact add_mul_real _ _ _
  have eb : ∀ k, (x (nxt n) k + pb k) * wb k = x (nxt n) k * wb k + pb k * wb k := fun k => by
    obtain ⟨w, hw⟩ := h2 k; obtain ⟨p, hp⟩ := h4 k; rw [hw, hp]; exact add_mul_real _ _ _
  unfold hid
  simp only [ea, eb, Finset.sum_add_distrib]
  exact add_add_add_comm _ _ _ _

theorem exp_nonneg (z : EReal) : 0 ≤ Ideal.exp z := by
  induction z using EReal.rec with
  | bot => exact le_refl (0 : EReal)
  | top => exact le_top
  | coe x => exact EReal.coe_nonneg.mpr (Real.exp_pos x).le

/-- The reference's activation is the kernel's. -/
theorem act_eq (z : EReal) : z * Ideal.div 1 (1 + Ideal.exp (-z)) = act z := by
  have h : (1 : EReal) + Ideal.exp (-z) ≠ 0 := by
    have h1 : (1 : EReal) ≤ 1 + Ideal.exp (-z) := le_add_of_nonneg_right (exp_nonneg _)
    exact (lt_of_lt_of_le (by norm_num : (0 : EReal) < 1) h1).ne'
  unfold act
  rw [zero_sub, Ideal.mul_one_div h]

theorem emb_eq (x : Vec Ideal Cert.CompressReferenceIdeal.S1x32x128 .f32) (k : Fin 2048) (p : (2048 + k.val) / 128 < 32) (q : (2048 + k.val) % 128 < 128) :
    x (ix3 (0 : Fin 1) ⟨(2048 + k.val) / 128, p⟩ ⟨(2048 + k.val) % 128, q⟩) = x (ix3 (0 : Fin 1) ⟨16 + k.val / 128, by omega⟩ ⟨k.val % 128, by omega⟩) := by
  have h1 : (2048 + k.val) / 128 = 16 + k.val / 128 := by omega
  have h2 : (2048 + k.val) % 128 = k.val % 128 := by omega
  simp only [h1, h2]

section Reference

variable (x0 : Vec Ideal Cert.CompressReferenceIdeal.S8x2x256x2048 .bf16) (x1 : Vec Ideal Cert.CompressReferenceIdeal.S1x32x128 .f32) (x2 : Vec Ideal Cert.CompressReferenceIdeal.S1x4096x512 .f32)
  (x3 : Vec Ideal Cert.CompressReferenceIdeal.S1x512x128 .f32) (x4 : Vec Ideal Cert.CompressReferenceIdeal.S1x32x128 .f32) (x5 : Vec Ideal Cert.CompressReferenceIdeal.S1x4096x512 .f32)
  (x6 : Vec Ideal Cert.CompressReferenceIdeal.S1x512x128 .f32) (x7 : Vec Ideal Cert.CompressReferenceIdeal.S1x128 .f32)

theorem knxt (r : Fin 4) (b : Fin 2) (n : Fin 256) (k : Fin 2048) : val_main_v7 (F := Ideal) x0 (ix4 r b n k) = x0 (ix4 ⟨r.val, by omega⟩ b (nxt n) k) := by
  have hn := n.isLt
  by_cases h : n.val < 255
  · have e : nxt n = ⟨1 + n.val, by omega⟩ := Fin.ext (by show (n.val + 1) % 256 = 1 + n.val; omega)
    rw [e]
    pointwise [val_main_v7, val_main_v5, val_main_v6, val_main_v1, val_main_v0]
    rw [dif_pos h]
  · have h2 : n.val - 255 < 1 := by omega
    have e : nxt n = 0 := Fin.ext (by show (n.val + 1) % 256 = 0; omega)
    rw [e]
    pointwise [val_main_v7, val_main_v5, val_main_v6, val_main_v1, val_main_v0]
    rw [dif_neg h]
    exact congrArg (fun q : Fin 256 => x0 (ix4 ⟨r.val, by omega⟩ b q k)) (Fin.ext (by show n.val - 255 = 0; omega))

theorem kblk_a (r : Fin 4) (b : Fin 2) (n : Fin 256) (k : Fin 2048) : val_main_v12 (F := Ideal) x0 x1 (ix4 r b n (Fin.castAdd 2048 k : Fin 4096)) =
    x0 (ix4 ⟨r.val, by omega⟩ b n k) + x1 (ix3 (0 : Fin 1) ⟨k.val / 128, by omega⟩ ⟨k.val % 128, by omega⟩) := by
  have hk := k.isLt
  show val_main_v12 (F := Ideal) x0 x1 (ix4 r b n (⟨k.val, by omega⟩ : Fin 4096)) = _
  pointwise [val_main_v12, val_main_v8, val_main_v1, val_main_v0, val_main_v11, val_main_v10, val_main_v9, val_main_v2]

theorem kblk_b (r : Fin 4) (b : Fin 2) (n : Fin 256) (k : Fin 2048) : val_main_v12 (F := Ideal) x0 x1 (ix4 r b n (Fin.natAdd 2048 k : Fin 4096)) =
    x0 (ix4 ⟨r.val, by omega⟩ b (nxt n) k) + x1 (ix3 (0 : Fin 1) ⟨16 + k.val / 128, by omega⟩ ⟨k.val % 128, by omega⟩) := by
  have hk := k.isLt
  rw [← knxt x0 r b n k]
  show val_main_v12 (F := Ideal) x0 x1 (ix4 r b n (⟨2048 + k.val, by omega⟩ : Fin 4096)) = _
  pointwise [val_main_v12, val_main_v8, val_main_v11, val_main_v10, val_main_v9, val_main_v2]
  exact congrArg (fun q : EReal => val_main_v7 (F := Ideal) x0 (ix4 r b n k) + q) (emb_eq x1 k _ _)

theorem khid (hp : ∀ i, ∃ y : ℝ, x1 i = y) (hw : ∀ i, ∃ y : ℝ, x2 i = y) (r : Fin 4) (b : Fin 2) (n : Fin 256) (h : Fin 512) : val_main_v13 (F := Ideal) x0 x1 x2 (ix4 r b n h) =
    hid (fun n k => x0 (ix4 ⟨r.val, by omega⟩ b n k)) (fun k => x2 (ix3 (0 : Fin 1) ⟨k.val, by omega⟩ h)) (fun k => x2 (ix3 (0 : Fin 1) ⟨2048 + k.val, by omega⟩ h))
      (fun k => x1 (ix3 (0 : Fin 1) ⟨k.val / 128, by omega⟩ ⟨k.val % 128, by omega⟩)) (fun k => x1 (ix3 (0 : Fin 1) ⟨16 + k.val / 128, by omega⟩ ⟨k.val % 128, by omega⟩)) n := by
  rw [← hid_eq _ _ _ _ _ _ (fun _ => hw _) (fun _ => hw _) (fun _ => hp _) (fun _ => hp _)]
  have e : val_main_v13 (F := Ideal) x0 x1 x2 (ix4 r b n h) = ∑ k : Fin 4096, val_main_v12 (F := Ideal) x0 x1 (ix4 r b n k) * x2 (ix3 (0 : Fin 1) k h) := by
    pointwise [val_main_v13, val_main_v3]
  rw [e]
  refine (Fin.sum_univ_add (a := 2048) (b := 2048) _).trans ?_
  simp only [kblk_a, kblk_b]
  rfl

theorem kprj (hp : ∀ i, ∃ y : ℝ, x1 i = y) (hw : ∀ i, ∃ y : ℝ, x2 i = y) (r : Fin 4) (b : Fin 2) (n : Fin 256) (d : Fin 128) : val_main_v15 (F := Ideal) x0 x1 x2 x3 (ix4 r b n d) =
    prjOf x0 x1 x2 x3 ⟨r.val, by omega⟩ b n d := by
  have e : val_main_v15 (F := Ideal) x0 x1 x2 x3 (ix4 r b n d) = ∑ h : Fin 512, val_main_v13 (F := Ideal) x0 x1 x2 (ix4 r b n h) * Ideal.div 1 (1 + Ideal.exp (-val_main_v13 (F := Ideal) x0 x1 x2 (ix4 r b n h))) * x3 (ix3 (0 : Fin 1) h d) := by
    pointwise [val_main_v15, val_main_v4, val_main_v14, val_main_call0_v5, val_main_call0_v4, val_main_call0_v3, val_main_call0_v2, val_main_call0_v1, val_main_call0_v0, val_main_call0_cst, val_main_call0_cst_0]
  rw [e]
  unfold prjOf prj
  simp only [act_eq, khid x0 x1 x2 hp hw]

theorem vnxt (r : Fin 4) (b : Fin 2) (n : Fin 256) (k : Fin 2048) : val_main_v36 (F := Ideal) x0 (ix4 r b n k) = x0 (ix4 ⟨4 + r.val, by omega⟩ b (nxt n) k) := by
  have hn := n.isLt
  by_cases h : n.val < 255
  · have e : nxt n = ⟨1 + n.val, by omega⟩ := Fin.ext (by show (n.val + 1) % 256 = 1 + n.val; omega)
    rw [e]
    pointwise [val_main_v36, val_main_v34, val_main_v35, val_main_v30, val_main_v0]
    rw [dif_pos h]
  · have h2 : n.val - 255 < 1 := by omega
    have e : nxt n = 0 := Fin.ext (by show (n.val + 1) % 256 = 0; omega)
    rw [e]
    pointwise [val_main_v36, val_main_v34, val_main_v35, val_main_v30, val_main_v0]
    rw [dif_neg h]
    exact congrArg (fun q : Fin 256 => x0 (ix4 ⟨4 + r.val, by omega⟩ b q k)) (Fin.ext (by show n.val - 255 = 0; omega))

theorem vblk_a (r : Fin 4) (b : Fin 2) (n : Fin 256) (k : Fin 2048) : val_main_v41 (F := Ideal) x0 x4 (ix4 r b n (Fin.castAdd 2048 k : Fin 4096)) =
    x0 (ix4 ⟨4 + r.val, by omega⟩ b n k) + x4 (ix3 (0 : Fin 1) ⟨k.val / 128, by omega⟩ ⟨k.val % 128, by omega⟩) := by
  have hk := k.isLt
  show val_main_v41 (F := Ideal) x0 x4 (ix4 r b n (⟨k.val, by omega⟩ : Fin 4096)) = _
  pointwise [val_main_v41, val_main_v37, val_main_v30, val_main_v0, val_main_v40, val_main_v39, val_main_v38, val_main_v31]

theorem vblk_b (r : Fin 4) (b : Fin 2) (n : Fin 256) (k : Fin 2048) : val_main_v41 (F := Ideal) x0 x4 (ix4 r b n (Fin.natAdd 2048 k : Fin 4096)) =
    x0 (ix4 ⟨4 + r.val, by omega⟩ b (nxt n) k) + x4 (ix3 (0 : Fin 1) ⟨16 + k.val / 128, by omega⟩ ⟨k.val % 128, by omega⟩) := by
  have hk := k.isLt
  rw [← vnxt x0 r b n k]
  show val_main_v41 (F := Ideal) x0 x4 (ix4 r b n (⟨2048 + k.val, by omega⟩ : Fin 4096)) = _
  pointwise [val_main_v41, val_main_v37, val_main_v40, val_main_v39, val_main_v38, val_main_v31]
  exact congrArg (fun q : EReal => val_main_v36 (F := Ideal) x0 (ix4 r b n k) + q) (emb_eq x4 k _ _)

theorem vhid (hp : ∀ i, ∃ y : ℝ, x4 i = y) (hw : ∀ i, ∃ y : ℝ, x5 i = y) (r : Fin 4) (b : Fin 2) (n : Fin 256) (h : Fin 512) : val_main_v42 (F := Ideal) x0 x4 x5 (ix4 r b n h) =
    hid (fun n k => x0 (ix4 ⟨4 + r.val, by omega⟩ b n k)) (fun k => x5 (ix3 (0 : Fin 1) ⟨k.val, by omega⟩ h)) (fun k => x5 (ix3 (0 : Fin 1) ⟨2048 + k.val, by omega⟩ h))
      (fun k => x4 (ix3 (0 : Fin 1) ⟨k.val / 128, by omega⟩ ⟨k.val % 128, by omega⟩)) (fun k => x4 (ix3 (0 : Fin 1) ⟨16 + k.val / 128, by omega⟩ ⟨k.val % 128, by omega⟩)) n := by
  rw [← hid_eq _ _ _ _ _ _ (fun _ => hw _) (fun _ => hw _) (fun _ => hp _) (fun _ => hp _)]
  have e : val_main_v42 (F := Ideal) x0 x4 x5 (ix4 r b n h) = ∑ k : Fin 4096, val_main_v41 (F := Ideal) x0 x4 (ix4 r b n k) * x5 (ix3 (0 : Fin 1) k h) := by
    pointwise [val_main_v42, val_main_v32]
  rw [e]
  refine (Fin.sum_univ_add (a := 2048) (b := 2048) _).trans ?_
  simp only [vblk_a, vblk_b]
  rfl

theorem vprj (hp : ∀ i, ∃ y : ℝ, x4 i = y) (hw : ∀ i, ∃ y : ℝ, x5 i = y) (r : Fin 4) (b : Fin 2) (n : Fin 256) (d : Fin 128) : val_main_v44 (F := Ideal) x0 x4 x5 x6 (ix4 r b n d) =
    prjOf x0 x4 x5 x6 ⟨4 + r.val, by omega⟩ b n d := by
  have e : val_main_v44 (F := Ideal) x0 x4 x5 x6 (ix4 r b n d) = ∑ h : Fin 512, val_main_v42 (F := Ideal) x0 x4 x5 (ix4 r b n h) * Ideal.div 1 (1 + Ideal.exp (-val_main_v42 (F := Ideal) x0 x4 x5 (ix4 r b n h))) * x6 (ix3 (0 : Fin 1) h d) := by
    pointwise [val_main_v44, val_main_v33, val_main_v43, val_main_call1_v5, val_main_call1_v4, val_main_call1_v3, val_main_call1_v2, val_main_call1_v1, val_main_call1_v0, val_main_call1_cst, val_main_call1_cst_0]
  rw [e]
  unfold prjOf prj
  simp only [act_eq, vhid x0 x4 x5 hp hw]

theorem v29_eq (r : Fin 4) (b : Fin 2) (n : Fin 256) (d : Fin 128) : val_main_v29 (F := Ideal) x0 x1 x2 x3 x7 (ix4 r b n d) =
    nrm (fun d => val_main_v15 (F := Ideal) x0 x1 x2 x3 (ix4 r b n d)) (fun d => x7 (ix2 (0 : Fin 1) d)) d := by
  unfold nrm
  pointwise [val_main_v29, val_main_v28, val_main_v27, val_main_v26, val_main_v25, val_main_v24, val_main_v23, val_main_v22, val_main_v21, val_main_v20, val_main_v19, val_main_v18, val_main_v17, val_main_v16, val_main_cst, val_main_cst_0, val_main_cst_1]

theorem v46_a (r : Fin 8) (b : Fin 2) (n : Fin 256) (d : Fin 128) (h : r.val < 4) : val_main_v46 (F := Ideal) x0 x1 x2 x3 x4 x5 x6 x7 (ix4 r b n d) = val_main_v29 (F := Ideal) x0 x1 x2 x3 x7 (ix4 ⟨r.val, h⟩ b n d) := by
  pointwise [val_main_v46, val_main_v45]
  rw [dif_pos h]

theorem v46_b (r : Fin 8) (b : Fin 2) (n : Fin 256) (d : Fin 128) (h : ¬r.val < 4) : val_main_v46 (F := Ideal) x0 x1 x2 x3 x4 x5 x6 x7 (ix4 r b n d) = val_main_v44 (F := Ideal) x0 x4 x5 x6 (ix4 ⟨r.val - 4, by omega⟩ b n d) := by
  have h2 : r.val - 4 < 4 := by omega
  pointwise [val_main_v46, val_main_v45]
  rw [dif_neg h]

end Reference

/-- Every argument that the precondition names is an array of real numbers. -/
theorem finite_of [Cert.Pre_finite_weights.Facts] (a0 : FVec Ideal Cert.Pre_finite_weights.S8x2x256x2048 .bf16) (a1 : FVec Ideal Cert.Pre_finite_weights.S1x32x128 .f32) (a2 : FVec Ideal Cert.Pre_finite_weights.S1x4096x512 .f32)
    (a3 : FVec Ideal Cert.Pre_finite_weights.S1x512x128 .f32) (a4 : FVec Ideal Cert.Pre_finite_weights.S1x32x128 .f32) (a5 : FVec Ideal Cert.Pre_finite_weights.S1x4096x512 .f32) (a6 : FVec Ideal Cert.Pre_finite_weights.S1x512x128 .f32)
    (a7 : FVec Ideal Cert.Pre_finite_weights.S1x128 .f32) (j : Cert.Pre_finite_weights.S_.Idx) (e : Cert.Pre_finite_weights.fn (F := Ideal) a0 a1 a2 a3 a4 a5 a6 a7 j = 1#1) :
    (∀ i, ∃ y : ℝ, a1 i = y) ∧ (∀ i, ∃ y : ℝ, a2 i = y) ∧ (∀ i, ∃ y : ℝ, a4 i = y) ∧ (∀ i, ∃ y : ℝ, a5 i = y) := by
  obtain ⟨e123, e4⟩ := IntOp.andi_eq_one.1 e
  obtain ⟨e12, e3⟩ := IntOp.andi_eq_one.1 e123
  obtain ⟨e1, e2⟩ := IntOp.andi_eq_one.1 e12
  have inf : Ideal.ofBits FTy.f32 2139095040#32 = ⊤ := by simp [Ideal.ofBits, Ideal.ieee]
  have key : ∀ (y : EReal), (FloatOps.cmpf (F := Ideal) (φ := .f32) .olt (FloatOps.absf (F := Ideal) (φ := .f32) y) (Ideal.ofBits FTy.f32 2139095040#32) = 1#1) → ∃ r : ℝ, y = r := fun y hy => by
    refine real_of_lt y ?_
    rw [inf] at hy
    by_contra hn
    exact absurd (hy.symm.trans (show _ = BitVec.ofBool (decide (max y (-y) < ⊤)) from rfl)) (by rw [decide_eq_false hn]; decide)
  exact ⟨fun i => key _ (Host.reduce_andi_all _ _ _ _ j e1 i), fun i => key _ (Host.reduce_andi_all _ _ _ _ j e2 i), fun i => key _ (Host.reduce_andi_all _ _ _ _ j e3 i), fun i => key _ (Host.reduce_andi_all _ _ _ _ j e4 i)⟩

theorem val_eq (m : (ℓ : Loc Cert.CompressIdeal.nD Cert.CompressIdeal.τ Cert.CompressIdeal.sig) → Buf (Elt Ideal) ℓ) (c : Dev Cert.CompressIdeal.nD)
    (h1 : ∀ i, ∃ y : ℝ, Cert.CompressIdeal.Val.A1 m c i = y) (h2 : ∀ i, ∃ y : ℝ, Cert.CompressIdeal.Val.A2 m c i = y) (h4 : ∀ i, ∃ y : ℝ, Cert.CompressIdeal.Val.A4 m c i = y) (h5 : ∀ i, ∃ y : ℝ, Cert.CompressIdeal.Val.A5 m c i = y) :
    val_main_v46 (F := Ideal) (Cert.CompressIdeal.Val.A0 m c) (Cert.CompressIdeal.Val.A1 m c) (Cert.CompressIdeal.Val.A2 m c) (Cert.CompressIdeal.Val.A3 m c) (Cert.CompressIdeal.Val.A4 m c) (Cert.CompressIdeal.Val.A5 m c) (Cert.CompressIdeal.Val.A6 m c) (Cert.CompressIdeal.Val.A7 m c) = Cert.CompressIdeal.Val.G m c := by
  funext i
  obtain ⟨r, b, n, d, rfl⟩ : ∃ (r : Fin 8) (b : Fin 2) (n : Fin 256) (d : Fin 128), i = ix4 r b n d := ⟨i 0, i 1, i 2, i 3, eq_ix4 i⟩
  refine Eq.trans ?_ (show res m c r b n d = _ from rfl)
  unfold res
  by_cases h : r.val < 4
  · rw [if_pos h, v46_a _ _ _ _ _ _ _ _ r b n d h, v29_eq]
    simp only [kprj _ _ _ _ h1 h2]
  · rw [if_neg h, v46_b _ _ _ _ _ _ _ _ r b n d h, vprj _ _ _ _ h4 h5]
    exact congrArg (fun q : Fin 8 => prjOf _ _ _ _ q b n d) (Fin.ext (by show 4 + (r.val - 4) = r.val; omega))

theorem algebraic [Cert.CompressIdeal.Facts] [Cert.CompressReferenceIdeal.Facts] [Cert.Pre_finite_weights.Facts] : Cert.algebraic_CompressIdeal_CompressReferenceIdeal_pre_finite_weights := by
  intro m g m' g' hpre hargs
  refine ⟨fun c => Cert.CompressIdeal.Val.G m c, Cert.CompressIdeal.Val.run m g, ?_⟩
  refine (θ_run _ _ _).mono (fun r h c => ⟨(h c).1.trans ?_, (h c).2⟩) (Cert.CompressReferenceIdeal.Value.run m' g')
  rw [Cert.CompressReferenceIdeal.Read.val_main_v46_eq, (hargs c).1, (hargs c).2.1, (hargs c).2.2.1, (hargs c).2.2.2.1, (hargs c).2.2.2.2.1, (hargs c).2.2.2.2.2.1, (hargs c).2.2.2.2.2.2.1, (hargs c).2.2.2.2.2.2.2]
  obtain ⟨h1, h2, h4, h5⟩ := finite_of _ _ _ _ _ _ _ _ (fun a => a.elim0) (congrFun (hpre c) _)
  exact val_eq m c h1 h2 h4 h5

end Cert.CompressValue

end
-- ==== Proof.InprojI.Frame.lean ====
/- The frame of the input projection: the launch, the run of its body, which stores 40 strided and 56 plain pieces,
   and what every output block holds after the body. -/
module

public import proofs.«01_k».proof.Proof.Gen.InprojIdeal.Launch
public import proofs.«01_k».proof.Proof.Gen.InprojIdeal.Skeleton
public import proofs.«01_k».proof.Proof.Gen.InprojIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 65536

noncomputable section

namespace Cert.InprojIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the region is entered. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- The frame from a run of the pipeline. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

abbrev r0_0 : Rect S256x2048 := (Rect.unit (s := S256x2048) ![0, 0] S256x2048.size inb_S256x2048_S256x2048_0_0)
abbrev r0_1 : Rect S1x2048 := (Rect.unit (s := S1x2048) ![0, 0] S1x2048.size inb_S1x2048_S1x2048_0_0)
abbrev r0_2 : Rect S2048x7168 := (Rect.unit (s := S2048x7168) ![0, 0] S2048x512.size inb_S2048x7168_S2048x512_0_0)
abbrev r0_3 : Rect S512x512 := (Rect.unit (s := S512x512) ![0, 0] S512x512.size inb_S512x512_S512x512_0_0)
abbrev r0_4 : Rect S1x7168 := (Rect.unit (s := S1x7168) ![0, 0] S1x512.size inb_S1x7168_S1x512_0_0)
abbrev r0_5 : Rect S56x256x128 := (Rect.unit (s := S56x256x128) ![0, 0, 0] S1x256x128.size inb_S56x256x128_S1x256x128_0_0_0)
abbrev r0_6 : Rect S56x256x128 := (Rect.unit (s := S56x256x128) ![1, 0, 0] S1x256x128.size inb_S56x256x128_S1x256x128_1_0_0)
abbrev r0_7 : Rect S56x256x128 := (Rect.unit (s := S56x256x128) ![2, 0, 0] S1x256x128.size inb_S56x256x128_S1x256x128_2_0_0)
abbrev r0_8 : Rect S56x256x128 := (Rect.unit (s := S56x256x128) ![3, 0, 0] S1x256x128.size inb_S56x256x128_S1x256x128_3_0_0)
abbrev r0_9 : Rect S2048x7168 := (Rect.unit (s := S2048x7168) ![0, 512] S2048x512.size inb_S2048x7168_S2048x512_0_512)
abbrev r0_10 : Rect S1x7168 := (Rect.unit (s := S1x7168) ![0, 512] S1x512.size inb_S1x7168_S1x512_0_512)
abbrev r0_11 : Rect S56x256x128 := (Rect.unit (s := S56x256x128) ![4, 0, 0] S1x256x128.size inb_S56x256x128_S1x256x128_4_0_0)
abbrev r0_12 : Rect S56x256x128 := (Rect.unit (s := S56x256x128) ![5, 0, 0] S1x256x128.size inb_S56x256x128_S1x256x128_5_0_0)
abbrev r0_13 : Rect S56x256x128 := (Rect.unit (s := S56x256x128) ![6, 0, 0] S1x256x128.size inb_S56x256x128_S1x256x128_6_0_0)
abbrev r0_14 : Rect S56x256x128 := (Rect.unit (s := S56x256x128) ![7, 0, 0] S1x256x128.size inb_S56x256x128_S1x256x128_7_0_0)
abbrev r0_15 : Rect S2048x7168 := (Rect.unit (s := S2048x7168) ![0, 1024] S2048x512.size inb_S2048x7168_S2048x512_0_1024)
abbrev r0_16 : Rect S56x256x128 := (Rect.unit (s := S56x256x128) ![8, 0, 0] S1x256x128.size inb_S56x256x128_S1x256x128_8_0_0)
abbrev r0_17 : Rect S56x256x128 := (Rect.unit (s := S56x256x128) ![9, 0, 0] S1x256x128.size inb_S56x256x128_S1x256x128_9_0_0)
abbrev r0_18 : Rect S56x256x128 := (Rect.unit (s := S56x256x128) ![10, 0, 0] S1x256x128.size inb_S56x256x128_S1x256x128_10_0_0)
abbrev r0_19 : Rect S56x256x128 := (Rect.unit (s := S56x256x128) ![11, 0, 0] S1x256x128.size inb_S56x256x128_S1x256x128_11_0_0)
abbrev r0_20 : Rect S4096x128 := ⟨(⟨![0, 0], S256x128.size, ![16, 1], inb_S4096x128_S256x128_0_0_s_16_1⟩ : LoadRect S4096x128), spos_16_1⟩
abbrev r0_21 : Rect S4096x128 := ⟨(⟨![1, 0], S256x128.size, ![16, 1], inb_S4096x128_S256x128_1_0_s_16_1⟩ : LoadRect S4096x128), spos_16_1⟩
abbrev r0_22 : Rect S4096x128 := ⟨(⟨![2, 0], S256x128.size, ![16, 1], inb_S4096x128_S256x128_2_0_s_16_1⟩ : LoadRect S4096x128), spos_16_1⟩
abbrev r0_23 : Rect S4096x128 := ⟨(⟨![3, 0], S256x128.size, ![16, 1], inb_S4096x128_S256x128_3_0_s_16_1⟩ : LoadRect S4096x128), spos_16_1⟩
abbrev r0_24 : Rect S2048x7168 := (Rect.unit (s := S2048x7168) ![0, 1536] S2048x512.size inb_S2048x7168_S2048x512_0_1536)
abbrev r0_25 : Rect S56x256x128 := (Rect.unit (s := S56x256x128) ![12, 0, 0] S1x256x128.size inb_S56x256x128_S1x256x128_12_0_0)
abbrev r0_26 : Rect S56x256x128 := (Rect.unit (s := S56x256x128) ![13, 0, 0] S1x256x128.size inb_S56x256x128_S1x256x128_13_0_0)
abbrev r0_27 : Rect S56x256x128 := (Rect.unit (s := S56x256x128) ![14, 0, 0] S1x256x128.size inb_S56x256x128_S1x256x128_14_0_0)
abbrev r0_28 : Rect S56x256x128 := (Rect.unit (s := S56x256x128) ![15, 0, 0] S1x256x128.size inb_S56x256x128_S1x256x128_15_0_0)
abbrev r0_29 : Rect S4096x128 := ⟨(⟨![4, 0], S256x128.size, ![16, 1], inb_S4096x128_S256x128_4_0_s_16_1⟩ : LoadRect S4096x128), spos_16_1⟩
abbrev r0_30 : Rect S4096x128 := ⟨(⟨![5, 0], S256x128.size, ![16, 1], inb_S4096x128_S256x128_5_0_s_16_1⟩ : LoadRect S4096x128), spos_16_1⟩
abbrev r0_31 : Rect S4096x128 := ⟨(⟨![6, 0], S256x128.size, ![16, 1], inb_S4096x128_S256x128_6_0_s_16_1⟩ : LoadRect S4096x128), spos_16_1⟩
abbrev r0_32 : Rect S4096x128 := ⟨(⟨![7, 0], S256x128.size, ![16, 1], inb_S4096x128_S256x128_7_0_s_16_1⟩ : LoadRect S4096x128), spos_16_1⟩
abbrev r0_33 : Rect S2048x7168 := (Rect.unit (s := S2048x7168) ![0, 2048] S2048x512.size inb_S2048x7168_S2048x512_0_2048)
abbrev r0_34 : Rect S1x7168 := (Rect.unit (s := S1x7168) ![0, 2048] S1x512.size inb_S1x7168_S1x512_0_2048)
abbrev r0_35 : Rect S56x256x128 := (Rect.unit (s := S56x256x128) ![16, 0, 0] S1x256x128.size inb_S56x256x128_S1x256x128_16_0_0)
abbrev r0_36 : Rect S56x256x128 := (Rect.unit (s := S56x256x128) ![17, 0, 0] S1x256x128.size inb_S56x256x128_S1x256x128_17_0_0)
abbrev r0_37 : Rect S56x256x128 := (Rect.unit (s := S56x256x128) ![18, 0, 0] S1x256x128.size inb_S56x256x128_S1x256x128_18_0_0)
abbrev r0_38 : Rect S56x256x128 := (Rect.unit (s := S56x256x128) ![19, 0, 0] S1x256x128.size inb_S56x256x128_S1x256x128_19_0_0)
abbrev r0_39 : Rect S4096x128 := ⟨(⟨![8, 0], S256x128.size, ![16, 1], inb_S4096x128_S256x128_8_0_s_16_1⟩ : LoadRect S4096x128), spos_16_1⟩
abbrev r0_40 : Rect S4096x128 := ⟨(⟨![9, 0], S256x128.size, ![16, 1], inb_S4096x128_S256x128_9_0_s_16_1⟩ : LoadRect S4096x128), spos_16_1⟩
abbrev r0_41 : Rect S4096x128 := ⟨(⟨![10, 0], S256x128.size, ![16, 1], inb_S4096x128_S256x128_10_0_s_16_1⟩ : LoadRect S4096x128), spos_16_1⟩
abbrev r0_42 : Rect S4096x128 := ⟨(⟨![11, 0], S256x128.size, ![16, 1], inb_S4096x128_S256x128_11_0_s_16_1⟩ : LoadRect S4096x128), spos_16_1⟩
abbrev r0_43 : Rect S2048x7168 := (Rect.unit (s := S2048x7168) ![0, 2560] S2048x512.size inb_S2048x7168_S2048x512_0_2560)
abbrev r0_44 : Rect S56x256x128 := (Rect.unit (s := S56x256x128) ![20, 0, 0] S1x256x128.size inb_S56x256x128_S1x256x128_20_0_0)
abbrev r0_45 : Rect S56x256x128 := (Rect.unit (s := S56x256x128) ![21, 0, 0] S1x256x128.size inb_S56x256x128_S1x256x128_21_0_0)
abbrev r0_46 : Rect S56x256x128 := (Rect.unit (s := S56x256x128) ![22, 0, 0] S1x256x128.size inb_S56x256x128_S1x256x128_22_0_0)
abbrev r0_47 : Rect S56x256x128 := (Rect.unit (s := S56x256x128) ![23, 0, 0] S1x256x128.size inb_S56x256x128_S1x256x128_23_0_0)
abbrev r0_48 : Rect S4096x128 := ⟨(⟨![12, 0], S256x128.size, ![16, 1], inb_S4096x128_S256x128_12_0_s_16_1⟩ : LoadRect S4096x128), spos_16_1⟩
abbrev r0_49 : Rect S4096x128 := ⟨(⟨![13, 0], S256x128.size, ![16, 1], inb_S4096x128_S256x128_13_0_s_16_1⟩ : LoadRect S4096x128), spos_16_1⟩
abbrev r0_50 : Rect S4096x128 := ⟨(⟨![14, 0], S256x128.size, ![16, 1], inb_S4096x128_S256x128_14_0_s_16_1⟩ : LoadRect S4096x128), spos_16_1⟩
abbrev r0_51 : Rect S4096x128 := ⟨(⟨![15, 0], S256x128.size, ![16, 1], inb_S4096x128_S256x128_15_0_s_16_1⟩ : LoadRect S4096x128), spos_16_1⟩
abbrev r0_52 : Rect S2048x7168 := (Rect.unit (s := S2048x7168) ![0, 3072] S2048x512.size inb_S2048x7168_S2048x512_0_3072)
abbrev r0_53 : Rect S1x7168 := (Rect.unit (s := S1x7168) ![0, 3072] S1x512.size inb_S1x7168_S1x512_0_3072)
abbrev r0_54 : Rect S56x256x128 := (Rect.unit (s := S56x256x128) ![24, 0, 0] S1x256x128.size inb_S56x256x128_S1x256x128_24_0_0)
abbrev r0_55 : Rect S56x256x128 := (Rect.unit (s := S56x256x128) ![25, 0, 0] S1x256x128.size inb_S56x256x128_S1x256x128_25_0_0)
abbrev r0_56 : Rect S56x256x128 := (Rect.unit (s := S56x256x128) ![26, 0, 0] S1x256x128.size inb_S56x256x128_S1x256x128_26_0_0)
abbrev r0_57 : Rect S56x256x128 := (Rect.unit (s := S56x256x128) ![27, 0, 0] S1x256x128.size inb_S56x256x128_S1x256x128_27_0_0)
abbrev r0_58 : Rect S2048x128 := ⟨(⟨![0, 0], S256x128.size, ![8, 1], inb_S2048x128_S256x128_0_0_s_8_1⟩ : LoadRect S2048x128), spos_8_1⟩
abbrev r0_59 : Rect S2048x128 := ⟨(⟨![1, 0], S256x128.size, ![8, 1], inb_S2048x128_S256x128_1_0_s_8_1⟩ : LoadRect S2048x128), spos_8_1⟩
abbrev r0_60 : Rect S2048x128 := ⟨(⟨![2, 0], S256x128.size, ![8, 1], inb_S2048x128_S256x128_2_0_s_8_1⟩ : LoadRect S2048x128), spos_8_1⟩
abbrev r0_61 : Rect S2048x128 := ⟨(⟨![3, 0], S256x128.size, ![8, 1], inb_S2048x128_S256x128_3_0_s_8_1⟩ : LoadRect S2048x128), spos_8_1⟩
abbrev r0_62 : Rect S2048x7168 := (Rect.unit (s := S2048x7168) ![0, 3584] S2048x512.size inb_S2048x7168_S2048x512_0_3584)
abbrev r0_63 : Rect S56x256x128 := (Rect.unit (s := S56x256x128) ![28, 0, 0] S1x256x128.size inb_S56x256x128_S1x256x128_28_0_0)
abbrev r0_64 : Rect S56x256x128 := (Rect.unit (s := S56x256x128) ![29, 0, 0] S1x256x128.size inb_S56x256x128_S1x256x128_29_0_0)
abbrev r0_65 : Rect S56x256x128 := (Rect.unit (s := S56x256x128) ![30, 0, 0] S1x256x128.size inb_S56x256x128_S1x256x128_30_0_0)
abbrev r0_66 : Rect S56x256x128 := (Rect.unit (s := S56x256x128) ![31, 0, 0] S1x256x128.size inb_S56x256x128_S1x256x128_31_0_0)
abbrev r0_67 : Rect S2048x128 := ⟨(⟨![4, 0], S256x128.size, ![8, 1], inb_S2048x128_S256x128_4_0_s_8_1⟩ : LoadRect S2048x128), spos_8_1⟩
abbrev r0_68 : Rect S2048x128 := ⟨(⟨![5, 0], S256x128.size, ![8, 1], inb_S2048x128_S256x128_5_0_s_8_1⟩ : LoadRect S2048x128), spos_8_1⟩
abbrev r0_69 : Rect S2048x128 := ⟨(⟨![6, 0], S256x128.size, ![8, 1], inb_S2048x128_S256x128_6_0_s_8_1⟩ : LoadRect S2048x128), spos_8_1⟩
abbrev r0_70 : Rect S2048x128 := ⟨(⟨![7, 0], S256x128.size, ![8, 1], inb_S2048x128_S256x128_7_0_s_8_1⟩ : LoadRect S2048x128), spos_8_1⟩
abbrev r0_71 : Rect S2048x7168 := (Rect.unit (s := S2048x7168) ![0, 4096] S2048x512.size inb_S2048x7168_S2048x512_0_4096)
abbrev r0_72 : Rect S1x7168 := (Rect.unit (s := S1x7168) ![0, 4096] S1x512.size inb_S1x7168_S1x512_0_4096)
abbrev r0_73 : Rect S56x256x128 := (Rect.unit (s := S56x256x128) ![32, 0, 0] S1x256x128.size inb_S56x256x128_S1x256x128_32_0_0)
abbrev r0_74 : Rect S56x256x128 := (Rect.unit (s := S56x256x128) ![33, 0, 0] S1x256x128.size inb_S56x256x128_S1x256x128_33_0_0)
abbrev r0_75 : Rect S56x256x128 := (Rect.unit (s := S56x256x128) ![34, 0, 0] S1x256x128.size inb_S56x256x128_S1x256x128_34_0_0)
abbrev r0_76 : Rect S56x256x128 := (Rect.unit (s := S56x256x128) ![35, 0, 0] S1x256x128.size inb_S56x256x128_S1x256x128_35_0_0)
abbrev r0_77 : Rect S2048x7168 := (Rect.unit (s := S2048x7168) ![0, 4608] S2048x512.size inb_S2048x7168_S2048x512_0_4608)
abbrev r0_78 : Rect S1x7168 := (Rect.unit (s := S1x7168) ![0, 4608] S1x512.size inb_S1x7168_S1x512_0_4608)
abbrev r0_79 : Rect S56x256x128 := (Rect.unit (s := S56x256x128) ![36, 0, 0] S1x256x128.size inb_S56x256x128_S1x256x128_36_0_0)
abbrev r0_80 : Rect S56x256x128 := (Rect.unit (s := S56x256x128) ![37, 0, 0] S1x256x128.size inb_S56x256x128_S1x256x128_37_0_0)
abbrev r0_81 : Rect S56x256x128 := (Rect.unit (s := S56x256x128) ![38, 0, 0] S1x256x128.size inb_S56x256x128_S1x256x128_38_0_0)
abbrev r0_82 : Rect S56x256x128 := (Rect.unit (s := S56x256x128) ![39, 0, 0] S1x256x128.size inb_S56x256x128_S1x256x128_39_0_0)
abbrev r0_83 : Rect S2048x7168 := (Rect.unit (s := S2048x7168) ![0, 5120] S2048x512.size inb_S2048x7168_S2048x512_0_5120)
abbrev r0_84 : Rect S1x7168 := (Rect.unit (s := S1x7168) ![0, 5120] S1x512.size inb_S1x7168_S1x512_0_5120)
abbrev r0_85 : Rect S56x256x128 := (Rect.unit (s := S56x256x128) ![40, 0, 0] S1x256x128.size inb_S56x256x128_S1x256x128_40_0_0)
abbrev r0_86 : Rect S56x256x128 := (Rect.unit (s := S56x256x128) ![41, 0, 0] S1x256x128.size inb_S56x256x128_S1x256x128_41_0_0)
abbrev r0_87 : Rect S56x256x128 := (Rect.unit (s := S56x256x128) ![42, 0, 0] S1x256x128.size inb_S56x256x128_S1x256x128_42_0_0)
abbrev r0_88 : Rect S56x256x128 := (Rect.unit (s := S56x256x128) ![43, 0, 0] S1x256x128.size inb_S56x256x128_S1x256x128_43_0_0)
abbrev r0_89 : Rect S4096x128 := ⟨(⟨![0, 0], S256x128.size, ![16, 1], inb_S4096x128_S256x128_0_0_s_16_1⟩ : LoadRect S4096x128), spos_16_1⟩
abbrev r0_90 : Rect S4096x128 := ⟨(⟨![1, 0], S256x128.size, ![16, 1], inb_S4096x128_S256x128_1_0_s_16_1⟩ : LoadRect S4096x128), spos_16_1⟩
abbrev r0_91 : Rect S4096x128 := ⟨(⟨![2, 0], S256x128.size, ![16, 1], inb_S4096x128_S256x128_2_0_s_16_1⟩ : LoadRect S4096x128), spos_16_1⟩
abbrev r0_92 : Rect S4096x128 := ⟨(⟨![3, 0], S256x128.size, ![16, 1], inb_S4096x128_S256x128_3_0_s_16_1⟩ : LoadRect S4096x128), spos_16_1⟩
abbrev r0_93 : Rect S2048x7168 := (Rect.unit (s := S2048x7168) ![0, 5632] S2048x512.size inb_S2048x7168_S2048x512_0_5632)
abbrev r0_94 : Rect S1x7168 := (Rect.unit (s := S1x7168) ![0, 5632] S1x512.size inb_S1x7168_S1x512_0_5632)
abbrev r0_95 : Rect S56x256x128 := (Rect.unit (s := S56x256x128) ![44, 0, 0] S1x256x128.size inb_S56x256x128_S1x256x128_44_0_0)
abbrev r0_96 : Rect S56x256x128 := (Rect.unit (s := S56x256x128) ![45, 0, 0] S1x256x128.size inb_S56x256x128_S1x256x128_45_0_0)
abbrev r0_97 : Rect S56x256x128 := (Rect.unit (s := S56x256x128) ![46, 0, 0] S1x256x128.size inb_S56x256x128_S1x256x128_46_0_0)
abbrev r0_98 : Rect S56x256x128 := (Rect.unit (s := S56x256x128) ![47, 0, 0] S1x256x128.size inb_S56x256x128_S1x256x128_47_0_0)
abbrev r0_99 : Rect S4096x128 := ⟨(⟨![4, 0], S256x128.size, ![16, 1], inb_S4096x128_S256x128_4_0_s_16_1⟩ : LoadRect S4096x128), spos_16_1⟩
abbrev r0_100 : Rect S4096x128 := ⟨(⟨![5, 0], S256x128.size, ![16, 1], inb_S4096x128_S256x128_5_0_s_16_1⟩ : LoadRect S4096x128), spos_16_1⟩
abbrev r0_101 : Rect S4096x128 := ⟨(⟨![6, 0], S256x128.size, ![16, 1], inb_S4096x128_S256x128_6_0_s_16_1⟩ : LoadRect S4096x128), spos_16_1⟩
abbrev r0_102 : Rect S4096x128 := ⟨(⟨![7, 0], S256x128.size, ![16, 1], inb_S4096x128_S256x128_7_0_s_16_1⟩ : LoadRect S4096x128), spos_16_1⟩
abbrev r0_103 : Rect S2048x7168 := (Rect.unit (s := S2048x7168) ![0, 6144] S2048x512.size inb_S2048x7168_S2048x512_0_6144)
abbrev r0_104 : Rect S56x256x128 := (Rect.unit (s := S56x256x128) ![48, 0, 0] S1x256x128.size inb_S56x256x128_S1x256x128_48_0_0)
abbrev r0_105 : Rect S56x256x128 := (Rect.unit (s := S56x256x128) ![49, 0, 0] S1x256x128.size inb_S56x256x128_S1x256x128_49_0_0)
abbrev r0_106 : Rect S56x256x128 := (Rect.unit (s := S56x256x128) ![50, 0, 0] S1x256x128.size inb_S56x256x128_S1x256x128_50_0_0)
abbrev r0_107 : Rect S56x256x128 := (Rect.unit (s := S56x256x128) ![51, 0, 0] S1x256x128.size inb_S56x256x128_S1x256x128_51_0_0)
abbrev r0_108 : Rect S4096x128 := ⟨(⟨![8, 0], S256x128.size, ![16, 1], inb_S4096x128_S256x128_8_0_s_16_1⟩ : LoadRect S4096x128), spos_16_1⟩
abbrev r0_109 : Rect S4096x128 := ⟨(⟨![9, 0], S256x128.size, ![16, 1], inb_S4096x128_S256x128_9_0_s_16_1⟩ : LoadRect S4096x128), spos_16_1⟩
abbrev r0_110 : Rect S4096x128 := ⟨(⟨![10, 0], S256x128.size, ![16, 1], inb_S4096x128_S256x128_10_0_s_16_1⟩ : LoadRect S4096x128), spos_16_1⟩
abbrev r0_111 : Rect S4096x128 := ⟨(⟨![11, 0], S256x128.size, ![16, 1], inb_S4096x128_S256x128_11_0_s_16_1⟩ : LoadRect S4096x128), spos_16_1⟩
abbrev r0_112 : Rect S2048x7168 := (Rect.unit (s := S2048x7168) ![0, 6656] S2048x512.size inb_S2048x7168_S2048x512_0_6656)
abbrev r0_113 : Rect S56x256x128 := (Rect.unit (s := S56x256x128) ![52, 0, 0] S1x256x128.size inb_S56x256x128_S1x256x128_52_0_0)
abbrev r0_114 : Rect S56x256x128 := (Rect.unit (s := S56x256x128) ![53, 0, 0] S1x256x128.size inb_S56x256x128_S1x256x128_53_0_0)
abbrev r0_115 : Rect S56x256x128 := (Rect.unit (s := S56x256x128) ![54, 0, 0] S1x256x128.size inb_S56x256x128_S1x256x128_54_0_0)
abbrev r0_116 : Rect S56x256x128 := (Rect.unit (s := S56x256x128) ![55, 0, 0] S1x256x128.size inb_S56x256x128_S1x256x128_55_0_0)
abbrev r0_117 : Rect S4096x128 := ⟨(⟨![12, 0], S256x128.size, ![16, 1], inb_S4096x128_S256x128_12_0_s_16_1⟩ : LoadRect S4096x128), spos_16_1⟩
abbrev r0_118 : Rect S4096x128 := ⟨(⟨![13, 0], S256x128.size, ![16, 1], inb_S4096x128_S256x128_13_0_s_16_1⟩ : LoadRect S4096x128), spos_16_1⟩
abbrev r0_119 : Rect S4096x128 := ⟨(⟨![14, 0], S256x128.size, ![16, 1], inb_S4096x128_S256x128_14_0_s_16_1⟩ : LoadRect S4096x128), spos_16_1⟩
abbrev r0_120 : Rect S4096x128 := ⟨(⟨![15, 0], S256x128.size, ![16, 1], inb_S4096x128_S256x128_15_0_s_16_1⟩ : LoadRect S4096x128), spos_16_1⟩

/-- Output block 5 after the body, its stores newest first. -/
def out0_5 (x0 : Vec F S256x2048 .f32) (x1 : Vec F S1x2048 .f32) (x2 : Vec F S2048x7168 .bf16) (x3 : Vec F S1x7168 .f32) (x4 : Vec F S512x512 .bf16) : Vec F S4096x128 .f32 :=
  View.canon [⟨r0_51, (k0_pay56 (k0_pay6 (View.ld x0 r0_0) (View.ld x1 r0_1)) (View.ld x2 r0_43))⟩,
    ⟨r0_50, (k0_pay55 (k0_pay6 (View.ld x0 r0_0) (View.ld x1 r0_1)) (View.ld x2 r0_43))⟩,
    ⟨r0_49, (k0_pay54 (k0_pay6 (View.ld x0 r0_0) (View.ld x1 r0_1)) (View.ld x2 r0_43))⟩,
    ⟨r0_48, (k0_pay53 (k0_pay6 (View.ld x0 r0_0) (View.ld x1 r0_1)) (View.ld x2 r0_43))⟩,
    ⟨r0_42, (k0_pay47 (k0_pay38 (k0_pay6 (View.ld x0 r0_0) (View.ld x1 r0_1)) (View.ld x2 r0_33) (View.ld x4 r0_3)) (View.ld x3 r0_34))⟩,
    ⟨r0_41, (k0_pay46 (k0_pay38 (k0_pay6 (View.ld x0 r0_0) (View.ld x1 r0_1)) (View.ld x2 r0_33) (View.ld x4 r0_3)) (View.ld x3 r0_34))⟩,
    ⟨r0_40, (k0_pay45 (k0_pay38 (k0_pay6 (View.ld x0 r0_0) (View.ld x1 r0_1)) (View.ld x2 r0_33) (View.ld x4 r0_3)) (View.ld x3 r0_34))⟩,
    ⟨r0_39, (k0_pay44 (k0_pay38 (k0_pay6 (View.ld x0 r0_0) (View.ld x1 r0_1)) (View.ld x2 r0_33) (View.ld x4 r0_3)) (View.ld x3 r0_34))⟩,
    ⟨r0_32, (k0_pay37 (k0_pay28 (k0_pay6 (View.ld x0 r0_0) (View.ld x1 r0_1)) (View.ld x2 r0_24)))⟩,
    ⟨r0_31, (k0_pay36 (k0_pay28 (k0_pay6 (View.ld x0 r0_0) (View.ld x1 r0_1)) (View.ld x2 r0_24)))⟩,
    ⟨r0_30, (k0_pay35 (k0_pay28 (k0_pay6 (View.ld x0 r0_0) (View.ld x1 r0_1)) (View.ld x2 r0_24)))⟩,
    ⟨r0_29, (k0_pay34 (k0_pay28 (k0_pay6 (View.ld x0 r0_0) (View.ld x1 r0_1)) (View.ld x2 r0_24)))⟩,
    ⟨r0_23, (k0_pay27 (k0_pay18 (k0_pay6 (View.ld x0 r0_0) (View.ld x1 r0_1)) (View.ld x2 r0_15)))⟩,
    ⟨r0_22, (k0_pay26 (k0_pay18 (k0_pay6 (View.ld x0 r0_0) (View.ld x1 r0_1)) (View.ld x2 r0_15)))⟩,
    ⟨r0_21, (k0_pay25 (k0_pay18 (k0_pay6 (View.ld x0 r0_0) (View.ld x1 r0_1)) (View.ld x2 r0_15)))⟩,
    ⟨r0_20, (k0_pay24 (k0_pay18 (k0_pay6 (View.ld x0 r0_0) (View.ld x1 r0_1)) (View.ld x2 r0_15)))⟩]

/-- Output block 6 after the body, its stores newest first. -/
def out0_6 (x0 : Vec F S256x2048 .f32) (x1 : Vec F S1x2048 .f32) (x2 : Vec F S2048x7168 .bf16) (x3 : Vec F S1x7168 .f32) (x4 : Vec F S512x512 .bf16) : Vec F S2048x128 .f32 :=
  View.canon [⟨r0_70, (k0_pay76 (k0_pay67 (k0_pay6 (View.ld x0 r0_0) (View.ld x1 r0_1)) (View.ld x2 r0_62)))⟩,
    ⟨r0_69, (k0_pay75 (k0_pay67 (k0_pay6 (View.ld x0 r0_0) (View.ld x1 r0_1)) (View.ld x2 r0_62)))⟩,
    ⟨r0_68, (k0_pay74 (k0_pay67 (k0_pay6 (View.ld x0 r0_0) (View.ld x1 r0_1)) (View.ld x2 r0_62)))⟩,
    ⟨r0_67, (k0_pay73 (k0_pay67 (k0_pay6 (View.ld x0 r0_0) (View.ld x1 r0_1)) (View.ld x2 r0_62)))⟩,
    ⟨r0_61, (k0_pay66 (k0_pay57 (k0_pay6 (View.ld x0 r0_0) (View.ld x1 r0_1)) (View.ld x2 r0_52) (View.ld x4 r0_3) (View.ld x3 r0_53)))⟩,
    ⟨r0_60, (k0_pay65 (k0_pay57 (k0_pay6 (View.ld x0 r0_0) (View.ld x1 r0_1)) (View.ld x2 r0_52) (View.ld x4 r0_3) (View.ld x3 r0_53)))⟩,
    ⟨r0_59, (k0_pay64 (k0_pay57 (k0_pay6 (View.ld x0 r0_0) (View.ld x1 r0_1)) (View.ld x2 r0_52) (View.ld x4 r0_3) (View.ld x3 r0_53)))⟩,
    ⟨r0_58, (k0_pay63 (k0_pay57 (k0_pay6 (View.ld x0 r0_0) (View.ld x1 r0_1)) (View.ld x2 r0_52) (View.ld x4 r0_3) (View.ld x3 r0_53)))⟩]

/-- Output block 7 after the body, its stores newest first. -/
def out0_7 (x0 : Vec F S256x2048 .f32) (x1 : Vec F S1x2048 .f32) (x2 : Vec F S2048x7168 .bf16) (x3 : Vec F S1x7168 .f32) (x4 : Vec F S512x512 .bf16) : Vec F S4096x128 .f32 :=
  View.canon [⟨r0_120, (k0_pay5 (k0_pay118 (k0_pay6 (View.ld x0 r0_0) (View.ld x1 r0_1)) (View.ld x2 r0_112)))⟩,
    ⟨r0_119, (k0_pay4 (k0_pay118 (k0_pay6 (View.ld x0 r0_0) (View.ld x1 r0_1)) (View.ld x2 r0_112)))⟩,
    ⟨r0_118, (k0_pay3 (k0_pay118 (k0_pay6 (View.ld x0 r0_0) (View.ld x1 r0_1)) (View.ld x2 r0_112)))⟩,
    ⟨r0_117, (k0_pay2 (k0_pay118 (k0_pay6 (View.ld x0 r0_0) (View.ld x1 r0_1)) (View.ld x2 r0_112)))⟩,
    ⟨r0_111, (k0_pay117 (k0_pay108 (k0_pay6 (View.ld x0 r0_0) (View.ld x1 r0_1)) (View.ld x2 r0_103)))⟩,
    ⟨r0_110, (k0_pay116 (k0_pay108 (k0_pay6 (View.ld x0 r0_0) (View.ld x1 r0_1)) (View.ld x2 r0_103)))⟩,
    ⟨r0_109, (k0_pay115 (k0_pay108 (k0_pay6 (View.ld x0 r0_0) (View.ld x1 r0_1)) (View.ld x2 r0_103)))⟩,
    ⟨r0_108, (k0_pay114 (k0_pay108 (k0_pay6 (View.ld x0 r0_0) (View.ld x1 r0_1)) (View.ld x2 r0_103)))⟩,
    ⟨r0_102, (k0_pay107 (k0_pay98 (k0_pay6 (View.ld x0 r0_0) (View.ld x1 r0_1)) (View.ld x2 r0_93) (View.ld x4 r0_3) (View.ld x3 r0_94)))⟩,
    ⟨r0_101, (k0_pay106 (k0_pay98 (k0_pay6 (View.ld x0 r0_0) (View.ld x1 r0_1)) (View.ld x2 r0_93) (View.ld x4 r0_3) (View.ld x3 r0_94)))⟩,
    ⟨r0_100, (k0_pay105 (k0_pay98 (k0_pay6 (View.ld x0 r0_0) (View.ld x1 r0_1)) (View.ld x2 r0_93) (View.ld x4 r0_3) (View.ld x3 r0_94)))⟩,
    ⟨r0_99, (k0_pay104 (k0_pay98 (k0_pay6 (View.ld x0 r0_0) (View.ld x1 r0_1)) (View.ld x2 r0_93) (View.ld x4 r0_3) (View.ld x3 r0_94)))⟩,
    ⟨r0_92, (k0_pay97 (k0_pay88 (k0_pay6 (View.ld x0 r0_0) (View.ld x1 r0_1)) (View.ld x2 r0_83) (View.ld x4 r0_3)) (View.ld x3 r0_84))⟩,
    ⟨r0_91, (k0_pay96 (k0_pay88 (k0_pay6 (View.ld x0 r0_0) (View.ld x1 r0_1)) (View.ld x2 r0_83) (View.ld x4 r0_3)) (View.ld x3 r0_84))⟩,
    ⟨r0_90, (k0_pay95 (k0_pay88 (k0_pay6 (View.ld x0 r0_0) (View.ld x1 r0_1)) (View.ld x2 r0_83) (View.ld x4 r0_3)) (View.ld x3 r0_84))⟩,
    ⟨r0_89, (k0_pay94 (k0_pay88 (k0_pay6 (View.ld x0 r0_0) (View.ld x1 r0_1)) (View.ld x2 r0_83) (View.ld x4 r0_3)) (View.ld x3 r0_84))⟩]

/-- Output block 8 after the body, its stores newest first. -/
def out0_8 (x0 : Vec F S256x2048 .f32) (x1 : Vec F S1x2048 .f32) (x2 : Vec F S2048x7168 .bf16) (x3 : Vec F S1x7168 .f32) (x4 : Vec F S512x512 .bf16) : Vec F S56x256x128 .bf16 :=
  View.canon [⟨r0_116, (k0_pay1 (k0_pay122 (k0_pay6 (View.ld x0 r0_0) (View.ld x1 r0_1)) (View.ld x2 r0_112)))⟩,
    ⟨r0_115, (k0_pay121 (k0_pay6 (View.ld x0 r0_0) (View.ld x1 r0_1)) (View.ld x2 r0_112))⟩,
    ⟨r0_114, (k0_pay120 (k0_pay6 (View.ld x0 r0_0) (View.ld x1 r0_1)) (View.ld x2 r0_112))⟩,
    ⟨r0_113, (k0_pay119 (k0_pay6 (View.ld x0 r0_0) (View.ld x1 r0_1)) (View.ld x2 r0_112))⟩,
    ⟨r0_107, (k0_pay113 (k0_pay112 (k0_pay6 (View.ld x0 r0_0) (View.ld x1 r0_1)) (View.ld x2 r0_103)))⟩,
    ⟨r0_106, (k0_pay111 (k0_pay6 (View.ld x0 r0_0) (View.ld x1 r0_1)) (View.ld x2 r0_103))⟩,
    ⟨r0_105, (k0_pay110 (k0_pay6 (View.ld x0 r0_0) (View.ld x1 r0_1)) (View.ld x2 r0_103))⟩,
    ⟨r0_104, (k0_pay109 (k0_pay6 (View.ld x0 r0_0) (View.ld x1 r0_1)) (View.ld x2 r0_103))⟩,
    ⟨r0_98, (k0_pay103 (k0_pay102 (k0_pay6 (View.ld x0 r0_0) (View.ld x1 r0_1)) (View.ld x2 r0_93) (View.ld x4 r0_3) (View.ld x3 r0_94)))⟩,
    ⟨r0_97, (k0_pay101 (k0_pay6 (View.ld x0 r0_0) (View.ld x1 r0_1)) (View.ld x2 r0_93) (View.ld x4 r0_3) (View.ld x3 r0_94))⟩,
    ⟨r0_96, (k0_pay100 (k0_pay6 (View.ld x0 r0_0) (View.ld x1 r0_1)) (View.ld x2 r0_93) (View.ld x4 r0_3) (View.ld x3 r0_94))⟩,
    ⟨r0_95, (k0_pay99 (k0_pay6 (View.ld x0 r0_0) (View.ld x1 r0_1)) (View.ld x2 r0_93) (View.ld x4 r0_3) (View.ld x3 r0_94))⟩,
    ⟨r0_88, (k0_pay93 (k0_pay88 (k0_pay6 (View.ld x0 r0_0) (View.ld x1 r0_1)) (View.ld x2 r0_83) (View.ld x4 r0_3)) (View.ld x3 r0_84))⟩,
    ⟨r0_87, (k0_pay92 (k0_pay88 (k0_pay6 (View.ld x0 r0_0) (View.ld x1 r0_1)) (View.ld x2 r0_83) (View.ld x4 r0_3)) (View.ld x3 r0_84))⟩,
    ⟨r0_86, (k0_pay91 (k0_pay88 (k0_pay6 (View.ld x0 r0_0) (View.ld x1 r0_1)) (View.ld x2 r0_83) (View.ld x4 r0_3)) (View.ld x3 r0_84))⟩,
    ⟨r0_85, (k0_pay90 (k0_pay88 (k0_pay6 (View.ld x0 r0_0) (View.ld x1 r0_1)) (View.ld x2 r0_83) (View.ld x4 r0_3)) (View.ld x3 r0_84))⟩,
    ⟨r0_82, (k0_pay87 (k0_pay83 (k0_pay6 (View.ld x0 r0_0) (View.ld x1 r0_1)) (View.ld x2 r0_77) (View.ld x4 r0_3) (View.ld x3 r0_78)))⟩,
    ⟨r0_81, (k0_pay86 (k0_pay83 (k0_pay6 (View.ld x0 r0_0) (View.ld x1 r0_1)) (View.ld x2 r0_77) (View.ld x4 r0_3) (View.ld x3 r0_78)))⟩,
    ⟨r0_80, (k0_pay85 (k0_pay83 (k0_pay6 (View.ld x0 r0_0) (View.ld x1 r0_1)) (View.ld x2 r0_77) (View.ld x4 r0_3) (View.ld x3 r0_78)))⟩,
    ⟨r0_79, (k0_pay84 (k0_pay83 (k0_pay6 (View.ld x0 r0_0) (View.ld x1 r0_1)) (View.ld x2 r0_77) (View.ld x4 r0_3) (View.ld x3 r0_78)))⟩,
    ⟨r0_76, (k0_pay82 (k0_pay77 (k0_pay6 (View.ld x0 r0_0) (View.ld x1 r0_1)) (View.ld x2 r0_71) (View.ld x4 r0_3) (View.ld x3 r0_72)))⟩,
    ⟨r0_75, (k0_pay81 (k0_pay77 (k0_pay6 (View.ld x0 r0_0) (View.ld x1 r0_1)) (View.ld x2 r0_71) (View.ld x4 r0_3) (View.ld x3 r0_72)))⟩,
    ⟨r0_74, (k0_pay80 (k0_pay77 (k0_pay6 (View.ld x0 r0_0) (View.ld x1 r0_1)) (View.ld x2 r0_71) (View.ld x4 r0_3) (View.ld x3 r0_72)))⟩,
    ⟨r0_73, (k0_pay79 (k0_pay78 (k0_pay6 (View.ld x0 r0_0) (View.ld x1 r0_1)) (View.ld x2 r0_71) (View.ld x4 r0_3) (View.ld x3 r0_72)))⟩,
    ⟨r0_66, (k0_pay72 (k0_pay71 (k0_pay6 (View.ld x0 r0_0) (View.ld x1 r0_1)) (View.ld x2 r0_62)))⟩,
    ⟨r0_65, (k0_pay70 (k0_pay6 (View.ld x0 r0_0) (View.ld x1 r0_1)) (View.ld x2 r0_62))⟩,
    ⟨r0_64, (k0_pay69 (k0_pay6 (View.ld x0 r0_0) (View.ld x1 r0_1)) (View.ld x2 r0_62))⟩,
    ⟨r0_63, (k0_pay68 (k0_pay6 (View.ld x0 r0_0) (View.ld x1 r0_1)) (View.ld x2 r0_62))⟩,
    ⟨r0_57, (k0_pay62 (k0_pay61 (k0_pay6 (View.ld x0 r0_0) (View.ld x1 r0_1)) (View.ld x2 r0_52) (View.ld x4 r0_3) (View.ld x3 r0_53)))⟩,
    ⟨r0_56, (k0_pay60 (k0_pay6 (View.ld x0 r0_0) (View.ld x1 r0_1)) (View.ld x2 r0_52) (View.ld x4 r0_3) (View.ld x3 r0_53))⟩,
    ⟨r0_55, (k0_pay59 (k0_pay6 (View.ld x0 r0_0) (View.ld x1 r0_1)) (View.ld x2 r0_52) (View.ld x4 r0_3) (View.ld x3 r0_53))⟩,
    ⟨r0_54, (k0_pay58 (k0_pay6 (View.ld x0 r0_0) (View.ld x1 r0_1)) (View.ld x2 r0_52) (View.ld x4 r0_3) (View.ld x3 r0_53))⟩,
    ⟨r0_47, (k0_pay52 (k0_pay6 (View.ld x0 r0_0) (View.ld x1 r0_1)) (View.ld x2 r0_43))⟩,
    ⟨r0_46, (k0_pay51 (k0_pay6 (View.ld x0 r0_0) (View.ld x1 r0_1)) (View.ld x2 r0_43))⟩,
    ⟨r0_45, (k0_pay50 (k0_pay6 (View.ld x0 r0_0) (View.ld x1 r0_1)) (View.ld x2 r0_43))⟩,
    ⟨r0_44, (k0_pay49 (k0_pay6 (View.ld x0 r0_0) (View.ld x1 r0_1)) (View.ld x2 r0_43))⟩,
    ⟨r0_38, (k0_pay43 (k0_pay38 (k0_pay6 (View.ld x0 r0_0) (View.ld x1 r0_1)) (View.ld x2 r0_33) (View.ld x4 r0_3)) (View.ld x3 r0_34))⟩,
    ⟨r0_37, (k0_pay42 (k0_pay38 (k0_pay6 (View.ld x0 r0_0) (View.ld x1 r0_1)) (View.ld x2 r0_33) (View.ld x4 r0_3)) (View.ld x3 r0_34))⟩,
    ⟨r0_36, (k0_pay41 (k0_pay38 (k0_pay6 (View.ld x0 r0_0) (View.ld x1 r0_1)) (View.ld x2 r0_33) (View.ld x4 r0_3)) (View.ld x3 r0_34))⟩,
    ⟨r0_35, (k0_pay40 (k0_pay38 (k0_pay6 (View.ld x0 r0_0) (View.ld x1 r0_1)) (View.ld x2 r0_33) (View.ld x4 r0_3)) (View.ld x3 r0_34))⟩,
    ⟨r0_28, (k0_pay33 (k0_pay28 (k0_pay6 (View.ld x0 r0_0) (View.ld x1 r0_1)) (View.ld x2 r0_24)))⟩,
    ⟨r0_27, (k0_pay32 (k0_pay31 (k0_pay6 (View.ld x0 r0_0) (View.ld x1 r0_1)) (View.ld x2 r0_24)))⟩,
    ⟨r0_26, (k0_pay30 (k0_pay6 (View.ld x0 r0_0) (View.ld x1 r0_1)) (View.ld x2 r0_24))⟩,
    ⟨r0_25, (k0_pay29 (k0_pay6 (View.ld x0 r0_0) (View.ld x1 r0_1)) (View.ld x2 r0_24))⟩,
    ⟨r0_19, (k0_pay23 (k0_pay18 (k0_pay6 (View.ld x0 r0_0) (View.ld x1 r0_1)) (View.ld x2 r0_15)))⟩,
    ⟨r0_18, (k0_pay22 (k0_pay21 (k0_pay6 (View.ld x0 r0_0) (View.ld x1 r0_1)) (View.ld x2 r0_15)))⟩,
    ⟨r0_17, (k0_pay20 (k0_pay6 (View.ld x0 r0_0) (View.ld x1 r0_1)) (View.ld x2 r0_15))⟩,
    ⟨r0_16, (k0_pay19 (k0_pay6 (View.ld x0 r0_0) (View.ld x1 r0_1)) (View.ld x2 r0_15))⟩,
    ⟨r0_14, (k0_pay17 (k0_pay12 (k0_pay6 (View.ld x0 r0_0) (View.ld x1 r0_1)) (View.ld x2 r0_9) (View.ld x4 r0_3) (View.ld x3 r0_10)))⟩,
    ⟨r0_13, (k0_pay16 (k0_pay12 (k0_pay6 (View.ld x0 r0_0) (View.ld x1 r0_1)) (View.ld x2 r0_9) (View.ld x4 r0_3) (View.ld x3 r0_10)))⟩,
    ⟨r0_12, (k0_pay15 (k0_pay12 (k0_pay6 (View.ld x0 r0_0) (View.ld x1 r0_1)) (View.ld x2 r0_9) (View.ld x4 r0_3) (View.ld x3 r0_10)))⟩,
    ⟨r0_11, (k0_pay14 (k0_pay13 (k0_pay6 (View.ld x0 r0_0) (View.ld x1 r0_1)) (View.ld x2 r0_9) (View.ld x4 r0_3) (View.ld x3 r0_10)))⟩,
    ⟨r0_8, (k0_pay11 (k0_pay7 (View.ld x0 r0_0) (View.ld x1 r0_1) (View.ld x2 r0_2) (View.ld x4 r0_3) (View.ld x3 r0_4)))⟩,
    ⟨r0_7, (k0_pay10 (k0_pay7 (View.ld x0 r0_0) (View.ld x1 r0_1) (View.ld x2 r0_2) (View.ld x4 r0_3) (View.ld x3 r0_4)))⟩,
    ⟨r0_6, (k0_pay9 (k0_pay7 (View.ld x0 r0_0) (View.ld x1 r0_1) (View.ld x2 r0_2) (View.ld x4 r0_3) (View.ld x3 r0_4)))⟩,
    ⟨r0_5, (k0_pay8 (View.ld x0 r0_0) (View.ld x1 r0_1) (View.ld x2 r0_2) (View.ld x4 r0_3) (View.ld x3 r0_4))⟩]

/-- A row is in the rectangle that takes one row out of `k` when it has the rectangle's remainder; a column always is. -/
theorem strided_row {v k j : ℕ} (hk : 0 < k) (hv : v < 256 * k) (h : v % k = j) : ∃ i, i < 256 ∧ v = j + k * i :=
  ⟨v / k, Nat.div_lt_of_lt_mul (Nat.mul_comm 256 k ▸ hv), by rw [← h]; exact (Nat.mod_add_div v k).symm⟩
theorem strided_col {v n : ℕ} (hv : v < n) : ∃ i, i < n ∧ v = 0 + 1 * i := ⟨v, hv, by omega⟩
theorem mem_5_0 (y : S4096x128.Idx) (h : (y 0).val % 16 = 0) : y ∈ r0_20.set :=
  (LoadRect.mem_set _).2 fun a => match a with
  | ⟨0, _⟩ => strided_row (k := 16) (by decide) (y 0).isLt h
  | ⟨1, _⟩ => strided_col (y 1).isLt
theorem mem_5_1 (y : S4096x128.Idx) (h : (y 0).val % 16 = 1) : y ∈ r0_21.set :=
  (LoadRect.mem_set _).2 fun a => match a with
  | ⟨0, _⟩ => strided_row (k := 16) (by decide) (y 0).isLt h
  | ⟨1, _⟩ => strided_col (y 1).isLt
theorem mem_5_2 (y : S4096x128.Idx) (h : (y 0).val % 16 = 2) : y ∈ r0_22.set :=
  (LoadRect.mem_set _).2 fun a => match a with
  | ⟨0, _⟩ => strided_row (k := 16) (by decide) (y 0).isLt h
  | ⟨1, _⟩ => strided_col (y 1).isLt
theorem mem_5_3 (y : S4096x128.Idx) (h : (y 0).val % 16 = 3) : y ∈ r0_23.set :=
  (LoadRect.mem_set _).2 fun a => match a with
  | ⟨0, _⟩ => strided_row (k := 16) (by decide) (y 0).isLt h
  | ⟨1, _⟩ => strided_col (y 1).isLt
theorem mem_5_4 (y : S4096x128.Idx) (h : (y 0).val % 16 = 4) : y ∈ r0_29.set :=
  (LoadRect.mem_set _).2 fun a => match a with
  | ⟨0, _⟩ => strided_row (k := 16) (by decide) (y 0).isLt h
  | ⟨1, _⟩ => strided_col (y 1).isLt
theorem mem_5_5 (y : S4096x128.Idx) (h : (y 0).val % 16 = 5) : y ∈ r0_30.set :=
  (LoadRect.mem_set _).2 fun a => match a with
  | ⟨0, _⟩ => strided_row (k := 16) (by decide) (y 0).isLt h
  | ⟨1, _⟩ => strided_col (y 1).isLt
theorem mem_5_6 (y : S4096x128.Idx) (h : (y 0).val % 16 = 6) : y ∈ r0_31.set :=
  (LoadRect.mem_set _).2 fun a => match a with
  | ⟨0, _⟩ => strided_row (k := 16) (by decide) (y 0).isLt h
  | ⟨1, _⟩ => strided_col (y 1).isLt
theorem mem_5_7 (y : S4096x128.Idx) (h : (y 0).val % 16 = 7) : y ∈ r0_32.set :=
  (LoadRect.mem_set _).2 fun a => match a with
  | ⟨0, _⟩ => strided_row (k := 16) (by decide) (y 0).isLt h
  | ⟨1, _⟩ => strided_col (y 1).isLt
theorem mem_5_8 (y : S4096x128.Idx) (h : (y 0).val % 16 = 8) : y ∈ r0_39.set :=
  (LoadRect.mem_set _).2 fun a => match a with
  | ⟨0, _⟩ => strided_row (k := 16) (by decide) (y 0).isLt h
  | ⟨1, _⟩ => strided_col (y 1).isLt
theorem mem_5_9 (y : S4096x128.Idx) (h : (y 0).val % 16 = 9) : y ∈ r0_40.set :=
  (LoadRect.mem_set _).2 fun a => match a with
  | ⟨0, _⟩ => strided_row (k := 16) (by decide) (y 0).isLt h
  | ⟨1, _⟩ => strided_col (y 1).isLt
theorem mem_5_10 (y : S4096x128.Idx) (h : (y 0).val % 16 = 10) : y ∈ r0_41.set :=
  (LoadRect.mem_set _).2 fun a => match a with
  | ⟨0, _⟩ => strided_row (k := 16) (by decide) (y 0).isLt h
  | ⟨1, _⟩ => strided_col (y 1).isLt
theorem mem_5_11 (y : S4096x128.Idx) (h : (y 0).val % 16 = 11) : y ∈ r0_42.set :=
  (LoadRect.mem_set _).2 fun a => match a with
  | ⟨0, _⟩ => strided_row (k := 16) (by decide) (y 0).isLt h
  | ⟨1, _⟩ => strided_col (y 1).isLt
theorem mem_5_12 (y : S4096x128.Idx) (h : (y 0).val % 16 = 12) : y ∈ r0_48.set :=
  (LoadRect.mem_set _).2 fun a => match a with
  | ⟨0, _⟩ => strided_row (k := 16) (by decide) (y 0).isLt h
  | ⟨1, _⟩ => strided_col (y 1).isLt
theorem mem_5_13 (y : S4096x128.Idx) (h : (y 0).val % 16 = 13) : y ∈ r0_49.set :=
  (LoadRect.mem_set _).2 fun a => match a with
  | ⟨0, _⟩ => strided_row (k := 16) (by decide) (y 0).isLt h
  | ⟨1, _⟩ => strided_col (y 1).isLt
theorem mem_5_14 (y : S4096x128.Idx) (h : (y 0).val % 16 = 14) : y ∈ r0_50.set :=
  (LoadRect.mem_set _).2 fun a => match a with
  | ⟨0, _⟩ => strided_row (k := 16) (by decide) (y 0).isLt h
  | ⟨1, _⟩ => strided_col (y 1).isLt
theorem mem_5_15 (y : S4096x128.Idx) (h : (y 0).val % 16 = 15) : y ∈ r0_51.set :=
  (LoadRect.mem_set _).2 fun a => match a with
  | ⟨0, _⟩ => strided_row (k := 16) (by decide) (y 0).isLt h
  | ⟨1, _⟩ => strided_col (y 1).isLt
theorem cover0_5 (p0 p1 p2 p3 p4 p5 p6 p7 p8 p9 p10 p11 p12 p13 p14 p15 : Vec F S256x128 .f32) (y : S4096x128.Idx) :
    ∃ pc ∈ ([⟨r0_51, p15⟩, ⟨r0_50, p14⟩, ⟨r0_49, p13⟩, ⟨r0_48, p12⟩, ⟨r0_42, p11⟩, ⟨r0_41, p10⟩, ⟨r0_40, p9⟩, ⟨r0_39, p8⟩, ⟨r0_32, p7⟩, ⟨r0_31, p6⟩, ⟨r0_30, p5⟩, ⟨r0_29, p4⟩, ⟨r0_23, p3⟩, ⟨r0_22, p2⟩, ⟨r0_21, p1⟩, ⟨r0_20, p0⟩] : List (View.Piece (Elt F) S4096x128 .f32)), y ∈ pc.1.set := by
  have hlt : (y 0).val % 16 < 16 := Nat.mod_lt _ (by decide)
  have hc : (y 0).val % 16 = 0 ∨ (y 0).val % 16 = 1 ∨ (y 0).val % 16 = 2 ∨ (y 0).val % 16 = 3 ∨ (y 0).val % 16 = 4 ∨ (y 0).val % 16 = 5 ∨ (y 0).val % 16 = 6 ∨ (y 0).val % 16 = 7 ∨ (y 0).val % 16 = 8 ∨ (y 0).val % 16 = 9 ∨ (y 0).val % 16 = 10 ∨ (y 0).val % 16 = 11 ∨ (y 0).val % 16 = 12 ∨ (y 0).val % 16 = 13 ∨ (y 0).val % 16 = 14 ∨ (y 0).val % 16 = 15 := by omega
  rcases hc with h | h | h | h | h | h | h | h | h | h | h | h | h | h | h | h
  · exact ⟨_, .tail _ (.tail _ (.tail _ (.tail _ (.tail _ (.tail _ (.tail _ (.tail _ (.tail _ (.tail _ (.tail _ (.tail _ (.tail _ (.tail _ (.tail _ (.head _))))))))))))))), mem_5_0 y h⟩
  · exact ⟨_, .tail _ (.tail _ (.tail _ (.tail _ (.tail _ (.tail _ (.tail _ (.tail _ (.tail _ (.tail _ (.tail _ (.tail _ (.tail _ (.tail _ (.head _)))))))))))))), mem_5_1 y h⟩
  · exact ⟨_, .tail _ (.tail _ (.tail _ (.tail _ (.tail _ (.tail _ (.tail _ (.tail _ (.tail _ (.tail _ (.tail _ (.tail _ (.tail _ (.head _))))))))))))), mem_5_2 y h⟩
  · exact ⟨_, .tail _ (.tail _ (.tail _ (.tail _ (.tail _ (.tail _ (.tail _ (.tail _ (.tail _ (.tail _ (.tail _ (.tail _ (.head _)))))))))))), mem_5_3 y h⟩
  · exact ⟨_, .tail _ (.tail _ (.tail _ (.tail _ (.tail _ (.tail _ (.tail _ (.tail _ (.tail _ (.tail _ (.tail _ (.head _))))))))))), mem_5_4 y h⟩
  · exact ⟨_, .tail _ (.tail _ (.tail _ (.tail _ (.tail _ (.tail _ (.tail _ (.tail _ (.tail _ (.tail _ (.head _)))))))))), mem_5_5 y h⟩
  · exact ⟨_, .tail _ (.tail _ (.tail _ (.tail _ (.tail _ (.tail _ (.tail _ (.tail _ (.tail _ (.head _))))))))), mem_5_6 y h⟩
  · exact ⟨_, .tail _ (.tail _ (.tail _ (.tail _ (.tail _ (.tail _ (.tail _ (.tail _ (.head _)))))))), mem_5_7 y h⟩
  · exact ⟨_, .tail _ (.tail _ (.tail _ (.tail _ (.tail _ (.tail _ (.tail _ (.head _))))))), mem_5_8 y h⟩
  · exact ⟨_, .tail _ (.tail _ (.tail _ (.tail _ (.tail _ (.tail _ (.head _)))))), mem_5_9 y h⟩
  · exact ⟨_, .tail _ (.tail _ (.tail _ (.tail _ (.tail _ (.head _))))), mem_5_10 y h⟩
  · exact ⟨_, .tail _ (.tail _ (.tail _ (.tail _ (.head _)))), mem_5_11 y h⟩
  · exact ⟨_, .tail _ (.tail _ (.tail _ (.head _))), mem_5_12 y h⟩
  · exact ⟨_, .tail _ (.tail _ (.head _)), mem_5_13 y h⟩
  · exact ⟨_, .tail _ (.head _), mem_5_14 y h⟩
  · exact ⟨_, .head _, mem_5_15 y h⟩
theorem mem_6_0 (y : S2048x128.Idx) (h : (y 0).val % 8 = 0) : y ∈ r0_58.set :=
  (LoadRect.mem_set _).2 fun a => match a with
  | ⟨0, _⟩ => strided_row (k := 8) (by decide) (y 0).isLt h
  | ⟨1, _⟩ => strided_col (y 1).isLt
theorem mem_6_1 (y : S2048x128.Idx) (h : (y 0).val % 8 = 1) : y ∈ r0_59.set :=
  (LoadRect.mem_set _).2 fun a => match a with
  | ⟨0, _⟩ => strided_row (k := 8) (by decide) (y 0).isLt h
  | ⟨1, _⟩ => strided_col (y 1).isLt
theorem mem_6_2 (y : S2048x128.Idx) (h : (y 0).val % 8 = 2) : y ∈ r0_60.set :=
  (LoadRect.mem_set _).2 fun a => match a with
  | ⟨0, _⟩ => strided_row (k := 8) (by decide) (y 0).isLt h
  | ⟨1, _⟩ => strided_col (y 1).isLt
theorem mem_6_3 (y : S2048x128.Idx) (h : (y 0).val % 8 = 3) : y ∈ r0_61.set :=
  (LoadRect.mem_set _).2 fun a => match a with
  | ⟨0, _⟩ => strided_row (k := 8) (by decide) (y 0).isLt h
  | ⟨1, _⟩ => strided_col (y 1).isLt
theorem mem_6_4 (y : S2048x128.Idx) (h : (y 0).val % 8 = 4) : y ∈ r0_67.set :=
  (LoadRect.mem_set _).2 fun a => match a with
  | ⟨0, _⟩ => strided_row (k := 8) (by decide) (y 0).isLt h
  | ⟨1, _⟩ => strided_col (y 1).isLt
theorem mem_6_5 (y : S2048x128.Idx) (h : (y 0).val % 8 = 5) : y ∈ r0_68.set :=
  (LoadRect.mem_set _).2 fun a => match a with
  | ⟨0, _⟩ => strided_row (k := 8) (by decide) (y 0).isLt h
  | ⟨1, _⟩ => strided_col (y 1).isLt
theorem mem_6_6 (y : S2048x128.Idx) (h : (y 0).val % 8 = 6) : y ∈ r0_69.set :=
  (LoadRect.mem_set _).2 fun a => match a with
  | ⟨0, _⟩ => strided_row (k := 8) (by decide) (y 0).isLt h
  | ⟨1, _⟩ => strided_col (y 1).isLt
theorem mem_6_7 (y : S2048x128.Idx) (h : (y 0).val % 8 = 7) : y ∈ r0_70.set :=
  (LoadRect.mem_set _).2 fun a => match a with
  | ⟨0, _⟩ => strided_row (k := 8) (by decide) (y 0).isLt h
  | ⟨1, _⟩ => strided_col (y 1).isLt
theorem cover0_6 (p0 p1 p2 p3 p4 p5 p6 p7 : Vec F S256x128 .f32) (y : S2048x128.Idx) :
    ∃ pc ∈ ([⟨r0_70, p7⟩, ⟨r0_69, p6⟩, ⟨r0_68, p5⟩, ⟨r0_67, p4⟩, ⟨r0_61, p3⟩, ⟨r0_60, p2⟩, ⟨r0_59, p1⟩, ⟨r0_58, p0⟩] : List (View.Piece (Elt F) S2048x128 .f32)), y ∈ pc.1.set := by
  have hlt : (y 0).val % 8 < 8 := Nat.mod_lt _ (by decide)
  have hc : (y 0).val % 8 = 0 ∨ (y 0).val % 8 = 1 ∨ (y 0).val % 8 = 2 ∨ (y 0).val % 8 = 3 ∨ (y 0).val % 8 = 4 ∨ (y 0).val % 8 = 5 ∨ (y 0).val % 8 = 6 ∨ (y 0).val % 8 = 7 := by omega
  rcases hc with h | h | h | h | h | h | h | h
  · exact ⟨_, .tail _ (.tail _ (.tail _ (.tail _ (.tail _ (.tail _ (.tail _ (.head _))))))), mem_6_0 y h⟩
  · exact ⟨_, .tail _ (.tail _ (.tail _ (.tail _ (.tail _ (.tail _ (.head _)))))), mem_6_1 y h⟩
  · exact ⟨_, .tail _ (.tail _ (.tail _ (.tail _ (.tail _ (.head _))))), mem_6_2 y h⟩
  · exact ⟨_, .tail _ (.tail _ (.tail _ (.tail _ (.head _)))), mem_6_3 y h⟩
  · exact ⟨_, .tail _ (.tail _ (.tail _ (.head _))), mem_6_4 y h⟩
  · exact ⟨_, .tail _ (.tail _ (.head _)), mem_6_5 y h⟩
  · exact ⟨_, .tail _ (.head _), mem_6_6 y h⟩
  · exact ⟨_, .head _, mem_6_7 y h⟩
theorem mem_7_0 (y : S4096x128.Idx) (h : (y 0).val % 16 = 0) : y ∈ r0_89.set :=
  (LoadRect.mem_set _).2 fun a => match a with
  | ⟨0, _⟩ => strided_row (k := 16) (by decide) (y 0).isLt h
  | ⟨1, _⟩ => strided_col (y 1).isLt
theorem mem_7_1 (y : S4096x128.Idx) (h : (y 0).val % 16 = 1) : y ∈ r0_90.set :=
  (LoadRect.mem_set _).2 fun a => match a with
  | ⟨0, _⟩ => strided_row (k := 16) (by decide) (y 0).isLt h
  | ⟨1, _⟩ => strided_col (y 1).isLt
theorem mem_7_2 (y : S4096x128.Idx) (h : (y 0).val % 16 = 2) : y ∈ r0_91.set :=
  (LoadRect.mem_set _).2 fun a => match a with
  | ⟨0, _⟩ => strided_row (k := 16) (by decide) (y 0).isLt h
  | ⟨1, _⟩ => strided_col (y 1).isLt
theorem mem_7_3 (y : S4096x128.Idx) (h : (y 0).val % 16 = 3) : y ∈ r0_92.set :=
  (LoadRect.mem_set _).2 fun a => match a with
  | ⟨0, _⟩ => strided_row (k := 16) (by decide) (y 0).isLt h
  | ⟨1, _⟩ => strided_col (y 1).isLt
theorem mem_7_4 (y : S4096x128.Idx) (h : (y 0).val % 16 = 4) : y ∈ r0_99.set :=
  (LoadRect.mem_set _).2 fun a => match a with
  | ⟨0, _⟩ => strided_row (k := 16) (by decide) (y 0).isLt h
  | ⟨1, _⟩ => strided_col (y 1).isLt
theorem mem_7_5 (y : S4096x128.Idx) (h : (y 0).val % 16 = 5) : y ∈ r0_100.set :=
  (LoadRect.mem_set _).2 fun a => match a with
  | ⟨0, _⟩ => strided_row (k := 16) (by decide) (y 0).isLt h
  | ⟨1, _⟩ => strided_col (y 1).isLt
theorem mem_7_6 (y : S4096x128.Idx) (h : (y 0).val % 16 = 6) : y ∈ r0_101.set :=
  (LoadRect.mem_set _).2 fun a => match a with
  | ⟨0, _⟩ => strided_row (k := 16) (by decide) (y 0).isLt h
  | ⟨1, _⟩ => strided_col (y 1).isLt
theorem mem_7_7 (y : S4096x128.Idx) (h : (y 0).val % 16 = 7) : y ∈ r0_102.set :=
  (LoadRect.mem_set _).2 fun a => match a with
  | ⟨0, _⟩ => strided_row (k := 16) (by decide) (y 0).isLt h
  | ⟨1, _⟩ => strided_col (y 1).isLt
theorem mem_7_8 (y : S4096x128.Idx) (h : (y 0).val % 16 = 8) : y ∈ r0_108.set :=
  (LoadRect.mem_set _).2 fun a => match a with
  | ⟨0, _⟩ => strided_row (k := 16) (by decide) (y 0).isLt h
  | ⟨1, _⟩ => strided_col (y 1).isLt
theorem mem_7_9 (y : S4096x128.Idx) (h : (y 0).val % 16 = 9) : y ∈ r0_109.set :=
  (LoadRect.mem_set _).2 fun a => match a with
  | ⟨0, _⟩ => strided_row (k := 16) (by decide) (y 0).isLt h
  | ⟨1, _⟩ => strided_col (y 1).isLt
theorem mem_7_10 (y : S4096x128.Idx) (h : (y 0).val % 16 = 10) : y ∈ r0_110.set :=
  (LoadRect.mem_set _).2 fun a => match a with
  | ⟨0, _⟩ => strided_row (k := 16) (by decide) (y 0).isLt h
  | ⟨1, _⟩ => strided_col (y 1).isLt
theorem mem_7_11 (y : S4096x128.Idx) (h : (y 0).val % 16 = 11) : y ∈ r0_111.set :=
  (LoadRect.mem_set _).2 fun a => match a with
  | ⟨0, _⟩ => strided_row (k := 16) (by decide) (y 0).isLt h
  | ⟨1, _⟩ => strided_col (y 1).isLt
theorem mem_7_12 (y : S4096x128.Idx) (h : (y 0).val % 16 = 12) : y ∈ r0_117.set :=
  (LoadRect.mem_set _).2 fun a => match a with
  | ⟨0, _⟩ => strided_row (k := 16) (by decide) (y 0).isLt h
  | ⟨1, _⟩ => strided_col (y 1).isLt
theorem mem_7_13 (y : S4096x128.Idx) (h : (y 0).val % 16 = 13) : y ∈ r0_118.set :=
  (LoadRect.mem_set _).2 fun a => match a with
  | ⟨0, _⟩ => strided_row (k := 16) (by decide) (y 0).isLt h
  | ⟨1, _⟩ => strided_col (y 1).isLt
theorem mem_7_14 (y : S4096x128.Idx) (h : (y 0).val % 16 = 14) : y ∈ r0_119.set :=
  (LoadRect.mem_set _).2 fun a => match a with
  | ⟨0, _⟩ => strided_row (k := 16) (by decide) (y 0).isLt h
  | ⟨1, _⟩ => strided_col (y 1).isLt
theorem mem_7_15 (y : S4096x128.Idx) (h : (y 0).val % 16 = 15) : y ∈ r0_120.set :=
  (LoadRect.mem_set _).2 fun a => match a with
  | ⟨0, _⟩ => strided_row (k := 16) (by decide) (y 0).isLt h
  | ⟨1, _⟩ => strided_col (y 1).isLt
theorem cover0_7 (p0 p1 p2 p3 p4 p5 p6 p7 p8 p9 p10 p11 p12 p13 p14 p15 : Vec F S256x128 .f32) (y : S4096x128.Idx) :
    ∃ pc ∈ ([⟨r0_120, p15⟩, ⟨r0_119, p14⟩, ⟨r0_118, p13⟩, ⟨r0_117, p12⟩, ⟨r0_111, p11⟩, ⟨r0_110, p10⟩, ⟨r0_109, p9⟩, ⟨r0_108, p8⟩, ⟨r0_102, p7⟩, ⟨r0_101, p6⟩, ⟨r0_100, p5⟩, ⟨r0_99, p4⟩, ⟨r0_92, p3⟩, ⟨r0_91, p2⟩, ⟨r0_90, p1⟩, ⟨r0_89, p0⟩] : List (View.Piece (Elt F) S4096x128 .f32)), y ∈ pc.1.set := by
  have hlt : (y 0).val % 16 < 16 := Nat.mod_lt _ (by decide)
  have hc : (y 0).val % 16 = 0 ∨ (y 0).val % 16 = 1 ∨ (y 0).val % 16 = 2 ∨ (y 0).val % 16 = 3 ∨ (y 0).val % 16 = 4 ∨ (y 0).val % 16 = 5 ∨ (y 0).val % 16 = 6 ∨ (y 0).val % 16 = 7 ∨ (y 0).val % 16 = 8 ∨ (y 0).val % 16 = 9 ∨ (y 0).val % 16 = 10 ∨ (y 0).val % 16 = 11 ∨ (y 0).val % 16 = 12 ∨ (y 0).val % 16 = 13 ∨ (y 0).val % 16 = 14 ∨ (y 0).val % 16 = 15 := by omega
  rcases hc with h | h | h | h | h | h | h | h | h | h | h | h | h | h | h | h
  · exact ⟨_, .tail _ (.tail _ (.tail _ (.tail _ (.tail _ (.tail _ (.tail _ (.tail _ (.tail _ (.tail _ (.tail _ (.tail _ (.tail _ (.tail _ (.tail _ (.head _))))))))))))))), mem_7_0 y h⟩
  · exact ⟨_, .tail _ (.tail _ (.tail _ (.tail _ (.tail _ (.tail _ (.tail _ (.tail _ (.tail _ (.tail _ (.tail _ (.tail _ (.tail _ (.tail _ (.head _)))))))))))))), mem_7_1 y h⟩
  · exact ⟨_, .tail _ (.tail _ (.tail _ (.tail _ (.tail _ (.tail _ (.tail _ (.tail _ (.tail _ (.tail _ (.tail _ (.tail _ (.tail _ (.head _))))))))))))), mem_7_2 y h⟩
  · exact ⟨_, .tail _ (.tail _ (.tail _ (.tail _ (.tail _ (.tail _ (.tail _ (.tail _ (.tail _ (.tail _ (.tail _ (.tail _ (.head _)))))))))))), mem_7_3 y h⟩
  · exact ⟨_, .tail _ (.tail _ (.tail _ (.tail _ (.tail _ (.tail _ (.tail _ (.tail _ (.tail _ (.tail _ (.tail _ (.head _))))))))))), mem_7_4 y h⟩
  · exact ⟨_, .tail _ (.tail _ (.tail _ (.tail _ (.tail _ (.tail _ (.tail _ (.tail _ (.tail _ (.tail _ (.head _)))))))))), mem_7_5 y h⟩
  · exact ⟨_, .tail _ (.tail _ (.tail _ (.tail _ (.tail _ (.tail _ (.tail _ (.tail _ (.tail _ (.head _))))))))), mem_7_6 y h⟩
  · exact ⟨_, .tail _ (.tail _ (.tail _ (.tail _ (.tail _ (.tail _ (.tail _ (.tail _ (.head _)))))))), mem_7_7 y h⟩
  · exact ⟨_, .tail _ (.tail _ (.tail _ (.tail _ (.tail _ (.tail _ (.tail _ (.head _))))))), mem_7_8 y h⟩
  · exact ⟨_, .tail _ (.tail _ (.tail _ (.tail _ (.tail _ (.tail _ (.head _)))))), mem_7_9 y h⟩
  · exact ⟨_, .tail _ (.tail _ (.tail _ (.tail _ (.tail _ (.head _))))), mem_7_10 y h⟩
  · exact ⟨_, .tail _ (.tail _ (.tail _ (.tail _ (.head _)))), mem_7_11 y h⟩
  · exact ⟨_, .tail _ (.tail _ (.tail _ (.head _))), mem_7_12 y h⟩
  · exact ⟨_, .tail _ (.tail _ (.head _)), mem_7_13 y h⟩
  · exact ⟨_, .tail _ (.head _), mem_7_14 y h⟩
  · exact ⟨_, .head _, mem_7_15 y h⟩
theorem cover0_8 (p0 p1 p2 p3 p4 p5 p6 p7 p8 p9 p10 p11 p12 p13 p14 p15 p16 p17 p18 p19 p20 p21 p22 p23 p24 p25 p26 p27 p28 p29 p30 p31 p32 p33 p34 p35 p36 p37 p38 p39 p40 p41 p42 p43 p44 p45 p46 p47 p48 p49 p50 p51 p52 p53 p54 p55 : Vec F S1x256x128 .bf16) (y : S56x256x128.Idx) :
    ∃ pc ∈ ([⟨r0_116, p55⟩, ⟨r0_115, p54⟩, ⟨r0_114, p53⟩, ⟨r0_113, p52⟩, ⟨r0_107, p51⟩, ⟨r0_106, p50⟩, ⟨r0_105, p49⟩, ⟨r0_104, p48⟩, ⟨r0_98, p47⟩, ⟨r0_97, p46⟩, ⟨r0_96, p45⟩, ⟨r0_95, p44⟩, ⟨r0_88, p43⟩, ⟨r0_87, p42⟩, ⟨r0_86, p41⟩, ⟨r0_85, p40⟩, ⟨r0_82, p39⟩, ⟨r0_81, p38⟩, ⟨r0_80, p37⟩, ⟨r0_79, p36⟩, ⟨r0_76, p35⟩, ⟨r0_75, p34⟩, ⟨r0_74, p33⟩, ⟨r0_73, p32⟩, ⟨r0_66, p31⟩, ⟨r0_65, p30⟩, ⟨r0_64, p29⟩, ⟨r0_63, p28⟩, ⟨r0_57, p27⟩, ⟨r0_56, p26⟩, ⟨r0_55, p25⟩, ⟨r0_54, p24⟩, ⟨r0_47, p23⟩, ⟨r0_46, p22⟩, ⟨r0_45, p21⟩, ⟨r0_44, p20⟩, ⟨r0_38, p19⟩, ⟨r0_37, p18⟩, ⟨r0_36, p17⟩, ⟨r0_35, p16⟩, ⟨r0_28, p15⟩, ⟨r0_27, p14⟩, ⟨r0_26, p13⟩, ⟨r0_25, p12⟩, ⟨r0_19, p11⟩, ⟨r0_18, p10⟩, ⟨r0_17, p9⟩, ⟨r0_16, p8⟩, ⟨r0_14, p7⟩, ⟨r0_13, p6⟩, ⟨r0_12, p5⟩, ⟨r0_11, p4⟩, ⟨r0_8, p3⟩, ⟨r0_7, p2⟩, ⟨r0_6, p1⟩, ⟨r0_5, p0⟩] : List (View.Piece (Elt F) S56x256x128 .bf16)), y ∈ pc.1.set :=
  View.cover_of_tiled [⟨r0_116, p55⟩, ⟨r0_115, p54⟩, ⟨r0_114, p53⟩, ⟨r0_113, p52⟩, ⟨r0_107, p51⟩, ⟨r0_106, p50⟩, ⟨r0_105, p49⟩, ⟨r0_104, p48⟩, ⟨r0_98, p47⟩, ⟨r0_97, p46⟩, ⟨r0_96, p45⟩, ⟨r0_95, p44⟩, ⟨r0_88, p43⟩, ⟨r0_87, p42⟩, ⟨r0_86, p41⟩, ⟨r0_85, p40⟩, ⟨r0_82, p39⟩, ⟨r0_81, p38⟩, ⟨r0_80, p37⟩, ⟨r0_79, p36⟩, ⟨r0_76, p35⟩, ⟨r0_75, p34⟩, ⟨r0_74, p33⟩, ⟨r0_73, p32⟩, ⟨r0_66, p31⟩, ⟨r0_65, p30⟩, ⟨r0_64, p29⟩, ⟨r0_63, p28⟩, ⟨r0_57, p27⟩, ⟨r0_56, p26⟩, ⟨r0_55, p25⟩, ⟨r0_54, p24⟩, ⟨r0_47, p23⟩, ⟨r0_46, p22⟩, ⟨r0_45, p21⟩, ⟨r0_44, p20⟩, ⟨r0_38, p19⟩, ⟨r0_37, p18⟩, ⟨r0_36, p17⟩, ⟨r0_35, p16⟩, ⟨r0_28, p15⟩, ⟨r0_27, p14⟩, ⟨r0_26, p13⟩, ⟨r0_25, p12⟩, ⟨r0_19, p11⟩, ⟨r0_18, p10⟩, ⟨r0_17, p9⟩, ⟨r0_16, p8⟩, ⟨r0_14, p7⟩, ⟨r0_13, p6⟩, ⟨r0_12, p5⟩, ⟨r0_11, p4⟩, ⟨r0_8, p3⟩, ⟨r0_7, p2⟩, ⟨r0_6, p1⟩, ⟨r0_5, p0⟩] S1x256x128.size (by rfl) y

set_option maxHeartbeats 4000000 in
/-- The body leaves its inputs as they were and the four output blocks as written. -/
theorem sound_kernel (c : Dev nD) (E : Set ℕ) (i : grid0.Coords) (arg1 : Memref sig .tc .vmem S256x2048 .f32) (harg1 : arg1.IsWhole) (arg2 : Memref sig .tc .vmem S1x2048 .f32) (harg2 : arg2.IsWhole) (arg3 : Memref sig .tc .vmem S2048x7168 .bf16) (harg3 : arg3.IsWhole) (arg4 : Memref sig .tc .vmem S1x7168 .f32) (harg4 : arg4.IsWhole) (arg5 : Memref sig .tc .vmem S512x512 .bf16) (harg5 : arg5.IsWhole) (arg6 : Memref sig .tc .vmem S4096x128 .f32) (harg6 : arg6.IsWhole) (arg7 : Memref sig .tc .vmem S2048x128 .f32) (harg7 : arg7.IsWhole) (arg8 : Memref sig .tc .vmem S4096x128 .f32) (harg8 : arg8.IsWhole) (arg9 : Memref sig .tc .vmem S56x256x128 .bf16) (harg9 : arg9.IsWhole)
    (x0 : Vec F S256x2048 .f32) (x1 : Vec F S1x2048 .f32) (x2 : Vec F S2048x7168 .bf16) (x3 : Vec F S1x7168 .f32) (x4 : Vec F S512x512 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4) ∗ owns (c : Thread nD τ) arg7 fullShare (out0_6 x0 x1 x2 x3 x4) ∗ owns (c : Thread nD τ) arg8 fullShare (out0_7 x0 x1 x2 x3 x4) ∗ owns (c : Thread nD τ) arg9 fullShare (out0_8 x0 x1 x2 x3 x4)) -∗ K ⟨⟩))
      ⊢ wp frame (wpE (defs₀ (F := F)) Variants.none c none) E (cc0_inproj i arg1 harg1 arg2 harg2 arg3 harg3 arg4 harg4 arg5 harg5 arg6 harg6 arg7 harg7 arg8 harg8 arg9 harg9) K := by
  simp only [cc0_inproj_eq_skeleton]; unfold cc0_inproj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_5 _ _ _ _ _ _ _ _ _ _ _ _ _ _ _ _)
  isplitl [H6]
  · iexists _; isplitr
    swap; · iexact H6
    ipureintro
    exact View.read_writes_eq_canon _ _ _ (cover0_6 _ _ _ _ _ _ _ _)
  isplitl [H7]
  · iexists _; isplitr
    swap; · iexact H7
    ipureintro
    exact View.read_writes_eq_canon _ _ _ (cover0_7 _ _ _ _ _ _ _ _ _ _ _ _ _ _ _ _)
  iexists _; isplitr
  swap; · iexact H8
  ipureintro
  exact View.read_writes_eq_canon _ _ _ (cover0_8 _ _ _ _ _ _ _ _ _ _ _ _ _ _ _ _ _ _ _ _ _ _ _ _ _ _ _ _ _ _ _ _ _ _ _ _ _ _ _ _ _ _ _ _ _ _ _ _ _ _ _ _ _ _ _ _)

/-- The data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
    | ⟨6, _⟩ => out0_6 (iblk m c 0 t) (iblk m c 1 t) (iblk m c 2 t) (iblk m c 3 t) (iblk m c 4 t)
    | ⟨7, _⟩ => out0_7 (iblk m c 0 t) (iblk m c 1 t) (iblk m c 2 t) (iblk m c 3 t) (iblk m c 4 t)
    | ⟨8, _⟩ => out0_8 (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out0_5 (iblk m c 0 t) (iblk m c 1 t) (iblk m c 2 t) (iblk m c 3 t) (iblk m c 4 t) := by dsimp only [dats]
theorem after0_6 (c : Dev nD) (t : Fin cfg0.N) : (dats m 0 c).after 6 t = out0_6 (iblk m c 0 t) (iblk m c 1 t) (iblk m c 2 t) (iblk m c 3 t) (iblk m c 4 t) := by dsimp only [dats]
theorem after0_7 (c : Dev nD) (t : Fin cfg0.N) : (dats m 0 c).after 7 t = out0_7 (iblk m c 0 t) (iblk m c 1 t) (iblk m c 2 t) (iblk m c 3 t) (iblk m c 4 t) := by dsimp only [dats]
theorem after0_8 (c : Dev nD) (t : Fin cfg0.N) : (dats m 0 c).after 8 t = out0_8 (iblk m c 0 t) (iblk m c 1 t) (iblk m c 2 t) (iblk m c 3 t) (iblk m c 4 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch, with every semaphore counter back at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.InprojIdeal.Gen

end
-- ==== Proof.InprojBlock.lean ====
module

public import proofs.«01_k».proof.Proof.InprojI.Frame
public import Idealize.ShloMosaic.Lib.Pointwise
public import Idealize.ShloMosaic.Lib.Pointwise.IndexBridge
public import Idealize.ShloMosaic.Lib.Pointwise.Sums
public import Idealize.ShloMosaic.Lib.Pipeline.Value

@[expose] public section

set_option maxRecDepth 16384

noncomputable section

/-! The input projection's four output blocks, element by element. -/
namespace Cert.InprojIdeal.Val

open Cert.InprojIdeal Cert.InprojIdeal.Gen Idealize.ShloMosaic Idealize.ShloMosaic.TcCoe Idealize.ShloMosaic.Tactic Idealize.SL.Sem

/-- A row normalised by its root mean square and scaled by the gain. -/
def nrm (x g : Fin 2048 → EReal) (l : Fin 2048) : EReal :=
  x l * Ideal.rsqrt (Ideal.div (∑ k, x k * x k) (Ideal.ofBits FTy.f32 1157627904#32) + Ideal.ofBits FTy.f32 897988541#32) * g l

theorem hz : (![0, 0] : Fin 2 → Nat) = fun _ => 0 := funext fun a => by fin_cases a <;> rfl

/-- A sum against the columns of the block-diagonal ones is the sum over one head's columns. -/
theorem sum_head (f : Fin 512 → EReal) (q : Fin 512) :
    ∑ p, f p * (if p.val / 128 = q.val / 128 then (1 : EReal) else 0) = ∑ e : Fin 128, f ⟨128 * (q.val / 128) + e.val, by omega⟩ := by
  rw [← (finProdFinEquiv : Fin 4 × Fin 128 ≃ Fin (4 * 128)).sum_comp (fun p : Fin 512 => f p * (if p.val / 128 = q.val / 128 then (1 : EReal) else 0)), Fintype.sum_prod_type]
  have hq : q.val / 128 < 4 := by omega
  rw [Finset.sum_eq_single (⟨q.val / 128, hq⟩ : Fin 4)]
  · refine Finset.sum_congr rfl fun e _ => ?_
    have hv : (finProdFinEquiv ((⟨q.val / 128, hq⟩ : Fin 4), e) : Fin (4 * 128)).val = e.val + 128 * (q.val / 128) := rfl
    rw [if_pos (by rw [hv]; omega), mul_one]
    exact congrArg f (Fin.ext (by rw [hv]; show e.val + 128 * (q.val / 128) = 128 * (q.val / 128) + e.val; omega))
  · intro b _ hb
    refine Finset.sum_eq_zero fun e _ => ?_
    have hv : (finProdFinEquiv (b, e) : Fin (4 * 128)).val = e.val + 128 * b.val := rfl
    rw [if_neg (fun h => hb (Fin.ext (by rw [hv] at h; show b.val = q.val / 128; omega))), mul_zero]
  · exact fun h => absurd (Finset.mem_univ _) h

theorem nrm_apply (x0 : Vec Ideal S256x2048 .f32) (x1 : Vec Ideal S1x2048 .f32) (J : Fin 256) (l : Fin 2048) :
    k0_pay6 x0 x1 (ix2 J l) = nrm (fun k => x0 (ix2 J k)) (fun k => x1 (ix2 (0 : Fin 1) k)) l := by
  unfold nrm
  pointwise [k0_pay6]

/-- A tile of columns, and a tile normalised head by head. -/
theorem tileU_apply (h : FVec Ideal S256x2048 .bf16) (w : Vec Ideal S2048x512 .bf16) (J : Fin 256) (q : Fin 512) :
    k0_pay18 h w (ix2 J q) = ∑ l, h (ix2 J l) * w (ix2 l q) := by
  pointwise [k0_pay18]

theorem tileN_apply (h : FVec Ideal S256x2048 .bf16) (w : Vec Ideal S2048x512 .bf16) (o : Vec Ideal S512x512 .bf16) (g : Vec Ideal S1x512 .f32) (J : Fin 256) (q : Fin 512) :
    k0_pay12 h w o g (ix2 J q) = (∑ l, h (ix2 J l) * w (ix2 l q)) *
      Ideal.rsqrt ((∑ p : Fin 512, ((∑ l, h (ix2 J l) * w (ix2 l p)) * (∑ l, h (ix2 J l) * w (ix2 l p))) * o (ix2 p q)) * Ideal.ofBits FTy.f32 1006632960#32 + Ideal.ofBits FTy.f32 897988541#32) * g (ix2 (0 : Fin 1) q) := by
  pointwise [k0_pay12]

variable (x0 : Vec Ideal S256x2048 .f32) (x1 : Vec Ideal S1x2048 .f32) (x2 : Vec Ideal S2048x7168 .bf16) (x3 : Vec Ideal S1x7168 .f32) (x4 : Vec Ideal S512x512 .bf16)

/-- A column of the projection. -/
def dt (J : Fin 256) (C : Fin 7168) : EReal := ∑ l, nrm (fun k => x0 (ix2 J k)) (fun k => x1 (ix2 (0 : Fin 1) k)) l * x2 (ix2 l C)

/-- The columns of a column's head. -/
def hb (C : Fin 7168) (e : Fin 128) : Fin 7168 := ⟨128 * (C.val / 128) + e.val, by omega⟩

/-- Whether a column's tile is normalised. -/
def nb (n : ℕ) : Bool := n ∈ [0, 1, 4, 6, 8, 9, 10, 11]

def tv (J : Fin 256) (C : Fin 7168) : EReal :=
  if nb (C.val / 512) = true then dt x0 x1 x2 J C * Ideal.rsqrt ((∑ e, dt x0 x1 x2 J (hb C e) * dt x0 x1 x2 J (hb C e)) * Ideal.ofBits FTy.f32 1006632960#32 + Ideal.ofBits FTy.f32 897988541#32) * x3 (ix2 (0 : Fin 1) C)
  else dt x0 x1 x2 J C

theorem tv_u (j : ℕ) (hj : nb j = false) (hj' : j < 14) (w : Vec Ideal S2048x512 .bf16) (hw : ∀ l q, w (ix2 l q) = x2 (ix2 l ⟨512 * j + q.val, by omega⟩))
    (h : FVec Ideal S256x2048 .bf16) (hh : h = k0_pay6 x0 x1) (J : Fin 256) (q : Fin 512) : k0_pay18 h w (ix2 J q) = tv x0 x1 x2 x3 J ⟨512 * j + q.val, by omega⟩ := by
  subst hh
  rw [tileU_apply, tv, if_neg (by rw [show (512 * j + q.val) / 512 = j by omega, hj]; decide)]
  simp only [nrm_apply, hw]
  rfl

theorem tv_n (h4 : ∀ p q : Fin 512, x4 (ix2 p q) = if p.val / 128 = q.val / 128 then (1 : EReal) else 0) (j : ℕ) (hj : nb j = true) (hj' : j < 14)
    (w : Vec Ideal S2048x512 .bf16) (hw : ∀ l q, w (ix2 l q) = x2 (ix2 l ⟨512 * j + q.val, by omega⟩))
    (o : Vec Ideal S512x512 .bf16) (ho : o = x4)
    (g : Vec Ideal S1x512 .f32) (hg : ∀ q, g (ix2 (0 : Fin 1) q) = x3 (ix2 (0 : Fin 1) ⟨512 * j + q.val, by omega⟩))
    (h : FVec Ideal S256x2048 .bf16) (hh : h = k0_pay6 x0 x1) (J : Fin 256) (q : Fin 512) : k0_pay12 h w o g (ix2 J q) = tv x0 x1 x2 x3 J ⟨512 * j + q.val, by omega⟩ := by
  subst hh ho
  rw [tileN_apply, tv, if_pos (by rw [show (512 * j + q.val) / 512 = j by omega, hj])]
  simp only [nrm_apply, hw, h4, hg]
  rw [sum_head (fun p => (∑ l, nrm (fun k => x0 (ix2 J k)) (fun k => x1 (ix2 (0 : Fin 1) k)) l * x2 (ix2 l ⟨512 * j + p.val, by omega⟩)) * (∑ l, nrm (fun k => x0 (ix2 J k)) (fun k => x1 (ix2 (0 : Fin 1) k)) l * x2 (ix2 l ⟨512 * j + p.val, by omega⟩))) q]
  have hc : ∀ e : Fin 128, (⟨512 * j + (128 * (q.val / 128) + e.val), by omega⟩ : Fin 7168) = hb ⟨512 * j + q.val, by omega⟩ e := fun e => Fin.ext (by
    show 512 * j + (128 * (q.val / 128) + e.val) = 128 * ((512 * j + q.val) / 128) + e.val; omega)
  simp only [hc]
  rfl

/-- A piece of the head-major block, and a piece of a row block. -/
theorem hm_piece (j o : ℕ) (hj : j < 14) (ho : o + 128 ≤ 512) (T : FVec Ideal S256x512 .f32)
    (hT : ∀ (J : Fin 256) (q : Fin 512), T (ix2 J q) = tv x0 x1 x2 x3 J ⟨512 * j + q.val, by omega⟩)
    (sl : S256x512.Slices ![0, o] S256x128) (x : S1x256x128.Idx) (J : Fin 256) (C : Fin 7168) (hJ : J.val = (x 1).val) (hC : C.val = 512 * j + o + (x 2).val) :
    shapeCast S1x256x128 (truncf (F := Ideal) .bf16 (extractStridedSlice S256x128 ![0, o] T sl) bitsLt_bf16_f32) shapeCasts_S256x128_S1x256x128 x = tv x0 x1 x2 x3 J C := by
  obtain ⟨z, J', d, rfl⟩ : ∃ (z : Fin 1) (J' : Fin 256) (d : Fin 128), x = ix3 z J' d := ⟨x 0, x 1, x 2, eq_ix3 x⟩
  obtain rfl : J = J' := Fin.ext hJ
  have e : shapeCast S1x256x128 (truncf (F := Ideal) .bf16 (extractStridedSlice S256x128 ![0, o] T sl) bitsLt_bf16_f32) shapeCasts_S256x128_S1x256x128 (ix3 z J d) = T (ix2 J ⟨o + d.val, by omega⟩) := by
    pointwise
  rw [e, hT]
  exact congrArg _ (Fin.ext (by rw [hC]; show 512 * j + (o + d.val) = 512 * j + o + d.val; omega))

theorem row_piece (j o : ℕ) (hj : j < 14) (ho : o + 128 ≤ 512) (T : FVec Ideal S256x512 .f32)
    (hT : ∀ (J : Fin 256) (q : Fin 512), T (ix2 J q) = tv x0 x1 x2 x3 J ⟨512 * j + q.val, by omega⟩)
    (sl : S256x512.Slices ![0, o] S256x128) (x : S256x128.Idx) (J : Fin 256) (C : Fin 7168) (hJ : J.val = (x 0).val) (hC : C.val = 512 * j + o + (x 1).val) :
    extractStridedSlice S256x128 ![0, o] T sl x = tv x0 x1 x2 x3 J C := by
  obtain ⟨J', d, rfl⟩ : ∃ (J' : Fin 256) (d : Fin 128), x = ix2 J' d := ⟨x 0, x 1, eq_ix2 x⟩
  obtain rfl : J = J' := Fin.ext hJ
  have e : extractStridedSlice S256x128 ![0, o] T sl (ix2 J d) = T (ix2 J ⟨o + d.val, by omega⟩) := by
    pointwise
  rw [e, hT]
  exact congrArg _ (Fin.ext (by rw [hC]; show 512 * j + (o + d.val) = 512 * j + o + d.val; omega))

theorem nrm_ld : (k0_pay6 (View.ld x0 r0_0) (View.ld x1 r0_1) : FVec Ideal S256x2048 .bf16) = k0_pay6 x0 x1 := by
  rw [View.ld_unit_zero (S := S256x2048) hz, View.ld_unit_zero (S := S1x2048) hz]
theorem ones_ld : (View.ld x4 r0_3 : Vec Ideal S512x512 .bf16) = x4 := View.ld_unit_zero (S := S512x512) hz _ _
variable (h4 : ∀ p q : Fin 512, x4 (ix2 p q) = if p.val / 128 = q.val / 128 then (1 : EReal) else 0)

include h4 in
theorem tile0 (J : Fin 256) (q : Fin 512) : (k0_pay12 (k0_pay6 (View.ld x0 r0_0) (View.ld x1 r0_1)) (View.ld x2 r0_2) (View.ld x4 r0_3) (View.ld x3 r0_4)) (ix2 J q) = tv x0 x1 x2 x3 J ⟨512 * 0 + q.val, by omega⟩ :=
  tv_n x0 x1 x2 x3 x4 h4 0 (by decide) (by decide) _ (fun l q => congrArg x2 (funext fun a => Fin.ext (by
      match a with
      | ⟨0, _⟩ => show 0 + 1 * l.val = l.val; omega
      | ⟨1, _⟩ => show 0 + 1 * q.val = 512 * 0 + q.val; omega))) _ (ones_ld x4) _ (fun q => congrArg x3 (funext fun a => Fin.ext (by
      match a with
      | ⟨0, _⟩ => rfl
      | ⟨1, _⟩ => show 0 + 1 * q.val = 512 * 0 + q.val; omega))) _ (nrm_ld x0 x1) J q
include h4 in
theorem tile1 (J : Fin 256) (q : Fin 512) : (k0_pay12 (k0_pay6 (View.ld x0 r0_0) (View.ld x1 r0_1)) (View.ld x2 r0_9) (View.ld x4 r0_3) (View.ld x3 r0_10)) (ix2 J q) = tv x0 x1 x2 x3 J ⟨512 * 1 + q.val, by omega⟩ :=
  tv_n x0 x1 x2 x3 x4 h4 1 (by decide) (by decide) _ (fun l q => congrArg x2 (funext fun a => Fin.ext (by
      match a with
      | ⟨0, _⟩ => show 0 + 1 * l.val = l.val; omega
      | ⟨1, _⟩ => show 512 + 1 * q.val = 512 * 1 + q.val; omega))) _ (ones_ld x4) _ (fun q => congrArg x3 (funext fun a => Fin.ext (by
      match a with
      | ⟨0, _⟩ => rfl
      | ⟨1, _⟩ => show 512 + 1 * q.val = 512 * 1 + q.val; omega))) _ (nrm_ld x0 x1) J q
theorem tile2 (J : Fin 256) (q : Fin 512) : (k0_pay18 (k0_pay6 (View.ld x0 r0_0) (View.ld x1 r0_1)) (View.ld x2 r0_15)) (ix2 J q) = tv x0 x1 x2 x3 J ⟨512 * 2 + q.val, by omega⟩ :=
  tv_u x0 x1 x2 x3 2 (by decide) (by decide) _ (fun l q => congrArg x2 (funext fun a => Fin.ext (by
      match a with
      | ⟨0, _⟩ => show 0 + 1 * l.val = l.val; omega
      | ⟨1, _⟩ => show 1024 + 1 * q.val = 512 * 2 + q.val; omega))) _ (nrm_ld x0 x1) J q
theorem tile3 (J : Fin 256) (q : Fin 512) : (k0_pay18 (k0_pay6 (View.ld x0 r0_0) (View.ld x1 r0_1)) (View.ld x2 r0_24)) (ix2 J q) = tv x0 x1 x2 x3 J ⟨512 * 3 + q.val, by omega⟩ :=
  tv_u x0 x1 x2 x3 3 (by decide) (by decide) _ (fun l q => congrArg x2 (funext fun a => Fin.ext (by
      match a with
      | ⟨0, _⟩ => show 0 + 1 * l.val = l.val; omega
      | ⟨1, _⟩ => show 1536 + 1 * q.val = 512 * 3 + q.val; omega))) _ (nrm_ld x0 x1) J q
include h4 in
theorem tile4 (J : Fin 256) (q : Fin 512) : (k0_pay12 (k0_pay6 (View.ld x0 r0_0) (View.ld x1 r0_1)) (View.ld x2 r0_33) (View.ld x4 r0_3) (View.ld x3 r0_34)) (ix2 J q) = tv x0 x1 x2 x3 J ⟨512 * 4 + q.val, by omega⟩ :=
  tv_n x0 x1 x2 x3 x4 h4 4 (by decide) (by decide) _ (fun l q => congrArg x2 (funext fun a => Fin.ext (by
      match a with
      | ⟨0, _⟩ => show 0 + 1 * l.val = l.val; omega
      | ⟨1, _⟩ => show 2048 + 1 * q.val = 512 * 4 + q.val; omega))) _ (ones_ld x4) _ (fun q => congrArg x3 (funext fun a => Fin.ext (by
      match a with
      | ⟨0, _⟩ => rfl
      | ⟨1, _⟩ => show 2048 + 1 * q.val = 512 * 4 + q.val; omega))) _ (nrm_ld x0 x1) J q
theorem tile5 (J : Fin 256) (q : Fin 512) : (k0_pay18 (k0_pay6 (View.ld x0 r0_0) (View.ld x1 r0_1)) (View.ld x2 r0_43)) (ix2 J q) = tv x0 x1 x2 x3 J ⟨512 * 5 + q.val, by omega⟩ :=
  tv_u x0 x1 x2 x3 5 (by decide) (by decide) _ (fun l q => congrArg x2 (funext fun a => Fin.ext (by
      match a with
      | ⟨0, _⟩ => show 0 + 1 * l.val = l.val; omega
      | ⟨1, _⟩ => show 2560 + 1 * q.val = 512 * 5 + q.val; omega))) _ (nrm_ld x0 x1) J q
include h4 in
theorem tile6 (J : Fin 256) (q : Fin 512) : (k0_pay12 (k0_pay6 (View.ld x0 r0_0) (View.ld x1 r0_1)) (View.ld x2 r0_52) (View.ld x4 r0_3) (View.ld x3 r0_53)) (ix2 J q) = tv x0 x1 x2 x3 J ⟨512 * 6 + q.val, by omega⟩ :=
  tv_n x0 x1 x2 x3 x4 h4 6 (by decide) (by decide) _ (fun l q => congrArg x2 (funext fun a => Fin.ext (by
      match a with
      | ⟨0, _⟩ => show 0 + 1 * l.val = l.val; omega
      | ⟨1, _⟩ => show 3072 + 1 * q.val = 512 * 6 + q.val; omega))) _ (ones_ld x4) _ (fun q => congrArg x3 (funext fun a => Fin.ext (by
      match a with
      | ⟨0, _⟩ => rfl
      | ⟨1, _⟩ => show 3072 + 1 * q.val = 512 * 6 + q.val; omega))) _ (nrm_ld x0 x1) J q
theorem tile7 (J : Fin 256) (q : Fin 512) : (k0_pay18 (k0_pay6 (View.ld x0 r0_0) (View.ld x1 r0_1)) (View.ld x2 r0_62)) (ix2 J q) = tv x0 x1 x2 x3 J ⟨512 * 7 + q.val, by omega⟩ :=
  tv_u x0 x1 x2 x3 7 (by decide) (by decide) _ (fun l q => congrArg x2 (funext fun a => Fin.ext (by
      match a with
      | ⟨0, _⟩ => show 0 + 1 * l.val = l.val; omega
      | ⟨1, _⟩ => show 3584 + 1 * q.val = 512 * 7 + q.val; omega))) _ (nrm_ld x0 x1) J q
include h4 in
theorem tile8 (J : Fin 256) (q : Fin 512) : (k0_pay12 (k0_pay6 (View.ld x0 r0_0) (View.ld x1 r0_1)) (View.ld x2 r0_71) (View.ld x4 r0_3) (View.ld x3 r0_72)) (ix2 J q) = tv x0 x1 x2 x3 J ⟨512 * 8 + q.val, by omega⟩ :=
  tv_n x0 x1 x2 x3 x4 h4 8 (by decide) (by decide) _ (fun l q => congrArg x2 (funext fun a => Fin.ext (by
      match a with
      | ⟨0, _⟩ => show 0 + 1 * l.val = l.val; omega
      | ⟨1, _⟩ => show 4096 + 1 * q.val = 512 * 8 + q.val; omega))) _ (ones_ld x4) _ (fun q => congrArg x3 (funext fun a => Fin.ext (by
      match a with
      | ⟨0, _⟩ => rfl
      | ⟨1, _⟩ => show 4096 + 1 * q.val = 512 * 8 + q.val; omega))) _ (nrm_ld x0 x1) J q
include h4 in
theorem tile9 (J : Fin 256) (q : Fin 512) : (k0_pay12 (k0_pay6 (View.ld x0 r0_0) (View.ld x1 r0_1)) (View.ld x2 r0_77) (View.ld x4 r0_3) (View.ld x3 r0_78)) (ix2 J q) = tv x0 x1 x2 x3 J ⟨512 * 9 + q.val, by omega⟩ :=
  tv_n x0 x1 x2 x3 x4 h4 9 (by decide) (by decide) _ (fun l q => congrArg x2 (funext fun a => Fin.ext (by
      match a with
      | ⟨0, _⟩ => show 0 + 1 * l.val = l.val; omega
      | ⟨1, _⟩ => show 4608 + 1 * q.val = 512 * 9 + q.val; omega))) _ (ones_ld x4) _ (fun q => congrArg x3 (funext fun a => Fin.ext (by
      match a with
      | ⟨0, _⟩ => rfl
      | ⟨1, _⟩ => show 4608 + 1 * q.val = 512 * 9 + q.val; omega))) _ (nrm_ld x0 x1) J q
include h4 in
theorem tile10 (J : Fin 256) (q : Fin 512) : (k0_pay12 (k0_pay6 (View.ld x0 r0_0) (View.ld x1 r0_1)) (View.ld x2 r0_83) (View.ld x4 r0_3) (View.ld x3 r0_84)) (ix2 J q) = tv x0 x1 x2 x3 J ⟨512 * 10 + q.val, by omega⟩ :=
  tv_n x0 x1 x2 x3 x4 h4 10 (by decide) (by decide) _ (fun l q => congrArg x2 (funext fun a => Fin.ext (by
      match a with
      | ⟨0, _⟩ => show 0 + 1 * l.val = l.val; omega
      | ⟨1, _⟩ => show 5120 + 1 * q.val = 512 * 10 + q.val; omega))) _ (ones_ld x4) _ (fun q => congrArg x3 (funext fun a => Fin.ext (by
      match a with
      | ⟨0, _⟩ => rfl
      | ⟨1, _⟩ => show 5120 + 1 * q.val = 512 * 10 + q.val; omega))) _ (nrm_ld x0 x1) J q
include h4 in
theorem tile11 (J : Fin 256) (q : Fin 512) : (k0_pay12 (k0_pay6 (View.ld x0 r0_0) (View.ld x1 r0_1)) (View.ld x2 r0_93) (View.ld x4 r0_3) (View.ld x3 r0_94)) (ix2 J q) = tv x0 x1 x2 x3 J ⟨512 * 11 + q.val, by omega⟩ :=
  tv_n x0 x1 x2 x3 x4 h4 11 (by decide) (by decide) _ (fun l q => congrArg x2 (funext fun a => Fin.ext (by
      match a with
      | ⟨0, _⟩ => show 0 + 1 * l.val = l.val; omega
      | ⟨1, _⟩ => show 5632 + 1 * q.val = 512 * 11 + q.val; omega))) _ (ones_ld x4) _ (fun q => congrArg x3 (funext fun a => Fin.ext (by
      match a with
      | ⟨0, _⟩ => rfl
      | ⟨1, _⟩ => show 5632 + 1 * q.val = 512 * 11 + q.val; omega))) _ (nrm_ld x0 x1) J q
theorem tile12 (J : Fin 256) (q : Fin 512) : (k0_pay18 (k0_pay6 (View.ld x0 r0_0) (View.ld x1 r0_1)) (View.ld x2 r0_103)) (ix2 J q) = tv x0 x1 x2 x3 J ⟨512 * 12 + q.val, by omega⟩ :=
  tv_u x0 x1 x2 x3 12 (by decide) (by decide) _ (fun l q => congrArg x2 (funext fun a => Fin.ext (by
      match a with
      | ⟨0, _⟩ => show 0 + 1 * l.val = l.val; omega
      | ⟨1, _⟩ => show 6144 + 1 * q.val = 512 * 12 + q.val; omega))) _ (nrm_ld x0 x1) J q
theorem tile13 (J : Fin 256) (q : Fin 512) : (k0_pay18 (k0_pay6 (View.ld x0 r0_0) (View.ld x1 r0_1)) (View.ld x2 r0_112)) (ix2 J q) = tv x0 x1 x2 x3 J ⟨512 * 13 + q.val, by omega⟩ :=
  tv_u x0 x1 x2 x3 13 (by decide) (by decide) _ (fun l q => congrArg x2 (funext fun a => Fin.ext (by
      match a with
      | ⟨0, _⟩ => show 0 + 1 * l.val = l.val; omega
      | ⟨1, _⟩ => show 6656 + 1 * q.val = 512 * 13 + q.val; omega))) _ (nrm_ld x0 x1) J q

def B5 (y : S4096x128.Idx) : EReal := tv x0 x1 x2 x3 ⟨(y 0).val / 16, by have h : (y 0).val < 4096 := (y 0).isLt; omega⟩
  ⟨1024 + 128 * ((y 0).val % 16) + (y 1).val, by have h : (y 1).val < 128 := (y 1).isLt; omega⟩

include h4 in
theorem p5_0 (x : S256x128.Idx) : ((k0_pay24 (k0_pay18 (k0_pay6 (View.ld x0 r0_0) (View.ld x1 r0_1)) (View.ld x2 r0_15))) : FVec Ideal S256x128 .f32) x = B5 x0 x1 x2 x3 (r0_20.emb x) :=
  row_piece x0 x1 x2 x3 2 0 (by decide) (by decide) _ (tile2 x0 x1 x2 x3) slices_S256x512_o0_0_S256x128 x _ _
    (by show (0 + 16 * (x 0).val) / 16 = (x 0).val; omega)
    (by show 1024 + 128 * ((0 + 16 * (x 0).val) % 16) + (0 + 1 * (x 1).val) = 512 * 2 + 0 + (x 1).val; omega)
include h4 in
theorem p5_1 (x : S256x128.Idx) : ((k0_pay25 (k0_pay18 (k0_pay6 (View.ld x0 r0_0) (View.ld x1 r0_1)) (View.ld x2 r0_15))) : FVec Ideal S256x128 .f32) x = B5 x0 x1 x2 x3 (r0_21.emb x) :=
  row_piece x0 x1 x2 x3 2 128 (by decide) (by decide) _ (tile2 x0 x1 x2 x3) slices_S256x512_o0_128_S256x128 x _ _
    (by show (1 + 16 * (x 0).val) / 16 = (x 0).val; omega)
    (by show 1024 + 128 * ((1 + 16 * (x 0).val) % 16) + (0 + 1 * (x 1).val) = 512 * 2 + 128 + (x 1).val; omega)
include h4 in
theorem p5_2 (x : S256x128.Idx) : ((k0_pay26 (k0_pay18 (k0_pay6 (View.ld x0 r0_0) (View.ld x1 r0_1)) (View.ld x2 r0_15))) : FVec Ideal S256x128 .f32) x = B5 x0 x1 x2 x3 (r0_22.emb x) :=
  row_piece x0 x1 x2 x3 2 256 (by decide) (by decide) _ (tile2 x0 x1 x2 x3) slices_S256x512_o0_256_S256x128 x _ _
    (by show (2 + 16 * (x 0).val) / 16 = (x 0).val; omega)
    (by show 1024 + 128 * ((2 + 16 * (x 0).val) % 16) + (0 + 1 * (x 1).val) = 512 * 2 + 256 + (x 1).val; omega)
include h4 in
theorem p5_3 (x : S256x128.Idx) : ((k0_pay27 (k0_pay18 (k0_pay6 (View.ld x0 r0_0) (View.ld x1 r0_1)) (View.ld x2 r0_15))) : FVec Ideal S256x128 .f32) x = B5 x0 x1 x2 x3 (r0_23.emb x) :=
  row_piece x0 x1 x2 x3 2 384 (by decide) (by decide) _ (tile2 x0 x1 x2 x3) slices_S256x512_o0_384_S256x128 x _ _
    (by show (3 + 16 * (x 0).val) / 16 = (x 0).val; omega)
    (by show 1024 + 128 * ((3 + 16 * (x 0).val) % 16) + (0 + 1 * (x 1).val) = 512 * 2 + 384 + (x 1).val; omega)
include h4 in
theorem p5_4 (x : S256x128.Idx) : ((k0_pay34 (k0_pay28 (k0_pay6 (View.ld x0 r0_0) (View.ld x1 r0_1)) (View.ld x2 r0_24))) : FVec Ideal S256x128 .f32) x = B5 x0 x1 x2 x3 (r0_29.emb x) :=
  row_piece x0 x1 x2 x3 3 0 (by decide) (by decide) _ (tile3 x0 x1 x2 x3) slices_S256x512_o0_0_S256x128 x _ _
    (by show (4 + 16 * (x 0).val) / 16 = (x 0).val; omega)
    (by show 1024 + 128 * ((4 + 16 * (x 0).val) % 16) + (0 + 1 * (x 1).val) = 512 * 3 + 0 + (x 1).val; omega)
include h4 in
theorem p5_5 (x : S256x128.Idx) : ((k0_pay35 (k0_pay28 (k0_pay6 (View.ld x0 r0_0) (View.ld x1 r0_1)) (View.ld x2 r0_24))) : FVec Ideal S256x128 .f32) x = B5 x0 x1 x2 x3 (r0_30.emb x) :=
  row_piece x0 x1 x2 x3 3 128 (by decide) (by decide) _ (tile3 x0 x1 x2 x3) slices_S256x512_o0_128_S256x128 x _ _
    (by show (5 + 16 * (x 0).val) / 16 = (x 0).val; omega)
    (by show 1024 + 128 * ((5 + 16 * (x 0).val) % 16) + (0 + 1 * (x 1).val) = 512 * 3 + 128 + (x 1).val; omega)
include h4 in
theorem p5_6 (x : S256x128.Idx) : ((k0_pay36 (k0_pay28 (k0_pay6 (View.ld x0 r0_0) (View.ld x1 r0_1)) (View.ld x2 r0_24))) : FVec Ideal S256x128 .f32) x = B5 x0 x1 x2 x3 (r0_31.emb x) :=
  row_piece x0 x1 x2 x3 3 256 (by decide) (by decide) _ (tile3 x0 x1 x2 x3) slices_S256x512_o0_256_S256x128 x _ _
    (by show (6 + 16 * (x 0).val) / 16 = (x 0).val; omega)
    (by show 1024 + 128 * ((6 + 16 * (x 0).val) % 16) + (0 + 1 * (x 1).val) = 512 * 3 + 256 + (x 1).val; omega)
include h4 in
theorem p5_7 (x : S256x128.Idx) : ((k0_pay37 (k0_pay28 (k0_pay6 (View.ld x0 r0_0) (View.ld x1 r0_1)) (View.ld x2 r0_24))) : FVec Ideal S256x128 .f32) x = B5 x0 x1 x2 x3 (r0_32.emb x) :=
  row_piece x0 x1 x2 x3 3 384 (by decide) (by decide) _ (tile3 x0 x1 x2 x3) slices_S256x512_o0_384_S256x128 x _ _
    (by show (7 + 16 * (x 0).val) / 16 = (x 0).val; omega)
    (by show 1024 + 128 * ((7 + 16 * (x 0).val) % 16) + (0 + 1 * (x 1).val) = 512 * 3 + 384 + (x 1).val; omega)
include h4 in
theorem p5_8 (x : S256x128.Idx) : ((k0_pay44 (k0_pay38 (k0_pay6 (View.ld x0 r0_0) (View.ld x1 r0_1)) (View.ld x2 r0_33) (View.ld x4 r0_3)) (View.ld x3 r0_34)) : FVec Ideal S256x128 .f32) x = B5 x0 x1 x2 x3 (r0_39.emb x) :=
  row_piece x0 x1 x2 x3 4 0 (by decide) (by decide) _ (tile4 x0 x1 x2 x3 x4 h4) slices_S256x512_o0_0_S256x128 x _ _
    (by show (8 + 16 * (x 0).val) / 16 = (x 0).val; omega)
    (by show 1024 + 128 * ((8 + 16 * (x 0).val) % 16) + (0 + 1 * (x 1).val) = 512 * 4 + 0 + (x 1).val; omega)
include h4 in
theorem p5_9 (x : S256x128.Idx) : ((k0_pay45 (k0_pay38 (k0_pay6 (View.ld x0 r0_0) (View.ld x1 r0_1)) (View.ld x2 r0_33) (View.ld x4 r0_3)) (View.ld x3 r0_34)) : FVec Ideal S256x128 .f32) x = B5 x0 x1 x2 x3 (r0_40.emb x) :=
  row_piece x0 x1 x2 x3 4 128 (by decide) (by decide) _ (tile4 x0 x1 x2 x3 x4 h4) slices_S256x512_o0_128_S256x128 x _ _
    (by show (9 + 16 * (x 0).val) / 16 = (x 0).val; omega)
    (by show 1024 + 128 * ((9 + 16 * (x 0).val) % 16) + (0 + 1 * (x 1).val) = 512 * 4 + 128 + (x 1).val; omega)
include h4 in
theorem p5_10 (x : S256x128.Idx) : ((k0_pay46 (k0_pay38 (k0_pay6 (View.ld x0 r0_0) (View.ld x1 r0_1)) (View.ld x2 r0_33) (View.ld x4 r0_3)) (View.ld x3 r0_34)) : FVec Ideal S256x128 .f32) x = B5 x0 x1 x2 x3 (r0_41.emb x) :=
  row_piece x0 x1 x2 x3 4 256 (by decide) (by decide) _ (tile4 x0 x1 x2 x3 x4 h4) slices_S256x512_o0_256_S256x128 x _ _
    (by show (10 + 16 * (x 0).val) / 16 = (x 0).val; omega)
    (by show 1024 + 128 * ((10 + 16 * (x 0).val) % 16) + (0 + 1 * (x 1).val) = 512 * 4 + 256 + (x 1).val; omega)
include h4 in
theorem p5_11 (x : S256x128.Idx) : ((k0_pay47 (k0_pay38 (k0_pay6 (View.ld x0 r0_0) (View.ld x1 r0_1)) (View.ld x2 r0_33) (View.ld x4 r0_3)) (View.ld x3 r0_34)) : FVec Ideal S256x128 .f32) x = B5 x0 x1 x2 x3 (r0_42.emb x) :=
  row_piece x0 x1 x2 x3 4 384 (by decide) (by decide) _ (tile4 x0 x1 x2 x3 x4 h4) slices_S256x512_o0_384_S256x128 x _ _
    (by show (11 + 16 * (x 0).val) / 16 = (x 0).val; omega)
    (by show 1024 + 128 * ((11 + 16 * (x 0).val) % 16) + (0 + 1 * (x 1).val) = 512 * 4 + 384 + (x 1).val; omega)
include h4 in
theorem p5_12 (x : S256x128.Idx) : ((k0_pay53 (k0_pay6 (View.ld x0 r0_0) (View.ld x1 r0_1)) (View.ld x2 r0_43)) : FVec Ideal S256x128 .f32) x = B5 x0 x1 x2 x3 (r0_48.emb x) :=
  row_piece x0 x1 x2 x3 5 0 (by decide) (by decide) _ (tile5 x0 x1 x2 x3) slices_S256x512_o0_0_S256x128 x _ _
    (by show (12 + 16 * (x 0).val) / 16 = (x 0).val; omega)
    (by show 1024 + 128 * ((12 + 16 * (x 0).val) % 16) + (0 + 1 * (x 1).val) = 512 * 5 + 0 + (x 1).val; omega)
include h4 in
theorem p5_13 (x : S256x128.Idx) : ((k0_pay54 (k0_pay6 (View.ld x0 r0_0) (View.ld x1 r0_1)) (View.ld x2 r0_43)) : FVec Ideal S256x128 .f32) x = B5 x0 x1 x2 x3 (r0_49.emb x) :=
  row_piece x0 x1 x2 x3 5 128 (by decide) (by decide) _ (tile5 x0 x1 x2 x3) slices_S256x512_o0_128_S256x128 x _ _
    (by show (13 + 16 * (x 0).val) / 16 = (x 0).val; omega)
    (by show 1024 + 128 * ((13 + 16 * (x 0).val) % 16) + (0 + 1 * (x 1).val) = 512 * 5 + 128 + (x 1).val; omega)
include h4 in
theorem p5_14 (x : S256x128.Idx) : ((k0_pay55 (k0_pay6 (View.ld x0 r0_0) (View.ld x1 r0_1)) (View.ld x2 r0_43)) : FVec Ideal S256x128 .f32) x = B5 x0 x1 x2 x3 (r0_50.emb x) :=
  row_piece x0 x1 x2 x3 5 256 (by decide) (by decide) _ (tile5 x0 x1 x2 x3) slices_S256x512_o0_256_S256x128 x _ _
    (by show (14 + 16 * (x 0).val) / 16 = (x 0).val; omega)
    (by show 1024 + 128 * ((14 + 16 * (x 0).val) % 16) + (0 + 1 * (x 1).val) = 512 * 5 + 256 + (x 1).val; omega)
include h4 in
theorem p5_15 (x : S256x128.Idx) : ((k0_pay56 (k0_pay6 (View.ld x0 r0_0) (View.ld x1 r0_1)) (View.ld x2 r0_43)) : FVec Ideal S256x128 .f32) x = B5 x0 x1 x2 x3 (r0_51.emb x) :=
  row_piece x0 x1 x2 x3 5 384 (by decide) (by decide) _ (tile5 x0 x1 x2 x3) slices_S256x512_o0_384_S256x128 x _ _
    (by show (15 + 16 * (x 0).val) / 16 = (x 0).val; omega)
    (by show 1024 + 128 * ((15 + 16 * (x 0).val) % 16) + (0 + 1 * (x 1).val) = 512 * 5 + 384 + (x 1).val; omega)
include h4 in
theorem out5_apply (y : S4096x128.Idx) : out0_5 x0 x1 x2 x3 x4 y = B5 x0 x1 x2 x3 y := by
  unfold out0_5
  refine View.canon_apply_of_pieces (Val := Elt Ideal) (B5 x0 x1 x2 x3) _ ?_ y (cover0_5 _ _ _ _ _ _ _ _ _ _ _ _ _ _ _ _ y)
  exact List.forall_mem_cons.2 ⟨p5_15 x0 x1 x2 x3 x4 h4, List.forall_mem_cons.2 ⟨p5_14 x0 x1 x2 x3 x4 h4, List.forall_mem_cons.2 ⟨p5_13 x0 x1 x2 x3 x4 h4, List.forall_mem_cons.2 ⟨p5_12 x0 x1 x2 x3 x4 h4, List.forall_mem_cons.2 ⟨p5_11 x0 x1 x2 x3 x4 h4, List.forall_mem_cons.2 ⟨p5_10 x0 x1 x2 x3 x4 h4, List.forall_mem_cons.2 ⟨p5_9 x0 x1 x2 x3 x4 h4, List.forall_mem_cons.2 ⟨p5_8 x0 x1 x2 x3 x4 h4, List.forall_mem_cons.2 ⟨p5_7 x0 x1 x2 x3 x4 h4, List.forall_mem_cons.2 ⟨p5_6 x0 x1 x2 x3 x4 h4, List.forall_mem_cons.2 ⟨p5_5 x0 x1 x2 x3 x4 h4, List.forall_mem_cons.2 ⟨p5_4 x0 x1 x2 x3 x4 h4, List.forall_mem_cons.2 ⟨p5_3 x0 x1 x2 x3 x4 h4, List.forall_mem_cons.2 ⟨p5_2 x0 x1 x2 x3 x4 h4, List.forall_mem_cons.2 ⟨p5_1 x0 x1 x2 x3 x4 h4, List.forall_mem_cons.2 ⟨p5_0 x0 x1 x2 x3 x4 h4, fun p hp => by cases hp⟩⟩⟩⟩⟩⟩⟩⟩⟩⟩⟩⟩⟩⟩⟩⟩

def B6 (y : S2048x128.Idx) : EReal := tv x0 x1 x2 x3 ⟨(y 0).val / 8, by have h : (y 0).val < 2048 := (y 0).isLt; omega⟩
  ⟨3072 + 128 * ((y 0).val % 8) + (y 1).val, by have h : (y 1).val < 128 := (y 1).isLt; omega⟩

include h4 in
theorem p6_0 (x : S256x128.Idx) : ((k0_pay63 (k0_pay57 (k0_pay6 (View.ld x0 r0_0) (View.ld x1 r0_1)) (View.ld x2 r0_52) (View.ld x4 r0_3) (View.ld x3 r0_53))) : FVec Ideal S256x128 .f32) x = B6 x0 x1 x2 x3 (r0_58.emb x) :=
  row_piece x0 x1 x2 x3 6 0 (by decide) (by decide) _ (tile6 x0 x1 x2 x3 x4 h4) slices_S256x512_o0_0_S256x128 x _ _
    (by show (0 + 8 * (x 0).val) / 8 = (x 0).val; omega)
    (by show 3072 + 128 * ((0 + 8 * (x 0).val) % 8) + (0 + 1 * (x 1).val) = 512 * 6 + 0 + (x 1).val; omega)
include h4 in
theorem p6_1 (x : S256x128.Idx) : ((k0_pay64 (k0_pay57 (k0_pay6 (View.ld x0 r0_0) (View.ld x1 r0_1)) (View.ld x2 r0_52) (View.ld x4 r0_3) (View.ld x3 r0_53))) : FVec Ideal S256x128 .f32) x = B6 x0 x1 x2 x3 (r0_59.emb x) :=
  row_piece x0 x1 x2 x3 6 128 (by decide) (by decide) _ (tile6 x0 x1 x2 x3 x4 h4) slices_S256x512_o0_128_S256x128 x _ _
    (by show (1 + 8 * (x 0).val) / 8 = (x 0).val; omega)
    (by show 3072 + 128 * ((1 + 8 * (x 0).val) % 8) + (0 + 1 * (x 1).val) = 512 * 6 + 128 + (x 1).val; omega)
include h4 in
theorem p6_2 (x : S256x128.Idx) : ((k0_pay65 (k0_pay57 (k0_pay6 (View.ld x0 r0_0) (View.ld x1 r0_1)) (View.ld x2 r0_52) (View.ld x4 r0_3) (View.ld x3 r0_53))) : FVec Ideal S256x128 .f32) x = B6 x0 x1 x2 x3 (r0_60.emb x) :=
  row_piece x0 x1 x2 x3 6 256 (by decide) (by decide) _ (tile6 x0 x1 x2 x3 x4 h4) slices_S256x512_o0_256_S256x128 x _ _
    (by show (2 + 8 * (x 0).val) / 8 = (x 0).val; omega)
    (by show 3072 + 128 * ((2 + 8 * (x 0).val) % 8) + (0 + 1 * (x 1).val) = 512 * 6 + 256 + (x 1).val; omega)
include h4 in
theorem p6_3 (x : S256x128.Idx) : ((k0_pay66 (k0_pay57 (k0_pay6 (View.ld x0 r0_0) (View.ld x1 r0_1)) (View.ld x2 r0_52) (View.ld x4 r0_3) (View.ld x3 r0_53))) : FVec Ideal S256x128 .f32) x = B6 x0 x1 x2 x3 (r0_61.emb x) :=
  row_piece x0 x1 x2 x3 6 384 (by decide) (by decide) _ (tile6 x0 x1 x2 x3 x4 h4) slices_S256x512_o0_384_S256x128 x _ _
    (by show (3 + 8 * (x 0).val) / 8 = (x 0).val; omega)
    (by show 3072 + 128 * ((3 + 8 * (x 0).val) % 8) + (0 + 1 * (x 1).val) = 512 * 6 + 384 + (x 1).val; omega)
include h4 in
theorem p6_4 (x : S256x128.Idx) : ((k0_pay73 (k0_pay67 (k0_pay6 (View.ld x0 r0_0) (View.ld x1 r0_1)) (View.ld x2 r0_62))) : FVec Ideal S256x128 .f32) x = B6 x0 x1 x2 x3 (r0_67.emb x) :=
  row_piece x0 x1 x2 x3 7 0 (by decide) (by decide) _ (tile7 x0 x1 x2 x3) slices_S256x512_o0_0_S256x128 x _ _
    (by show (4 + 8 * (x 0).val) / 8 = (x 0).val; omega)
    (by show 3072 + 128 * ((4 + 8 * (x 0).val) % 8) + (0 + 1 * (x 1).val) = 512 * 7 + 0 + (x 1).val; omega)
include h4 in
theorem p6_5 (x : S256x128.Idx) : ((k0_pay74 (k0_pay67 (k0_pay6 (View.ld x0 r0_0) (View.ld x1 r0_1)) (View.ld x2 r0_62))) : FVec Ideal S256x128 .f32) x = B6 x0 x1 x2 x3 (r0_68.emb x) :=
  row_piece x0 x1 x2 x3 7 128 (by decide) (by decide) _ (tile7 x0 x1 x2 x3) slices_S256x512_o0_128_S256x128 x _ _
    (by show (5 + 8 * (x 0).val) / 8 = (x 0).val; omega)
    (by show 3072 + 128 * ((5 + 8 * (x 0).val) % 8) + (0 + 1 * (x 1).val) = 512 * 7 + 128 + (x 1).val; omega)
include h4 in
theorem p6_6 (x : S256x128.Idx) : ((k0_pay75 (k0_pay67 (k0_pay6 (View.ld x0 r0_0) (View.ld x1 r0_1)) (View.ld x2 r0_62))) : FVec Ideal S256x128 .f32) x = B6 x0 x1 x2 x3 (r0_69.emb x) :=
  row_piece x0 x1 x2 x3 7 256 (by decide) (by decide) _ (tile7 x0 x1 x2 x3) slices_S256x512_o0_256_S256x128 x _ _
    (by show (6 + 8 * (x 0).val) / 8 = (x 0).val; omega)
    (by show 3072 + 128 * ((6 + 8 * (x 0).val) % 8) + (0 + 1 * (x 1).val) = 512 * 7 + 256 + (x 1).val; omega)
include h4 in
theorem p6_7 (x : S256x128.Idx) : ((k0_pay76 (k0_pay67 (k0_pay6 (View.ld x0 r0_0) (View.ld x1 r0_1)) (View.ld x2 r0_62))) : FVec Ideal S256x128 .f32) x = B6 x0 x1 x2 x3 (r0_70.emb x) :=
  row_piece x0 x1 x2 x3 7 384 (by decide) (by decide) _ (tile7 x0 x1 x2 x3) slices_S256x512_o0_384_S256x128 x _ _
    (by show (7 + 8 * (x 0).val) / 8 = (x 0).val; omega)
    (by show 3072 + 128 * ((7 + 8 * (x 0).val) % 8) + (0 + 1 * (x 1).val) = 512 * 7 + 384 + (x 1).val; omega)
include h4 in
theorem out6_apply (y : S2048x128.Idx) : out0_6 x0 x1 x2 x3 x4 y = B6 x0 x1 x2 x3 y := by
  unfold out0_6
  refine View.canon_apply_of_pieces (Val := Elt Ideal) (B6 x0 x1 x2 x3) _ ?_ y (cover0_6 _ _ _ _ _ _ _ _ y)
  exact List.forall_mem_cons.2 ⟨p6_7 x0 x1 x2 x3 x4 h4, List.forall_mem_cons.2 ⟨p6_6 x0 x1 x2 x3 x4 h4, List.forall_mem_cons.2 ⟨p6_5 x0 x1 x2 x3 x4 h4, List.forall_mem_cons.2 ⟨p6_4 x0 x1 x2 x3 x4 h4, List.forall_mem_cons.2 ⟨p6_3 x0 x1 x2 x3 x4 h4, List.forall_mem_cons.2 ⟨p6_2 x0 x1 x2 x3 x4 h4, List.forall_mem_cons.2 ⟨p6_1 x0 x1 x2 x3 x4 h4, List.forall_mem_cons.2 ⟨p6_0 x0 x1 x2 x3 x4 h4, fun p hp => by cases hp⟩⟩⟩⟩⟩⟩⟩⟩

def B7 (y : S4096x128.Idx) : EReal := tv x0 x1 x2 x3 ⟨(y 0).val / 16, by have h : (y 0).val < 4096 := (y 0).isLt; omega⟩
  ⟨5120 + 128 * ((y 0).val % 16) + (y 1).val, by have h : (y 1).val < 128 := (y 1).isLt; omega⟩

include h4 in
theorem p7_0 (x : S256x128.Idx) : ((k0_pay94 (k0_pay88 (k0_pay6 (View.ld x0 r0_0) (View.ld x1 r0_1)) (View.ld x2 r0_83) (View.ld x4 r0_3)) (View.ld x3 r0_84)) : FVec Ideal S256x128 .f32) x = B7 x0 x1 x2 x3 (r0_89.emb x) :=
  row_piece x0 x1 x2 x3 10 0 (by decide) (by decide) _ (tile10 x0 x1 x2 x3 x4 h4) slices_S256x512_o0_0_S256x128 x _ _
    (by show (0 + 16 * (x 0).val) / 16 = (x 0).val; omega)
    (by show 5120 + 128 * ((0 + 16 * (x 0).val) % 16) + (0 + 1 * (x 1).val) = 512 * 10 + 0 + (x 1).val; omega)
include h4 in
theorem p7_1 (x : S256x128.Idx) : ((k0_pay95 (k0_pay88 (k0_pay6 (View.ld x0 r0_0) (View.ld x1 r0_1)) (View.ld x2 r0_83) (View.ld x4 r0_3)) (View.ld x3 r0_84)) : FVec Ideal S256x128 .f32) x = B7 x0 x1 x2 x3 (r0_90.emb x) :=
  row_piece x0 x1 x2 x3 10 128 (by decide) (by decide) _ (tile10 x0 x1 x2 x3 x4 h4) slices_S256x512_o0_128_S256x128 x _ _
    (by show (1 + 16 * (x 0).val) / 16 = (x 0).val; omega)
    (by show 5120 + 128 * ((1 + 16 * (x 0).val) % 16) + (0 + 1 * (x 1).val) = 512 * 10 + 128 + (x 1).val; omega)
include h4 in
theorem p7_2 (x : S256x128.Idx) : ((k0_pay96 (k0_pay88 (k0_pay6 (View.ld x0 r0_0) (View.ld x1 r0_1)) (View.ld x2 r0_83) (View.ld x4 r0_3)) (View.ld x3 r0_84)) : FVec Ideal S256x128 .f32) x = B7 x0 x1 x2 x3 (r0_91.emb x) :=
  row_piece x0 x1 x2 x3 10 256 (by decide) (by decide) _ (tile10 x0 x1 x2 x3 x4 h4) slices_S256x512_o0_256_S256x128 x _ _
    (by show (2 + 16 * (x 0).val) / 16 = (x 0).val; omega)
    (by show 5120 + 128 * ((2 + 16 * (x 0).val) % 16) + (0 + 1 * (x 1).val) = 512 * 10 + 256 + (x 1).val; omega)
include h4 in
theorem p7_3 (x : S256x128.Idx) : ((k0_pay97 (k0_pay88 (k0_pay6 (View.ld x0 r0_0) (View.ld x1 r0_1)) (View.ld x2 r0_83) (View.ld x4 r0_3)) (View.ld x3 r0_84)) : FVec Ideal S256x128 .f32) x = B7 x0 x1 x2 x3 (r0_92.emb x) :=
  row_piece x0 x1 x2 x3 10 384 (by decide) (by decide) _ (tile10 x0 x1 x2 x3 x4 h4) slices_S256x512_o0_384_S256x128 x _ _
    (by show (3 + 16 * (x 0).val) / 16 = (x 0).val; omega)
    (by show 5120 + 128 * ((3 + 16 * (x 0).val) % 16) + (0 + 1 * (x 1).val) = 512 * 10 + 384 + (x 1).val; omega)
include h4 in
theorem p7_4 (x : S256x128.Idx) : ((k0_pay104 (k0_pay98 (k0_pay6 (View.ld x0 r0_0) (View.ld x1 r0_1)) (View.ld x2 r0_93) (View.ld x4 r0_3) (View.ld x3 r0_94))) : FVec Ideal S256x128 .f32) x = B7 x0 x1 x2 x3 (r0_99.emb x) :=
  row_piece x0 x1 x2 x3 11 0 (by decide) (by decide) _ (tile11 x0 x1 x2 x3 x4 h4) slices_S256x512_o0_0_S256x128 x _ _
    (by show (4 + 16 * (x 0).val) / 16 = (x 0).val; omega)
    (by show 5120 + 128 * ((4 + 16 * (x 0).val) % 16) + (0 + 1 * (x 1).val) = 512 * 11 + 0 + (x 1).val; omega)
include h4 in
theorem p7_5 (x : S256x128.Idx) : ((k0_pay105 (k0_pay98 (k0_pay6 (View.ld x0 r0_0) (View.ld x1 r0_1)) (View.ld x2 r0_93) (View.ld x4 r0_3) (View.ld x3 r0_94))) : FVec Ideal S256x128 .f32) x = B7 x0 x1 x2 x3 (r0_100.emb x) :=
  row_piece x0 x1 x2 x3 11 128 (by decide) (by decide) _ (tile11 x0 x1 x2 x3 x4 h4) slices_S256x512_o0_128_S256x128 x _ _
    (by show (5 + 16 * (x 0).val) / 16 = (x 0).val; omega)
    (by show 5120 + 128 * ((5 + 16 * (x 0).val) % 16) + (0 + 1 * (x 1).val) = 512 * 11 + 128 + (x 1).val; omega)
include h4 in
theorem p7_6 (x : S256x128.Idx) : ((k0_pay106 (k0_pay98 (k0_pay6 (View.ld x0 r0_0) (View.ld x1 r0_1)) (View.ld x2 r0_93) (View.ld x4 r0_3) (View.ld x3 r0_94))) : FVec Ideal S256x128 .f32) x = B7 x0 x1 x2 x3 (r0_101.emb x) :=
  row_piece x0 x1 x2 x3 11 256 (by decide) (by decide) _ (tile11 x0 x1 x2 x3 x4 h4) slices_S256x512_o0_256_S256x128 x _ _
    (by show (6 + 16 * (x 0).val) / 16 = (x 0).val; omega)
    (by show 5120 + 128 * ((6 + 16 * (x 0).val) % 16) + (0 + 1 * (x 1).val) = 512 * 11 + 256 + (x 1).val; omega)
include h4 in
theorem p7_7 (x : S256x128.Idx) : ((k0_pay107 (k0_pay98 (k0_pay6 (View.ld x0 r0_0) (View.ld x1 r0_1)) (View.ld x2 r0_93) (View.ld x4 r0_3) (View.ld x3 r0_94))) : FVec Ideal S256x128 .f32) x = B7 x0 x1 x2 x3 (r0_102.emb x) :=
  row_piece x0 x1 x2 x3 11 384 (by decide) (by decide) _ (tile11 x0 x1 x2 x3 x4 h4) slices_S256x512_o0_384_S256x128 x _ _
    (by show (7 + 16 * (x 0).val) / 16 = (x 0).val; omega)
    (by show 5120 + 128 * ((7 + 16 * (x 0).val) % 16) + (0 + 1 * (x 1).val) = 512 * 11 + 384 + (x 1).val; omega)
include h4 in
theorem p7_8 (x : S256x128.Idx) : ((k0_pay114 (k0_pay108 (k0_pay6 (View.ld x0 r0_0) (View.ld x1 r0_1)) (View.ld x2 r0_103))) : FVec Ideal S256x128 .f32) x = B7 x0 x1 x2 x3 (r0_108.emb x) :=
  row_piece x0 x1 x2 x3 12 0 (by decide) (by decide) _ (tile12 x0 x1 x2 x3) slices_S256x512_o0_0_S256x128 x _ _
    (by show (8 + 16 * (x 0).val) / 16 = (x 0).val; omega)
    (by show 5120 + 128 * ((8 + 16 * (x 0).val) % 16) + (0 + 1 * (x 1).val) = 512 * 12 + 0 + (x 1).val; omega)
include h4 in
theorem p7_9 (x : S256x128.Idx) : ((k0_pay115 (k0_pay108 (k0_pay6 (View.ld x0 r0_0) (View.ld x1 r0_1)) (View.ld x2 r0_103))) : FVec Ideal S256x128 .f32) x = B7 x0 x1 x2 x3 (r0_109.emb x) :=
  row_piece x0 x1 x2 x3 12 128 (by decide) (by decide) _ (tile12 x0 x1 x2 x3) slices_S256x512_o0_128_S256x128 x _ _
    (by show (9 + 16 * (x 0).val) / 16 = (x 0).val; omega)
    (by show 5120 + 128 * ((9 + 16 * (x 0).val) % 16) + (0 + 1 * (x 1).val) = 512 * 12 + 128 + (x 1).val; omega)
include h4 in
theorem p7_10 (x : S256x128.Idx) : ((k0_pay116 (k0_pay108 (k0_pay6 (View.ld x0 r0_0) (View.ld x1 r0_1)) (View.ld x2 r0_103))) : FVec Ideal S256x128 .f32) x = B7 x0 x1 x2 x3 (r0_110.emb x) :=
  row_piece x0 x1 x2 x3 12 256 (by decide) (by decide) _ (tile12 x0 x1 x2 x3) slices_S256x512_o0_256_S256x128 x _ _
    (by show (10 + 16 * (x 0).val) / 16 = (x 0).val; omega)
    (by show 5120 + 128 * ((10 + 16 * (x 0).val) % 16) + (0 + 1 * (x 1).val) = 512 * 12 + 256 + (x 1).val; omega)
include h4 in
theorem p7_11 (x : S256x128.Idx) : ((k0_pay117 (k0_pay108 (k0_pay6 (View.ld x0 r0_0) (View.ld x1 r0_1)) (View.ld x2 r0_103))) : FVec Ideal S256x128 .f32) x = B7 x0 x1 x2 x3 (r0_111.emb x) :=
  row_piece x0 x1 x2 x3 12 384 (by decide) (by decide) _ (tile12 x0 x1 x2 x3) slices_S256x512_o0_384_S256x128 x _ _
    (by show (11 + 16 * (x 0).val) / 16 = (x 0).val; omega)
    (by show 5120 + 128 * ((11 + 16 * (x 0).val) % 16) + (0 + 1 * (x 1).val) = 512 * 12 + 384 + (x 1).val; omega)
include h4 in
theorem p7_12 (x : S256x128.Idx) : ((k0_pay2 (k0_pay118 (k0_pay6 (View.ld x0 r0_0) (View.ld x1 r0_1)) (View.ld x2 r0_112))) : FVec Ideal S256x128 .f32) x = B7 x0 x1 x2 x3 (r0_117.emb x) :=
  row_piece x0 x1 x2 x3 13 0 (by decide) (by decide) _ (tile13 x0 x1 x2 x3) slices_S256x512_o0_0_S256x128 x _ _
    (by show (12 + 16 * (x 0).val) / 16 = (x 0).val; omega)
    (by show 5120 + 128 * ((12 + 16 * (x 0).val) % 16) + (0 + 1 * (x 1).val) = 512 * 13 + 0 + (x 1).val; omega)
include h4 in
theorem p7_13 (x : S256x128.Idx) : ((k0_pay3 (k0_pay118 (k0_pay6 (View.ld x0 r0_0) (View.ld x1 r0_1)) (View.ld x2 r0_112))) : FVec Ideal S256x128 .f32) x = B7 x0 x1 x2 x3 (r0_118.emb x) :=
  row_piece x0 x1 x2 x3 13 128 (by decide) (by decide) _ (tile13 x0 x1 x2 x3) slices_S256x512_o0_128_S256x128 x _ _
    (by show (13 + 16 * (x 0).val) / 16 = (x 0).val; omega)
    (by show 5120 + 128 * ((13 + 16 * (x 0).val) % 16) + (0 + 1 * (x 1).val) = 512 * 13 + 128 + (x 1).val; omega)
include h4 in
theorem p7_14 (x : S256x128.Idx) : ((k0_pay4 (k0_pay118 (k0_pay6 (View.ld x0 r0_0) (View.ld x1 r0_1)) (View.ld x2 r0_112))) : FVec Ideal S256x128 .f32) x = B7 x0 x1 x2 x3 (r0_119.emb x) :=
  row_piece x0 x1 x2 x3 13 256 (by decide) (by decide) _ (tile13 x0 x1 x2 x3) slices_S256x512_o0_256_S256x128 x _ _
    (by show (14 + 16 * (x 0).val) / 16 = (x 0).val; omega)
    (by show 5120 + 128 * ((14 + 16 * (x 0).val) % 16) + (0 + 1 * (x 1).val) = 512 * 13 + 256 + (x 1).val; omega)
include h4 in
theorem p7_15 (x : S256x128.Idx) : ((k0_pay5 (k0_pay118 (k0_pay6 (View.ld x0 r0_0) (View.ld x1 r0_1)) (View.ld x2 r0_112))) : FVec Ideal S256x128 .f32) x = B7 x0 x1 x2 x3 (r0_120.emb x) :=
  row_piece x0 x1 x2 x3 13 384 (by decide) (by decide) _ (tile13 x0 x1 x2 x3) slices_S256x512_o0_384_S256x128 x _ _
    (by show (15 + 16 * (x 0).val) / 16 = (x 0).val; omega)
    (by show 5120 + 128 * ((15 + 16 * (x 0).val) % 16) + (0 + 1 * (x 1).val) = 512 * 13 + 384 + (x 1).val; omega)
include h4 in
theorem out7_apply (y : S4096x128.Idx) : out0_7 x0 x1 x2 x3 x4 y = B7 x0 x1 x2 x3 y := by
  unfold out0_7
  refine View.canon_apply_of_pieces (Val := Elt Ideal) (B7 x0 x1 x2 x3) _ ?_ y (cover0_7 _ _ _ _ _ _ _ _ _ _ _ _ _ _ _ _ y)
  exact List.forall_mem_cons.2 ⟨p7_15 x0 x1 x2 x3 x4 h4, List.forall_mem_cons.2 ⟨p7_14 x0 x1 x2 x3 x4 h4, List.forall_mem_cons.2 ⟨p7_13 x0 x1 x2 x3 x4 h4, List.forall_mem_cons.2 ⟨p7_12 x0 x1 x2 x3 x4 h4, List.forall_mem_cons.2 ⟨p7_11 x0 x1 x2 x3 x4 h4, List.forall_mem_cons.2 ⟨p7_10 x0 x1 x2 x3 x4 h4, List.forall_mem_cons.2 ⟨p7_9 x0 x1 x2 x3 x4 h4, List.forall_mem_cons.2 ⟨p7_8 x0 x1 x2 x3 x4 h4, List.forall_mem_cons.2 ⟨p7_7 x0 x1 x2 x3 x4 h4, List.forall_mem_cons.2 ⟨p7_6 x0 x1 x2 x3 x4 h4, List.forall_mem_cons.2 ⟨p7_5 x0 x1 x2 x3 x4 h4, List.forall_mem_cons.2 ⟨p7_4 x0 x1 x2 x3 x4 h4, List.forall_mem_cons.2 ⟨p7_3 x0 x1 x2 x3 x4 h4, List.forall_mem_cons.2 ⟨p7_2 x0 x1 x2 x3 x4 h4, List.forall_mem_cons.2 ⟨p7_1 x0 x1 x2 x3 x4 h4, List.forall_mem_cons.2 ⟨p7_0 x0 x1 x2 x3 x4 h4, fun p hp => by cases hp⟩⟩⟩⟩⟩⟩⟩⟩⟩⟩⟩⟩⟩⟩⟩⟩

def B8 (y : S56x256x128.Idx) : EReal := tv x0 x1 x2 x3 (y 1)
  ⟨128 * (y 0).val + (y 2).val, by have h : (y 0).val < 56 := (y 0).isLt; have h : (y 2).val < 128 := (y 2).isLt; omega⟩

include h4 in
theorem p8_0 (x : S1x256x128.Idx) : ((k0_pay8 (View.ld x0 r0_0) (View.ld x1 r0_1) (View.ld x2 r0_2) (View.ld x4 r0_3) (View.ld x3 r0_4)) : FVec Ideal S1x256x128 .bf16) x = B8 x0 x1 x2 x3 (r0_5.emb x) :=
  hm_piece x0 x1 x2 x3 0 0 (by decide) (by decide) _ (tile0 x0 x1 x2 x3 x4 h4) slices_S256x512_o0_0_S256x128 x _ _
    (by show 0 + 1 * (x 1).val = (x 1).val; omega)
    (by have h : (x 0).val < 1 := (x 0).isLt
        show 128 * (0 + 1 * (x 0).val) + (0 + 1 * (x 2).val) = 512 * 0 + 0 + (x 2).val; omega)
include h4 in
theorem p8_1 (x : S1x256x128.Idx) : ((k0_pay9 (k0_pay7 (View.ld x0 r0_0) (View.ld x1 r0_1) (View.ld x2 r0_2) (View.ld x4 r0_3) (View.ld x3 r0_4))) : FVec Ideal S1x256x128 .bf16) x = B8 x0 x1 x2 x3 (r0_6.emb x) :=
  hm_piece x0 x1 x2 x3 0 128 (by decide) (by decide) _ (tile0 x0 x1 x2 x3 x4 h4) slices_S256x512_o0_128_S256x128 x _ _
    (by show 0 + 1 * (x 1).val = (x 1).val; omega)
    (by have h : (x 0).val < 1 := (x 0).isLt
        show 128 * (1 + 1 * (x 0).val) + (0 + 1 * (x 2).val) = 512 * 0 + 128 + (x 2).val; omega)
include h4 in
theorem p8_2 (x : S1x256x128.Idx) : ((k0_pay10 (k0_pay7 (View.ld x0 r0_0) (View.ld x1 r0_1) (View.ld x2 r0_2) (View.ld x4 r0_3) (View.ld x3 r0_4))) : FVec Ideal S1x256x128 .bf16) x = B8 x0 x1 x2 x3 (r0_7.emb x) :=
  hm_piece x0 x1 x2 x3 0 256 (by decide) (by decide) _ (tile0 x0 x1 x2 x3 x4 h4) slices_S256x512_o0_256_S256x128 x _ _
    (by show 0 + 1 * (x 1).val = (x 1).val; omega)
    (by have h : (x 0).val < 1 := (x 0).isLt
        show 128 * (2 + 1 * (x 0).val) + (0 + 1 * (x 2).val) = 512 * 0 + 256 + (x 2).val; omega)
include h4 in
theorem p8_3 (x : S1x256x128.Idx) : ((k0_pay11 (k0_pay7 (View.ld x0 r0_0) (View.ld x1 r0_1) (View.ld x2 r0_2) (View.ld x4 r0_3) (View.ld x3 r0_4))) : FVec Ideal S1x256x128 .bf16) x = B8 x0 x1 x2 x3 (r0_8.emb x) :=
  hm_piece x0 x1 x2 x3 0 384 (by decide) (by decide) _ (tile0 x0 x1 x2 x3 x4 h4) slices_S256x512_o0_384_S256x128 x _ _
    (by show 0 + 1 * (x 1).val = (x 1).val; omega)
    (by have h : (x 0).val < 1 := (x 0).isLt
        show 128 * (3 + 1 * (x 0).val) + (0 + 1 * (x 2).val) = 512 * 0 + 384 + (x 2).val; omega)
include h4 in
theorem p8_4 (x : S1x256x128.Idx) : ((k0_pay14 (k0_pay13 (k0_pay6 (View.ld x0 r0_0) (View.ld x1 r0_1)) (View.ld x2 r0_9) (View.ld x4 r0_3) (View.ld x3 r0_10))) : FVec Ideal S1x256x128 .bf16) x = B8 x0 x1 x2 x3 (r0_11.emb x) :=
  hm_piece x0 x1 x2 x3 1 0 (by decide) (by decide) _ (tile1 x0 x1 x2 x3 x4 h4) slices_S256x512_o0_0_S256x128 x _ _
    (by show 0 + 1 * (x 1).val = (x 1).val; omega)
    (by have h : (x 0).val < 1 := (x 0).isLt
        show 128 * (4 + 1 * (x 0).val) + (0 + 1 * (x 2).val) = 512 * 1 + 0 + (x 2).val; omega)
include h4 in
theorem p8_5 (x : S1x256x128.Idx) : ((k0_pay15 (k0_pay12 (k0_pay6 (View.ld x0 r0_0) (View.ld x1 r0_1)) (View.ld x2 r0_9) (View.ld x4 r0_3) (View.ld x3 r0_10))) : FVec Ideal S1x256x128 .bf16) x = B8 x0 x1 x2 x3 (r0_12.emb x) :=
  hm_piece x0 x1 x2 x3 1 128 (by decide) (by decide) _ (tile1 x0 x1 x2 x3 x4 h4) slices_S256x512_o0_128_S256x128 x _ _
    (by show 0 + 1 * (x 1).val = (x 1).val; omega)
    (by have h : (x 0).val < 1 := (x 0).isLt
        show 128 * (5 + 1 * (x 0).val) + (0 + 1 * (x 2).val) = 512 * 1 + 128 + (x 2).val; omega)
include h4 in
theorem p8_6 (x : S1x256x128.Idx) : ((k0_pay16 (k0_pay12 (k0_pay6 (View.ld x0 r0_0) (View.ld x1 r0_1)) (View.ld x2 r0_9) (View.ld x4 r0_3) (View.ld x3 r0_10))) : FVec Ideal S1x256x128 .bf16) x = B8 x0 x1 x2 x3 (r0_13.emb x) :=
  hm_piece x0 x1 x2 x3 1 256 (by decide) (by decide) _ (tile1 x0 x1 x2 x3 x4 h4) slices_S256x512_o0_256_S256x128 x _ _
    (by show 0 + 1 * (x 1).val = (x 1).val; omega)
    (by have h : (x 0).val < 1 := (x 0).isLt
        show 128 * (6 + 1 * (x 0).val) + (0 + 1 * (x 2).val) = 512 * 1 + 256 + (x 2).val; omega)
include h4 in
theorem p8_7 (x : S1x256x128.Idx) : ((k0_pay17 (k0_pay12 (k0_pay6 (View.ld x0 r0_0) (View.ld x1 r0_1)) (View.ld x2 r0_9) (View.ld x4 r0_3) (View.ld x3 r0_10))) : FVec Ideal S1x256x128 .bf16) x = B8 x0 x1 x2 x3 (r0_14.emb x) :=
  hm_piece x0 x1 x2 x3 1 384 (by decide) (by decide) _ (tile1 x0 x1 x2 x3 x4 h4) slices_S256x512_o0_384_S256x128 x _ _
    (by show 0 + 1 * (x 1).val = (x 1).val; omega)
    (by have h : (x 0).val < 1 := (x 0).isLt
        show 128 * (7 + 1 * (x 0).val) + (0 + 1 * (x 2).val) = 512 * 1 + 384 + (x 2).val; omega)
include h4 in
theorem p8_8 (x : S1x256x128.Idx) : ((k0_pay19 (k0_pay6 (View.ld x0 r0_0) (View.ld x1 r0_1)) (View.ld x2 r0_15)) : FVec Ideal S1x256x128 .bf16) x = B8 x0 x1 x2 x3 (r0_16.emb x) :=
  hm_piece x0 x1 x2 x3 2 0 (by decide) (by decide) _ (tile2 x0 x1 x2 x3) slices_S256x512_o0_0_S256x128 x _ _
    (by show 0 + 1 * (x 1).val = (x 1).val; omega)
    (by have h : (x 0).val < 1 := (x 0).isLt
        show 128 * (8 + 1 * (x 0).val) + (0 + 1 * (x 2).val) = 512 * 2 + 0 + (x 2).val; omega)
include h4 in
theorem p8_9 (x : S1x256x128.Idx) : ((k0_pay20 (k0_pay6 (View.ld x0 r0_0) (View.ld x1 r0_1)) (View.ld x2 r0_15)) : FVec Ideal S1x256x128 .bf16) x = B8 x0 x1 x2 x3 (r0_17.emb x) :=
  hm_piece x0 x1 x2 x3 2 128 (by decide) (by decide) _ (tile2 x0 x1 x2 x3) slices_S256x512_o0_128_S256x128 x _ _
    (by show 0 + 1 * (x 1).val = (x 1).val; omega)
    (by have h : (x 0).val < 1 := (x 0).isLt
        show 128 * (9 + 1 * (x 0).val) + (0 + 1 * (x 2).val) = 512 * 2 + 128 + (x 2).val; omega)
include h4 in
theorem p8_10 (x : S1x256x128.Idx) : ((k0_pay22 (k0_pay21 (k0_pay6 (View.ld x0 r0_0) (View.ld x1 r0_1)) (View.ld x2 r0_15))) : FVec Ideal S1x256x128 .bf16) x = B8 x0 x1 x2 x3 (r0_18.emb x) :=
  hm_piece x0 x1 x2 x3 2 256 (by decide) (by decide) _ (tile2 x0 x1 x2 x3) slices_S256x512_o0_256_S256x128 x _ _
    (by show 0 + 1 * (x 1).val = (x 1).val; omega)
    (by have h : (x 0).val < 1 := (x 0).isLt
        show 128 * (10 + 1 * (x 0).val) + (0 + 1 * (x 2).val) = 512 * 2 + 256 + (x 2).val; omega)
include h4 in
theorem p8_11 (x : S1x256x128.Idx) : ((k0_pay23 (k0_pay18 (k0_pay6 (View.ld x0 r0_0) (View.ld x1 r0_1)) (View.ld x2 r0_15))) : FVec Ideal S1x256x128 .bf16) x = B8 x0 x1 x2 x3 (r0_19.emb x) :=
  hm_piece x0 x1 x2 x3 2 384 (by decide) (by decide) _ (tile2 x0 x1 x2 x3) slices_S256x512_o0_384_S256x128 x _ _
    (by show 0 + 1 * (x 1).val = (x 1).val; omega)
    (by have h : (x 0).val < 1 := (x 0).isLt
        show 128 * (11 + 1 * (x 0).val) + (0 + 1 * (x 2).val) = 512 * 2 + 384 + (x 2).val; omega)
include h4 in
theorem p8_12 (x : S1x256x128.Idx) : ((k0_pay29 (k0_pay6 (View.ld x0 r0_0) (View.ld x1 r0_1)) (View.ld x2 r0_24)) : FVec Ideal S1x256x128 .bf16) x = B8 x0 x1 x2 x3 (r0_25.emb x) :=
  hm_piece x0 x1 x2 x3 3 0 (by decide) (by decide) _ (tile3 x0 x1 x2 x3) slices_S256x512_o0_0_S256x128 x _ _
    (by show 0 + 1 * (x 1).val = (x 1).val; omega)
    (by have h : (x 0).val < 1 := (x 0).isLt
        show 128 * (12 + 1 * (x 0).val) + (0 + 1 * (x 2).val) = 512 * 3 + 0 + (x 2).val; omega)
include h4 in
theorem p8_13 (x : S1x256x128.Idx) : ((k0_pay30 (k0_pay6 (View.ld x0 r0_0) (View.ld x1 r0_1)) (View.ld x2 r0_24)) : FVec Ideal S1x256x128 .bf16) x = B8 x0 x1 x2 x3 (r0_26.emb x) :=
  hm_piece x0 x1 x2 x3 3 128 (by decide) (by decide) _ (tile3 x0 x1 x2 x3) slices_S256x512_o0_128_S256x128 x _ _
    (by show 0 + 1 * (x 1).val = (x 1).val; omega)
    (by have h : (x 0).val < 1 := (x 0).isLt
        show 128 * (13 + 1 * (x 0).val) + (0 + 1 * (x 2).val) = 512 * 3 + 128 + (x 2).val; omega)
include h4 in
theorem p8_14 (x : S1x256x128.Idx) : ((k0_pay32 (k0_pay31 (k0_pay6 (View.ld x0 r0_0) (View.ld x1 r0_1)) (View.ld x2 r0_24))) : FVec Ideal S1x256x128 .bf16) x = B8 x0 x1 x2 x3 (r0_27.emb x) :=
  hm_piece x0 x1 x2 x3 3 256 (by decide) (by decide) _ (tile3 x0 x1 x2 x3) slices_S256x512_o0_256_S256x128 x _ _
    (by show 0 + 1 * (x 1).val = (x 1).val; omega)
    (by have h : (x 0).val < 1 := (x 0).isLt
        show 128 * (14 + 1 * (x 0).val) + (0 + 1 * (x 2).val) = 512 * 3 + 256 + (x 2).val; omega)
include h4 in
theorem p8_15 (x : S1x256x128.Idx) : ((k0_pay33 (k0_pay28 (k0_pay6 (View.ld x0 r0_0) (View.ld x1 r0_1)) (View.ld x2 r0_24))) : FVec Ideal S1x256x128 .bf16) x = B8 x0 x1 x2 x3 (r0_28.emb x) :=
  hm_piece x0 x1 x2 x3 3 384 (by decide) (by decide) _ (tile3 x0 x1 x2 x3) slices_S256x512_o0_384_S256x128 x _ _
    (by show 0 + 1 * (x 1).val = (x 1).val; omega)
    (by have h : (x 0).val < 1 := (x 0).isLt
        show 128 * (15 + 1 * (x 0).val) + (0 + 1 * (x 2).val) = 512 * 3 + 384 + (x 2).val; omega)
include h4 in
theorem p8_16 (x : S1x256x128.Idx) : ((k0_pay40 (k0_pay38 (k0_pay6 (View.ld x0 r0_0) (View.ld x1 r0_1)) (View.ld x2 r0_33) (View.ld x4 r0_3)) (View.ld x3 r0_34)) : FVec Ideal S1x256x128 .bf16) x = B8 x0 x1 x2 x3 (r0_35.emb x) :=
  hm_piece x0 x1 x2 x3 4 0 (by decide) (by decide) _ (tile4 x0 x1 x2 x3 x4 h4) slices_S256x512_o0_0_S256x128 x _ _
    (by show 0 + 1 * (x 1).val = (x 1).val; omega)
    (by have h : (x 0).val < 1 := (x 0).isLt
        show 128 * (16 + 1 * (x 0).val) + (0 + 1 * (x 2).val) = 512 * 4 + 0 + (x 2).val; omega)
include h4 in
theorem p8_17 (x : S1x256x128.Idx) : ((k0_pay41 (k0_pay38 (k0_pay6 (View.ld x0 r0_0) (View.ld x1 r0_1)) (View.ld x2 r0_33) (View.ld x4 r0_3)) (View.ld x3 r0_34)) : FVec Ideal S1x256x128 .bf16) x = B8 x0 x1 x2 x3 (r0_36.emb x) :=
  hm_piece x0 x1 x2 x3 4 128 (by decide) (by decide) _ (tile4 x0 x1 x2 x3 x4 h4) slices_S256x512_o0_128_S256x128 x _ _
    (by show 0 + 1 * (x 1).val = (x 1).val; omega)
    (by have h : (x 0).val < 1 := (x 0).isLt
        show 128 * (17 + 1 * (x 0).val) + (0 + 1 * (x 2).val) = 512 * 4 + 128 + (x 2).val; omega)
include h4 in
theorem p8_18 (x : S1x256x128.Idx) : ((k0_pay42 (k0_pay38 (k0_pay6 (View.ld x0 r0_0) (View.ld x1 r0_1)) (View.ld x2 r0_33) (View.ld x4 r0_3)) (View.ld x3 r0_34)) : FVec Ideal S1x256x128 .bf16) x = B8 x0 x1 x2 x3 (r0_37.emb x) :=
  hm_piece x0 x1 x2 x3 4 256 (by decide) (by decide) _ (tile4 x0 x1 x2 x3 x4 h4) slices_S256x512_o0_256_S256x128 x _ _
    (by show 0 + 1 * (x 1).val = (x 1).val; omega)
    (by have h : (x 0).val < 1 := (x 0).isLt
        show 128 * (18 + 1 * (x 0).val) + (0 + 1 * (x 2).val) = 512 * 4 + 256 + (x 2).val; omega)
include h4 in
theorem p8_19 (x : S1x256x128.Idx) : ((k0_pay43 (k0_pay38 (k0_pay6 (View.ld x0 r0_0) (View.ld x1 r0_1)) (View.ld x2 r0_33) (View.ld x4 r0_3)) (View.ld x3 r0_34)) : FVec Ideal S1x256x128 .bf16) x = B8 x0 x1 x2 x3 (r0_38.emb x) :=
  hm_piece x0 x1 x2 x3 4 384 (by decide) (by decide) _ (tile4 x0 x1 x2 x3 x4 h4) slices_S256x512_o0_384_S256x128 x _ _
    (by show 0 + 1 * (x 1).val = (x 1).val; omega)
    (by have h : (x 0).val < 1 := (x 0).isLt
        show 128 * (19 + 1 * (x 0).val) + (0 + 1 * (x 2).val) = 512 * 4 + 384 + (x 2).val; omega)
include h4 in
theorem p8_20 (x : S1x256x128.Idx) : ((k0_pay49 (k0_pay6 (View.ld x0 r0_0) (View.ld x1 r0_1)) (View.ld x2 r0_43)) : FVec Ideal S1x256x128 .bf16) x = B8 x0 x1 x2 x3 (r0_44.emb x) :=
  hm_piece x0 x1 x2 x3 5 0 (by decide) (by decide) _ (tile5 x0 x1 x2 x3) slices_S256x512_o0_0_S256x128 x _ _
    (by show 0 + 1 * (x 1).val = (x 1).val; omega)
    (by have h : (x 0).val < 1 := (x 0).isLt
        show 128 * (20 + 1 * (x 0).val) + (0 + 1 * (x 2).val) = 512 * 5 + 0 + (x 2).val; omega)
include h4 in
theorem p8_21 (x : S1x256x128.Idx) : ((k0_pay50 (k0_pay6 (View.ld x0 r0_0) (View.ld x1 r0_1)) (View.ld x2 r0_43)) : FVec Ideal S1x256x128 .bf16) x = B8 x0 x1 x2 x3 (r0_45.emb x) :=
  hm_piece x0 x1 x2 x3 5 128 (by decide) (by decide) _ (tile5 x0 x1 x2 x3) slices_S256x512_o0_128_S256x128 x _ _
    (by show 0 + 1 * (x 1).val = (x 1).val; omega)
    (by have h : (x 0).val < 1 := (x 0).isLt
        show 128 * (21 + 1 * (x 0).val) + (0 + 1 * (x 2).val) = 512 * 5 + 128 + (x 2).val; omega)
include h4 in
theorem p8_22 (x : S1x256x128.Idx) : ((k0_pay51 (k0_pay6 (View.ld x0 r0_0) (View.ld x1 r0_1)) (View.ld x2 r0_43)) : FVec Ideal S1x256x128 .bf16) x = B8 x0 x1 x2 x3 (r0_46.emb x) :=
  hm_piece x0 x1 x2 x3 5 256 (by decide) (by decide) _ (tile5 x0 x1 x2 x3) slices_S256x512_o0_256_S256x128 x _ _
    (by show 0 + 1 * (x 1).val = (x 1).val; omega)
    (by have h : (x 0).val < 1 := (x 0).isLt
        show 128 * (22 + 1 * (x 0).val) + (0 + 1 * (x 2).val) = 512 * 5 + 256 + (x 2).val; omega)
include h4 in
theorem p8_23 (x : S1x256x128.Idx) : ((k0_pay52 (k0_pay6 (View.ld x0 r0_0) (View.ld x1 r0_1)) (View.ld x2 r0_43)) : FVec Ideal S1x256x128 .bf16) x = B8 x0 x1 x2 x3 (r0_47.emb x) :=
  hm_piece x0 x1 x2 x3 5 384 (by decide) (by decide) _ (tile5 x0 x1 x2 x3) slices_S256x512_o0_384_S256x128 x _ _
    (by show 0 + 1 * (x 1).val = (x 1).val; omega)
    (by have h : (x 0).val < 1 := (x 0).isLt
        show 128 * (23 + 1 * (x 0).val) + (0 + 1 * (x 2).val) = 512 * 5 + 384 + (x 2).val; omega)
include h4 in
theorem p8_24 (x : S1x256x128.Idx) : ((k0_pay58 (k0_pay6 (View.ld x0 r0_0) (View.ld x1 r0_1)) (View.ld x2 r0_52) (View.ld x4 r0_3) (View.ld x3 r0_53)) : FVec Ideal S1x256x128 .bf16) x = B8 x0 x1 x2 x3 (r0_54.emb x) :=
  hm_piece x0 x1 x2 x3 6 0 (by decide) (by decide) _ (tile6 x0 x1 x2 x3 x4 h4) slices_S256x512_o0_0_S256x128 x _ _
    (by show 0 + 1 * (x 1).val = (x 1).val; omega)
    (by have h : (x 0).val < 1 := (x 0).isLt
        show 128 * (24 + 1 * (x 0).val) + (0 + 1 * (x 2).val) = 512 * 6 + 0 + (x 2).val; omega)
include h4 in
theorem p8_25 (x : S1x256x128.Idx) : ((k0_pay59 (k0_pay6 (View.ld x0 r0_0) (View.ld x1 r0_1)) (View.ld x2 r0_52) (View.ld x4 r0_3) (View.ld x3 r0_53)) : FVec Ideal S1x256x128 .bf16) x = B8 x0 x1 x2 x3 (r0_55.emb x) :=
  hm_piece x0 x1 x2 x3 6 128 (by decide) (by decide) _ (tile6 x0 x1 x2 x3 x4 h4) slices_S256x512_o0_128_S256x128 x _ _
    (by show 0 + 1 * (x 1).val = (x 1).val; omega)
    (by have h : (x 0).val < 1 := (x 0).isLt
        show 128 * (25 + 1 * (x 0).val) + (0 + 1 * (x 2).val) = 512 * 6 + 128 + (x 2).val; omega)
include h4 in
theorem p8_26 (x : S1x256x128.Idx) : ((k0_pay60 (k0_pay6 (View.ld x0 r0_0) (View.ld x1 r0_1)) (View.ld x2 r0_52) (View.ld x4 r0_3) (View.ld x3 r0_53)) : FVec Ideal S1x256x128 .bf16) x = B8 x0 x1 x2 x3 (r0_56.emb x) :=
  hm_piece x0 x1 x2 x3 6 256 (by decide) (by decide) _ (tile6 x0 x1 x2 x3 x4 h4) slices_S256x512_o0_256_S256x128 x _ _
    (by show 0 + 1 * (x 1).val = (x 1).val; omega)
    (by have h : (x 0).val < 1 := (x 0).isLt
        show 128 * (26 + 1 * (x 0).val) + (0 + 1 * (x 2).val) = 512 * 6 + 256 + (x 2).val; omega)
include h4 in
theorem p8_27 (x : S1x256x128.Idx) : ((k0_pay62 (k0_pay61 (k0_pay6 (View.ld x0 r0_0) (View.ld x1 r0_1)) (View.ld x2 r0_52) (View.ld x4 r0_3) (View.ld x3 r0_53))) : FVec Ideal S1x256x128 .bf16) x = B8 x0 x1 x2 x3 (r0_57.emb x) :=
  hm_piece x0 x1 x2 x3 6 384 (by decide) (by decide) _ (tile6 x0 x1 x2 x3 x4 h4) slices_S256x512_o0_384_S256x128 x _ _
    (by show 0 + 1 * (x 1).val = (x 1).val; omega)
    (by have h : (x 0).val < 1 := (x 0).isLt
        show 128 * (27 + 1 * (x 0).val) + (0 + 1 * (x 2).val) = 512 * 6 + 384 + (x 2).val; omega)
include h4 in
theorem p8_28 (x : S1x256x128.Idx) : ((k0_pay68 (k0_pay6 (View.ld x0 r0_0) (View.ld x1 r0_1)) (View.ld x2 r0_62)) : FVec Ideal S1x256x128 .bf16) x = B8 x0 x1 x2 x3 (r0_63.emb x) :=
  hm_piece x0 x1 x2 x3 7 0 (by decide) (by decide) _ (tile7 x0 x1 x2 x3) slices_S256x512_o0_0_S256x128 x _ _
    (by show 0 + 1 * (x 1).val = (x 1).val; omega)
    (by have h : (x 0).val < 1 := (x 0).isLt
        show 128 * (28 + 1 * (x 0).val) + (0 + 1 * (x 2).val) = 512 * 7 + 0 + (x 2).val; omega)
include h4 in
theorem p8_29 (x : S1x256x128.Idx) : ((k0_pay69 (k0_pay6 (View.ld x0 r0_0) (View.ld x1 r0_1)) (View.ld x2 r0_62)) : FVec Ideal S1x256x128 .bf16) x = B8 x0 x1 x2 x3 (r0_64.emb x) :=
  hm_piece x0 x1 x2 x3 7 128 (by decide) (by decide) _ (tile7 x0 x1 x2 x3) slices_S256x512_o0_128_S256x128 x _ _
    (by show 0 + 1 * (x 1).val = (x 1).val; omega)
    (by have h : (x 0).val < 1 := (x 0).isLt
        show 128 * (29 + 1 * (x 0).val) + (0 + 1 * (x 2).val) = 512 * 7 + 128 + (x 2).val; omega)
include h4 in
theorem p8_30 (x : S1x256x128.Idx) : ((k0_pay70 (k0_pay6 (View.ld x0 r0_0) (View.ld x1 r0_1)) (View.ld x2 r0_62)) : FVec Ideal S1x256x128 .bf16) x = B8 x0 x1 x2 x3 (r0_65.emb x) :=
  hm_piece x0 x1 x2 x3 7 256 (by decide) (by decide) _ (tile7 x0 x1 x2 x3) slices_S256x512_o0_256_S256x128 x _ _
    (by show 0 + 1 * (x 1).val = (x 1).val; omega)
    (by have h : (x 0).val < 1 := (x 0).isLt
        show 128 * (30 + 1 * (x 0).val) + (0 + 1 * (x 2).val) = 512 * 7 + 256 + (x 2).val; omega)
include h4 in
theorem p8_31 (x : S1x256x128.Idx) : ((k0_pay72 (k0_pay71 (k0_pay6 (View.ld x0 r0_0) (View.ld x1 r0_1)) (View.ld x2 r0_62))) : FVec Ideal S1x256x128 .bf16) x = B8 x0 x1 x2 x3 (r0_66.emb x) :=
  hm_piece x0 x1 x2 x3 7 384 (by decide) (by decide) _ (tile7 x0 x1 x2 x3) slices_S256x512_o0_384_S256x128 x _ _
    (by show 0 + 1 * (x 1).val = (x 1).val; omega)
    (by have h : (x 0).val < 1 := (x 0).isLt
        show 128 * (31 + 1 * (x 0).val) + (0 + 1 * (x 2).val) = 512 * 7 + 384 + (x 2).val; omega)
include h4 in
theorem p8_32 (x : S1x256x128.Idx) : ((k0_pay79 (k0_pay78 (k0_pay6 (View.ld x0 r0_0) (View.ld x1 r0_1)) (View.ld x2 r0_71) (View.ld x4 r0_3) (View.ld x3 r0_72))) : FVec Ideal S1x256x128 .bf16) x = B8 x0 x1 x2 x3 (r0_73.emb x) :=
  hm_piece x0 x1 x2 x3 8 0 (by decide) (by decide) _ (tile8 x0 x1 x2 x3 x4 h4) slices_S256x512_o0_0_S256x128 x _ _
    (by show 0 + 1 * (x 1).val = (x 1).val; omega)
    (by have h : (x 0).val < 1 := (x 0).isLt
        show 128 * (32 + 1 * (x 0).val) + (0 + 1 * (x 2).val) = 512 * 8 + 0 + (x 2).val; omega)
include h4 in
theorem p8_33 (x : S1x256x128.Idx) : ((k0_pay80 (k0_pay77 (k0_pay6 (View.ld x0 r0_0) (View.ld x1 r0_1)) (View.ld x2 r0_71) (View.ld x4 r0_3) (View.ld x3 r0_72))) : FVec Ideal S1x256x128 .bf16) x = B8 x0 x1 x2 x3 (r0_74.emb x) :=
  hm_piece x0 x1 x2 x3 8 128 (by decide) (by decide) _ (tile8 x0 x1 x2 x3 x4 h4) slices_S256x512_o0_128_S256x128 x _ _
    (by show 0 + 1 * (x 1).val = (x 1).val; omega)
    (by have h : (x 0).val < 1 := (x 0).isLt
        show 128 * (33 + 1 * (x 0).val) + (0 + 1 * (x 2).val) = 512 * 8 + 128 + (x 2).val; omega)
include h4 in
theorem p8_34 (x : S1x256x128.Idx) : ((k0_pay81 (k0_pay77 (k0_pay6 (View.ld x0 r0_0) (View.ld x1 r0_1)) (View.ld x2 r0_71) (View.ld x4 r0_3) (View.ld x3 r0_72))) : FVec Ideal S1x256x128 .bf16) x = B8 x0 x1 x2 x3 (r0_75.emb x) :=
  hm_piece x0 x1 x2 x3 8 256 (by decide) (by decide) _ (tile8 x0 x1 x2 x3 x4 h4) slices_S256x512_o0_256_S256x128 x _ _
    (by show 0 + 1 * (x 1).val = (x 1).val; omega)
    (by have h : (x 0).val < 1 := (x 0).isLt
        show 128 * (34 + 1 * (x 0).val) + (0 + 1 * (x 2).val) = 512 * 8 + 256 + (x 2).val; omega)
include h4 in
theorem p8_35 (x : S1x256x128.Idx) : ((k0_pay82 (k0_pay77 (k0_pay6 (View.ld x0 r0_0) (View.ld x1 r0_1)) (View.ld x2 r0_71) (View.ld x4 r0_3) (View.ld x3 r0_72))) : FVec Ideal S1x256x128 .bf16) x = B8 x0 x1 x2 x3 (r0_76.emb x) :=
  hm_piece x0 x1 x2 x3 8 384 (by decide) (by decide) _ (tile8 x0 x1 x2 x3 x4 h4) slices_S256x512_o0_384_S256x128 x _ _
    (by show 0 + 1 * (x 1).val = (x 1).val; omega)
    (by have h : (x 0).val < 1 := (x 0).isLt
        show 128 * (35 + 1 * (x 0).val) + (0 + 1 * (x 2).val) = 512 * 8 + 384 + (x 2).val; omega)
include h4 in
theorem p8_36 (x : S1x256x128.Idx) : ((k0_pay84 (k0_pay83 (k0_pay6 (View.ld x0 r0_0) (View.ld x1 r0_1)) (View.ld x2 r0_77) (View.ld x4 r0_3) (View.ld x3 r0_78))) : FVec Ideal S1x256x128 .bf16) x = B8 x0 x1 x2 x3 (r0_79.emb x) :=
  hm_piece x0 x1 x2 x3 9 0 (by decide) (by decide) _ (tile9 x0 x1 x2 x3 x4 h4) slices_S256x512_o0_0_S256x128 x _ _
    (by show 0 + 1 * (x 1).val = (x 1).val; omega)
    (by have h : (x 0).val < 1 := (x 0).isLt
        show 128 * (36 + 1 * (x 0).val) + (0 + 1 * (x 2).val) = 512 * 9 + 0 + (x 2).val; omega)
include h4 in
theorem p8_37 (x : S1x256x128.Idx) : ((k0_pay85 (k0_pay83 (k0_pay6 (View.ld x0 r0_0) (View.ld x1 r0_1)) (View.ld x2 r0_77) (View.ld x4 r0_3) (View.ld x3 r0_78))) : FVec Ideal S1x256x128 .bf16) x = B8 x0 x1 x2 x3 (r0_80.emb x) :=
  hm_piece x0 x1 x2 x3 9 128 (by decide) (by decide) _ (tile9 x0 x1 x2 x3 x4 h4) slices_S256x512_o0_128_S256x128 x _ _
    (by show 0 + 1 * (x 1).val = (x 1).val; omega)
    (by have h : (x 0).val < 1 := (x 0).isLt
        show 128 * (37 + 1 * (x 0).val) + (0 + 1 * (x 2).val) = 512 * 9 + 128 + (x 2).val; omega)
include h4 in
theorem p8_38 (x : S1x256x128.Idx) : ((k0_pay86 (k0_pay83 (k0_pay6 (View.ld x0 r0_0) (View.ld x1 r0_1)) (View.ld x2 r0_77) (View.ld x4 r0_3) (View.ld x3 r0_78))) : FVec Ideal S1x256x128 .bf16) x = B8 x0 x1 x2 x3 (r0_81.emb x) :=
  hm_piece x0 x1 x2 x3 9 256 (by decide) (by decide) _ (tile9 x0 x1 x2 x3 x4 h4) slices_S256x512_o0_256_S256x128 x _ _
    (by show 0 + 1 * (x 1).val = (x 1).val; omega)
    (by have h : (x 0).val < 1 := (x 0).isLt
        show 128 * (38 + 1 * (x 0).val) + (0 + 1 * (x 2).val) = 512 * 9 + 256 + (x 2).val; omega)
include h4 in
theorem p8_39 (x : S1x256x128.Idx) : ((k0_pay87 (k0_pay83 (k0_pay6 (View.ld x0 r0_0) (View.ld x1 r0_1)) (View.ld x2 r0_77) (View.ld x4 r0_3) (View.ld x3 r0_78))) : FVec Ideal S1x256x128 .bf16) x = B8 x0 x1 x2 x3 (r0_82.emb x) :=
  hm_piece x0 x1 x2 x3 9 384 (by decide) (by decide) _ (tile9 x0 x1 x2 x3 x4 h4) slices_S256x512_o0_384_S256x128 x _ _
    (by show 0 + 1 * (x 1).val = (x 1).val; omega)
    (by have h : (x 0).val < 1 := (x 0).isLt
        show 128 * (39 + 1 * (x 0).val) + (0 + 1 * (x 2).val) = 512 * 9 + 384 + (x 2).val; omega)
include h4 in
theorem p8_40 (x : S1x256x128.Idx) : ((k0_pay90 (k0_pay88 (k0_pay6 (View.ld x0 r0_0) (View.ld x1 r0_1)) (View.ld x2 r0_83) (View.ld x4 r0_3)) (View.ld x3 r0_84)) : FVec Ideal S1x256x128 .bf16) x = B8 x0 x1 x2 x3 (r0_85.emb x) :=
  hm_piece x0 x1 x2 x3 10 0 (by decide) (by decide) _ (tile10 x0 x1 x2 x3 x4 h4) slices_S256x512_o0_0_S256x128 x _ _
    (by show 0 + 1 * (x 1).val = (x 1).val; omega)
    (by have h : (x 0).val < 1 := (x 0).isLt
        show 128 * (40 + 1 * (x 0).val) + (0 + 1 * (x 2).val) = 512 * 10 + 0 + (x 2).val; omega)
include h4 in
theorem p8_41 (x : S1x256x128.Idx) : ((k0_pay91 (k0_pay88 (k0_pay6 (View.ld x0 r0_0) (View.ld x1 r0_1)) (View.ld x2 r0_83) (View.ld x4 r0_3)) (View.ld x3 r0_84)) : FVec Ideal S1x256x128 .bf16) x = B8 x0 x1 x2 x3 (r0_86.emb x) :=
  hm_piece x0 x1 x2 x3 10 128 (by decide) (by decide) _ (tile10 x0 x1 x2 x3 x4 h4) slices_S256x512_o0_128_S256x128 x _ _
    (by show 0 + 1 * (x 1).val = (x 1).val; omega)
    (by have h : (x 0).val < 1 := (x 0).isLt
        show 128 * (41 + 1 * (x 0).val) + (0 + 1 * (x 2).val) = 512 * 10 + 128 + (x 2).val; omega)
include h4 in
theorem p8_42 (x : S1x256x128.Idx) : ((k0_pay92 (k0_pay88 (k0_pay6 (View.ld x0 r0_0) (View.ld x1 r0_1)) (View.ld x2 r0_83) (View.ld x4 r0_3)) (View.ld x3 r0_84)) : FVec Ideal S1x256x128 .bf16) x = B8 x0 x1 x2 x3 (r0_87.emb x) :=
  hm_piece x0 x1 x2 x3 10 256 (by decide) (by decide) _ (tile10 x0 x1 x2 x3 x4 h4) slices_S256x512_o0_256_S256x128 x _ _
    (by show 0 + 1 * (x 1).val = (x 1).val; omega)
    (by have h : (x 0).val < 1 := (x 0).isLt
        show 128 * (42 + 1 * (x 0).val) + (0 + 1 * (x 2).val) = 512 * 10 + 256 + (x 2).val; omega)
include h4 in
theorem p8_43 (x : S1x256x128.Idx) : ((k0_pay93 (k0_pay88 (k0_pay6 (View.ld x0 r0_0) (View.ld x1 r0_1)) (View.ld x2 r0_83) (View.ld x4 r0_3)) (View.ld x3 r0_84)) : FVec Ideal S1x256x128 .bf16) x = B8 x0 x1 x2 x3 (r0_88.emb x) :=
  hm_piece x0 x1 x2 x3 10 384 (by decide) (by decide) _ (tile10 x0 x1 x2 x3 x4 h4) slices_S256x512_o0_384_S256x128 x _ _
    (by show 0 + 1 * (x 1).val = (x 1).val; omega)
    (by have h : (x 0).val < 1 := (x 0).isLt
        show 128 * (43 + 1 * (x 0).val) + (0 + 1 * (x 2).val) = 512 * 10 + 384 + (x 2).val; omega)
include h4 in
theorem p8_44 (x : S1x256x128.Idx) : ((k0_pay99 (k0_pay6 (View.ld x0 r0_0) (View.ld x1 r0_1)) (View.ld x2 r0_93) (View.ld x4 r0_3) (View.ld x3 r0_94)) : FVec Ideal S1x256x128 .bf16) x = B8 x0 x1 x2 x3 (r0_95.emb x) :=
  hm_piece x0 x1 x2 x3 11 0 (by decide) (by decide) _ (tile11 x0 x1 x2 x3 x4 h4) slices_S256x512_o0_0_S256x128 x _ _
    (by show 0 + 1 * (x 1).val = (x 1).val; omega)
    (by have h : (x 0).val < 1 := (x 0).isLt
        show 128 * (44 + 1 * (x 0).val) + (0 + 1 * (x 2).val) = 512 * 11 + 0 + (x 2).val; omega)
include h4 in
theorem p8_45 (x : S1x256x128.Idx) : ((k0_pay100 (k0_pay6 (View.ld x0 r0_0) (View.ld x1 r0_1)) (View.ld x2 r0_93) (View.ld x4 r0_3) (View.ld x3 r0_94)) : FVec Ideal S1x256x128 .bf16) x = B8 x0 x1 x2 x3 (r0_96.emb x) :=
  hm_piece x0 x1 x2 x3 11 128 (by decide) (by decide) _ (tile11 x0 x1 x2 x3 x4 h4) slices_S256x512_o0_128_S256x128 x _ _
    (by show 0 + 1 * (x 1).val = (x 1).val; omega)
    (by have h : (x 0).val < 1 := (x 0).isLt
        show 128 * (45 + 1 * (x 0).val) + (0 + 1 * (x 2).val) = 512 * 11 + 128 + (x 2).val; omega)
include h4 in
theorem p8_46 (x : S1x256x128.Idx) : ((k0_pay101 (k0_pay6 (View.ld x0 r0_0) (View.ld x1 r0_1)) (View.ld x2 r0_93) (View.ld x4 r0_3) (View.ld x3 r0_94)) : FVec Ideal S1x256x128 .bf16) x = B8 x0 x1 x2 x3 (r0_97.emb x) :=
  hm_piece x0 x1 x2 x3 11 256 (by decide) (by decide) _ (tile11 x0 x1 x2 x3 x4 h4) slices_S256x512_o0_256_S256x128 x _ _
    (by show 0 + 1 * (x 1).val = (x 1).val; omega)
    (by have h : (x 0).val < 1 := (x 0).isLt
        show 128 * (46 + 1 * (x 0).val) + (0 + 1 * (x 2).val) = 512 * 11 + 256 + (x 2).val; omega)
include h4 in
theorem p8_47 (x : S1x256x128.Idx) : ((k0_pay103 (k0_pay102 (k0_pay6 (View.ld x0 r0_0) (View.ld x1 r0_1)) (View.ld x2 r0_93) (View.ld x4 r0_3) (View.ld x3 r0_94))) : FVec Ideal S1x256x128 .bf16) x = B8 x0 x1 x2 x3 (r0_98.emb x) :=
  hm_piece x0 x1 x2 x3 11 384 (by decide) (by decide) _ (tile11 x0 x1 x2 x3 x4 h4) slices_S256x512_o0_384_S256x128 x _ _
    (by show 0 + 1 * (x 1).val = (x 1).val; omega)
    (by have h : (x 0).val < 1 := (x 0).isLt
        show 128 * (47 + 1 * (x 0).val) + (0 + 1 * (x 2).val) = 512 * 11 + 384 + (x 2).val; omega)
include h4 in
theorem p8_48 (x : S1x256x128.Idx) : ((k0_pay109 (k0_pay6 (View.ld x0 r0_0) (View.ld x1 r0_1)) (View.ld x2 r0_103)) : FVec Ideal S1x256x128 .bf16) x = B8 x0 x1 x2 x3 (r0_104.emb x) :=
  hm_piece x0 x1 x2 x3 12 0 (by decide) (by decide) _ (tile12 x0 x1 x2 x3) slices_S256x512_o0_0_S256x128 x _ _
    (by show 0 + 1 * (x 1).val = (x 1).val; omega)
    (by have h : (x 0).val < 1 := (x 0).isLt
        show 128 * (48 + 1 * (x 0).val) + (0 + 1 * (x 2).val) = 512 * 12 + 0 + (x 2).val; omega)
include h4 in
theorem p8_49 (x : S1x256x128.Idx) : ((k0_pay110 (k0_pay6 (View.ld x0 r0_0) (View.ld x1 r0_1)) (View.ld x2 r0_103)) : FVec Ideal S1x256x128 .bf16) x = B8 x0 x1 x2 x3 (r0_105.emb x) :=
  hm_piece x0 x1 x2 x3 12 128 (by decide) (by decide) _ (tile12 x0 x1 x2 x3) slices_S256x512_o0_128_S256x128 x _ _
    (by show 0 + 1 * (x 1).val = (x 1).val; omega)
    (by have h : (x 0).val < 1 := (x 0).isLt
        show 128 * (49 + 1 * (x 0).val) + (0 + 1 * (x 2).val) = 512 * 12 + 128 + (x 2).val; omega)
include h4 in
theorem p8_50 (x : S1x256x128.Idx) : ((k0_pay111 (k0_pay6 (View.ld x0 r0_0) (View.ld x1 r0_1)) (View.ld x2 r0_103)) : FVec Ideal S1x256x128 .bf16) x = B8 x0 x1 x2 x3 (r0_106.emb x) :=
  hm_piece x0 x1 x2 x3 12 256 (by decide) (by decide) _ (tile12 x0 x1 x2 x3) slices_S256x512_o0_256_S256x128 x _ _
    (by show 0 + 1 * (x 1).val = (x 1).val; omega)
    (by have h : (x 0).val < 1 := (x 0).isLt
        show 128 * (50 + 1 * (x 0).val) + (0 + 1 * (x 2).val) = 512 * 12 + 256 + (x 2).val; omega)
include h4 in
theorem p8_51 (x : S1x256x128.Idx) : ((k0_pay113 (k0_pay112 (k0_pay6 (View.ld x0 r0_0) (View.ld x1 r0_1)) (View.ld x2 r0_103))) : FVec Ideal S1x256x128 .bf16) x = B8 x0 x1 x2 x3 (r0_107.emb x) :=
  hm_piece x0 x1 x2 x3 12 384 (by decide) (by decide) _ (tile12 x0 x1 x2 x3) slices_S256x512_o0_384_S256x128 x _ _
    (by show 0 + 1 * (x 1).val = (x 1).val; omega)
    (by have h : (x 0).val < 1 := (x 0).isLt
        show 128 * (51 + 1 * (x 0).val) + (0 + 1 * (x 2).val) = 512 * 12 + 384 + (x 2).val; omega)
include h4 in
theorem p8_52 (x : S1x256x128.Idx) : ((k0_pay119 (k0_pay6 (View.ld x0 r0_0) (View.ld x1 r0_1)) (View.ld x2 r0_112)) : FVec Ideal S1x256x128 .bf16) x = B8 x0 x1 x2 x3 (r0_113.emb x) :=
  hm_piece x0 x1 x2 x3 13 0 (by decide) (by decide) _ (tile13 x0 x1 x2 x3) slices_S256x512_o0_0_S256x128 x _ _
    (by show 0 + 1 * (x 1).val = (x 1).val; omega)
    (by have h : (x 0).val < 1 := (x 0).isLt
        show 128 * (52 + 1 * (x 0).val) + (0 + 1 * (x 2).val) = 512 * 13 + 0 + (x 2).val; omega)
include h4 in
theorem p8_53 (x : S1x256x128.Idx) : ((k0_pay120 (k0_pay6 (View.ld x0 r0_0) (View.ld x1 r0_1)) (View.ld x2 r0_112)) : FVec Ideal S1x256x128 .bf16) x = B8 x0 x1 x2 x3 (r0_114.emb x) :=
  hm_piece x0 x1 x2 x3 13 128 (by decide) (by decide) _ (tile13 x0 x1 x2 x3) slices_S256x512_o0_128_S256x128 x _ _
    (by show 0 + 1 * (x 1).val = (x 1).val; omega)
    (by have h : (x 0).val < 1 := (x 0).isLt
        show 128 * (53 + 1 * (x 0).val) + (0 + 1 * (x 2).val) = 512 * 13 + 128 + (x 2).val; omega)
include h4 in
theorem p8_54 (x : S1x256x128.Idx) : ((k0_pay121 (k0_pay6 (View.ld x0 r0_0) (View.ld x1 r0_1)) (View.ld x2 r0_112)) : FVec Ideal S1x256x128 .bf16) x = B8 x0 x1 x2 x3 (r0_115.emb x) :=
  hm_piece x0 x1 x2 x3 13 256 (by decide) (by decide) _ (tile13 x0 x1 x2 x3) slices_S256x512_o0_256_S256x128 x _ _
    (by show 0 + 1 * (x 1).val = (x 1).val; omega)
    (by have h : (x 0).val < 1 := (x 0).isLt
        show 128 * (54 + 1 * (x 0).val) + (0 + 1 * (x 2).val) = 512 * 13 + 256 + (x 2).val; omega)
include h4 in
theorem p8_55 (x : S1x256x128.Idx) : ((k0_pay1 (k0_pay122 (k0_pay6 (View.ld x0 r0_0) (View.ld x1 r0_1)) (View.ld x2 r0_112))) : FVec Ideal S1x256x128 .bf16) x = B8 x0 x1 x2 x3 (r0_116.emb x) :=
  hm_piece x0 x1 x2 x3 13 384 (by decide) (by decide) _ (tile13 x0 x1 x2 x3) slices_S256x512_o0_384_S256x128 x _ _
    (by show 0 + 1 * (x 1).val = (x 1).val; omega)
    (by have h : (x 0).val < 1 := (x 0).isLt
        show 128 * (55 + 1 * (x 0).val) + (0 + 1 * (x 2).val) = 512 * 13 + 384 + (x 2).val; omega)
include h4 in
theorem out8_apply (y : S56x256x128.Idx) : out0_8 x0 x1 x2 x3 x4 y = B8 x0 x1 x2 x3 y := by
  unfold out0_8
  refine View.canon_apply_of_pieces (Val := Elt Ideal) (B8 x0 x1 x2 x3) _ ?_ y (cover0_8 _ _ _ _ _ _ _ _ _ _ _ _ _ _ _ _ _ _ _ _ _ _ _ _ _ _ _ _ _ _ _ _ _ _ _ _ _ _ _ _ _ _ _ _ _ _ _ _ _ _ _ _ _ _ _ _ y)
  exact List.forall_mem_cons.2 ⟨p8_55 x0 x1 x2 x3 x4 h4, List.forall_mem_cons.2 ⟨p8_54 x0 x1 x2 x3 x4 h4, List.forall_mem_cons.2 ⟨p8_53 x0 x1 x2 x3 x4 h4, List.forall_mem_cons.2 ⟨p8_52 x0 x1 x2 x3 x4 h4, List.forall_mem_cons.2 ⟨p8_51 x0 x1 x2 x3 x4 h4, List.forall_mem_cons.2 ⟨p8_50 x0 x1 x2 x3 x4 h4, List.forall_mem_cons.2 ⟨p8_49 x0 x1 x2 x3 x4 h4, List.forall_mem_cons.2 ⟨p8_48 x0 x1 x2 x3 x4 h4, List.forall_mem_cons.2 ⟨p8_47 x0 x1 x2 x3 x4 h4, List.forall_mem_cons.2 ⟨p8_46 x0 x1 x2 x3 x4 h4, List.forall_mem_cons.2 ⟨p8_45 x0 x1 x2 x3 x4 h4, List.forall_mem_cons.2 ⟨p8_44 x0 x1 x2 x3 x4 h4, List.forall_mem_cons.2 ⟨p8_43 x0 x1 x2 x3 x4 h4, List.forall_mem_cons.2 ⟨p8_42 x0 x1 x2 x3 x4 h4, List.forall_mem_cons.2 ⟨p8_41 x0 x1 x2 x3 x4 h4, List.forall_mem_cons.2 ⟨p8_40 x0 x1 x2 x3 x4 h4, List.forall_mem_cons.2 ⟨p8_39 x0 x1 x2 x3 x4 h4, List.forall_mem_cons.2 ⟨p8_38 x0 x1 x2 x3 x4 h4, List.forall_mem_cons.2 ⟨p8_37 x0 x1 x2 x3 x4 h4, List.forall_mem_cons.2 ⟨p8_36 x0 x1 x2 x3 x4 h4, List.forall_mem_cons.2 ⟨p8_35 x0 x1 x2 x3 x4 h4, List.forall_mem_cons.2 ⟨p8_34 x0 x1 x2 x3 x4 h4, List.forall_mem_cons.2 ⟨p8_33 x0 x1 x2 x3 x4 h4, List.forall_mem_cons.2 ⟨p8_32 x0 x1 x2 x3 x4 h4, List.forall_mem_cons.2 ⟨p8_31 x0 x1 x2 x3 x4 h4, List.forall_mem_cons.2 ⟨p8_30 x0 x1 x2 x3 x4 h4, List.forall_mem_cons.2 ⟨p8_29 x0 x1 x2 x3 x4 h4, List.forall_mem_cons.2 ⟨p8_28 x0 x1 x2 x3 x4 h4, List.forall_mem_cons.2 ⟨p8_27 x0 x1 x2 x3 x4 h4, List.forall_mem_cons.2 ⟨p8_26 x0 x1 x2 x3 x4 h4, List.forall_mem_cons.2 ⟨p8_25 x0 x1 x2 x3 x4 h4, List.forall_mem_cons.2 ⟨p8_24 x0 x1 x2 x3 x4 h4, List.forall_mem_cons.2 ⟨p8_23 x0 x1 x2 x3 x4 h4, List.forall_mem_cons.2 ⟨p8_22 x0 x1 x2 x3 x4 h4, List.forall_mem_cons.2 ⟨p8_21 x0 x1 x2 x3 x4 h4, List.forall_mem_cons.2 ⟨p8_20 x0 x1 x2 x3 x4 h4, List.forall_mem_cons.2 ⟨p8_19 x0 x1 x2 x3 x4 h4, List.forall_mem_cons.2 ⟨p8_18 x0 x1 x2 x3 x4 h4, List.forall_mem_cons.2 ⟨p8_17 x0 x1 x2 x3 x4 h4, List.forall_mem_cons.2 ⟨p8_16 x0 x1 x2 x3 x4 h4, List.forall_mem_cons.2 ⟨p8_15 x0 x1 x2 x3 x4 h4, List.forall_mem_cons.2 ⟨p8_14 x0 x1 x2 x3 x4 h4, List.forall_mem_cons.2 ⟨p8_13 x0 x1 x2 x3 x4 h4, List.forall_mem_cons.2 ⟨p8_12 x0 x1 x2 x3 x4 h4, List.forall_mem_cons.2 ⟨p8_11 x0 x1 x2 x3 x4 h4, List.forall_mem_cons.2 ⟨p8_10 x0 x1 x2 x3 x4 h4, List.forall_mem_cons.2 ⟨p8_9 x0 x1 x2 x3 x4 h4, List.forall_mem_cons.2 ⟨p8_8 x0 x1 x2 x3 x4 h4, List.forall_mem_cons.2 ⟨p8_7 x0 x1 x2 x3 x4 h4, List.forall_mem_cons.2 ⟨p8_6 x0 x1 x2 x3 x4 h4, List.forall_mem_cons.2 ⟨p8_5 x0 x1 x2 x3 x4 h4, List.forall_mem_cons.2 ⟨p8_4 x0 x1 x2 x3 x4 h4, List.forall_mem_cons.2 ⟨p8_3 x0 x1 x2 x3 x4 h4, List.forall_mem_cons.2 ⟨p8_2 x0 x1 x2 x3 x4 h4, List.forall_mem_cons.2 ⟨p8_1 x0 x1 x2 x3 x4 h4, List.forall_mem_cons.2 ⟨p8_0 x0 x1 x2 x3 x4 h4, fun p hp => by cases hp⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩

end Cert.InprojIdeal.Val

end
-- ==== Proof.InprojKernel.lean ====
module

public import proofs.«01_k».proof.Proof.InprojBlock
public import Idealize.ShloMosaic.Lib.StableHlo.RunRead

@[expose] public section

noncomputable section

/-! The input projection of the kernel: each element of its four result arrays. -/
namespace Cert.InprojIdeal.Val

open Cert.InprojIdeal Cert.InprojIdeal.Gen Idealize.ShloMosaic Idealize.ShloMosaic.TcCoe Idealize.ShloMosaic.Tactic Idealize.SL.Sem

variable (m : (ℓ : Loc nD τ sig) → Buf (Elt Ideal) ℓ) (c : Dev nD)

/-- The rows, the gain, the input weight and the four head gains, as launched. -/
def A0 : Vec Ideal S8192x2048 .f32 := m ((c : Thread nD τ).loc main_arg0)
def A1 : Vec Ideal S1x2048 .f32 := m ((c : Thread nD τ).loc main_arg1)
def A2 : Vec Ideal S1x2048x7200 .f32 := m ((c : Thread nD τ).loc main_arg2)
def A3 : Vec Ideal S1x128 .f32 := m ((c : Thread nD τ).loc main_arg3)
def A4 : Vec Ideal S1x128 .f32 := m ((c : Thread nD τ).loc main_arg4)
def A5 : Vec Ideal S1x128 .f32 := m ((c : Thread nD τ).loc main_arg5)
def A6 : Vec Ideal S1x128 .f32 := m ((c : Thread nD τ).loc main_arg6)

theorem V_v36 : V m c main_v36 = broadcastInDim S1x2048 ![1] bcast_S2048_S1x2048_1 (shapeCast S2048 (A1 m c) shapeCasts_S1x2048_S2048) := by
  unfold V hostOps0 A1
  after_results_simp <;> rfl

theorem v36_apply (l : Fin 2048) : V m c main_v36 (ix2 (0 : Fin 1) l) = A1 m c (ix2 (0 : Fin 1) l) := by
  rw [V_v36]
  pointwise

theorem V_v4 : V m c main_v4 = truncf (F := Ideal) .bf16 (concatenate (α := Elt Ideal .f32) S2048x7168 1 [⟨S2048x4096, extractStridedSlice S2048x4096 ![0, 0] (shapeCast S2048x7200 (A2 m c) shapeCasts_S1x2048x7200_S2048x7200) slices_S2048x7200_S2048x4096_0_0⟩,
    ⟨S2048x3072, extractStridedSlice S2048x3072 ![0, 4120] (shapeCast S2048x7200 (A2 m c) shapeCasts_S1x2048x7200_S2048x7200) slices_S2048x7200_S2048x3072_0_4120⟩] concatenates_S2048x4096_S2048x3072_S2048x7168_d1) bitsLt_bf16_f32 := by
  unfold V hostOps0 A2
  after_results_simp <;> rfl

/-- The column of the input weight that a column of the kernel's weight is. -/
def src (C : Fin 7168) : Fin 7200 := ⟨if C.val < 4096 then C.val else C.val + 24, by split <;> omega⟩

theorem v4_apply (l : Fin 2048) (C : Fin 7168) : V m c main_v4 (ix2 l C) = A2 m c (ix3 (0 : Fin 1) l (src C)) := by
  rw [V_v4]
  by_cases h : C.val < 4096
  · have e : src C = ⟨C.val, by omega⟩ := Fin.ext (if_pos h)
    rw [e]
    pointwise
    rw [dif_pos h]
  · have e : src C = ⟨4120 + (C.val - 4096), by omega⟩ := Fin.ext ((if_neg h).trans (show C.val + 24 = 4120 + (C.val - 4096) by omega))
    have h2 : C.val - 4096 < 3072 := by omega
    rw [e]
    pointwise
    rw [dif_neg h]

/-- A head gain repeated, times the scale or as it is. -/
def gs8 (g : Vec Ideal S1x128 .f32) : Vec Ideal S1024 .f32 :=
  shapeCast S1024 (broadcastInDim S8x128 ![0, 1] bcast_S1x128_S8x128_0_1 (shapeCast S1x128 (mulf (F := Ideal) (shapeCast S128 g shapeCasts_S1x128_S128) (broadcastInDim S128 ![] bcast_S_S128 (constant (F := Ideal) S_ .f32 0x3DB504F3#32))) shapeCasts_S128_S1x128)) shapeCasts_S8x128_S1024
def gp8 (g : Vec Ideal S1x128 .f32) : Vec Ideal S1024 .f32 :=
  shapeCast S1024 (broadcastInDim S8x128 ![0, 1] bcast_S1x128_S8x128_0_1 (shapeCast S1x128 (shapeCast S128 g shapeCasts_S1x128_S128) shapeCasts_S128_S1x128)) shapeCasts_S8x128_S1024
def gp4 (g : Vec Ideal S1x128 .f32) : Vec Ideal S512 .f32 :=
  shapeCast S512 (broadcastInDim S4x128 ![0, 1] bcast_S1x128_S4x128_0_1 (shapeCast S1x128 (shapeCast S128 g shapeCasts_S1x128_S128) shapeCasts_S128_S1x128)) shapeCasts_S4x128_S512
def on8 : Vec Ideal S1024 .f32 := broadcastInDim S1024 ![] bcast_S_S1024 (constant (F := Ideal) S_ .f32 0x3F800000#32)
def on4 : Vec Ideal S512 .f32 := broadcastInDim S512 ![] bcast_S_S512 (constant (F := Ideal) S_ .f32 0x3F800000#32)

theorem gs8_apply (g : Vec Ideal S1x128 .f32) (i : Fin 1024) : gs8 g (ix1 i) = g (ix2 (0 : Fin 1) ⟨i.val % 128, by omega⟩) * Ideal.ofBits .f32 0x3DB504F3#32 := by
  pointwise [gs8]
theorem gp8_apply (g : Vec Ideal S1x128 .f32) (i : Fin 1024) : gp8 g (ix1 i) = g (ix2 (0 : Fin 1) ⟨i.val % 128, by omega⟩) := by
  pointwise [gp8]
theorem gp4_apply (g : Vec Ideal S1x128 .f32) (i : Fin 512) : gp4 g (ix1 i) = g (ix2 (0 : Fin 1) ⟨i.val % 128, by omega⟩) := by
  pointwise [gp4]

theorem V_v34 : V m c main_v34 = broadcastInDim S1x7168 ![1] bcast_S7168_S1x7168_1 (concatenate (α := Elt Ideal .f32) S7168 0 [⟨S1024, gs8 (A3 m c)⟩, ⟨S1024, on8⟩, ⟨S512, gp4 (A4 m c)⟩, ⟨S512, on4⟩, ⟨S512, gp4 (A4 m c)⟩, ⟨S512, on4⟩,
    ⟨S1024, gs8 (A5 m c)⟩, ⟨S1024, gp8 (A6 m c)⟩, ⟨S1024, on8⟩] concatenates_S1024_S1024_S512_S512_S512_S512_S1024_S1024_S1024_S7168_d0) := by
  unfold V hostOps0 A3 A4 A5 A6 gs8 gp8 gp4 on8 on4
  after_results_simp <;> rfl

/-- The gain of a column of a normalised tile. -/
def gn (C : Fin 7168) : EReal :=
  if C.val < 1024 then A3 m c (ix2 (0 : Fin 1) ⟨C.val % 128, by omega⟩) * Ideal.ofBits .f32 0x3DB504F3#32
  else if C.val < 3584 then A4 m c (ix2 (0 : Fin 1) ⟨C.val % 128, by omega⟩)
  else if C.val < 5120 then A5 m c (ix2 (0 : Fin 1) ⟨C.val % 128, by omega⟩) * Ideal.ofBits .f32 0x3DB504F3#32
  else A6 m c (ix2 (0 : Fin 1) ⟨C.val % 128, by omega⟩)

theorem cat34_0 (x0 x1 : Vec Ideal S1024 .f32) (x2 x3 x4 x5 : Vec Ideal S512 .f32) (x6 x7 x8 : Vec Ideal S1024 .f32) (C : Fin 7168) (h1 : 0 ≤ C.val) (h2 : C.val < 1024) :
    broadcastInDim S1x7168 ![1] bcast_S7168_S1x7168_1 (concatenate (α := Elt Ideal .f32) S7168 0 [⟨S1024, x0⟩, ⟨S1024, x1⟩, ⟨S512, x2⟩, ⟨S512, x3⟩, ⟨S512, x4⟩, ⟨S512, x5⟩, ⟨S1024, x6⟩, ⟨S1024, x7⟩, ⟨S1024, x8⟩] concatenates_S1024_S1024_S512_S512_S512_S512_S1024_S1024_S1024_S7168_d0) (ix2 (0 : Fin 1) C) = x0 (ix1 ⟨C.val - 0, by omega⟩) := by
  have p0 : C.val < 1024 := by omega
  pointwise
  all_goals (try simp only [dif_pos p0])
  all_goals (have ee : C.val = C.val - 0 := by omega)
  all_goals simp only [ee]
theorem cat34_2 (x0 x1 : Vec Ideal S1024 .f32) (x2 x3 x4 x5 : Vec Ideal S512 .f32) (x6 x7 x8 : Vec Ideal S1024 .f32) (C : Fin 7168) (h1 : 2048 ≤ C.val) (h2 : C.val < 2560) :
    broadcastInDim S1x7168 ![1] bcast_S7168_S1x7168_1 (concatenate (α := Elt Ideal .f32) S7168 0 [⟨S1024, x0⟩, ⟨S1024, x1⟩, ⟨S512, x2⟩, ⟨S512, x3⟩, ⟨S512, x4⟩, ⟨S512, x5⟩, ⟨S1024, x6⟩, ⟨S1024, x7⟩, ⟨S1024, x8⟩] concatenates_S1024_S1024_S512_S512_S512_S512_S1024_S1024_S1024_S7168_d0) (ix2 (0 : Fin 1) C) = x2 (ix1 ⟨C.val - 2048, by omega⟩) := by
  have n0 : ¬C.val < 1024 := by omega
  have n1 : ¬(C.val - 1024) < 1024 := by omega
  have p2 : ((C.val - 1024) - 1024) < 512 := by omega
  pointwise
  all_goals (try simp only [dif_neg n0, dif_neg n1, dif_pos p2])
  all_goals (have ee : ((C.val - 1024) - 1024) = C.val - 2048 := by omega)
  all_goals simp only [ee]
theorem cat34_4 (x0 x1 : Vec Ideal S1024 .f32) (x2 x3 x4 x5 : Vec Ideal S512 .f32) (x6 x7 x8 : Vec Ideal S1024 .f32) (C : Fin 7168) (h1 : 3072 ≤ C.val) (h2 : C.val < 3584) :
    broadcastInDim S1x7168 ![1] bcast_S7168_S1x7168_1 (concatenate (α := Elt Ideal .f32) S7168 0 [⟨S1024, x0⟩, ⟨S1024, x1⟩, ⟨S512, x2⟩, ⟨S512, x3⟩, ⟨S512, x4⟩, ⟨S512, x5⟩, ⟨S1024, x6⟩, ⟨S1024, x7⟩, ⟨S1024, x8⟩] concatenates_S1024_S1024_S512_S512_S512_S512_S1024_S1024_S1024_S7168_d0) (ix2 (0 : Fin 1) C) = x4 (ix1 ⟨C.val - 3072, by omega⟩) := by
  have n0 : ¬C.val < 1024 := by omega
  have n1 : ¬(C.val - 1024) < 1024 := by omega
  have n2 : ¬((C.val - 1024) - 1024) < 512 := by omega
  have n3 : ¬(((C.val - 1024) - 1024) - 512) < 512 := by omega
  have p4 : ((((C.val - 1024) - 1024) - 512) - 512) < 512 := by omega
  pointwise
  all_goals (try simp only [dif_neg n0, dif_neg n1, dif_neg n2, dif_neg n3, dif_pos p4])
  all_goals (have ee : ((((C.val - 1024) - 1024) - 512) - 512) = C.val - 3072 := by omega)
  all_goals simp only [ee]
theorem cat34_6 (x0 x1 : Vec Ideal S1024 .f32) (x2 x3 x4 x5 : Vec Ideal S512 .f32) (x6 x7 x8 : Vec Ideal S1024 .f32) (C : Fin 7168) (h1 : 4096 ≤ C.val) (h2 : C.val < 5120) :
    broadcastInDim S1x7168 ![1] bcast_S7168_S1x7168_1 (concatenate (α := Elt Ideal .f32) S7168 0 [⟨S1024, x0⟩, ⟨S1024, x1⟩, ⟨S512, x2⟩, ⟨S512, x3⟩, ⟨S512, x4⟩, ⟨S512, x5⟩, ⟨S1024, x6⟩, ⟨S1024, x7⟩, ⟨S1024, x8⟩] concatenates_S1024_S1024_S512_S512_S512_S512_S1024_S1024_S1024_S7168_d0) (ix2 (0 : Fin 1) C) = x6 (ix1 ⟨C.val - 4096, by omega⟩) := by
  have n0 : ¬C.val < 1024 := by omega
  have n1 : ¬(C.val - 1024) < 1024 := by omega
  have n2 : ¬((C.val - 1024) - 1024) < 512 := by omega
  have n3 : ¬(((C.val - 1024) - 1024) - 512) < 512 := by omega
  have n4 : ¬((((C.val - 1024) - 1024) - 512) - 512) < 512 := by omega
  have n5 : ¬(((((C.val - 1024) - 1024) - 512) - 512) - 512) < 512 := by omega
  have p6 : ((((((C.val - 1024) - 1024) - 512) - 512) - 512) - 512) < 1024 := by omega
  pointwise
  all_goals (try simp only [dif_neg n0, dif_neg n1, dif_neg n2, dif_neg n3, dif_neg n4, dif_neg n5, dif_pos p6])
  all_goals (have ee : ((((((C.val - 1024) - 1024) - 512) - 512) - 512) - 512) = C.val - 4096 := by omega)
  all_goals simp only [ee]
theorem cat34_7 (x0 x1 : Vec Ideal S1024 .f32) (x2 x3 x4 x5 : Vec Ideal S512 .f32) (x6 x7 x8 : Vec Ideal S1024 .f32) (C : Fin 7168) (h1 : 5120 ≤ C.val) (h2 : C.val < 6144) :
    broadcastInDim S1x7168 ![1] bcast_S7168_S1x7168_1 (concatenate (α := Elt Ideal .f32) S7168 0 [⟨S1024, x0⟩, ⟨S1024, x1⟩, ⟨S512, x2⟩, ⟨S512, x3⟩, ⟨S512, x4⟩, ⟨S512, x5⟩, ⟨S1024, x6⟩, ⟨S1024, x7⟩, ⟨S1024, x8⟩] concatenates_S1024_S1024_S512_S512_S512_S512_S1024_S1024_S1024_S7168_d0) (ix2 (0 : Fin 1) C) = x7 (ix1 ⟨C.val - 5120, by omega⟩) := by
  have n0 : ¬C.val < 1024 := by omega
  have n1 : ¬(C.val - 1024) < 1024 := by omega
  have n2 : ¬((C.val - 1024) - 1024) < 512 := by omega
  have n3 : ¬(((C.val - 1024) - 1024) - 512) < 512 := by omega
  have n4 : ¬((((C.val - 1024) - 1024) - 512) - 512) < 512 := by omega
  have n5 : ¬(((((C.val - 1024) - 1024) - 512) - 512) - 512) < 512 := by omega
  have n6 : ¬((((((C.val - 1024) - 1024) - 512) - 512) - 512) - 512) < 1024 := by omega
  have p7 : (((((((C.val - 1024) - 1024) - 512) - 512) - 512) - 512) - 1024) < 1024 := by omega
  pointwise
  all_goals (try simp only [dif_neg n0, dif_neg n1, dif_neg n2, dif_neg n3, dif_neg n4, dif_neg n5, dif_neg n6, dif_pos p7])
  all_goals (have ee : (((((((C.val - 1024) - 1024) - 512) - 512) - 512) - 512) - 1024) = C.val - 5120 := by omega)
  all_goals simp only [ee]
theorem v34_apply (C : Fin 7168) (h : nb (C.val / 512) = true) : V m c main_v34 (ix2 (0 : Fin 1) C) = gn m c C := by
  rw [V_v34]
  unfold gn
  have hc : C.val / 512 = 0 ∨ C.val / 512 = 1 ∨ C.val / 512 = 4 ∨ C.val / 512 = 6 ∨ C.val / 512 = 8 ∨ C.val / 512 = 9 ∨ C.val / 512 = 10 ∨ C.val / 512 = 11 := by
    simpa [nb] using h
  have hm : ∀ (g : Vec Ideal S1x128 .f32) (k : ℕ) (hk : k % 128 = C.val % 128), g (ix2 (0 : Fin 1) ⟨k % 128, by omega⟩) = g (ix2 (0 : Fin 1) ⟨C.val % 128, by omega⟩) := fun g k hk => by
    simp only [hk]
  by_cases h1 : C.val < 1024
  · rw [if_pos h1, cat34_0 _ _ _ _ _ _ _ _ _ C (by omega) (by omega), gs8_apply]
    exact congrArg (· * _) (hm _ (C.val - 0) (by omega))
  rw [if_neg h1]
  by_cases h2 : C.val < 3584
  · rw [if_pos h2]
    by_cases h3 : C.val < 2560
    · rw [cat34_2 _ _ _ _ _ _ _ _ _ C (by omega) (by omega), gp4_apply]
      exact hm _ (C.val - 2048) (by omega)
    · rw [cat34_4 _ _ _ _ _ _ _ _ _ C (by omega) (by omega), gp4_apply]
      exact hm _ (C.val - 3072) (by omega)
  rw [if_neg h2]
  by_cases h3 : C.val < 5120
  · rw [if_pos h3, cat34_6 _ _ _ _ _ _ _ _ _ C (by omega) (by omega), gs8_apply]
    exact congrArg (· * _) (hm _ (C.val - 4096) (by omega))
  · rw [if_neg h3, cat34_7 _ _ _ _ _ _ _ _ _ C (by omega) (by omega), gp8_apply]
    exact hm _ (C.val - 5120) (by omega)

theorem V_v46 : V m c main_v46 = truncf (F := Ideal) .bf16 (shapeCast S512x512 (broadcastInDim S4x128x4x128 ![0, 1, 2, 3] bcast_S4x1x4x1_S4x128x4x128_0_1_2_3 (broadcastInDim S4x1x4x1 ![0, 2] bcast_S4x4_S4x1x4x1_0_2
    (uitofp (F := Ideal) .f32 (cmpi .eq (addi (iotaInDim S4x4 32 0) (broadcastInDim S4x4 ![] bcast_S_S4x4 (constantI S_ 32 0#32))) (iotaInDim S4x4 32 1))))) shapeCasts_S4x128x4x128_S512x512) bitsLt_bf16_f32 := by
  unfold V hostOps0
  after_results_simp <;> rfl

theorem eye_eq : ∀ a b : Fin 4, IntOp.cmpi .eq (BitVec.ofNat 32 a.val + 0#32) (BitVec.ofNat 32 b.val) = if a.val = b.val then 1#1 else 0#1 := by decide

theorem v46_apply (p q : Fin 512) : V m c main_v46 (ix2 p q) = if p.val / 128 = q.val / 128 then (1 : EReal) else 0 := by
  rw [V_v46]
  have e := eye_eq ⟨p.val / 128, by omega⟩ ⟨q.val / 128, by omega⟩
  have e' : FloatOps.uitofp (F := Ideal) FTy.f32 (IntOp.cmpi CmpIPredicate.eq (IntOp.addi (BitVec.ofNat 32 (p.val / 128)) 0#32) (BitVec.ofNat 32 (q.val / 128))) = if p.val / 128 = q.val / 128 then (1 : EReal) else 0 := by
    refine (congrArg (FloatOps.uitofp (F := Ideal) FTy.f32) e).trans ?_
    show (((if p.val / 128 = q.val / 128 then 1#1 else 0#1 : BitVec 1).toNat : ℝ) : EReal) = _
    split <;> simp
  rw [← e']
  pointwise

theorem idx0 (t : Fin cfg0.N) : win0_0.index t = ![t.val, 0] := (by decide +kernel : ∀ t : Fin grid0.N, win0_0.index t = ![t.val, 0]) t
theorem idx1 (t : Fin cfg0.N) : win0_1.index t = ![0, 0] := (by decide +kernel : ∀ t : Fin grid0.N, win0_1.index t = ![0, 0]) t
theorem idx2 (t : Fin cfg0.N) : win0_2.index t = ![0, 0] := (by decide +kernel : ∀ t : Fin grid0.N, win0_2.index t = ![0, 0]) t
theorem idx3 (t : Fin cfg0.N) : win0_3.index t = ![0, 0] := (by decide +kernel : ∀ t : Fin grid0.N, win0_3.index t = ![0, 0]) t
theorem idx4 (t : Fin cfg0.N) : win0_4.index t = ![0, 0] := (by decide +kernel : ∀ t : Fin grid0.N, win0_4.index t = ![0, 0]) t
theorem idx5 (t : Fin cfg0.N) : win0_5.index t = ![t.val, 0] := (by decide +kernel : ∀ t : Fin grid0.N, win0_5.index t = ![t.val, 0]) t
theorem idx6 (t : Fin cfg0.N) : win0_6.index t = ![t.val, 0] := (by decide +kernel : ∀ t : Fin grid0.N, win0_6.index t = ![t.val, 0]) t
theorem idx7 (t : Fin cfg0.N) : win0_7.index t = ![t.val, 0] := (by decide +kernel : ∀ t : Fin grid0.N, win0_7.index t = ![t.val, 0]) t
theorem idx8 (t : Fin cfg0.N) : win0_8.index t = ![0, t.val, 0] := (by decide +kernel : ∀ t : Fin grid0.N, win0_8.index t = ![0, t.val, 0]) t

theorem t_lt (t : Fin cfg0.N) : t.val < 32 := lt_of_lt_of_eq t.isLt N_0

variable (t : Fin cfg0.N)

/-- The row of the array that row `J` of block `t` is. -/
abbrev rowOf (J : Fin 256) : Fin 8192 := ⟨256 * t.val + J.val, by have := t_lt t; omega⟩

theorem X0_apply (J : Fin 256) (l : Fin 2048) : iblk m c 0 t (ix2 J l) = A0 m c (ix2 (rowOf t J) l) := by
  show V m c main_arg0 _ = A0 m c _
  rw [V_main_arg0]
  refine congrArg (A0 m c) (funext fun a => Fin.ext ?_)
  match a with
  | ⟨0, _⟩ => show win0_0.index t 0 * 256 + 1 * J.val = 256 * t.val + J.val; rw [idx0]; show t.val * 256 + 1 * J.val = _; omega
  | ⟨1, _⟩ => show win0_0.index t 1 * 2048 + 1 * l.val = l.val; rw [idx0]; show 0 * 2048 + 1 * l.val = _; omega

theorem X1_apply (l : Fin 2048) : iblk m c 1 t (ix2 (0 : Fin 1) l) = A1 m c (ix2 (0 : Fin 1) l) := by
  rw [← v36_apply]
  refine congrArg (V m c main_v36) (funext fun a => Fin.ext ?_)
  match a with
  | ⟨0, _⟩ => show win0_1.index t 0 * 1 + 1 * 0 = _; rw [idx1]; rfl
  | ⟨1, _⟩ => show win0_1.index t 1 * 2048 + 1 * l.val = l.val; rw [idx1]; show 0 * 2048 + 1 * l.val = _; omega

theorem X2_apply (k : Fin 2048) (d : Fin 7168) : iblk m c 2 t (ix2 k d) = V m c main_v4 (ix2 k d) := by
  refine congrArg (V m c main_v4) (funext fun a => Fin.ext ?_)
  match a with
  | ⟨0, _⟩ => show win0_2.index t 0 * 2048 + 1 * k.val = k.val; rw [idx2]; show 0 * 2048 + 1 * k.val = _; omega
  | ⟨1, _⟩ => show win0_2.index t 1 * 7168 + 1 * d.val = d.val; rw [idx2]; show 0 * 7168 + 1 * d.val = _; omega

theorem X4_apply (k : Fin 512) (d : Fin 512) : iblk m c 4 t (ix2 k d) = V m c main_v46 (ix2 k d) := by
  refine congrArg (V m c main_v46) (funext fun a => Fin.ext ?_)
  match a with
  | ⟨0, _⟩ => show win0_4.index t 0 * 512 + 1 * k.val = k.val; rw [idx4]; show 0 * 512 + 1 * k.val = _; omega
  | ⟨1, _⟩ => show win0_4.index t 1 * 512 + 1 * d.val = d.val; rw [idx4]; show 0 * 512 + 1 * d.val = _; omega

theorem X3_apply (d : Fin 7168) : iblk m c 3 t (ix2 (0 : Fin 1) d) = V m c main_v34 (ix2 (0 : Fin 1) d) := by
  refine congrArg (V m c main_v34) (funext fun a => Fin.ext ?_)
  match a with
  | ⟨0, _⟩ => show win0_3.index t 0 * 1 + 1 * 0 = _; rw [idx3]; rfl
  | ⟨1, _⟩ => show win0_3.index t 1 * 7168 + 1 * d.val = d.val; rw [idx3]; show 0 * 7168 + 1 * d.val = _; omega

/-- A column of the projection of a row, and that column with its head normalised where its tile is. -/
def Dv (r : Fin 8192) (C : Fin 7168) : EReal := ∑ l, nrm (fun k => A0 m c (ix2 r k)) (fun k => A1 m c (ix2 (0 : Fin 1) k)) l * A2 m c (ix3 (0 : Fin 1) l (src C))
def res (r : Fin 8192) (C : Fin 7168) : EReal :=
  if nb (C.val / 512) = true then Dv m c r C * Ideal.rsqrt ((∑ e, Dv m c r (hb C e) * Dv m c r (hb C e)) * Ideal.ofBits FTy.f32 1006632960#32 + Ideal.ofBits FTy.f32 897988541#32) * gn m c C
  else Dv m c r C

theorem dt_eq (J : Fin 256) (C : Fin 7168) : dt (iblk m c 0 t) (iblk m c 1 t) (iblk m c 2 t) J C = Dv m c (rowOf t J) C := by
  unfold dt Dv
  simp only [X0_apply, X1_apply, X2_apply]
  exact Finset.sum_congr rfl fun l _ => congrArg (_ * ·) (v4_apply m c l C)

theorem tv_eq (J : Fin 256) (C : Fin 7168) : tv (iblk m c 0 t) (iblk m c 1 t) (iblk m c 2 t) (iblk m c 3 t) J C = res m c (rowOf t J) C := by
  unfold tv res
  simp only [dt_eq]
  by_cases h : nb (C.val / 512) = true
  · rw [if_pos h, if_pos h, X3_apply, v34_apply m c C h]
  · rw [if_neg h, if_neg h]

theorem ones_blk (p q : Fin 512) : iblk m c 4 t (ix2 p q) = if p.val / 128 = q.val / 128 then (1 : EReal) else 0 := by
  rw [X4_apply, v46_apply]

/-- What a row array ends holding. -/
def G5 : Buf (Elt Ideal) ((c : Thread nD τ).loc main_v47_0) := fun (i : S131072x128.Idx) => res m c ⟨(i 0).val / 16, by have h : (i 0).val < 131072 := (i 0).isLt; omega⟩
  ⟨1024 + 128 * ((i 0).val % 16) + (i 1).val, by have h : (i 1).val < 128 := (i 1).isLt; omega⟩

theorem flushed_eq5 : (dats m 0 c).flushed 5 t = ((cfg0.win 5).blk t).view.read (Elt Ideal) (G5 m c) := by
  have ht := t_lt t
  show (cfg0.win 5).cut (grid0.coords t) ((dats m 0 c).after 5 t) = _
  rw [after0_5]
  funext y
  obtain ⟨J, d, rfl⟩ : ∃ (J : Fin 4096) (d : Fin 128), y = ix2 J d := ⟨y 0, y 1, eq_ix2 y⟩
  have hb0 : (((cfg0.win 5).blk t).view.emb (ix2 J d) 0).val = 4096 * t.val + J.val := by
    show win0_5.index t (0 : Fin 2) * 4096 + 1 * J.val = 4096 * t.val + J.val
    rw [idx5]; show t.val * 4096 + 1 * J.val = _; omega
  have hb1 : (((cfg0.win 5).blk t).view.emb (ix2 J d) 1).val = d.val := by
    show win0_5.index t (1 : Fin 2) * 128 + 1 * d.val = d.val
    rw [idx5]; show 0 * 128 + 1 * d.val = _; omega
  refine Eq.trans (b := out0_5 (iblk m c 0 t) (iblk m c 1 t) (iblk m c 2 t) (iblk m c 3 t) (iblk m c 4 t) (ix2 J d)) rfl ?_
  rw [out5_apply _ _ _ _ _ (ones_blk m c t)]
  unfold B5
  rw [tv_eq]
  refine congrArg₂ (res m c) (Fin.ext ?_) (Fin.ext ?_)
  · show 256 * t.val + J.val / 16 = (((cfg0.win 5).blk t).view.emb (ix2 J d) 0).val / 16
    rw [hb0]; omega
  · show 1024 + 128 * (J.val % 16) + d.val = 1024 + 128 * ((((cfg0.win 5).blk t).view.emb (ix2 J d) 0).val % 16) + (((cfg0.win 5).blk t).view.emb (ix2 J d) 1).val
    rw [hb0, hb1]; omega

theorem mem_blk5 (i : S131072x128.Idx) :
    i ∈ ((cfg0.win 5).blk t).view.set ↔ ∀ a : Fin 2, win0_5.index t a * S4096x128.size a ≤ (i a).val ∧ (i a).val < win0_5.index t a * S4096x128.size a + S4096x128.size a := by
  show i ∈ ((View.whole main_v47_0).slice (win0_5.rect t)).set ↔ _
  rw [View.set_slice_whole, Rect.mem_set_unit]
  exact Iff.rfl

theorem final5 : (dats m 0 c).arrAt 5 cfg0.N = G5 m c :=
  (dats m 0 c).arrAt_eq_of_cover 5 _ (fun t _ => flushed_eq5 m c t) (fun (i : S131072x128.Idx) => by
    have h0 : (i 0).val < 131072 := (i 0).isLt
    have h1 : (i 1).val < 128 := (i 1).isLt
    let t : Fin cfg0.N := ⟨(i 0).val / 4096, lt_of_lt_of_eq (by omega) N_0.symm⟩
    have htv : t.val = (i 0).val / 4096 := rfl
    refine ⟨t, flush0_5 t, ?_⟩
    rw [mem_blk5, idx5]
    intro a
    match a with
    | ⟨0, _⟩ => show t.val * 4096 ≤ (i 0).val ∧ (i 0).val < t.val * 4096 + 4096; rw [htv]; omega
    | ⟨1, _⟩ => show 0 * 128 ≤ (i 1).val ∧ (i 1).val < 0 * 128 + 128; omega)

/-- What a row array ends holding. -/
def G6 : Buf (Elt Ideal) ((c : Thread nD τ).loc main_v47_1) := fun (i : S65536x128.Idx) => res m c ⟨(i 0).val / 8, by have h : (i 0).val < 65536 := (i 0).isLt; omega⟩
  ⟨3072 + 128 * ((i 0).val % 8) + (i 1).val, by have h : (i 1).val < 128 := (i 1).isLt; omega⟩

theorem flushed_eq6 : (dats m 0 c).flushed 6 t = ((cfg0.win 6).blk t).view.read (Elt Ideal) (G6 m c) := by
  have ht := t_lt t
  show (cfg0.win 6).cut (grid0.coords t) ((dats m 0 c).after 6 t) = _
  rw [after0_6]
  funext y
  obtain ⟨J, d, rfl⟩ : ∃ (J : Fin 2048) (d : Fin 128), y = ix2 J d := ⟨y 0, y 1, eq_ix2 y⟩
  have hb0 : (((cfg0.win 6).blk t).view.emb (ix2 J d) 0).val = 2048 * t.val + J.val := by
    show win0_6.index t (0 : Fin 2) * 2048 + 1 * J.val = 2048 * t.val + J.val
    rw [idx6]; show t.val * 2048 + 1 * J.val = _; omega
  have hb1 : (((cfg0.win 6).blk t).view.emb (ix2 J d) 1).val = d.val := by
    show win0_6.index t (1 : Fin 2) * 128 + 1 * d.val = d.val
    rw [idx6]; show 0 * 128 + 1 * d.val = _; omega
  refine Eq.trans (b := out0_6 (iblk m c 0 t) (iblk m c 1 t) (iblk m c 2 t) (iblk m c 3 t) (iblk m c 4 t) (ix2 J d)) rfl ?_
  rw [out6_apply _ _ _ _ _ (ones_blk m c t)]
  unfold B6
  rw [tv_eq]
  refine congrArg₂ (res m c) (Fin.ext ?_) (Fin.ext ?_)
  · show 256 * t.val + J.val / 8 = (((cfg0.win 6).blk t).view.emb (ix2 J d) 0).val / 8
    rw [hb0]; omega
  · show 3072 + 128 * (J.val % 8) + d.val = 3072 + 128 * ((((cfg0.win 6).blk t).view.emb (ix2 J d) 0).val % 8) + (((cfg0.win 6).blk t).view.emb (ix2 J d) 1).val
    rw [hb0, hb1]; omega

theorem mem_blk6 (i : S65536x128.Idx) :
    i ∈ ((cfg0.win 6).blk t).view.set ↔ ∀ a : Fin 2, win0_6.index t a * S2048x128.size a ≤ (i a).val ∧ (i a).val < win0_6.index t a * S2048x128.size a + S2048x128.size a := by
  show i ∈ ((View.whole main_v47_1).slice (win0_6.rect t)).set ↔ _
  rw [View.set_slice_whole, Rect.mem_set_unit]
  exact Iff.rfl

theorem final6 : (dats m 0 c).arrAt 6 cfg0.N = G6 m c :=
  (dats m 0 c).arrAt_eq_of_cover 6 _ (fun t _ => flushed_eq6 m c t) (fun (i : S65536x128.Idx) => by
    have h0 : (i 0).val < 65536 := (i 0).isLt
    have h1 : (i 1).val < 128 := (i 1).isLt
    let t : Fin cfg0.N := ⟨(i 0).val / 2048, lt_of_lt_of_eq (by omega) N_0.symm⟩
    have htv : t.val = (i 0).val / 2048 := rfl
    refine ⟨t, flush0_6 t, ?_⟩
    rw [mem_blk6, idx6]
    intro a
    match a with
    | ⟨0, _⟩ => show t.val * 2048 ≤ (i 0).val ∧ (i 0).val < t.val * 2048 + 2048; rw [htv]; omega
    | ⟨1, _⟩ => show 0 * 128 ≤ (i 1).val ∧ (i 1).val < 0 * 128 + 128; omega)

/-- What a row array ends holding. -/
def G7 : Buf (Elt Ideal) ((c : Thread nD τ).loc main_v47_2) := fun (i : S131072x128.Idx) => res m c ⟨(i 0).val / 16, by have h : (i 0).val < 131072 := (i 0).isLt; omega⟩
  ⟨5120 + 128 * ((i 0).val % 16) + (i 1).val, by have h : (i 1).val < 128 := (i 1).isLt; omega⟩

theorem flushed_eq7 : (dats m 0 c).flushed 7 t = ((cfg0.win 7).blk t).view.read (Elt Ideal) (G7 m c) := by
  have ht := t_lt t
  show (cfg0.win 7).cut (grid0.coords t) ((dats m 0 c).after 7 t) = _
  rw [after0_7]
  funext y
  obtain ⟨J, d, rfl⟩ : ∃ (J : Fin 4096) (d : Fin 128), y = ix2 J d := ⟨y 0, y 1, eq_ix2 y⟩
  have hb0 : (((cfg0.win 7).blk t).view.emb (ix2 J d) 0).val = 4096 * t.val + J.val := by
    show win0_7.index t (0 : Fin 2) * 4096 + 1 * J.val = 4096 * t.val + J.val
    rw [idx7]; show t.val * 4096 + 1 * J.val = _; omega
  have hb1 : (((cfg0.win 7).blk t).view.emb (ix2 J d) 1).val = d.val := by
    show win0_7.index t (1 : Fin 2) * 128 + 1 * d.val = d.val
    rw [idx7]; show 0 * 128 + 1 * d.val = _; omega
  refine Eq.trans (b := out0_7 (iblk m c 0 t) (iblk m c 1 t) (iblk m c 2 t) (iblk m c 3 t) (iblk m c 4 t) (ix2 J d)) rfl ?_
  rw [out7_apply _ _ _ _ _ (ones_blk m c t)]
  unfold B7
  rw [tv_eq]
  refine congrArg₂ (res m c) (Fin.ext ?_) (Fin.ext ?_)
  · show 256 * t.val + J.val / 16 = (((cfg0.win 7).blk t).view.emb (ix2 J d) 0).val / 16
    rw [hb0]; omega
  · show 5120 + 128 * (J.val % 16) + d.val = 5120 + 128 * ((((cfg0.win 7).blk t).view.emb (ix2 J d) 0).val % 16) + (((cfg0.win 7).blk t).view.emb (ix2 J d) 1).val
    rw [hb0, hb1]; omega

theorem mem_blk7 (i : S131072x128.Idx) :
    i ∈ ((cfg0.win 7).blk t).view.set ↔ ∀ a : Fin 2, win0_7.index t a * S4096x128.size a ≤ (i a).val ∧ (i a).val < win0_7.index t a * S4096x128.size a + S4096x128.size a := by
  show i ∈ ((View.whole main_v47_2).slice (win0_7.rect t)).set ↔ _
  rw [View.set_slice_whole, Rect.mem_set_unit]
  exact Iff.rfl

theorem final7 : (dats m 0 c).arrAt 7 cfg0.N = G7 m c :=
  (dats m 0 c).arrAt_eq_of_cover 7 _ (fun t _ => flushed_eq7 m c t) (fun (i : S131072x128.Idx) => by
    have h0 : (i 0).val < 131072 := (i 0).isLt
    have h1 : (i 1).val < 128 := (i 1).isLt
    let t : Fin cfg0.N := ⟨(i 0).val / 4096, lt_of_lt_of_eq (by omega) N_0.symm⟩
    have htv : t.val = (i 0).val / 4096 := rfl
    refine ⟨t, flush0_7 t, ?_⟩
    rw [mem_blk7, idx7]
    intro a
    match a with
    | ⟨0, _⟩ => show t.val * 4096 ≤ (i 0).val ∧ (i 0).val < t.val * 4096 + 4096; rw [htv]; omega
    | ⟨1, _⟩ => show 0 * 128 ≤ (i 1).val ∧ (i 1).val < 0 * 128 + 128; omega)

/-- What the head-major array ends holding. -/
def G8 : Buf (Elt Ideal) ((c : Thread nD τ).loc main_v47_3) := fun (i : S56x8192x128.Idx) => res m c (i 1)
  ⟨128 * (i 0).val + (i 2).val, by have h : (i 0).val < 56 := (i 0).isLt; have h : (i 2).val < 128 := (i 2).isLt; omega⟩

theorem flushed_eq8 : (dats m 0 c).flushed 8 t = ((cfg0.win 8).blk t).view.read (Elt Ideal) (G8 m c) := by
  have ht := t_lt t
  show (cfg0.win 8).cut (grid0.coords t) ((dats m 0 c).after 8 t) = _
  rw [after0_8]
  funext y
  obtain ⟨H, J, d, rfl⟩ : ∃ (H : Fin 56) (J : Fin 256) (d : Fin 128), y = ix3 H J d := ⟨y 0, y 1, y 2, eq_ix3 y⟩
  have hb0 : (((cfg0.win 8).blk t).view.emb (ix3 H J d) 0).val = H.val := by
    show win0_8.index t (0 : Fin 3) * 56 + 1 * H.val = H.val
    rw [idx8]; show 0 * 56 + 1 * H.val = _; omega
  have hb1 : (((cfg0.win 8).blk t).view.emb (ix3 H J d) 1).val = 256 * t.val + J.val := by
    show win0_8.index t (1 : Fin 3) * 256 + 1 * J.val = 256 * t.val + J.val
    rw [idx8]; show t.val * 256 + 1 * J.val = _; omega
  have hb2 : (((cfg0.win 8).blk t).view.emb (ix3 H J d) 2).val = d.val := by
    show win0_8.index t (2 : Fin 3) * 128 + 1 * d.val = d.val
    rw [idx8]; show 0 * 128 + 1 * d.val = _; omega
  refine Eq.trans (b := out0_8 (iblk m c 0 t) (iblk m c 1 t) (iblk m c 2 t) (iblk m c 3 t) (iblk m c 4 t) (ix3 H J d)) rfl ?_
  rw [out8_apply _ _ _ _ _ (ones_blk m c t)]
  unfold B8
  refine (tv_eq m c t J _).trans ?_
  refine congrArg₂ (res m c) (Fin.ext ?_) (Fin.ext ?_)
  · show 256 * t.val + J.val = (((cfg0.win 8).blk t).view.emb (ix3 H J d) 1).val
    rw [hb1]
  · show 128 * H.val + d.val = 128 * (((cfg0.win 8).blk t).view.emb (ix3 H J d) 0).val + (((cfg0.win 8).blk t).view.emb (ix3 H J d) 2).val
    rw [hb0, hb2]

theorem mem_blk8 (i : S56x8192x128.Idx) :
    i ∈ ((cfg0.win 8).blk t).view.set ↔ ∀ a : Fin 3, win0_8.index t a * S56x256x128.size a ≤ (i a).val ∧ (i a).val < win0_8.index t a * S56x256x128.size a + S56x256x128.size a := by
  show i ∈ ((View.whole main_v47_3).slice (win0_8.rect t)).set ↔ _
  rw [View.set_slice_whole, Rect.mem_set_unit]
  exact Iff.rfl

theorem final8 : (dats m 0 c).arrAt 8 cfg0.N = G8 m c :=
  (dats m 0 c).arrAt_eq_of_cover 8 _ (fun t _ => flushed_eq8 m c t) (fun (i : S56x8192x128.Idx) => by
    have h0 : (i 0).val < 56 := (i 0).isLt
    have h1 : (i 1).val < 8192 := (i 1).isLt
    have h2 : (i 2).val < 128 := (i 2).isLt
    let t : Fin cfg0.N := ⟨(i 1).val / 256, lt_of_lt_of_eq (by omega) N_0.symm⟩
    have htv : t.val = (i 1).val / 256 := rfl
    refine ⟨t, flush0_8 t, ?_⟩
    rw [mem_blk8, idx8]
    intro a
    match a with
    | ⟨0, _⟩ => show 0 * 56 ≤ (i 0).val ∧ (i 0).val < 0 * 56 + 56; omega
    | ⟨1, _⟩ => show t.val * 256 ≤ (i 1).val ∧ (i 1).val < t.val * 256 + 256; rw [htv]; omega
    | ⟨2, _⟩ => show 0 * 128 ≤ (i 2).val ∧ (i 2).val < 0 * 128 + 128; omega)

/-- Every execution ends with the rows and the heads in the result arrays and the arguments unchanged. -/
theorem run (ρ : Dev nD → PrngReg) : θ_run defs (onTc (τ := τ) (main (F := Ideal))) ⟨m, fun _ => 0, ρ⟩ fun r => ∀ c : Dev nD,
      r.2.mem ((c : Thread nD τ).loc main_v47_0) = G5 m c
      ∧ r.2.mem ((c : Thread nD τ).loc main_v47_1) = G6 m c
      ∧ r.2.mem ((c : Thread nD τ).loc main_v47_2) = G7 m c
      ∧ r.2.mem ((c : Thread nD τ).loc main_v47_3) = G8 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨((h c).1 5).trans (final5 m c), ((h c).1 6).trans (final6 m c), ((h c).1 7).trans (final7 m c), ((h c).1 8).trans (final8 m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) (run_main m ρ)

end Cert.InprojIdeal.Val

end
-- ==== Proof.InprojValue.lean ====
module

public import proofs.«01_k».proof.Defs
public import proofs.«01_k».proof.Proof.InprojKernel
public import proofs.«01_k».proof.Proof.Gen.InprojReferenceIdeal.Read
public import proofs.«01_k».proof.Proof.Gen.InprojReferenceIdeal.Run

@[expose] public section

noncomputable section

/-! The reference's input projection, element by element, and the kernel's equality with it. -/
namespace Cert.InprojValue

open Idealize.ShloMosaic Idealize.ShloMosaic.TcCoe Idealize.ShloMosaic.Tactic Idealize.SL.Sem Cert.InprojReferenceIdeal Cert.InprojReferenceIdeal.Read
open Cert.InprojIdeal.Val (nrm res Dv hb nb gn src)

/-- Dividing by 128 is multiplying by 1/128. -/
theorem div_128 (x : EReal) : Ideal.div x (Ideal.ofBits FTy.f32 1124073472#32) = x * Ideal.ofBits FTy.f32 1006632960#32 := by
  have h1 : Ideal.ofBits FTy.f32 1124073472#32 = ((128 : ℝ) : EReal) := by
    simp [Ideal.ofBits, Ideal.ieee, -EReal.coe_mul]; norm_num
  have h2 : Ideal.ofBits FTy.f32 1006632960#32 = ((128⁻¹ : ℝ) : EReal) := by
    simp [Ideal.ofBits, Ideal.ieee, -EReal.coe_mul]; norm_num
  rw [h1, h2]
  unfold Ideal.div
  rw [if_neg (by exact_mod_cast (by norm_num : (128 : ℝ) ≠ 0)), EReal.coe_inv]

/-- One head's element normalised by the head's root mean square. -/
def hn (f : Fin 128 → EReal) (d : Fin 128) : EReal := f d * Ideal.rsqrt (Ideal.div (∑ e, f e * f e) (Ideal.ofBits FTy.f32 1124073472#32) + Ideal.ofBits FTy.f32 897988541#32)

section Reference

variable (x0 : Vec Ideal Cert.InprojReferenceIdeal.S8192x2048 .f32) (x1 : Vec Ideal Cert.InprojReferenceIdeal.S1x2048 .f32)
  (x2 : Vec Ideal Cert.InprojReferenceIdeal.S1x2048x7200 .f32) (x3 x4 x5 x6 : Vec Ideal Cert.InprojReferenceIdeal.S1x128 .f32)

theorem v13_eq (r : Fin 8192) (l : Fin 2048) : val_main_v13 (F := Ideal) x0 x1 (ix2 r l) = nrm (fun k => x0 (ix2 r k)) (fun k => x1 (ix2 (0 : Fin 1) k)) l := by
  unfold nrm
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]

theorem v15_eq (r : Fin 8192) (C : Fin 7200) : val_main_v15 (F := Ideal) x0 x1 x2 (ix2 r C) = ∑ l, nrm (fun k => x0 (ix2 r k)) (fun k => x1 (ix2 (0 : Fin 1) k)) l * x2 (ix3 (0 : Fin 1) l C) := by
  simp only [← v13_eq]
  pointwise [val_main_v15, val_main_v14]

theorem v17_eq (r : Fin 8192) (h : Fin 8) (d : Fin 128) : val_main_v17 (F := Ideal) x0 x1 x2 (ix3 r h d) = val_main_v15 x0 x1 x2 (ix2 r ⟨h.val * 128 + d.val, by omega⟩) := by
  pointwise [val_main_v17, val_main_v16]
theorem v33_eq (r : Fin 8192) (b : Fin 6) (h : Fin 4) (d : Fin 128) : val_main_v33 (F := Ideal) x0 x1 x2 (ix4 r b h d) = val_main_v15 x0 x1 x2 (ix2 r ⟨1024 + (b.val * 512 + h.val * 128 + d.val), by omega⟩) := by
  pointwise [val_main_v33, val_main_v32]
theorem v83_eq (r : Fin 8192) (b : Fin 3) (h : Fin 8) (d : Fin 128) : val_main_v83 (F := Ideal) x0 x1 x2 (ix4 r b h d) = val_main_v15 x0 x1 x2 (ix2 r ⟨4120 + (b.val * 1024 + h.val * 128 + d.val), by omega⟩) := by
  pointwise [val_main_v83, val_main_v82]

theorem v35_eq (r : Fin 8192) (h : Fin 4) (d : Fin 128) : val_main_v35 (F := Ideal) x0 x1 x2 (ix3 r h d) = val_main_v33 x0 x1 x2 (ix4 r 0 h d) := by
  pointwise [val_main_v35, val_main_v34]
theorem v37_eq (r : Fin 8192) (h : Fin 4) (d : Fin 128) : val_main_v37 (F := Ideal) x0 x1 x2 (ix3 r h d) = val_main_v33 x0 x1 x2 (ix4 r 1 h d) := by
  pointwise [val_main_v37, val_main_v36]
theorem v39_eq (r : Fin 8192) (h : Fin 4) (d : Fin 128) : val_main_v39 (F := Ideal) x0 x1 x2 (ix3 r h d) = val_main_v33 x0 x1 x2 (ix4 r 2 h d) := by
  pointwise [val_main_v39, val_main_v38]
theorem v55_eq (r : Fin 8192) (h : Fin 4) (d : Fin 128) : val_main_v55 (F := Ideal) x0 x1 x2 (ix3 r h d) = val_main_v33 x0 x1 x2 (ix4 r 3 h d) := by
  pointwise [val_main_v55, val_main_v54]
theorem v62_eq (r : Fin 8192) (h : Fin 4) (d : Fin 128) : val_main_v62 (F := Ideal) x0 x1 x2 (ix3 r h d) = val_main_v33 x0 x1 x2 (ix4 r 4 h d) := by
  pointwise [val_main_v62, val_main_v61]
theorem v78_eq (r : Fin 8192) (h : Fin 4) (d : Fin 128) : val_main_v78 (F := Ideal) x0 x1 x2 (ix3 r h d) = val_main_v33 x0 x1 x2 (ix4 r 5 h d) := by
  pointwise [val_main_v78, val_main_v77]
theorem v85_eq (r : Fin 8192) (h : Fin 8) (d : Fin 128) : val_main_v85 (F := Ideal) x0 x1 x2 (ix3 r h d) = val_main_v83 x0 x1 x2 (ix4 r 0 h d) := by
  pointwise [val_main_v85, val_main_v84]
theorem v101_eq (r : Fin 8192) (h : Fin 8) (d : Fin 128) : val_main_v101 (F := Ideal) x0 x1 x2 (ix3 r h d) = val_main_v83 x0 x1 x2 (ix4 r 1 h d) := by
  pointwise [val_main_v101, val_main_v100]
theorem v117_eq (r : Fin 8192) (h : Fin 8) (d : Fin 128) : val_main_v117 (F := Ideal) x0 x1 x2 (ix3 r h d) = val_main_v83 x0 x1 x2 (ix4 r 2 h d) := by
  pointwise [val_main_v117, val_main_v116]
theorem v31_eq (r : Fin 8192) (h : Fin 8) (d : Fin 128) : val_main_v31 (F := Ideal) x0 x1 x2 x3 (ix3 r h d) = hn (fun e => val_main_v17 (F := Ideal) x0 x1 x2 (ix3 r h e)) d * x3 (ix2 (0 : Fin 1) d) := by
  unfold hn
  pointwise [val_main_v31, val_main_v30, val_main_v29, val_main_v28, val_main_v27, val_main_v26, val_main_v25, val_main_v24, val_main_v23, val_main_v22, val_main_v21, val_main_v20, val_main_v19, val_main_v18, val_main_cst_2, val_main_cst_3, val_main_cst_4]
theorem v53_eq (r : Fin 8192) (h : Fin 4) (d : Fin 128) : val_main_v53 (F := Ideal) x0 x1 x2 x4 (ix3 r h d) = hn (fun e => val_main_v39 (F := Ideal) x0 x1 x2 (ix3 r h e)) d * x4 (ix2 (0 : Fin 1) d) := by
  unfold hn
  pointwise [val_main_v53, val_main_v52, val_main_v51, val_main_v50, val_main_v49, val_main_v48, val_main_v47, val_main_v46, val_main_v45, val_main_v44, val_main_v43, val_main_v42, val_main_v41, val_main_v40, val_main_cst_5, val_main_cst_6, val_main_cst_7]
theorem v76_eq (r : Fin 8192) (h : Fin 4) (d : Fin 128) : val_main_v76 (F := Ideal) x0 x1 x2 x4 (ix3 r h d) = hn (fun e => val_main_v62 (F := Ideal) x0 x1 x2 (ix3 r h e)) d * x4 (ix2 (0 : Fin 1) d) := by
  unfold hn
  pointwise [val_main_v76, val_main_v75, val_main_v74, val_main_v73, val_main_v72, val_main_v71, val_main_v70, val_main_v69, val_main_v68, val_main_v67, val_main_v66, val_main_v65, val_main_v64, val_main_v63, val_main_cst_8, val_main_cst_9, val_main_cst_10]
theorem v99_eq (r : Fin 8192) (h : Fin 8) (d : Fin 128) : val_main_v99 (F := Ideal) x0 x1 x2 x5 (ix3 r h d) = hn (fun e => val_main_v85 (F := Ideal) x0 x1 x2 (ix3 r h e)) d * x5 (ix2 (0 : Fin 1) d) := by
  unfold hn
  pointwise [val_main_v99, val_main_v98, val_main_v97, val_main_v96, val_main_v95, val_main_v94, val_main_v93, val_main_v92, val_main_v91, val_main_v90, val_main_v89, val_main_v88, val_main_v87, val_main_v86, val_main_cst_11, val_main_cst_12, val_main_cst_13]
theorem v115_eq (r : Fin 8192) (h : Fin 8) (d : Fin 128) : val_main_v115 (F := Ideal) x0 x1 x2 x6 (ix3 r h d) = hn (fun e => val_main_v101 (F := Ideal) x0 x1 x2 (ix3 r h e)) d * x6 (ix2 (0 : Fin 1) d) := by
  unfold hn
  pointwise [val_main_v115, val_main_v114, val_main_v113, val_main_v112, val_main_v111, val_main_v110, val_main_v109, val_main_v108, val_main_v107, val_main_v106, val_main_v105, val_main_v104, val_main_v103, val_main_v102, val_main_cst_14, val_main_cst_15, val_main_cst_16]
theorem v60_0 (r : Fin 8192) (h : Fin 4) (d : Fin 128) : val_main_v60 (F := Ideal) x0 x1 x2 x4 (ix4 r 0 h d) = val_main_v35 (F := Ideal) x0 x1 x2 (ix3 r h d) := by
  pointwise [val_main_v60, val_main_v56]
theorem v60_1 (r : Fin 8192) (h : Fin 4) (d : Fin 128) : val_main_v60 (F := Ideal) x0 x1 x2 x4 (ix4 r 1 h d) = val_main_v37 (F := Ideal) x0 x1 x2 (ix3 r h d) := by
  pointwise [val_main_v60, val_main_v57]
theorem v60_2 (r : Fin 8192) (h : Fin 4) (d : Fin 128) : val_main_v60 (F := Ideal) x0 x1 x2 x4 (ix4 r 2 h d) = val_main_v53 (F := Ideal) x0 x1 x2 x4 (ix3 r h d) := by
  pointwise [val_main_v60, val_main_v58]
theorem v60_3 (r : Fin 8192) (h : Fin 4) (d : Fin 128) : val_main_v60 (F := Ideal) x0 x1 x2 x4 (ix4 r 3 h d) = val_main_v55 (F := Ideal) x0 x1 x2 (ix3 r h d) := by
  pointwise [val_main_v60, val_main_v59]
theorem v81_0 (r : Fin 8192) (h : Fin 4) (d : Fin 128) : val_main_v81 (F := Ideal) x0 x1 x2 x4 (ix4 r 0 h d) = val_main_v76 (F := Ideal) x0 x1 x2 x4 (ix3 r h d) := by
  pointwise [val_main_v81, val_main_v79]
theorem v81_1 (r : Fin 8192) (h : Fin 4) (d : Fin 128) : val_main_v81 (F := Ideal) x0 x1 x2 x4 (ix4 r 1 h d) = val_main_v78 (F := Ideal) x0 x1 x2 (ix3 r h d) := by
  pointwise [val_main_v81, val_main_v80]
theorem v120_0 (r : Fin 8192) (h : Fin 8) (d : Fin 128) : val_main_v120 (F := Ideal) x0 x1 x2 x6 (ix4 r 0 h d) = val_main_v115 (F := Ideal) x0 x1 x2 x6 (ix3 r h d) := by
  pointwise [val_main_v120, val_main_v118]
theorem v120_1 (r : Fin 8192) (h : Fin 8) (d : Fin 128) : val_main_v120 (F := Ideal) x0 x1 x2 x6 (ix4 r 1 h d) = val_main_v117 (F := Ideal) x0 x1 x2 (ix3 r h d) := by
  pointwise [val_main_v120, val_main_v119]
theorem v129_eq (i : Fin 131072) (d : Fin 128) : val_main_v129 (F := Ideal) x0 x1 x2 x4 (ix2 i d) = val_main_v60 x0 x1 x2 x4 (ix4 ⟨i.val / 16, by omega⟩ ⟨i.val / 4 % 4, by omega⟩ ⟨i.val % 4, by omega⟩ d) := by
  pointwise [val_main_v129]
theorem v130_eq (i : Fin 65536) (d : Fin 128) : val_main_v130 (F := Ideal) x0 x1 x2 x4 (ix2 i d) = val_main_v81 x0 x1 x2 x4 (ix4 ⟨i.val / 8, by omega⟩ ⟨i.val / 4 % 2, by omega⟩ ⟨i.val % 4, by omega⟩ d) := by
  pointwise [val_main_v130]
theorem v131_eq (i : Fin 131072) (d : Fin 128) : val_main_v131 (F := Ideal) x0 x1 x2 x6 (ix2 i d) = val_main_v120 x0 x1 x2 x6 (ix4 ⟨i.val / 16, by omega⟩ ⟨i.val / 8 % 2, by omega⟩ ⟨i.val % 8, by omega⟩ d) := by
  pointwise [val_main_v131]
theorem v123_eq (r : Fin 8192) (h : Fin 16) (d : Fin 128) : val_main_v123 (F := Ideal) x0 x1 x2 x4 (ix3 r h d) = val_main_v60 x0 x1 x2 x4 (ix4 r ⟨h.val / 4, by omega⟩ ⟨h.val % 4, by omega⟩ d) := by
  pointwise [val_main_v123]
theorem v124_eq (r : Fin 8192) (h : Fin 8) (d : Fin 128) : val_main_v124 (F := Ideal) x0 x1 x2 x4 (ix3 r h d) = val_main_v81 x0 x1 x2 x4 (ix4 r ⟨h.val / 4, by omega⟩ ⟨h.val % 4, by omega⟩ d) := by
  pointwise [val_main_v124]
theorem v127_eq (r : Fin 8192) (h : Fin 16) (d : Fin 128) : val_main_v127 (F := Ideal) x0 x1 x2 x6 (ix3 r h d) = val_main_v120 x0 x1 x2 x6 (ix4 r ⟨h.val / 8, by omega⟩ ⟨h.val % 8, by omega⟩ d) := by
  pointwise [val_main_v127]
theorem v122_eq (r : Fin 8192) (h : Fin 8) (d : Fin 128) : val_main_v122 (F := Ideal) x0 x1 x2 x3 (ix3 r h d) = val_main_v31 x0 x1 x2 x3 (ix3 r h d) * Ideal.ofBits FTy.f32 0x3DB504F3#32 := by
  pointwise [val_main_v122, val_main_v121, val_main_cst_17]
theorem v126_eq (r : Fin 8192) (h : Fin 8) (d : Fin 128) : val_main_v126 (F := Ideal) x0 x1 x2 x5 (ix3 r h d) = val_main_v99 x0 x1 x2 x5 (ix3 r h d) * Ideal.ofBits FTy.f32 0x3DB504F3#32 := by
  pointwise [val_main_v126, val_main_v125, val_main_cst_18]
theorem v133_eq (H : Fin 56) (r : Fin 8192) (d : Fin 128) : val_main_v133 (F := Ideal) x0 x1 x2 x3 x4 x5 x6 (ix3 H r d) = val_main_v128 x0 x1 x2 x3 x4 x5 x6 (ix3 r H d) := by
  pointwise [val_main_v133, val_main_v132]
theorem v128_0 (r : Fin 8192) (H : Fin 56) (d : Fin 128) (h1 : 0 ≤ H.val) (h2 : H.val < 8) :
    val_main_v128 (F := Ideal) x0 x1 x2 x3 x4 x5 x6 (ix3 r H d) = val_main_v122 (F := Ideal) x0 x1 x2 x3 (ix3 r ⟨H.val - 0, by omega⟩ d) := by
  have p0 : H.val < 8 := by omega
  pointwise [val_main_v128]
  all_goals (try simp only [dif_pos p0])
  all_goals (have ee : H.val = H.val - 0 := by omega)
  all_goals simp only [ee]
theorem v128_1 (r : Fin 8192) (H : Fin 56) (d : Fin 128) (h1 : 8 ≤ H.val) (h2 : H.val < 24) :
    val_main_v128 (F := Ideal) x0 x1 x2 x3 x4 x5 x6 (ix3 r H d) = val_main_v123 (F := Ideal) x0 x1 x2 x4 (ix3 r ⟨H.val - 8, by omega⟩ d) := by
  have n0 : ¬H.val < 8 := by omega
  have p1 : (H.val - 8) < 16 := by omega
  pointwise [val_main_v128]
  all_goals (try simp only [dif_neg n0, dif_pos p1])
  all_goals (have ee : (H.val - 8) = H.val - 8 := by omega)
  all_goals simp only [ee]
theorem v128_2 (r : Fin 8192) (H : Fin 56) (d : Fin 128) (h1 : 24 ≤ H.val) (h2 : H.val < 32) :
    val_main_v128 (F := Ideal) x0 x1 x2 x3 x4 x5 x6 (ix3 r H d) = val_main_v124 (F := Ideal) x0 x1 x2 x4 (ix3 r ⟨H.val - 24, by omega⟩ d) := by
  have n0 : ¬H.val < 8 := by omega
  have n1 : ¬(H.val - 8) < 16 := by omega
  have p2 : ((H.val - 8) - 16) < 8 := by omega
  pointwise [val_main_v128]
  all_goals (try simp only [dif_neg n0, dif_neg n1, dif_pos p2])
  all_goals (have ee : ((H.val - 8) - 16) = H.val - 24 := by omega)
  all_goals simp only [ee]
theorem v128_3 (r : Fin 8192) (H : Fin 56) (d : Fin 128) (h1 : 32 ≤ H.val) (h2 : H.val < 40) :
    val_main_v128 (F := Ideal) x0 x1 x2 x3 x4 x5 x6 (ix3 r H d) = val_main_v126 (F := Ideal) x0 x1 x2 x5 (ix3 r ⟨H.val - 32, by omega⟩ d) := by
  have n0 : ¬H.val < 8 := by omega
  have n1 : ¬(H.val - 8) < 16 := by omega
  have n2 : ¬((H.val - 8) - 16) < 8 := by omega
  have p3 : (((H.val - 8) - 16) - 8) < 8 := by omega
  pointwise [val_main_v128]
  all_goals (try simp only [dif_neg n0, dif_neg n1, dif_neg n2, dif_pos p3])
  all_goals (have ee : (((H.val - 8) - 16) - 8) = H.val - 32 := by omega)
  all_goals simp only [ee]
theorem v128_4 (r : Fin 8192) (H : Fin 56) (d : Fin 128) (h1 : 40 ≤ H.val) (h2 : H.val < 56) :
    val_main_v128 (F := Ideal) x0 x1 x2 x3 x4 x5 x6 (ix3 r H d) = val_main_v127 (F := Ideal) x0 x1 x2 x6 (ix3 r ⟨H.val - 40, by omega⟩ d) := by
  have n0 : ¬H.val < 8 := by omega
  have n1 : ¬(H.val - 8) < 16 := by omega
  have n2 : ¬((H.val - 8) - 16) < 8 := by omega
  have n3 : ¬(((H.val - 8) - 16) - 8) < 8 := by omega
  have p4 : ((((H.val - 8) - 16) - 8) - 8) < 16 := by omega
  pointwise [val_main_v128]
  all_goals (try simp only [dif_neg n0, dif_neg n1, dif_neg n2, dif_neg n3, dif_pos p4])
  all_goals (have ee : ((((H.val - 8) - 16) - 8) - 8) = H.val - 40 := by omega)
  all_goals simp only [ee]

end Reference

variable (m : (ℓ : Loc Cert.InprojIdeal.nD Cert.InprojIdeal.τ Cert.InprojIdeal.sig) → Buf (Elt Ideal) ℓ) (c : Dev Cert.InprojIdeal.nD)

/-- The reference's column of the projection is the kernel's. -/
theorem dv_lo (r : Fin 8192) (k : Fin 7200) (C : Fin 7168) (hk : k.val = C.val) (h : C.val < 4096) : val_main_v15 (F := Ideal) (Cert.InprojIdeal.Val.A0 m c) (Cert.InprojIdeal.Val.A1 m c) (Cert.InprojIdeal.Val.A2 m c) (ix2 r k) = Dv m c r C := by
  obtain rfl : k = src C := Fin.ext (hk.trans (if_pos h).symm)
  exact v15_eq _ _ _ r _
theorem dv_hi (r : Fin 8192) (k : Fin 7200) (C : Fin 7168) (hk : k.val = C.val + 24) (h : ¬C.val < 4096) : val_main_v15 (F := Ideal) (Cert.InprojIdeal.Val.A0 m c) (Cert.InprojIdeal.Val.A1 m c) (Cert.InprojIdeal.Val.A2 m c) (ix2 r k) = Dv m c r C := by
  obtain rfl : k = src C := Fin.ext (hk.trans (if_neg h).symm)
  exact v15_eq _ _ _ r _

theorem resU (r : Fin 8192) (C : Fin 7168) (hC : C.val / 512 = 2 ∨ C.val / 512 = 3 ∨ C.val / 512 = 5 ∨ C.val / 512 = 7 ∨ C.val / 512 = 12 ∨ C.val / 512 = 13) : Dv m c r C = res m c r C := by
  have h : nb (C.val / 512) = false := by
    rcases hC with h | h | h | h | h | h <;> rw [h] <;> rfl
  unfold res
  rw [h]
  exact (if_neg (by decide)).symm

theorem resN (r : Fin 8192) (C : Fin 7168) (hC : C.val / 512 = 0 ∨ C.val / 512 = 1 ∨ C.val / 512 = 4 ∨ C.val / 512 = 6 ∨ C.val / 512 = 8 ∨ C.val / 512 = 9 ∨ C.val / 512 = 10 ∨ C.val / 512 = 11)
    (f : Fin 128 → EReal) (hf : ∀ e, f e = Dv m c r (hb C e)) (d : Fin 128) (hd : d.val = C.val % 128) (g : EReal) (hg : gn m c C = g) : hn f d * g = res m c r C := by
  have h : nb (C.val / 512) = true := by
    rcases hC with h | h | h | h | h | h | h | h <;> rw [h] <;> rfl
  have e : hb C d = C := Fin.ext (by show 128 * (C.val / 128) + d.val = C.val; omega)
  unfold res hn
  rw [h, if_pos rfl, hg, div_128, hf d, e]
  simp only [hf]

theorem gn_a (C : Fin 7168) (d : Fin 128) (hd : d.val = C.val % 128) (h : C.val < 1024) : gn m c C = (Cert.InprojIdeal.Val.A3 m c) (ix2 (0 : Fin 1) d) * Ideal.ofBits .f32 0x3DB504F3#32 := by
  rw [show d = ⟨C.val % 128, by omega⟩ from Fin.ext hd]
  exact if_pos h
theorem gn_b (C : Fin 7168) (d : Fin 128) (hd : d.val = C.val % 128) (h : ¬C.val < 1024) (h' : C.val < 3584) : gn m c C = (Cert.InprojIdeal.Val.A4 m c) (ix2 (0 : Fin 1) d) := by
  rw [show d = ⟨C.val % 128, by omega⟩ from Fin.ext hd]
  exact (if_neg h).trans (if_pos h')
theorem gn_c (C : Fin 7168) (d : Fin 128) (hd : d.val = C.val % 128) (h : ¬C.val < 3584) (h' : C.val < 5120) : gn m c C = (Cert.InprojIdeal.Val.A5 m c) (ix2 (0 : Fin 1) d) * Ideal.ofBits .f32 0x3DB504F3#32 := by
  rw [show d = ⟨C.val % 128, by omega⟩ from Fin.ext hd]
  exact (if_neg (by omega)).trans ((if_neg h).trans (if_pos h'))
theorem gn_d (C : Fin 7168) (d : Fin 128) (hd : d.val = C.val % 128) (h : ¬C.val < 5120) : gn m c C = (Cert.InprojIdeal.Val.A6 m c) (ix2 (0 : Fin 1) d) := by
  rw [show d = ⟨C.val % 128, by omega⟩ from Fin.ext hd]
  exact (if_neg (by omega)).trans ((if_neg (by omega)).trans (if_neg h))

theorem w17 (r : Fin 8192) (h : Fin 8) (d : Fin 128) (C : Fin 7168) (hC : C.val = 0 + 128 * h.val + d.val) : val_main_v17 (F := Ideal) (Cert.InprojIdeal.Val.A0 m c) (Cert.InprojIdeal.Val.A1 m c) (Cert.InprojIdeal.Val.A2 m c) (ix3 r h d) = Dv m c r C := by
  rw [v17_eq]
  refine dv_lo m c r _ C ?_ (by omega)
  show h.val * 128 + d.val = C.val
  omega
theorem w35 (r : Fin 8192) (h : Fin 4) (d : Fin 128) (C : Fin 7168) (hC : C.val = 1024 + 128 * h.val + d.val) : val_main_v35 (F := Ideal) (Cert.InprojIdeal.Val.A0 m c) (Cert.InprojIdeal.Val.A1 m c) (Cert.InprojIdeal.Val.A2 m c) (ix3 r h d) = Dv m c r C := by
  rw [v35_eq, v33_eq]
  refine dv_lo m c r _ C ?_ (by omega)
  show 1024 + (0 * 512 + h.val * 128 + d.val) = C.val
  omega
theorem w37 (r : Fin 8192) (h : Fin 4) (d : Fin 128) (C : Fin 7168) (hC : C.val = 1536 + 128 * h.val + d.val) : val_main_v37 (F := Ideal) (Cert.InprojIdeal.Val.A0 m c) (Cert.InprojIdeal.Val.A1 m c) (Cert.InprojIdeal.Val.A2 m c) (ix3 r h d) = Dv m c r C := by
  rw [v37_eq, v33_eq]
  refine dv_lo m c r _ C ?_ (by omega)
  show 1024 + (1 * 512 + h.val * 128 + d.val) = C.val
  omega
theorem w39 (r : Fin 8192) (h : Fin 4) (d : Fin 128) (C : Fin 7168) (hC : C.val = 2048 + 128 * h.val + d.val) : val_main_v39 (F := Ideal) (Cert.InprojIdeal.Val.A0 m c) (Cert.InprojIdeal.Val.A1 m c) (Cert.InprojIdeal.Val.A2 m c) (ix3 r h d) = Dv m c r C := by
  rw [v39_eq, v33_eq]
  refine dv_lo m c r _ C ?_ (by omega)
  show 1024 + (2 * 512 + h.val * 128 + d.val) = C.val
  omega
theorem w55 (r : Fin 8192) (h : Fin 4) (d : Fin 128) (C : Fin 7168) (hC : C.val = 2560 + 128 * h.val + d.val) : val_main_v55 (F := Ideal) (Cert.InprojIdeal.Val.A0 m c) (Cert.InprojIdeal.Val.A1 m c) (Cert.InprojIdeal.Val.A2 m c) (ix3 r h d) = Dv m c r C := by
  rw [v55_eq, v33_eq]
  refine dv_lo m c r _ C ?_ (by omega)
  show 1024 + (3 * 512 + h.val * 128 + d.val) = C.val
  omega
theorem w62 (r : Fin 8192) (h : Fin 4) (d : Fin 128) (C : Fin 7168) (hC : C.val = 3072 + 128 * h.val + d.val) : val_main_v62 (F := Ideal) (Cert.InprojIdeal.Val.A0 m c) (Cert.InprojIdeal.Val.A1 m c) (Cert.InprojIdeal.Val.A2 m c) (ix3 r h d) = Dv m c r C := by
  rw [v62_eq, v33_eq]
  refine dv_lo m c r _ C ?_ (by omega)
  show 1024 + (4 * 512 + h.val * 128 + d.val) = C.val
  omega
theorem w78 (r : Fin 8192) (h : Fin 4) (d : Fin 128) (C : Fin 7168) (hC : C.val = 3584 + 128 * h.val + d.val) : val_main_v78 (F := Ideal) (Cert.InprojIdeal.Val.A0 m c) (Cert.InprojIdeal.Val.A1 m c) (Cert.InprojIdeal.Val.A2 m c) (ix3 r h d) = Dv m c r C := by
  rw [v78_eq, v33_eq]
  refine dv_lo m c r _ C ?_ (by omega)
  show 1024 + (5 * 512 + h.val * 128 + d.val) = C.val
  omega
theorem w85 (r : Fin 8192) (h : Fin 8) (d : Fin 128) (C : Fin 7168) (hC : C.val = 4096 + 128 * h.val + d.val) : val_main_v85 (F := Ideal) (Cert.InprojIdeal.Val.A0 m c) (Cert.InprojIdeal.Val.A1 m c) (Cert.InprojIdeal.Val.A2 m c) (ix3 r h d) = Dv m c r C := by
  rw [v85_eq, v83_eq]
  refine dv_hi m c r _ C ?_ (by omega)
  show 4120 + (0 * 1024 + h.val * 128 + d.val) = C.val + 24
  omega
theorem w101 (r : Fin 8192) (h : Fin 8) (d : Fin 128) (C : Fin 7168) (hC : C.val = 5120 + 128 * h.val + d.val) : val_main_v101 (F := Ideal) (Cert.InprojIdeal.Val.A0 m c) (Cert.InprojIdeal.Val.A1 m c) (Cert.InprojIdeal.Val.A2 m c) (ix3 r h d) = Dv m c r C := by
  rw [v101_eq, v83_eq]
  refine dv_hi m c r _ C ?_ (by omega)
  show 4120 + (1 * 1024 + h.val * 128 + d.val) = C.val + 24
  omega
theorem w117 (r : Fin 8192) (h : Fin 8) (d : Fin 128) (C : Fin 7168) (hC : C.val = 6144 + 128 * h.val + d.val) : val_main_v117 (F := Ideal) (Cert.InprojIdeal.Val.A0 m c) (Cert.InprojIdeal.Val.A1 m c) (Cert.InprojIdeal.Val.A2 m c) (ix3 r h d) = Dv m c r C := by
  rw [v117_eq, v83_eq]
  refine dv_hi m c r _ C ?_ (by omega)
  show 4120 + (2 * 1024 + h.val * 128 + d.val) = C.val + 24
  omega
theorem n31 (r : Fin 8192) (h : Fin 8) (d : Fin 128) (C : Fin 7168) (hC : C.val = 0 + 128 * h.val + d.val) : hn (fun e => val_main_v17 (F := Ideal) (Cert.InprojIdeal.Val.A0 m c) (Cert.InprojIdeal.Val.A1 m c) (Cert.InprojIdeal.Val.A2 m c) (ix3 r h e)) d * gn m c C = res m c r C :=
  resN m c r C (by omega) _ (fun e => w17 m c r h e _ (by show 128 * (C.val / 128) + e.val = _; omega)) d (by omega) _ rfl
theorem n53 (r : Fin 8192) (h : Fin 4) (d : Fin 128) (C : Fin 7168) (hC : C.val = 2048 + 128 * h.val + d.val) : hn (fun e => val_main_v39 (F := Ideal) (Cert.InprojIdeal.Val.A0 m c) (Cert.InprojIdeal.Val.A1 m c) (Cert.InprojIdeal.Val.A2 m c) (ix3 r h e)) d * gn m c C = res m c r C :=
  resN m c r C (by omega) _ (fun e => w39 m c r h e _ (by show 128 * (C.val / 128) + e.val = _; omega)) d (by omega) _ rfl
theorem n76 (r : Fin 8192) (h : Fin 4) (d : Fin 128) (C : Fin 7168) (hC : C.val = 3072 + 128 * h.val + d.val) : hn (fun e => val_main_v62 (F := Ideal) (Cert.InprojIdeal.Val.A0 m c) (Cert.InprojIdeal.Val.A1 m c) (Cert.InprojIdeal.Val.A2 m c) (ix3 r h e)) d * gn m c C = res m c r C :=
  resN m c r C (by omega) _ (fun e => w62 m c r h e _ (by show 128 * (C.val / 128) + e.val = _; omega)) d (by omega) _ rfl
theorem n99 (r : Fin 8192) (h : Fin 8) (d : Fin 128) (C : Fin 7168) (hC : C.val = 4096 + 128 * h.val + d.val) : hn (fun e => val_main_v85 (F := Ideal) (Cert.InprojIdeal.Val.A0 m c) (Cert.InprojIdeal.Val.A1 m c) (Cert.InprojIdeal.Val.A2 m c) (ix3 r h e)) d * gn m c C = res m c r C :=
  resN m c r C (by omega) _ (fun e => w85 m c r h e _ (by show 128 * (C.val / 128) + e.val = _; omega)) d (by omega) _ rfl
theorem n115 (r : Fin 8192) (h : Fin 8) (d : Fin 128) (C : Fin 7168) (hC : C.val = 5120 + 128 * h.val + d.val) : hn (fun e => val_main_v101 (F := Ideal) (Cert.InprojIdeal.Val.A0 m c) (Cert.InprojIdeal.Val.A1 m c) (Cert.InprojIdeal.Val.A2 m c) (ix3 r h e)) d * gn m c C = res m c r C :=
  resN m c r C (by omega) _ (fun e => w101 m c r h e _ (by show 128 * (C.val / 128) + e.val = _; omega)) d (by omega) _ rfl
theorem q122 (r : Fin 8192) (h : Fin 8) (d : Fin 128) (C : Fin 7168) (hC : C.val = 0 + 128 * h.val + d.val) : val_main_v122 (F := Ideal) (Cert.InprojIdeal.Val.A0 m c) (Cert.InprojIdeal.Val.A1 m c) (Cert.InprojIdeal.Val.A2 m c) (Cert.InprojIdeal.Val.A3 m c) (ix3 r h d) = res m c r C := by
  rw [v122_eq, v31_eq, mul_assoc, ← gn_a m c C d (by omega) (by omega), n31 m c r h d C hC]
theorem q126 (r : Fin 8192) (h : Fin 8) (d : Fin 128) (C : Fin 7168) (hC : C.val = 4096 + 128 * h.val + d.val) : val_main_v126 (F := Ideal) (Cert.InprojIdeal.Val.A0 m c) (Cert.InprojIdeal.Val.A1 m c) (Cert.InprojIdeal.Val.A2 m c) (Cert.InprojIdeal.Val.A5 m c) (ix3 r h d) = res m c r C := by
  rw [v126_eq, v99_eq, mul_assoc, ← gn_c m c C d (by omega) (by omega) (by omega), n99 m c r h d C hC]
theorem q60 (r : Fin 8192) (b : Fin 4) (h : Fin 4) (d : Fin 128) (C : Fin 7168) (hC : C.val = 1024 + 512 * b.val + 128 * h.val + d.val) : val_main_v60 (F := Ideal) (Cert.InprojIdeal.Val.A0 m c) (Cert.InprojIdeal.Val.A1 m c) (Cert.InprojIdeal.Val.A2 m c) (Cert.InprojIdeal.Val.A4 m c) (ix4 r b h d) = res m c r C := by
  match b, hC with
  | 0, hC =>
    have hC : C.val = 1024 + 128 * h.val + d.val := hC
    rw [v60_0, w35 m c r h d C hC]; exact resU m c r C (by omega)
  | 1, hC =>
    have hC : C.val = 1536 + 128 * h.val + d.val := hC
    rw [v60_1, w37 m c r h d C hC]; exact resU m c r C (by omega)
  | 2, hC =>
    have hC : C.val = 2048 + 128 * h.val + d.val := hC
    rw [v60_2, v53_eq, ← gn_b m c C d (by omega) (by omega) (by omega), n53 m c r h d C hC]
  | 3, hC =>
    have hC : C.val = 2560 + 128 * h.val + d.val := hC
    rw [v60_3, w55 m c r h d C hC]; exact resU m c r C (by omega)
theorem q81 (r : Fin 8192) (b : Fin 2) (h : Fin 4) (d : Fin 128) (C : Fin 7168) (hC : C.val = 3072 + 512 * b.val + 128 * h.val + d.val) : val_main_v81 (F := Ideal) (Cert.InprojIdeal.Val.A0 m c) (Cert.InprojIdeal.Val.A1 m c) (Cert.InprojIdeal.Val.A2 m c) (Cert.InprojIdeal.Val.A4 m c) (ix4 r b h d) = res m c r C := by
  match b, hC with
  | 0, hC =>
    have hC : C.val = 3072 + 128 * h.val + d.val := hC
    rw [v81_0, v76_eq, ← gn_b m c C d (by omega) (by omega) (by omega), n76 m c r h d C hC]
  | 1, hC =>
    have hC : C.val = 3584 + 128 * h.val + d.val := hC
    rw [v81_1, w78 m c r h d C hC]; exact resU m c r C (by omega)
theorem q120 (r : Fin 8192) (b : Fin 2) (h : Fin 8) (d : Fin 128) (C : Fin 7168) (hC : C.val = 5120 + 1024 * b.val + 128 * h.val + d.val) : val_main_v120 (F := Ideal) (Cert.InprojIdeal.Val.A0 m c) (Cert.InprojIdeal.Val.A1 m c) (Cert.InprojIdeal.Val.A2 m c) (Cert.InprojIdeal.Val.A6 m c) (ix4 r b h d) = res m c r C := by
  match b, hC with
  | 0, hC =>
    have hC : C.val = 5120 + 128 * h.val + d.val := hC
    rw [v120_0, v115_eq, ← gn_d m c C d (by omega) (by omega), n115 m c r h d C hC]
  | 1, hC =>
    have hC : C.val = 6144 + 128 * h.val + d.val := hC
    rw [v120_1, w117 m c r h d C hC]; exact resU m c r C (by omega)

theorem val5 : val_main_v129 (F := Ideal) (Cert.InprojIdeal.Val.A0 m c) (Cert.InprojIdeal.Val.A1 m c) (Cert.InprojIdeal.Val.A2 m c) (Cert.InprojIdeal.Val.A4 m c) = Cert.InprojIdeal.Val.G5 m c := by
  funext i
  obtain ⟨I, d, rfl⟩ : ∃ (I : Fin 131072) (d : Fin 128), i = ix2 I d := ⟨i 0, i 1, eq_ix2 i⟩
  rw [v129_eq]
  refine (q60 m c _ _ _ d ⟨1024 + 128 * (I.val % 16) + d.val, by omega⟩ ?_).trans rfl
  show 1024 + 128 * (I.val % 16) + d.val = 1024 + 512 * (I.val / 4 % 4) + 128 * (I.val % 4) + d.val
  omega

theorem val6 : val_main_v130 (F := Ideal) (Cert.InprojIdeal.Val.A0 m c) (Cert.InprojIdeal.Val.A1 m c) (Cert.InprojIdeal.Val.A2 m c) (Cert.InprojIdeal.Val.A4 m c) = Cert.InprojIdeal.Val.G6 m c := by
  funext i
  obtain ⟨I, d, rfl⟩ : ∃ (I : Fin 65536) (d : Fin 128), i = ix2 I d := ⟨i 0, i 1, eq_ix2 i⟩
  rw [v130_eq]
  refine (q81 m c _ _ _ d ⟨3072 + 128 * (I.val % 8) + d.val, by omega⟩ ?_).trans rfl
  show 3072 + 128 * (I.val % 8) + d.val = 3072 + 512 * (I.val / 4 % 2) + 128 * (I.val % 4) + d.val
  omega

theorem val7 : val_main_v131 (F := Ideal) (Cert.InprojIdeal.Val.A0 m c) (Cert.InprojIdeal.Val.A1 m c) (Cert.InprojIdeal.Val.A2 m c) (Cert.InprojIdeal.Val.A6 m c) = Cert.InprojIdeal.Val.G7 m c := by
  funext i
  obtain ⟨I, d, rfl⟩ : ∃ (I : Fin 131072) (d : Fin 128), i = ix2 I d := ⟨i 0, i 1, eq_ix2 i⟩
  rw [v131_eq]
  refine (q120 m c _ _ _ d ⟨5120 + 128 * (I.val % 16) + d.val, by omega⟩ ?_).trans rfl
  show 5120 + 128 * (I.val % 16) + d.val = 5120 + 1024 * (I.val / 8 % 2) + 128 * (I.val % 8) + d.val
  omega

theorem val8 : val_main_v133 (F := Ideal) (Cert.InprojIdeal.Val.A0 m c) (Cert.InprojIdeal.Val.A1 m c) (Cert.InprojIdeal.Val.A2 m c) (Cert.InprojIdeal.Val.A3 m c) (Cert.InprojIdeal.Val.A4 m c) (Cert.InprojIdeal.Val.A5 m c) (Cert.InprojIdeal.Val.A6 m c) = Cert.InprojIdeal.Val.G8 m c := by
  funext i
  obtain ⟨H, r, d, rfl⟩ : ∃ (H : Fin 56) (r : Fin 8192) (d : Fin 128), i = ix3 H r d := ⟨i 0, i 1, i 2, eq_ix3 i⟩
  rw [v133_eq]
  refine Eq.trans (b := res m c r ⟨128 * H.val + d.val, by omega⟩) ?_ rfl
  by_cases h1 : H.val < 8
  · rw [v128_0 _ _ _ _ _ _ _ r H d (by omega) (by omega)]
    refine q122 m c r _ d _ ?_
    show 128 * H.val + d.val = 0 + 128 * (H.val - 0) + d.val
    omega
  by_cases h2 : H.val < 24
  · rw [v128_1 _ _ _ _ _ _ _ r H d (by omega) (by omega), v123_eq]
    refine q60 m c r _ _ d _ ?_
    show 128 * H.val + d.val = 1024 + 512 * ((H.val - 8) / 4) + 128 * ((H.val - 8) % 4) + d.val
    omega
  by_cases h3 : H.val < 32
  · rw [v128_2 _ _ _ _ _ _ _ r H d (by omega) (by omega), v124_eq]
    refine q81 m c r _ _ d _ ?_
    show 128 * H.val + d.val = 3072 + 512 * ((H.val - 24) / 4) + 128 * ((H.val - 24) % 4) + d.val
    omega
  by_cases h4 : H.val < 40
  · rw [v128_3 _ _ _ _ _ _ _ r H d (by omega) (by omega)]
    refine q126 m c r _ d _ ?_
    show 128 * H.val + d.val = 4096 + 128 * (H.val - 32) + d.val
    omega
  · rw [v128_4 _ _ _ _ _ _ _ r H d (by omega) (by omega), v127_eq]
    refine q120 m c r _ _ d _ ?_
    show 128 * H.val + d.val = 5120 + 1024 * ((H.val - 40) / 8) + 128 * ((H.val - 40) % 8) + d.val
    omega

theorem algebraic [Cert.InprojIdeal.Facts] [Cert.InprojReferenceIdeal.Facts] : Cert.algebraic_InprojIdeal_InprojReferenceIdeal := by
  intro m g m' g' _ hargs
  refine ⟨fun c => Cert.InprojIdeal.Val.G5 m c, fun c => Cert.InprojIdeal.Val.G6 m c, fun c => Cert.InprojIdeal.Val.G7 m c, fun c => Cert.InprojIdeal.Val.G8 m c, Cert.InprojIdeal.Val.run m g, ?_⟩
  refine (θ_run _ _ _).mono (fun r h c => ⟨(h c).1.trans ?_, (h c).2.1.trans ?_, (h c).2.2.1.trans ?_, (h c).2.2.2.1.trans ?_, (h c).2.2.2.2⟩) (Cert.InprojReferenceIdeal.Value.run m' g')
  · rw [Cert.InprojReferenceIdeal.Read.val_main_v129_eq, (hargs c).1, (hargs c).2.1, (hargs c).2.2.1, (hargs c).2.2.2.2.1]
    exact val5 m c
  · rw [Cert.InprojReferenceIdeal.Read.val_main_v130_eq, (hargs c).1, (hargs c).2.1, (hargs c).2.2.1, (hargs c).2.2.2.2.1]
    exact val6 m c
  · rw [Cert.InprojReferenceIdeal.Read.val_main_v131_eq, (hargs c).1, (hargs c).2.1, (hargs c).2.2.1, (hargs c).2.2.2.2.2.2]
    exact val7 m c
  · rw [Cert.InprojReferenceIdeal.Read.val_main_v133_eq, (hargs c).1, (hargs c).2.1, (hargs c).2.2.1, (hargs c).2.2.2.1, (hargs c).2.2.2.2.1, (hargs c).2.2.2.2.2.1, (hargs c).2.2.2.2.2.2]
    exact val8 m c

end Cert.InprojValue

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnReferenceIdeal
public import proofs.«01_k».proof.Proof.Gen.FfnIdeal.Value
public import proofs.«01_k».proof.Proof.Gen.FfnReferenceIdeal.Run
public import proofs.«01_k».proof.Proof.Gen.FfnReferenceIdeal.Read
public import proofs.«01_k».proof.Proof.Gen.ReferenceIdeal.Run
public import proofs.«01_k».proof.Proof.Gen.ReferenceIdeal.Read
public import proofs.«01_k».proof.Proof.Gen.Outproj.Frame
public import proofs.«01_k».proof.Proof.Gen.OutprojIdeal.Frame
public import proofs.«01_k».proof.Proof.Gen.OutprojIdeal.Value
public import proofs.«01_k».proof.Proof.Gen.OutprojReferenceIdeal.Run
public import proofs.«01_k».proof.Proof.Gen.OutprojReferenceIdeal.Read
public import proofs.«01_k».proof.Proof.Gen.Gates.Frame
public import proofs.«01_k».proof.Proof.Gen.GatesIdeal.Frame
public import proofs.«01_k».proof.Proof.Gen.GatesIdeal.Value
public import proofs.«01_k».proof.Proof.Gen.GatesReferenceIdeal.Run
public import proofs.«01_k».proof.Proof.Gen.GatesReferenceIdeal.Read
public import proofs.«01_k».proof.Proof.Gen.Compress.Frame
public import proofs.«01_k».proof.Proof.Gen.CompressIdeal.Frame
public import proofs.«01_k».proof.Proof.Gen.CompressIdeal.Value
public import proofs.«01_k».proof.Proof.Gen.CompressReferenceIdeal.Run
public import proofs.«01_k».proof.Proof.Gen.CompressReferenceIdeal.Read
public import proofs.«01_k».proof.Proof.Gen.Pre_finite_weights
public import proofs.«01_k».proof.Proof.Gen.Inproj.Launch
public import proofs.«01_k».proof.Proof.Gen.Inproj.Points
public import proofs.«01_k».proof.Proof.Gen.Inproj.Skeleton
public import proofs.«01_k».proof.Proof.Gen.InprojIdeal.Launch
public import proofs.«01_k».proof.Proof.Gen.InprojIdeal.Points
public import proofs.«01_k».proof.Proof.Gen.InprojIdeal.Skeleton
public import proofs.«01_k».proof.Proof.Gen.InprojReferenceIdeal.Run
public import proofs.«01_k».proof.Proof.Gen.InprojReferenceIdeal.Read
public import proofs.«01_k».proof.Proof.FoxKernel.Frame
public import proofs.«01_k».proof.Proof.FoxKernelIdeal.Frame
public import proofs.«01_k».proof.Proof.FoxValue
public import proofs.«01_k».proof.Proof.FfnValue
public import proofs.«01_k».proof.Proof.OutprojValue
public import proofs.«01_k».proof.Proof.GatesValue
public import proofs.«01_k».proof.Proof.CompressValue
public import proofs.«01_k».proof.Proof.InprojK.Frame
public import proofs.«01_k».proof.Proof.InprojI.Frame
public import proofs.«01_k».proof.Proof.InprojValue
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Ffn.Gen.facts, Cert.FfnIdeal.Gen.facts, Cert.FfnReferenceIdeal.Gen.facts,
  Cert.Outproj.Gen.facts, Cert.OutprojIdeal.Gen.facts, Cert.OutprojReferenceIdeal.Gen.facts, Cert.Gates.Gen.facts, Cert.GatesIdeal.Gen.facts, Cert.GatesReferenceIdeal.Gen.facts,
  Cert.Compress.Gen.facts, Cert.CompressIdeal.Gen.facts, Cert.CompressReferenceIdeal.Gen.facts, Cert.Inproj.Gen.facts, Cert.InprojIdeal.Gen.facts, Cert.InprojReferenceIdeal.Gen.facts, Cert.Pre_finite_weights.Gen.facts,
  fun m g _ => Cert.Kernel.Fox.frame m g,
  fun m g _ => Cert.KernelIdeal.Fox.frame m g,
  Cert.FoxValue.frame_reference,
  fun m g _ => Cert.Ffn.Gen.frame m g,
  fun m g _ => Cert.FfnIdeal.Gen.frame m g,
  fun m g _ =>
    (θ_run _ _ _).mono (fun r h => ⟨fun c => (h c).2, sem_eq_zero_of_no_sems (by decide) _⟩) (Cert.FfnReferenceIdeal.Value.run m g),
  fun m g _ => Cert.Outproj.Gen.frame m g,
  fun m g _ => Cert.OutprojIdeal.Gen.frame m g,
  fun m g _ =>
    (θ_run _ _ _).mono (fun r h => ⟨fun c => (h c).2, sem_eq_zero_of_no_sems (by decide) _⟩) (Cert.OutprojReferenceIdeal.Value.run m g),
  fun m g _ => Cert.Gates.Gen.frame m g,
  fun m g _ => Cert.GatesIdeal.Gen.frame m g,
  fun m g _ =>
    (θ_run _ _ _).mono (fun r h => ⟨fun c => (h c).2, sem_eq_zero_of_no_sems (by decide) _⟩) (Cert.GatesReferenceIdeal.Value.run m g),
  fun m g _ => Cert.Compress.Gen.frame m g,
  fun m g _ => Cert.CompressIdeal.Gen.frame m g,
  fun m g _ => Cert.CompressIdeal.Gen.frame m g,
  fun m g _ =>
    (θ_run _ _ _).mono (fun r h => ⟨fun c => (h c).2, sem_eq_zero_of_no_sems (by decide) _⟩) (Cert.CompressReferenceIdeal.Value.run m g),
  fun m g _ =>
    (θ_run _ _ _).mono (fun r h => ⟨fun c => (h c).2, sem_eq_zero_of_no_sems (by decide) _⟩) (Cert.CompressReferenceIdeal.Value.run m g),
  fun m g _ => Cert.Inproj.Gen.frame m g,
  fun m g _ => Cert.InprojIdeal.Gen.frame m g,
  fun m g _ =>
    (θ_run _ _ _).mono (fun r h => ⟨fun c => (h c).2.2.2.2, sem_eq_zero_of_no_sems (by decide) _⟩) (Cert.InprojReferenceIdeal.Value.run m g),
  IdealRules.named_const.statement _ _ _ _ _ rfl,
  Cert.FoxValue.algebraic,
  trivial,
  Cert.FfnValue.algebraic,
  trivial,
  Cert.OutprojValue.algebraic,
  trivial,
  Cert.GatesValue.algebraic,
  trivial,
  Cert.CompressValue.algebraic,
  trivial,
  Cert.InprojValue.algebraic⟩

end Cert.Proof

end
